-- ==== Defs.lean ====
def Pre_KernelIdeal (m : (ℓ : Loc Cert.KernelIdeal.nD Cert.KernelIdeal.τ Cert.KernelIdeal.sig) → Buf (Elt Ideal) ℓ) : Prop :=
  True

def Pre_KernelIdeal_finite_args [hPre_finite_args : Cert.Pre_finite_args.Facts] (m : (ℓ : Loc Cert.KernelIdeal.nD Cert.KernelIdeal.τ Cert.KernelIdeal.sig) → Buf (Elt Ideal) ℓ) : Prop :=
  ∀ c : Dev Cert.KernelIdeal.nD,
    (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_args [hPre_finite_args : Cert.Pre_finite_args.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_args [hKernelIdeal : Cert.KernelIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_args m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_args [hReferenceIdeal : Cert.ReferenceIdeal.Facts] [hPre_finite_args : Cert.Pre_finite_args.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_args m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def algebraic_KernelIdeal_ReferenceIdeal_pre_finite_args [hKernelIdeal : Cert.KernelIdeal.Facts] [hReferenceIdeal : Cert.ReferenceIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_args m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v12)) (v2 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_v14) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_v17) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernelIdeal : Cert.KernelIdeal.Facts) (hReferenceIdeal : Cert.ReferenceIdeal.Facts) (hPre_finite_args : Cert.Pre_finite_args.Facts),
    quiescent_KernelIdeal (hKernelIdeal := hKernelIdeal)
    ∧ quiescent_KernelIdeal_pre_finite_args (hKernelIdeal := hKernelIdeal) (hPre_finite_args := hPre_finite_args)
    ∧ quiescent_ReferenceIdeal (hReferenceIdeal := hReferenceIdeal)
    ∧ quiescent_ReferenceIdeal_pre_finite_args (hReferenceIdeal := hReferenceIdeal) (hPre_finite_args := hPre_finite_args)
    ∧ algebraic_KernelIdeal_ReferenceIdeal_pre_finite_args (hKernelIdeal := hKernelIdeal) (hReferenceIdeal := hReferenceIdeal) (hPre_finite_args := hPre_finite_args)
-- ==== Pre_finite_args.lean ====
abbrev S128x256x128 : Shape := ⟨3, ![128, 256, 128]⟩
abbrev S128x128 : Shape := ⟨2, ![128, 128]⟩
abbrev S128 : Shape := ⟨1, ![128]⟩
abbrev S384x128 : Shape := ⟨2, ![384, 128]⟩
abbrev S384 : Shape := ⟨1, ![384]⟩
abbrev S_ : Shape := ⟨0, ![]⟩

class Facts : Prop where
  bcast_S_S128x256x128 : S_.BroadcastsInDim S128x256x128 (![] : Fin 0 → Fin S128x256x128.rank)
  reducesTo_S128x256x128_S_d0_1_2 : S128x256x128.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S128x256x128 .f32) (main_arg1 : FVec F S128x128 .f32) (main_arg2 : FVec F S128x128 .f32) (main_arg3 : FVec F S128 .f32) (main_arg4 : FVec F S384x128 .f32) (main_arg5 : FVec F S384x128 .f32) (main_arg6 : FVec F S384 .f32) (main_arg7 : FVec F S384 .f32) : IVec S_ 1 :=
  let main_v0 : FVec F S128x256x128 .f32 := Host.absf main_arg0
  let main_cst : FVec F S_ .f32 := constant S_ .f32 0x7F800000#32
  let main_v1 : FVec F S128x256x128 .f32 := broadcastInDim S128x256x128 ![] bcast_S_S128x256x128 main_cst
  let main_v2 : IVec S128x256x128 1 := cmpf .olt main_v0 main_v1
  let main_c : IVec S_ 1 := constantI S_ 1 1#1
  let main_v3 : IVec S_ 1 := (fun x v => Host.reduce IntOp.andi x v reducesTo_S128x256x128_S_d0_1_2 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  main_v8
-- ==== KernelIdeal.lean ====
abbrev S128x256x128 : Shape := ⟨3, ![128, 256, 128]⟩
abbrev S128x128 : Shape := ⟨2, ![128, 128]⟩
abbrev S128 : Shape := ⟨1, ![128]⟩
abbrev S384x128 : Shape := ⟨2, ![384, 128]⟩
abbrev S384 : Shape := ⟨1, ![384]⟩
abbrev S128x128x256 : Shape := ⟨3, ![128, 128, 256]⟩
abbrev S1x128 : Shape := ⟨2, ![1, 128]⟩
abbrev S128x384 : Shape := ⟨2, ![128, 384]⟩
abbrev S1x384 : Shape := ⟨2, ![1, 384]⟩
abbrev S128x256 : Shape := ⟨2, ![128, 256]⟩
abbrev S128x8 : Shape := ⟨2, ![128, 8]⟩
abbrev S128x1x8 : Shape := ⟨3, ![128, 1, 8]⟩
abbrev S128x1x256 : Shape := ⟨3, ![128, 1, 256]⟩
abbrev S128x128x1 : Shape := ⟨3, ![128, 128, 1]⟩
abbrev S128x1 : Shape := ⟨2, ![128, 1]⟩
abbrev S128x1x1 : Shape := ⟨3, ![128, 1, 1]⟩
abbrev S1x1x1 : Shape := ⟨3, ![1, 1, 1]⟩
abbrev S1x1x128 : Shape := ⟨3, ![1, 1, 128]⟩
abbrev S32x4x128 : Shape := ⟨3, ![32, 4, 128]⟩
abbrev S32x1x128 : Shape := ⟨3, ![32, 1, 128]⟩
abbrev S32x128 : Shape := ⟨2, ![32, 128]⟩
abbrev S16x2x128 : Shape := ⟨3, ![16, 2, 128]⟩
abbrev S16x1x128 : Shape := ⟨3, ![16, 1, 128]⟩
abbrev S16x128 : Shape := ⟨2, ![16, 128]⟩

abbrev nBuf : Space → Nat
  | .hbm => 25
  | .vmem => 18
  | .smem => 0
  | _ => 0

abbrev bufTy : (tb : Table) → Fin (tcTables nBuf tb) → BufTy
  | .hbm, ⟨0, _⟩ => ⟨S128x256x128, .f32⟩
  | .hbm, ⟨1, _⟩ => ⟨S128x128, .f32⟩
  | .hbm, ⟨2, _⟩ => ⟨S128x128, .f32⟩
  | .hbm, ⟨3, _⟩ => ⟨S128, .f32⟩
  | .hbm, ⟨4, _⟩ => ⟨S384x128, .f32⟩
  | .hbm, ⟨5, _⟩ => ⟨S384x128, .f32⟩
  | .hbm, ⟨6, _⟩ => ⟨S384, .f32⟩
  | .hbm, ⟨7, _⟩ => ⟨S384, .f32⟩
  | .hbm, ⟨8, _⟩ => ⟨S128x256x128, .bf16⟩
  | .hbm, ⟨9, _⟩ => ⟨S128x256x128, .f32⟩
  | .hbm, ⟨10, _⟩ => ⟨S128x128x256, .f32⟩
  | .hbm, ⟨11, _⟩ => ⟨S128x128, .f32⟩
  | .hbm, ⟨12, _⟩ => ⟨S128x128, .f32⟩
  | .hbm, ⟨13, _⟩ => ⟨S1x128, .f32⟩
  | .hbm, ⟨14, _⟩ => ⟨S128x384, .f32⟩
  | .hbm, ⟨15, _⟩ => ⟨S128x384, .f32⟩
  | .hbm, ⟨16, _⟩ => ⟨S1x384, .f32⟩
  | .hbm, ⟨17, _⟩ => ⟨S1x384, .f32⟩
  | .hbm, ⟨18, _⟩ => ⟨S128x256, .i32⟩
  | .hbm, ⟨19, _⟩ => ⟨S128x8, .f32⟩
  | .hbm, ⟨20, _⟩ => ⟨S128x8, .f32⟩
  | .hbm, ⟨21, _⟩ => ⟨S128x1, .f32⟩
  | .hbm, ⟨22, _⟩ => ⟨S128, .f32⟩
  | .hbm, ⟨23, _⟩ => ⟨S128x1, .f32⟩
  | .hbm, ⟨24, _⟩ => ⟨S128, .f32⟩
  | .local _ .vmem, ⟨0, _⟩ => ⟨S128x256x128, .f32⟩
  | .local _ .vmem, ⟨1, _⟩ => ⟨S128x128x256, .f32⟩
  | .local _ .vmem, ⟨2, _⟩ => ⟨S128x128, .f32⟩
  | .local _ .vmem, ⟨3, _⟩ => ⟨S128x128, .f32⟩
  | .local _ .vmem, ⟨4, _⟩ => ⟨S1x128, .f32⟩
  | .local _ .vmem, ⟨5, _⟩ => ⟨S128x384, .f32⟩
  | .local _ .vmem, ⟨6, _⟩ => ⟨S128x384, .f32⟩
  | .local _ .vmem, ⟨7, _⟩ => ⟨S1x384, .f32⟩
  | .local _ .vmem, ⟨8, _⟩ => ⟨S1x384, .f32⟩
  | .local _ .vmem, ⟨9, _⟩ => ⟨S128x256, .i32⟩
  | .local _ .vmem, ⟨10, _⟩ => ⟨S128x8, .f32⟩
  | .local _ .vmem, ⟨11, _⟩ => ⟨S128x8, .f32⟩
  | .local _ .vmem, ⟨12, _⟩ => ⟨S128x128, .f32⟩
  | .local _ .vmem, ⟨13, _⟩ => ⟨S128x256, .f32⟩
  | .local _ .vmem, ⟨14, _⟩ => ⟨S128x1x8, .i32⟩
  | .local _ .vmem, ⟨15, _⟩ => ⟨S128x1x256, .f32⟩
  | .local _ .vmem, ⟨16, _⟩ => ⟨S128x128, .bf16⟩
  | .local _ .vmem, ⟨17, _⟩ => ⟨S128x256, .bf16⟩
  | _, _ => ⟨S128x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v10_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F] [Named F]

def κ : String → Option EReal := fun
  | "isq" => some ((1048576 / 11863283 : ℝ) : EReal)
  | "mask" => some ⊥
  | _ => none

abbrev grid0 : Pipeline.Grid := .none

@[reducible] def k0_t1_loop : Scf.Loop 32 :=
  let c0_i32 : BitVec 32 := 0#32
  let c256_i32 : BitVec 32 := 256#32
  let v24 : BitVec 32 := Scalar.addi c0_i32 c256_i32
  let c1_i32 : BitVec 32 := 1#32
  ⟨c0_i32, v24, c1_i32⟩
@[reducible] def k0_t2_loop : Scf.Loop 32 :=
  let c0_i32_49 : BitVec 32 := 0#32
  let c128_i32 : BitVec 32 := 128#32
  let v77 : BitVec 32 := Scalar.addi c0_i32_49 c128_i32
  let c1_i32_50 : BitVec 32 := 1#32
  ⟨c0_i32_49, v77, c1_i32_50⟩
def k0_off1 (k0_t2 : Fin k0_t2_loop.trips) : Fin 3 → Nat :=
  let c0_i32_49 : BitVec 32 := 0#32
  let c1_i32_50 : BitVec 32 := 1#32
  let arg19 : BitVec 32 := Scf.iv c0_i32_49 c1_i32_50 k0_t2
  let v336 : Index := Scalar.indexCast arg19
  let c0_93 : Index := 0#32
  let c0_94 : Index := 0#32
  ![v336.toNat, 0, 0]
def k0_off2 (k0_t2 : Fin k0_t2_loop.trips) (v338 : BitVec 32) : Fin 3 → Nat :=
  let c0_i32_49 : BitVec 32 := 0#32
  let c1_i32_50 : BitVec 32 := 1#32
  let arg19 : BitVec 32 := Scf.iv c0_i32_49 c1_i32_50 k0_t2
  let v358 : Index := Scalar.indexCast arg19
  let c0_i32_96 : BitVec 32 := 0#32
  let v340 : BitVec 1 := Scalar.cmpi .sgt v338 c0_i32_96
  let v341 : BitVec 32 := Scalar.extui v340
  let c0_i32_97 : BitVec 32 := 0#32
  let v342 : BitVec 1 := Scalar.cmpi .slt v338 c0_i32_97
  let v343 : BitVec 32 := Scalar.extui v342
  let v344 : BitVec 32 := Scalar.subi v341 v343
  let c512_i32_95 : BitVec 32 := 512#32
  let c0_i32_98 : BitVec 32 := 0#32
  let v345 : BitVec 1 := Scalar.cmpi .sgt c512_i32_95 c0_i32_98
  let v346 : BitVec 32 := Scalar.extui v345
  let c0_i32_99 : BitVec 32 := 0#32
  let v347 : BitVec 1 := Scalar.cmpi .slt c512_i32_95 c0_i32_99
  let v348 : BitVec 32 := Scalar.extui v347
  let v349 : BitVec 32 := Scalar.subi v346 v348
  let v350 : BitVec 1 := Scalar.cmpi .ne v344 v349
  let v351 : BitVec 32 := Scalar.remsi v338 c512_i32_95
  let c0_i32_100 : BitVec 32 := 0#32
  let v352 : BitVec 1 := Scalar.cmpi .ne v351 c0_i32_100
  let v353 : BitVec 1 := Scalar.andi v350 v352
  let v339 : BitVec 32 := Scalar.divsi v338 c512_i32_95
  let c1_i32_101 : BitVec 32 := 1#32
  let v354 : BitVec 32 := Scalar.subi v339 c1_i32_101
  let v355 : BitVec 32 := Scalar.select v353 v354 v339
  let v359 : Index := Scalar.indexCast v355
  let c0_103 : Index := 0#32
  ![v358.toNat, v359.toNat, 0]

def k0_off3 (k0_t2 : Fin k0_t2_loop.trips) : Fin 3 → Nat :=
  let c0_i32_49 : BitVec 32 := 0#32
  let c1_i32_50 : BitVec 32 := 1#32
  let arg19 : BitVec 32 := Scf.iv c0_i32_49 c1_i32_50 k0_t2
  let v362 : Index := Scalar.indexCast arg19
  let c0_104 : Index := 0#32
  let c0_105 : Index := 0#32
  ![v362.toNat, 0, 0]
def k0_off4 (k0_t2 : Fin k0_t2_loop.trips) (v338 : BitVec 32) : Fin 3 → Nat :=
  let c0_i32_49 : BitVec 32 := 0#32
  let c1_i32_50 : BitVec 32 := 1#32
  let arg19 : BitVec 32 := Scf.iv c0_i32_49 c1_i32_50 k0_t2
  let v366 : Index := Scalar.indexCast arg19
  let c0_i32_96 : BitVec 32 := 0#32
  let v340 : BitVec 1 := Scalar.cmpi .sgt v338 c0_i32_96
  let v341 : BitVec 32 := Scalar.extui v340
  let c0_i32_97 : BitVec 32 := 0#32
  let v342 : BitVec 1 := Scalar.cmpi .slt v338 c0_i32_97
  let v343 : BitVec 32 := Scalar.extui v342
  let v344 : BitVec 32 := Scalar.subi v341 v343
  let c512_i32_95 : BitVec 32 := 512#32
  let c0_i32_98 : BitVec 32 := 0#32
  let v345 : BitVec 1 := Scalar.cmpi .sgt c512_i32_95 c0_i32_98
  let v346 : BitVec 32 := Scalar.extui v345
  let c0_i32_99 : BitVec 32 := 0#32
  let v347 : BitVec 1 := Scalar.cmpi .slt c512_i32_95 c0_i32_99
  let v348 : BitVec 32 := Scalar.extui v347
  let v349 : BitVec 32 := Scalar.subi v346 v348
  let v350 : BitVec 1 := Scalar.cmpi .ne v344 v349
  let v351 : BitVec 32 := Scalar.remsi v338 c512_i32_95
  let c0_i32_100 : BitVec 32 := 0#32
  let v352 : BitVec 1 := Scalar.cmpi .ne v351 c0_i32_100
  let v353 : BitVec 1 := Scalar.andi v350 v352
  let v339 : BitVec 32 := Scalar.divsi v338 c512_i32_95
  let c1_i32_101 : BitVec 32 := 1#32
  let v354 : BitVec 32 := Scalar.subi v339 c1_i32_101
  let v355 : BitVec 32 := Scalar.select v353 v354 v339
  let c512_i32_102 : BitVec 32 := 512#32
  let v356 : BitVec 32 := Scalar.muli v355 c512_i32_102
  let v357 : BitVec 32 := Scalar.subi v338 v356
  let v367 : Index := Scalar.indexCast v357
  let c0_106 : Index := 0#32
  ![v366.toNat, v367.toNat, 0]

def k0_chk1 (k0_t2 : Fin k0_t2_loop.trips) (v338 : BitVec 32) : Prop :=
  (∀ a, (k0_off2 k0_t2 v338) a + S1x1x128.size a ≤ S128x256x128.size a) ∧
  (∀ a, (k0_off4 k0_t2 v338) a + S1x1x128.size a ≤ S128x256x128.size a)
theorem k0_off2_inb : ∀ (k0_t2 : Fin k0_t2_loop.trips) (v338 : BitVec 32) (k0_hw1 : k0_chk1 k0_t2 v338), ∀ a, (k0_off2 k0_t2 v338) a + S1x1x128.size a ≤ S128x256x128.size a := fun k0_t2 v338 k0_hw1 => k0_hw1.1
theorem k0_off4_inb : ∀ (k0_t2 : Fin k0_t2_loop.trips) (v338 : BitVec 32) (k0_hw1 : k0_chk1 k0_t2 v338), ∀ a, (k0_off4 k0_t2 v338) a + S1x1x128.size a ≤ S128x256x128.size a := fun k0_t2 v338 k0_hw1 => k0_hw1.2

def k0_off5 (k0_t2 : Fin k0_t2_loop.trips) : Fin 3 → Nat :=
  let c0_i32_49 : BitVec 32 := 0#32
  let c1_i32_50 : BitVec 32 := 1#32
  let arg19 : BitVec 32 := Scf.iv c0_i32_49 c1_i32_50 k0_t2
  let v370 : Index := Scalar.indexCast arg19
  let c0_107 : Index := 0#32
  let c128 : Index := 128#32
  ![v370.toNat, 0, 128]
abbrev stage0_0 : Fin 1 → Memref sig .tc .vmem S128x256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S128x256 .i32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S128x8 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S128x8 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== ReferenceIdeal.lean ====
abbrev S128x256x128 : Shape := ⟨3, ![128, 256, 128]⟩
abbrev S128x128 : Shape := ⟨2, ![128, 128]⟩
abbrev S128 : Shape := ⟨1, ![128]⟩
abbrev S384x128 : Shape := ⟨2, ![384, 128]⟩
abbrev S384 : Shape := ⟨1, ![384]⟩
abbrev S_ : Shape := ⟨0, ![]⟩
abbrev S1x128 : Shape := ⟨2, ![1, 128]⟩
abbrev S128x256 : Shape := ⟨2, ![128, 256]⟩
abbrev S256x128 : Shape := ⟨2, ![256, 128]⟩
abbrev S128x1 : Shape := ⟨2, ![128, 1]⟩
abbrev S128x1x1 : Shape := ⟨3, ![128, 1, 1]⟩
abbrev S1 : Shape := ⟨1, ![1]⟩
abbrev S1x1x1 : Shape := ⟨3, ![1, 1, 1]⟩
abbrev S128x2 : Shape := ⟨2, ![128, 2]⟩
abbrev S128x384 : Shape := ⟨2, ![128, 384]⟩
abbrev S1x384 : Shape := ⟨2, ![1, 384]⟩

abbrev nBuf : Space → Nat
  | .hbm => 206
  | .vmem => 0
  | .smem => 0
  | _ => 0

abbrev hbmTy0_0 (i : Nat) : BufTy := match i % 128 with
  | 0 => ⟨S128x256x128, .f32⟩
  | 1 => ⟨S128x128, .f32⟩
  | 2 => ⟨S128x128, .f32⟩
  | 3 => ⟨S128, .f32⟩
  | 4 => ⟨S384x128, .f32⟩
  | 5 => ⟨S384x128, .f32⟩
  | 6 => ⟨S384, .f32⟩
  | 7 => ⟨S384, .f32⟩
  | 8 => ⟨S_, .f32⟩
  | 9 => ⟨S128x128, .f32⟩
  | 10 => ⟨S_, .f32⟩
  | 11 => ⟨S128x128, .f32⟩
  | 12 => ⟨S128x128, .f32⟩
  | 13 => ⟨S128x128, .f32⟩
  | 14 => ⟨S128x128, .f32⟩
  | 15 => ⟨S1x128, .f32⟩
  | 16 => ⟨S128x128, .f32⟩
  | 17 => ⟨S128x128, .f32⟩
  | 18 => ⟨S128x128, .f32⟩
  | 19 => ⟨S_, .i1⟩
  | 20 => ⟨S128x256, .i1⟩
  | 21 => ⟨S128, .i32⟩
  | 22 => ⟨S_, .i32⟩
  | 23 => ⟨S256x128, .i32⟩
  | 24 => ⟨S_, .f32⟩
  | 25 => ⟨S256x128, .f32⟩
  | 26 => ⟨S_, .f32⟩
  | 27 => ⟨S256x128, .f32⟩
  | 28 => ⟨S_, .i32⟩
  | 29 => ⟨S128x128, .f32⟩
  | 30 => ⟨S128x256x128, .f32⟩
  | 31 => ⟨S128, .i32⟩
  | 32 => ⟨S384x128, .f32⟩
  | 33 => ⟨S384, .f32⟩
  | 34 => ⟨S384x128, .f32⟩
  | 35 => ⟨S384, .f32⟩
  | 36 => ⟨S_, .i32⟩
  | 37 => ⟨S128x128, .f32⟩
  | 38 => ⟨S128x256, .i1⟩
  | 39 => ⟨S256x128, .i32⟩
  | 40 => ⟨S256x128, .f32⟩
  | 41 => ⟨S256x128, .f32⟩
  | 42 => ⟨S_, .i32⟩
  | 43 => ⟨S_, .i1⟩
  | 44 => ⟨S128x128, .f32⟩
  | 45 => ⟨S128x128, .f32⟩
  | 46 => ⟨S128x256, .f32⟩
  | 47 => ⟨S_, .f32⟩
  | 48 => ⟨S128x256, .f32⟩
  | 49 => ⟨S128x256, .f32⟩
  | 50 => ⟨S_, .f32⟩
  | 51 => ⟨S_, .f32⟩
  | 52 => ⟨S128x256, .f32⟩
  | 53 => ⟨S128x256, .f32⟩
  | 54 => ⟨S_, .f32⟩
  | 55 => ⟨S128, .f32⟩
  | 56 => ⟨S_, .f32⟩
  | 57 => ⟨S128, .f32⟩
  | 58 => ⟨S128, .f32⟩
  | 59 => ⟨S128x1, .f32⟩
  | 60 => ⟨S128x256, .f32⟩
  | 61 => ⟨S128x256, .f32⟩
  | 62 => ⟨S128x256, .f32⟩
  | 63 => ⟨S_, .f32⟩
  | 64 => ⟨S128, .f32⟩
  | 65 => ⟨S128x1, .f32⟩
  | 66 => ⟨S128x256, .f32⟩
  | 67 => ⟨S128x256, .f32⟩
  | 68 => ⟨S128x256, .i32⟩
  | 69 => ⟨S_, .f32⟩
  | 70 => ⟨S_, .i32⟩
  | 71 => ⟨S128, .f32⟩
  | 72 => ⟨S128, .i32⟩
  | 73 => ⟨S128x1, .i32⟩
  | 74 => ⟨S_, .i32⟩
  | 75 => ⟨S128x1, .i32⟩
  | 76 => ⟨S128x1, .i1⟩
  | 77 => ⟨S_, .i32⟩
  | 78 => ⟨S128x1, .i32⟩
  | 79 => ⟨S128x1, .i32⟩
  | 80 => ⟨S128x1, .i32⟩
  | 81 => ⟨S128x1x1, .i32⟩
  | 82 => ⟨S1, .i32⟩
  | 83 => ⟨S_, .i32⟩
  | 84 => ⟨S128x1x1, .i32⟩
  | 85 => ⟨S128x1x1, .i1⟩
  | 86 => ⟨S1x1x1, .i32⟩
  | 87 => ⟨S128x1x1, .i32⟩
  | 88 => ⟨S128x1x1, .i1⟩
  | 89 => ⟨S128x1x1, .i1⟩
  | 90 => ⟨S_, .i1⟩
  | 91 => ⟨S128x1, .i1⟩
  | 92 => ⟨S128x1, .f32⟩
  | 93 => ⟨S_, .f32⟩
  | 94 => ⟨S128x1, .f32⟩
  | 95 => ⟨S128x1, .f32⟩
  | 96 => ⟨S128, .f32⟩
  | 97 => ⟨S_, .f32⟩
  | 98 => ⟨S128, .f32⟩
  | 99 => ⟨S128, .f32⟩
  | 100 => ⟨S128, .f32⟩
  | 101 => ⟨S_, .f32⟩
  | 102 => ⟨S128x256, .f32⟩
  | 103 => ⟨S128x256, .f32⟩
  | 104 => ⟨S128x256, .f32⟩
  | 105 => ⟨S128x256, .f32⟩
  | 106 => ⟨S_, .f32⟩
  | 107 => ⟨S128, .f32⟩
  | 108 => ⟨S128, .f32⟩
  | 109 => ⟨S_, .i32⟩
  | 110 => ⟨S128, .i32⟩
  | 111 => ⟨S128, .i1⟩
  | 112 => ⟨S_, .i32⟩
  | 113 => ⟨S128, .i32⟩
  | 114 => ⟨S128, .i32⟩
  | 115 => ⟨S128, .i32⟩
  | 116 => ⟨S_, .i32⟩
  | 117 => ⟨S128, .i32⟩
  | 118 => ⟨S128, .i1⟩
  | 119 => ⟨S_, .i32⟩
  | 120 => ⟨S128, .i32⟩
  | 121 => ⟨S128, .i32⟩
  | 122 => ⟨S128, .i32⟩
  | 123 => ⟨S128x1, .i32⟩
  | 124 => ⟨S128x1, .i32⟩
  | 125 => ⟨S128x2, .i32⟩
  | 126 => ⟨S_, .i1⟩
  | 127 => ⟨S128, .i1⟩
  | _ => ⟨S128x256x128, .f32⟩

abbrev hbmTy0_1 (i : Nat) : BufTy := match i % 128 with
  | 0 => ⟨S128x256, .i1⟩
  | 1 => ⟨S_, .i32⟩
  | 2 => ⟨S128, .i32⟩
  | 3 => ⟨S128, .i1⟩
  | 4 => ⟨S_, .i32⟩
  | 5 => ⟨S128, .i32⟩
  | 6 => ⟨S128, .i32⟩
  | 7 => ⟨S128, .i32⟩
  | 8 => ⟨S_, .i32⟩
  | 9 => ⟨S128, .i32⟩
  | 10 => ⟨S128, .i1⟩
  | 11 => ⟨S_, .i32⟩
  | 12 => ⟨S128, .i32⟩
  | 13 => ⟨S128, .i32⟩
  | 14 => ⟨S128, .i32⟩
  | 15 => ⟨S128x1, .i32⟩
  | 16 => ⟨S128x1, .i32⟩
  | 17 => ⟨S128x2, .i32⟩
  | 18 => ⟨S128x128, .f32⟩
  | 19 => ⟨S128x384, .f32⟩
  | 20 => ⟨S128x384, .f32⟩
  | 21 => ⟨S1x384, .f32⟩
  | 22 => ⟨S128x384, .f32⟩
  | 23 => ⟨S128x384, .f32⟩
  | 24 => ⟨S128x384, .f32⟩
  | 25 => ⟨S128x384, .f32⟩
  | 26 => ⟨S1x384, .f32⟩
  | 27 => ⟨S128x384, .f32⟩
  | 28 => ⟨S128x384, .f32⟩
  | 29 => ⟨S128x128, .f32⟩
  | 30 => ⟨S128x128, .f32⟩
  | 31 => ⟨S128x128, .f32⟩
  | 32 => ⟨S128x128, .f32⟩
  | 33 => ⟨S128x128, .f32⟩
  | 34 => ⟨S128x128, .f32⟩
  | 35 => ⟨S128x128, .f32⟩
  | 36 => ⟨S128x128, .f32⟩
  | 37 => ⟨S128x128, .f32⟩
  | 38 => ⟨S_, .f32⟩
  | 39 => ⟨S128x128, .f32⟩
  | 40 => ⟨S128x128, .f32⟩
  | 41 => ⟨S_, .f32⟩
  | 42 => ⟨S128x128, .f32⟩
  | 43 => ⟨S128x128, .f32⟩
  | 44 => ⟨S128x128, .f32⟩
  | 45 => ⟨S128x128, .f32⟩
  | 46 => ⟨S128x128, .f32⟩
  | 47 => ⟨S_, .f32⟩
  | 48 => ⟨S128x128, .f32⟩
  | 49 => ⟨S128x128, .f32⟩
  | 50 => ⟨S_, .f32⟩
  | 51 => ⟨S128x128, .f32⟩
  | 52 => ⟨S128x128, .f32⟩
  | 53 => ⟨S128x128, .f32⟩
  | 54 => ⟨S128x128, .f32⟩
  | 55 => ⟨S128x128, .f32⟩
  | 56 => ⟨S_, .f32⟩
  | 57 => ⟨S128x128, .f32⟩
  | 58 => ⟨S128x128, .f32⟩
  | 59 => ⟨S128x128, .f32⟩
  | 60 => ⟨S128x128, .f32⟩
  | 61 => ⟨S128x128, .f32⟩
  | 62 => ⟨S1x128, .i32⟩
  | 63 => ⟨S_, .i32⟩
  | 64 => ⟨S256x128, .i32⟩
  | 65 => ⟨S1x128, .f32⟩
  | 66 => ⟨S_, .i32⟩
  | 67 => ⟨S256x128, .f32⟩
  | 68 => ⟨S1x128, .f32⟩
  | 69 => ⟨S_, .i32⟩
  | 70 => ⟨S256x128, .f32⟩
  | 71 => ⟨S_, .i32⟩
  | 72 => ⟨S_, .i32⟩
  | 73 => ⟨S128x256, .i32⟩
  | 74 => ⟨S_, .f32⟩
  | 75 => ⟨S128, .f32⟩
  | 76 => ⟨S_, .f32⟩
  | 77 => ⟨S128, .f32⟩
  | _ => ⟨S128x256x128, .f32⟩

abbrev hbmTy (i : Nat) : BufTy := match i / 128 with
  | 0 => hbmTy0_0 i
  | 1 => hbmTy0_1 i
  | _ => ⟨S128x256x128, .f32⟩

abbrev bufTy : (tb : Table) → Fin (tcTables nBuf tb) → BufTy
  | .hbm, ⟨i, _⟩ => hbmTy i
  | _, _ => ⟨S128x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_c_4 : Ref sig .tc := ⟨.hbm, 28, rfl⟩
abbrev main_v14_0 : Ref sig .tc := ⟨.hbm, 29, rfl⟩
abbrev main_v14_1 : Ref sig .tc := ⟨.hbm, 30, rfl⟩
abbrev main_v14_2 : Ref sig .tc := ⟨.hbm, 31, rfl⟩
abbrev main_v14_3 : Ref sig .tc := ⟨.hbm, 32, rfl⟩
abbrev main_v14_4 : Ref sig .tc := ⟨.hbm, 33, rfl⟩
abbrev main_v14_5 : Ref sig .tc := ⟨.hbm, 34, rfl⟩
abbrev main_v14_6 : Ref sig .tc := ⟨.hbm, 35, rfl⟩
abbrev main_v14_7 : Ref sig .tc := ⟨.hbm, 36, rfl⟩
abbrev main_v14_8 : Ref sig .tc := ⟨.hbm, 37, rfl⟩
abbrev main_v14_9 : Ref sig .tc := ⟨.hbm, 38, rfl⟩
abbrev main_v14_10 : Ref sig .tc := ⟨.hbm, 39, rfl⟩
abbrev main_v14_11 : Ref sig .tc := ⟨.hbm, 40, rfl⟩
abbrev main_v14_12 : Ref sig .tc := ⟨.hbm, 41, rfl⟩
abbrev main_while0c_c_19 : Ref sig .tc := ⟨.hbm, 42, rfl⟩
abbrev main_while0c_v18 : Ref sig .tc := ⟨.hbm, 43, rfl⟩
abbrev main_while0b_v18 : Ref sig .tc := ⟨.hbm, 44, rfl⟩
abbrev main_while0b_v19 : Ref sig .tc := ⟨.hbm, 45, rfl⟩
abbrev main_while0b_v20 : Ref sig .tc := ⟨.hbm, 46, rfl⟩
abbrev main_while0b_cst_19 : Ref sig .tc := ⟨.hbm, 47, rfl⟩
abbrev main_while0b_v21 : Ref sig .tc := ⟨.hbm, 48, rfl⟩
abbrev main_while0b_v22 : Ref sig .tc := ⟨.hbm, 49, rfl⟩
abbrev main_while0b_cst_20 : Ref sig .tc := ⟨.hbm, 50, rfl⟩
abbrev main_while0b_call0_v0 : Ref sig .tc := ⟨.hbm, 51, rfl⟩
abbrev main_while0b_call0_v1 : Ref sig .tc := ⟨.hbm, 52, rfl⟩
abbrev main_while0b_v23 : Ref sig .tc := ⟨.hbm, 53, rfl⟩
abbrev main_while0b_cst_21 : Ref sig .tc := ⟨.hbm, 54, rfl⟩
abbrev main_while0b_v24 : Ref sig .tc := ⟨.hbm, 55, rfl⟩
abbrev main_while0b_cst_22 : Ref sig .tc := ⟨.hbm, 56, rfl⟩
abbrev main_while0b_v25 : Ref sig .tc := ⟨.hbm, 57, rfl⟩
abbrev main_while0b_v26 : Ref sig .tc := ⟨.hbm, 58, rfl⟩
abbrev main_while0b_v27 : Ref sig .tc := ⟨.hbm, 59, rfl⟩
abbrev main_while0b_v28 : Ref sig .tc := ⟨.hbm, 60, rfl⟩
abbrev main_while0b_v29 : Ref sig .tc := ⟨.hbm, 61, rfl⟩
abbrev main_while0b_v30 : Ref sig .tc := ⟨.hbm, 62, rfl⟩
abbrev main_while0b_cst_23 : Ref sig .tc := ⟨.hbm, 63, rfl⟩
abbrev main_while0b_v31 : Ref sig .tc := ⟨.hbm, 64, rfl⟩
abbrev main_while0b_v32 : Ref sig .tc := ⟨.hbm, 65, rfl⟩
abbrev main_while0b_v33 : Ref sig .tc := ⟨.hbm, 66, rfl⟩
abbrev main_while0b_v34 : Ref sig .tc := ⟨.hbm, 67, rfl⟩
abbrev main_while0b_call1_v0 : Ref sig .tc := ⟨.hbm, 68, rfl⟩
abbrev main_while0b_call1_cst : Ref sig .tc := ⟨.hbm, 69, rfl⟩
abbrev main_while0b_call1_c : Ref sig .tc := ⟨.hbm, 70, rfl⟩
abbrev main_while0b_call1_v1_0 : Ref sig .tc := ⟨.hbm, 71, rfl⟩
abbrev main_while0b_v35 : Ref sig .tc := ⟨.hbm, 72, rfl⟩
abbrev main_while0b_v36 : Ref sig .tc := ⟨.hbm, 73, rfl⟩
abbrev main_while0b_call2_c : Ref sig .tc := ⟨.hbm, 74, rfl⟩
abbrev main_while0b_call2_v0 : Ref sig .tc := ⟨.hbm, 75, rfl⟩
abbrev main_while0b_call2_v1 : Ref sig .tc := ⟨.hbm, 76, rfl⟩
abbrev main_while0b_call2_c_0 : Ref sig .tc := ⟨.hbm, 77, rfl⟩
abbrev main_while0b_call2_v2 : Ref sig .tc := ⟨.hbm, 78, rfl⟩
abbrev main_while0b_call2_v3 : Ref sig .tc := ⟨.hbm, 79, rfl⟩
abbrev main_while0b_call2_v4 : Ref sig .tc := ⟨.hbm, 80, rfl⟩
abbrev main_while0b_call2_v5 : Ref sig .tc := ⟨.hbm, 81, rfl⟩
abbrev main_while0b_call2_c_1 : Ref sig .tc := ⟨.hbm, 82, rfl⟩
abbrev main_while0b_call2_c_2 : Ref sig .tc := ⟨.hbm, 83, rfl⟩
abbrev main_while0b_call2_v6 : Ref sig .tc := ⟨.hbm, 84, rfl⟩
abbrev main_while0b_call2_v7 : Ref sig .tc := ⟨.hbm, 85, rfl⟩
abbrev main_while0b_call2_v8 : Ref sig .tc := ⟨.hbm, 86, rfl⟩
abbrev main_while0b_call2_v9 : Ref sig .tc := ⟨.hbm, 87, rfl⟩
abbrev main_while0b_call2_v10 : Ref sig .tc := ⟨.hbm, 88, rfl⟩
abbrev main_while0b_call2_v11 : Ref sig .tc := ⟨.hbm, 89, rfl⟩
abbrev main_while0b_call2_c_3 : Ref sig .tc := ⟨.hbm, 90, rfl⟩
abbrev main_while0b_call2_v12 : Ref sig .tc := ⟨.hbm, 91, rfl⟩
abbrev main_while0b_call2_v13 : Ref sig .tc := ⟨.hbm, 92, rfl⟩
abbrev main_while0b_call2_cst : Ref sig .tc := ⟨.hbm, 93, rfl⟩
abbrev main_while0b_call2_v14 : Ref sig .tc := ⟨.hbm, 94, rfl⟩
abbrev main_while0b_v37 : Ref sig .tc := ⟨.hbm, 95, rfl⟩
abbrev main_while0b_v38 : Ref sig .tc := ⟨.hbm, 96, rfl⟩
abbrev main_while0b_cst_24 : Ref sig .tc := ⟨.hbm, 97, rfl⟩
abbrev main_while0b_v39 : Ref sig .tc := ⟨.hbm, 98, rfl⟩
abbrev main_while0b_v40 : Ref sig .tc := ⟨.hbm, 99, rfl⟩
abbrev main_while0b_v41 : Ref sig .tc := ⟨.hbm, 100, rfl⟩
abbrev main_while0b_cst_25 : Ref sig .tc := ⟨.hbm, 101, rfl⟩
abbrev main_while0b_v42 : Ref sig .tc := ⟨.hbm, 102, rfl⟩
abbrev main_while0b_v43 : Ref sig .tc := ⟨.hbm, 103, rfl⟩
abbrev main_while0b_v44 : Ref sig .tc := ⟨.hbm, 104, rfl⟩
abbrev main_while0b_v45 : Ref sig .tc := ⟨.hbm, 105, rfl⟩
abbrev main_while0b_cst_26 : Ref sig .tc := ⟨.hbm, 106, rfl⟩
abbrev main_while0b_v46 : Ref sig .tc := ⟨.hbm, 107, rfl⟩
abbrev main_while0b_v47 : Ref sig .tc := ⟨.hbm, 108, rfl⟩
abbrev main_while0b_c_27 : Ref sig .tc := ⟨.hbm, 109, rfl⟩
abbrev main_while0b_v48 : Ref sig .tc := ⟨.hbm, 110, rfl⟩
abbrev main_while0b_v49 : Ref sig .tc := ⟨.hbm, 111, rfl⟩
abbrev main_while0b_c_28 : Ref sig .tc := ⟨.hbm, 112, rfl⟩
abbrev main_while0b_v50 : Ref sig .tc := ⟨.hbm, 113, rfl⟩
abbrev main_while0b_v51 : Ref sig .tc := ⟨.hbm, 114, rfl⟩
abbrev main_while0b_v52 : Ref sig .tc := ⟨.hbm, 115, rfl⟩
abbrev main_while0b_c_29 : Ref sig .tc := ⟨.hbm, 116, rfl⟩
abbrev main_while0b_v53 : Ref sig .tc := ⟨.hbm, 117, rfl⟩
abbrev main_while0b_v54 : Ref sig .tc := ⟨.hbm, 118, rfl⟩
abbrev main_while0b_c_30 : Ref sig .tc := ⟨.hbm, 119, rfl⟩
abbrev main_while0b_v55 : Ref sig .tc := ⟨.hbm, 120, rfl⟩
abbrev main_while0b_v56 : Ref sig .tc := ⟨.hbm, 121, rfl⟩
abbrev main_while0b_v57 : Ref sig .tc := ⟨.hbm, 122, rfl⟩
abbrev main_while0b_v58 : Ref sig .tc := ⟨.hbm, 123, rfl⟩
abbrev main_while0b_v59 : Ref sig .tc := ⟨.hbm, 124, rfl⟩
abbrev main_while0b_v60 : Ref sig .tc := ⟨.hbm, 125, rfl⟩
abbrev main_while0b_c_31 : Ref sig .tc := ⟨.hbm, 126, rfl⟩
abbrev main_while0b_v61 : Ref sig .tc := ⟨.hbm, 127, rfl⟩
abbrev main_while0b_v62 : Ref sig .tc := ⟨.hbm, 128, rfl⟩
abbrev main_while0b_c_32 : Ref sig .tc := ⟨.hbm, 129, rfl⟩
abbrev main_while0b_v63 : Ref sig .tc := ⟨.hbm, 130, rfl⟩
abbrev main_while0b_v64 : Ref sig .tc := ⟨.hbm, 131, rfl⟩
abbrev main_while0b_c_33 : Ref sig .tc := ⟨.hbm, 132, rfl⟩
abbrev main_while0b_v65 : Ref sig .tc := ⟨.hbm, 133, rfl⟩
abbrev main_while0b_v66 : Ref sig .tc := ⟨.hbm, 134, rfl⟩
abbrev main_while0b_v67 : Ref sig .tc := ⟨.hbm, 135, rfl⟩
abbrev main_while0b_c_34 : Ref sig .tc := ⟨.hbm, 136, rfl⟩
abbrev main_while0b_v68 : Ref sig .tc := ⟨.hbm, 137, rfl⟩
abbrev main_while0b_v69 : Ref sig .tc := ⟨.hbm, 138, rfl⟩
abbrev main_while0b_c_35 : Ref sig .tc := ⟨.hbm, 139, rfl⟩
abbrev main_while0b_v70 : Ref sig .tc := ⟨.hbm, 140, rfl⟩
abbrev main_while0b_v71 : Ref sig .tc := ⟨.hbm, 141, rfl⟩
abbrev main_while0b_v72 : Ref sig .tc := ⟨.hbm, 142, rfl⟩
abbrev main_while0b_v73 : Ref sig .tc := ⟨.hbm, 143, rfl⟩
abbrev main_while0b_v74 : Ref sig .tc := ⟨.hbm, 144, rfl⟩
abbrev main_while0b_v75 : Ref sig .tc := ⟨.hbm, 145, rfl⟩
abbrev main_while0b_v76 : Ref sig .tc := ⟨.hbm, 146, rfl⟩
abbrev main_while0b_v77 : Ref sig .tc := ⟨.hbm, 147, rfl⟩
abbrev main_while0b_v78 : Ref sig .tc := ⟨.hbm, 148, rfl⟩
abbrev main_while0b_v79 : Ref sig .tc := ⟨.hbm, 149, rfl⟩
abbrev main_while0b_v80 : Ref sig .tc := ⟨.hbm, 150, rfl⟩
abbrev main_while0b_v81 : Ref sig .tc := ⟨.hbm, 151, rfl⟩
abbrev main_while0b_v82 : Ref sig .tc := ⟨.hbm, 152, rfl⟩
abbrev main_while0b_v83 : Ref sig .tc := ⟨.hbm, 153, rfl⟩
abbrev main_while0b_v84 : Ref sig .tc := ⟨.hbm, 154, rfl⟩
abbrev main_while0b_v85 : Ref sig .tc := ⟨.hbm, 155, rfl⟩
abbrev main_while0b_v86 : Ref sig .tc := ⟨.hbm, 156, rfl⟩
abbrev main_while0b_v87 : Ref sig .tc := ⟨.hbm, 157, rfl⟩
abbrev main_while0b_v88 : Ref sig .tc := ⟨.hbm, 158, rfl⟩
abbrev main_while0b_v89 : Ref sig .tc := ⟨.hbm, 159, rfl⟩
abbrev main_while0b_v90 : Ref sig .tc := ⟨.hbm, 160, rfl⟩
abbrev main_while0b_v91 : Ref sig .tc := ⟨.hbm, 161, rfl⟩
abbrev main_while0b_v92 : Ref sig .tc := ⟨.hbm, 162, rfl⟩
abbrev main_while0b_v93 : Ref sig .tc := ⟨.hbm, 163, rfl⟩
abbrev main_while0b_v94 : Ref sig .tc := ⟨.hbm, 164, rfl⟩
abbrev main_while0b_v95 : Ref sig .tc := ⟨.hbm, 165, rfl⟩
abbrev main_while0b_cst_36 : Ref sig .tc := ⟨.hbm, 166, rfl⟩
abbrev main_while0b_v96 : Ref sig .tc := ⟨.hbm, 167, rfl⟩
abbrev main_while0b_v97 : Ref sig .tc := ⟨.hbm, 168, rfl⟩
abbrev main_while0b_cst_37 : Ref sig .tc := ⟨.hbm, 169, rfl⟩
abbrev main_while0b_v98 : Ref sig .tc := ⟨.hbm, 170, rfl⟩
abbrev main_while0b_v99 : Ref sig .tc := ⟨.hbm, 171, rfl⟩
abbrev main_while0b_v100 : Ref sig .tc := ⟨.hbm, 172, rfl⟩
abbrev main_while0b_v101 : Ref sig .tc := ⟨.hbm, 173, rfl⟩
abbrev main_while0b_v102 : Ref sig .tc := ⟨.hbm, 174, rfl⟩
abbrev main_while0b_cst_38 : Ref sig .tc := ⟨.hbm, 175, rfl⟩
abbrev main_while0b_v103 : Ref sig .tc := ⟨.hbm, 176, rfl⟩
abbrev main_while0b_v104 : Ref sig .tc := ⟨.hbm, 177, rfl⟩
abbrev main_while0b_cst_39 : Ref sig .tc := ⟨.hbm, 178, rfl⟩
abbrev main_while0b_v105 : Ref sig .tc := ⟨.hbm, 179, rfl⟩
abbrev main_while0b_v106 : Ref sig .tc := ⟨.hbm, 180, rfl⟩
abbrev main_while0b_v107 : Ref sig .tc := ⟨.hbm, 181, rfl⟩
abbrev main_while0b_v108 : Ref sig .tc := ⟨.hbm, 182, rfl⟩
abbrev main_while0b_v109 : Ref sig .tc := ⟨.hbm, 183, rfl⟩
abbrev main_while0b_cst_40 : Ref sig .tc := ⟨.hbm, 184, rfl⟩
abbrev main_while0b_v110 : Ref sig .tc := ⟨.hbm, 185, rfl⟩
abbrev main_while0b_v111 : Ref sig .tc := ⟨.hbm, 186, rfl⟩
abbrev main_while0b_v112 : Ref sig .tc := ⟨.hbm, 187, rfl⟩
abbrev main_while0b_v113 : Ref sig .tc := ⟨.hbm, 188, rfl⟩
abbrev main_while0b_v114 : Ref sig .tc := ⟨.hbm, 189, rfl⟩
abbrev main_while0b_call3_v0 : Ref sig .tc := ⟨.hbm, 190, rfl⟩
abbrev main_while0b_call3_c : Ref sig .tc := ⟨.hbm, 191, rfl⟩
abbrev main_while0b_v115 : Ref sig .tc := ⟨.hbm, 192, rfl⟩
abbrev main_while0b_call4_v0 : Ref sig .tc := ⟨.hbm, 193, rfl⟩
abbrev main_while0b_call4_c : Ref sig .tc := ⟨.hbm, 194, rfl⟩
abbrev main_while0b_v116 : Ref sig .tc := ⟨.hbm, 195, rfl⟩
abbrev main_while0b_call5_v0 : Ref sig .tc := ⟨.hbm, 196, rfl⟩
abbrev main_while0b_call5_c : Ref sig .tc := ⟨.hbm, 197, rfl⟩
abbrev main_while0b_v117 : Ref sig .tc := ⟨.hbm, 198, rfl⟩
abbrev main_while0b_c_41 : Ref sig .tc := ⟨.hbm, 199, rfl⟩
abbrev main_while0b_v118 : Ref sig .tc := ⟨.hbm, 200, rfl⟩
abbrev main_v15 : Ref sig .tc := ⟨.hbm, 201, rfl⟩
abbrev main_cst_5 : Ref sig .tc := ⟨.hbm, 202, rfl⟩
abbrev main_v16 : Ref sig .tc := ⟨.hbm, 203, rfl⟩
abbrev main_cst_6 : Ref sig .tc := ⟨.hbm, 204, rfl⟩
abbrev main_v17 : Ref sig .tc := ⟨.hbm, 205, rfl⟩

abbrev nD : Nat := 1
abbrev τ : Topo := Topo.v7x

variable {F : FTy → Type} [FloatOps F]

abbrev main_while0_count : Scf.Loop 32 := ⟨0#32, 256#32, 1#32⟩
-- ==== Proof.KInner.lean ====
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Adequacy
public import Idealize.ShloMosaic.Init

/-! # The kernel's inner loop: gathering two rows of node embeddings per batch row -/

@[expose] public section

noncomputable section

namespace Cert.Proof.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- No ghost state beside the points-tos. -/
abbrev UU (nD : Nat) (τ : Topo) : Type := UR sig nD τ
abbrev 𝒱₀ : Variants := Variants.none
local notation "𝕄" => MT nD τ sig Unit (Elt F) ℕ (UU nD τ) ℕ

section Inner

variable (c : Dev nD)
  (arg0 : Memref sig .tc .vmem S128x256x128 .f32)
  (harg0 : arg0.IsWhole) (arg1 : Memref sig .tc .vmem S128x128x256 .f32)
  (harg1 : arg1.IsWhole) (arg2 : Memref sig .tc .vmem S128x128 .f32)
  (harg2 : arg2.IsWhole) (arg3 : Memref sig .tc .vmem S128x128 .f32)
  (harg3 : arg3.IsWhole) (arg4 : Memref sig .tc .vmem S1x128 .f32)
  (harg4 : arg4.IsWhole) (arg5 : Memref sig .tc .vmem S128x384 .f32)
  (harg5 : arg5.IsWhole) (arg6 : Memref sig .tc .vmem S128x384 .f32)
  (harg6 : arg6.IsWhole) (arg7 : Memref sig .tc .vmem S1x384 .f32)
  (harg7 : arg7.IsWhole) (arg8 : Memref sig .tc .vmem S1x384 .f32)
  (harg8 : arg8.IsWhole) (arg9 : Memref sig .tc .vmem S128x256 .i32)
  (harg9 : arg9.IsWhole) (arg10 : Memref sig .tc .vmem S128x8 .f32)
  (harg10 : arg10.IsWhole) (arg11 : Memref sig .tc .vmem S128x8 .f32)
  (harg11 : arg11.IsWhole) (arg12 : Memref sig .tc .vmem S128x128 .f32)
  (harg12 : arg12.IsWhole) (arg13 : Memref sig .tc .vmem S128x256 .f32)
  (harg13 : arg13.IsWhole) (arg14 : Memref sig .tc .vmem S128x1x8 .i32)
  (harg14 : arg14.IsWhole) (arg15 : Memref sig .tc .vmem S128x1x256 .f32)
  (harg15 : arg15.IsWhole) (arg16 : Memref sig .tc .vmem S128x128 .bf16)
  (harg16 : arg16.IsWhole) (arg17 : Memref sig .tc .vmem S128x256 .bf16)
  (harg17 : arg17.IsWhole)

/-- A buffer held whole by the core. -/
abbrev own {sp : Space} {s : Shape} {e : EltTy} (m : Memref sig .tc sp s e) (g : Buf (Elt F) (m.view.loc (c : Thread nD τ))) : sProp 𝕄 :=
  m.view.loc (c : Thread nD τ) ↦[m.view.set]{fullShare} g

/-- The code word trip `k` reads. -/
abbrev codeAt (g14 : Buf (Elt F) (arg14.view.loc (c : Thread nD τ))) (k : Fin k0_t2_loop.trips) : BitVec 32 :=
  extractAt ![0, 0, 0] (arg14.view.readAt (Elt F) (Rect.unit (s := S128x1x8) (k0_off1 k) S1x1x1.size (k0_off1_inb k)).toLoadRect g14) inpos_S1x1x1_p0_0_0

/-- Every code word, read off column 0 of the code buffer, addresses two rows inside the node embeddings. -/
def CodesOK (g14 : Buf (Elt F) (arg14.view.loc (c : Thread nD τ))) : Prop := ∀ k, k0_chk1 k (codeAt c arg14 g14 k)

/-- The two rows trip `k` stores. -/
def pcs (g0 : Buf (Elt F) (arg0.view.loc (c : Thread nD τ))) (g14 : Buf (Elt F) (arg14.view.loc (c : Thread nD τ)))
    (hchk : CodesOK c arg14 g14) (k : Fin k0_t2_loop.trips) : List (View.Piece (Elt F) S128x1x256 .f32) :=
  [⟨Rect.unit (s := S128x1x256) (k0_off5 k) S1x1x128.size (k0_off5_inb k),
      k0_pay20 (arg0.view.readAt (Elt F) (Rect.unit (s := S128x256x128) (k0_off4 k (codeAt c arg14 g14 k)) S1x1x128.size (k0_off4_inb k _ (hchk k))).toLoadRect g0)⟩,
   ⟨Rect.unit (s := S128x1x256) (k0_off3 k) S1x1x128.size (k0_off3_inb k),
      k0_pay19 (arg0.view.readAt (Elt F) (Rect.unit (s := S128x256x128) (k0_off2 k (codeAt c arg14 g14 k)) S1x1x128.size (k0_off2_inb k _ (hchk k))).toLoadRect g0)⟩]

/-- The gathered rows' buffer before trip `k`. -/
def acc15 (g0 : Buf (Elt F) (arg0.view.loc (c : Thread nD τ))) (g14 : Buf (Elt F) (arg14.view.loc (c : Thread nD τ)))
    (hchk : CodesOK c arg14 g14) (g15 : Buf (Elt F) (arg15.view.loc (c : Thread nD τ))) : ℕ → Buf (Elt F) (arg15.view.loc (c : Thread nD τ))
  | 0 => g15
  | k + 1 => if h : k < k0_t2_loop.trips then arg15.view.writes (Elt F) (acc15 g0 g14 hchk g15 k) (pcs c arg0 arg14 g0 g14 hchk ⟨k, h⟩)
      else acc15 g0 g14 hchk g15 k

/-- One trip: the code word of row `k` read and the two rows it names copied. -/
theorem inner (g0 : Buf (Elt F) (arg0.view.loc (c : Thread nD τ))) (g14 : Buf (Elt F) (arg14.view.loc (c : Thread nD τ)))
    (g15 : Buf (Elt F) (arg15.view.loc (c : Thread nD τ))) (k : Fin k0_t2_loop.trips)
    (v23 : IVec S128x256 32) (v34 : FVec F S128x128 .f32) (v55 : IVec S128x1 32) (v59 : FVec F S128x256 .f32)
    (hchk : CodesOK c arg14 g14) :
    iprop(own c arg0 g0 ∗ own c arg14 g14 ∗ own c arg15 g15)
      ⊢ wp frame (wpE (defs₀ (F := F)) 𝒱₀ (c : Thread nD τ) none) Set.univ (k0_t2_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v23 v34 v55 v59 k ())
        (fun _ => iprop(own c arg0 g0 ∗ own c arg14 g14 ∗ own c arg15 (arg15.view.writes (Elt F) g15 (pcs c arg0 arg14 g0 g14 hchk k)))) := by
  iintro ⟨H0, H14, H15⟩
  unfold k0_t2_body
  sl_exec
  have hk : k0_chk1 k (inner.sl.v338 c arg14 g14 k) := hchk k
  sl_exec
  sl_step
  sl_close

set_option warn.classDefReducibility false in
/-- The inner loop's invariant. -/
@[sl_loop] def innerInv (v23 : IVec S128x256 32) (v34 : FVec F S128x128 .f32) (v55 : IVec S128x1 32) (v59 : FVec F S128x256 .f32)
    (g0 : Buf (Elt F) (arg0.view.loc (c : Thread nD τ))) (g14 : Buf (Elt F) (arg14.view.loc (c : Thread nD τ)))
    (g15 : Buf (Elt F) (arg15.view.loc (c : Thread nD τ))) (hchk : CodesOK c arg14 g14) :
    LoopInvTy_k0_t2 (F := F) Unit ℕ (UU nD τ) ℕ 𝒱₀ c none Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v23 v34 v55 v59 where
  inv k _ := iprop(own c arg0 g0 ∗ own c arg14 g14 ∗ own c arg15 (acc15 c arg0 arg14 arg15 g0 g14 hchk g15 k))
  step k _ := by
    have e : acc15 c arg0 arg14 arg15 g0 g14 hchk g15 (k.val + 1)
        = arg15.view.writes (Elt F) (acc15 c arg0 arg14 arg15 g0 g14 hchk g15 k.val) (pcs c arg0 arg14 g0 g14 hchk k) := by
      rw [acc15, dif_pos k.isLt]
    rw [e]
    exact inner c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 g0 g14 _ k v23 v34 v55 v59 hchk

/-- The code buffer once the codes are stored. -/
abbrev g14' (g14 : Buf (Elt F) (arg14.view.loc (c : Thread nD τ))) (p : IVec S128x1x1 32) : Buf (Elt F) (arg14.view.loc (c : Thread nD τ)) :=
  arg14.view.writes (Elt F) g14 [⟨Rect.unit (s := S128x1x8) ![0, 0, 0] S128x1x1.size inb_S128x1x8_S128x1x1_0_0_0, p⟩]

theorem part2 (v23 : IVec S128x256 32) (v34 : FVec F S128x128 .f32) (v55 : IVec S128x1 32) (v59 : FVec F S128x256 .f32)
    (g0 : Buf (Elt F) (arg0.view.loc (c : Thread nD τ))) (g14 : Buf (Elt F) (arg14.view.loc (c : Thread nD τ)))
    (g15 : Buf (Elt F) (arg15.view.loc (c : Thread nD τ))) (g17 : Buf (Elt F) (arg17.view.loc (c : Thread nD τ)))
    (hchk : CodesOK c arg14 (g14' c arg14 g14 (k0_pay18 v23 v55 v59))) :
    iprop(own c arg0 g0 ∗ own c arg14 g14 ∗ own c arg15 g15 ∗ own c arg17 g17)
      ⊢ wp frame (wpE (defs₀ (F := F)) 𝒱₀ (c : Thread nD τ) none) Set.univ (k0_part2 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v23 v34 v55 v59)
        (fun r => iprop(own c arg0 g0 ∗ (∃ f, own c arg14 f) ∗ (∃ f, own c arg15 f) ∗ (∃ f, own c arg17 f))) := by
  rw [k0_part2_eq_skeleton]; unfold k0_part2_skel
  iintro ⟨H0, H14, H15, H17⟩
  sl_exec
  sl_step
  sl_close

end Inner
end Cert.Proof.KRun
-- ==== Proof.KGather.lean ====
module

public import proofs.«01_k».proof.Proof.KInner
public import Idealize.ShloMosaic.Lib.Affine
public import Idealize.ShloMosaic.Lib.WritesUnit
public import Idealize.ShloMosaic.Lib.VecWindow
public import Idealize.ShloMosaic.Lib.ValueIdxCore
public import Idealize.ShloMosaic.Lib.Pipeline.Value

/-! # What the inner loop leaves: row `b` holds the embeddings of the two nodes coded for row `b` -/

@[expose] public section

noncomputable section

namespace Cert.Proof.KRun

open Cert.KernelIdeal Cert.KernelIdeal.Gen
open Idealize.ShloMosaic Idealize.ShloMosaic.TcCoe Idealize.ShloMosaic.ValueIdx

/-- A word read signed as `i * 512 + j` splits into the node `i` the first copy takes and the node `j` the second takes. -/
theorem code_split (k : Fin k0_t2_loop.trips) (w : BitVec 32) (i j : ℕ) (hi : i < 256) (hj : j < 256)
    (hw : w.toInt = (i : ℤ) * 512 + j) : k0_off2 k w = ![k.val, i, 0] ∧ k0_off4 k w = ![k.val, j, 0] := by
  have hW : Affine.IsInt w ((i : ℤ) * 512 + j) := by unfold Affine.IsInt; exact hw
  have h0 : Affine.IsInt (0#32) 0 := Affine.ofNat 0 (by omega)
  have h1 : Affine.IsInt (1#32) 1 := Affine.ofNat 1 (by omega)
  have h512 : Affine.IsInt (512#32) 512 := Affine.ofNat 512 (by omega)
  have hsg : Affine.IsInt (Scalar.subi (Scalar.extui (Scalar.cmpi .sgt (512#32 : BitVec 32) 0#32)) (Scalar.extui (Scalar.cmpi .slt (512#32 : BitVec 32) 0#32)) : BitVec 32) 1 :=
    Affine.subi (Affine.extui_holds (Affine.sgt_holds h512 h0 (by omega)) rfl)
      (Affine.extui_fails (Affine.slt_fails h512 h0 (by omega)) rfl) (by omega)
  have hrem : Affine.IsInt (Scalar.remsi w 512#32) j := Affine.remsi hW h512 (by omega)
  have hdiv : Affine.IsInt (Scalar.divsi w 512#32) i := Affine.divsi hW h512 (by omega)
  have hneg : Affine.IsInt (Scalar.extui (Scalar.cmpi .slt w 0#32) : BitVec 32) 0 :=
    Affine.extui_fails (Affine.slt_fails hW h0 (by omega)) rfl
  have hf : Affine.Fails (Scalar.andi (Scalar.cmpi .ne
      (Scalar.subi (Scalar.extui (Scalar.cmpi .sgt w 0#32)) (Scalar.extui (Scalar.cmpi .slt w 0#32)) : BitVec 32)
      (Scalar.subi (Scalar.extui (Scalar.cmpi .sgt (512#32 : BitVec 32) 0#32)) (Scalar.extui (Scalar.cmpi .slt (512#32 : BitVec 32) 0#32)) : BitVec 32))
      (Scalar.cmpi .ne (Scalar.remsi w 512#32) 0#32)) := by
    by_cases hz : (i : ℤ) * 512 + j = 0
    · exact Affine.andi_fails_right (Affine.tH (Affine.ne_holds (Affine.subi (e := 0) (Affine.extui_fails (Affine.sgt_fails hW h0 (by omega)) rfl) hneg (by omega)) hsg (by omega)))
        (Affine.ne_fails hrem h0 (by omega))
    · exact Affine.andi_fails_left (Affine.ne_fails (Affine.subi (e := 1) (Affine.extui_holds (Affine.sgt_holds hW h0 (by omega)) rfl) hneg (by omega)) hsg rfl)
        (Affine.tH (c := 1#1) rfl)
  have hsel := Affine.select_fails (e := i) hf (Affine.subi (e := (i : ℤ) - 1) hdiv h1 (by omega)) hdiv rfl
  have hiv : Affine.IsInt (Scf.iv (0#32 : BitVec 32) 1#32 k.val) k.val := Affine.iv h0 h1 k.val (by
    have := k.isLt
    have e : k0_t2_loop.trips = 128 := by decide +kernel
    omega)
  have hsub := Affine.subi (e := j) hW (Affine.muli (e := (i : ℤ) * 512) hsel h512 (by omega)) (by omega)
  have nat : ∀ (x : BitVec 32) (n : ℕ), Affine.IsInt x n → x.toNat = n := by
    intro x n h
    unfold Affine.IsInt at h
    rw [BitVec.toInt_eq_toNat_cond] at h
    split at h <;> omega
  constructor
  · funext a
    fin_cases a
    · exact nat _ _ hiv
    · exact nat _ _ hsel
    · rfl
  · funext a
    fin_cases a
    · exact nat _ _ hiv
    · exact nat _ _ hsub
    · rfl

/-- Row `b` of the gathered rows: the embedding of node `i b`, then that of node `j b`. -/
def rows {α : Type} (X : S128x256x128.Idx → α) (i j : Fin 128 → Fin 256) : S128x1x256.Idx → α := fun y =>
  if h : (y 2).val < 128 then X (ix3 (y 0) (i (y 0)) ⟨(y 2).val, h⟩)
  else X (ix3 (y 0) (j (y 0)) ⟨(y 2).val - 128, by have h2 : (y 2).val < 256 := (y 2).isLt; omega⟩)

variable {F : FTy → Type} [FloatOps F] [Named F]

theorem codesOK_of (c : Dev nD) (arg14 : Memref sig .tc .vmem S128x1x8 .i32) (g14 : Buf (Elt F) (arg14.view.loc (c : Thread nD τ)))
    (i j : Fin k0_t2_loop.trips → ℕ) (hi : ∀ k, i k < 256) (hj : ∀ k, j k < 256)
    (hc : ∀ k, (codeAt c arg14 g14 k).toInt = (i k : ℤ) * 512 + j k) : CodesOK c arg14 g14 := by
  intro k
  obtain ⟨e2, e4⟩ := code_split k _ _ _ (hi k) (hj k) (hc k)
  have hk : k.val < 128 := by have := k.isLt; have e : k0_t2_loop.trips = 128 := by decide +kernel
                              omega
  have := hi k
  have := hj k
  unfold k0_chk1
  rw [e2, e4]
  constructor <;> (intro a; fin_cases a <;> simp <;> omega)

theorem pay19_eq (x : Vec F S1x1x128 .f32) : k0_pay19 x = x := by
  simp only [k0_pay19, k0_pay20, shapeCast_shapeCast]
theorem pay20_eq (x : Vec F S1x1x128 .f32) : k0_pay20 x = x := by
  simp only [k0_pay19, k0_pay20, shapeCast_shapeCast]
theorem trips_eq : k0_t2_loop.trips = 128 := by decide +kernel

/-- The gathered rows' buffer before trip `n`: the rows below `n` hold the two embeddings. -/
theorem acc15_read (c : Dev nD) (arg0 : Memref sig .tc .vmem S128x256x128 .f32) (arg14 : Memref sig .tc .vmem S128x1x8 .i32)
    (arg15 : Memref sig .tc .vmem S128x1x256 .f32) (g0 : Buf (Elt F) (arg0.view.loc (c : Thread nD τ)))
    (g14 : Buf (Elt F) (arg14.view.loc (c : Thread nD τ))) (g15 : Buf (Elt F) (arg15.view.loc (c : Thread nD τ)))
    (hchk : CodesOK c arg14 g14) (i j : Fin 128 → Fin 256)
    (hc : ∀ k : Fin k0_t2_loop.trips, (codeAt c arg14 g14 k).toInt = ((i (k.cast trips_eq)).val : ℤ) * 512 + (j (k.cast trips_eq)).val)
    (n : ℕ) (hn : n ≤ 128) (y : S128x1x256.Idx) (hy : (y 0).val < n) :
    arg15.view.read (Elt F) (acc15 c arg0 arg14 arg15 g0 g14 hchk g15 n) y = rows (arg0.view.read (Elt F) g0) i j y := by
  have hy2 : (y 2).val < 256 := (y 2).isLt
  have hy1 : (y 1).val = 0 := by have : (y 1).val < 1 := (y 1).isLt
                                 omega
  induction n with
  | zero => omega
  | succ n ih =>
    have hlt : n < k0_t2_loop.trips := by rw [trips_eq]; omega
    obtain ⟨e2, e4⟩ := code_split ⟨n, hlt⟩ _ _ _ (i _).isLt (j _).isLt (hc ⟨n, hlt⟩)
    rw [acc15, dif_pos hlt]
    unfold pcs
    by_cases hyn : (y 0).val = n
    · have e0 : (⟨n, hlt⟩ : Fin k0_t2_loop.trips).cast trips_eq = y 0 := Fin.ext hyn.symm
      by_cases h2 : (y 2).val < 128
      · rw [View.read_writes_cons_unit_of_not_mem _ _ _ _ _ y (k0_off5_eq ⟨n, hlt⟩) 2 (Or.inl h2)]
        rw [View.read_writes_cons_unit_of_mem (s := S128x1x256) (size := S1x1x128.size) _ _ _ _ _ y (ix3 (0 : Fin 1) (0 : Fin 1) (⟨(y 2).val, h2⟩ : Fin 128) : S1x1x128.Idx) (k0_off3_eq ⟨n, hlt⟩)
          (by intro a; fin_cases a <;> simp [hyn, hy1])]
        rw [rows, dif_pos h2, pay19_eq, View.readAt_apply]
        congr 1
        funext a
        refine Fin.ext ?_
        refine (congrArg (· + _) (congrFun e2 a)).trans ?_
        rw [e0]
        fin_cases a <;> simp [hyn]
      · rw [View.read_writes_cons_unit_of_mem (s := S128x1x256) (size := S1x1x128.size) _ _ _ _ _ y (ix3 (0 : Fin 1) (0 : Fin 1) (⟨(y 2).val - 128, by omega⟩ : Fin 128) : S1x1x128.Idx) (k0_off5_eq ⟨n, hlt⟩)
          (by intro a; fin_cases a <;> simp [hyn, hy1]; omega)]
        rw [rows, dif_neg h2, pay20_eq, View.readAt_apply]
        congr 1
        funext a
        refine Fin.ext ?_
        refine (congrArg (· + _) (congrFun e4 a)).trans ?_
        rw [e0]
        fin_cases a <;> simp [hyn]
    · have hn' : (y 0).val < n := by omega
      rw [View.read_writes_cons_unit_of_not_mem _ _ _ _ _ y (k0_off5_eq ⟨n, hlt⟩) 0 (Or.inl hn')]
      rw [View.read_writes_cons_unit_of_not_mem _ _ _ _ _ y (k0_off3_eq ⟨n, hlt⟩) 0 (Or.inl hn'), View.writes_nil]
      exact ih (by omega) hn'

end Cert.Proof.KRun
-- ==== Proof.KStep.lean ====
module

public import proofs.«01_k».proof.Proof.KGather

/-! # One step of the kernel's outer loop, as a function of the values its buffers hold -/

@[expose] public section

noncomputable section

namespace Cert.Proof.KRun

open Cert.KernelIdeal Cert.KernelIdeal.Gen
open Idealize.ShloMosaic Idealize.ShloMosaic.TcCoe

variable {F : FTy → Type} [FloatOps F] [Named F]

/-- What the kernel reads and never writes. -/
structure KC (F : FTy → Type) where
  X0 : Vec F S128x256x128 .f32
  X1 : Vec F S128x128x256 .f32
  X2 : Vec F S128x128 .f32
  X3 : Vec F S128x128 .f32
  X4 : Vec F S1x128 .f32
  X5 : Vec F S128x384 .f32
  X6 : Vec F S128x384 .f32
  X7 : Vec F S1x384 .f32
  X8 : Vec F S1x384 .f32

/-- What a step carries to the next: hidden state, visited flags, tours, summed log probabilities, summed entropies. -/
structure KS (F : FTy → Type) where
  hid : Vec F S128x128 .f32
  vis : Vec F S128x256 .f32
  tours : Vec F S128x256 .i32
  lp : Vec F S128x8 .f32
  ent : Vec F S128x8 .f32

/-- The node's number at each place of a row. -/
def iot : IVec S128x256 32 := iota .tc S128x256 32 [1] iota_S128x256_d1_w32

section
variable (K : KC F) (s : KS F)

def kq : FVec F S128x128 .bf16 := k0_pay9 s.hid K.X2
def ksm : FVec F S128x256 .f32 := k0_pay11 (kq K s) K.X1 s.vis
def kmx : FVec F S128x1 .f32 := k0_pay12 (kq K s) K.X1 s.vis
def ki1 : IVec S128x1 32 := k0_pay13 iot (kq K s) K.X1 s.vis
def ksm2 : FVec F S128x256 .f32 := k0_pay14 iot (kq K s) K.X1 s.vis
def ki2 : IVec S128x1 32 := k0_pay16 iot (ksm2 K s)
def kcode : IVec S128x1x1 32 := k0_pay18 iot (ki1 K s) (ksm2 K s)

variable (R : Vec F S128x1x256 .f32)

/-- The first candidate's score, summed with compensation. -/
def ks1 : FVec F S128x1 .f32 :=
  k0_pay33 (k0_pay31 (k0_pay28 (k0_pay10 (kq K s)) (k0_pay25 R)) (k0_pay29 (k0_pay10 (kq K s)) (k0_pay25 R)) (k0_pay30 (k0_pay10 (kq K s)) (k0_pay25 R)))
    (k0_pay32 (k0_pay28 (k0_pay10 (kq K s)) (k0_pay25 R)) (k0_pay29 (k0_pay10 (kq K s)) (k0_pay25 R)) (k0_pay30 (k0_pay10 (kq K s)) (k0_pay25 R)))
def ks2a : FVec F S16x128 .f32 := k0_pay34 (k0_pay24 (k0_pay10 (kq K s))) (k0_pay27 (k0_pay25 R))
def ks2b : FVec F S1x128 .f32 := k0_pay35 (k0_pay24 (k0_pay10 (kq K s))) (k0_pay27 (k0_pay25 R))
def kwin : IVec S128x1 1 := k0_pay40 (ksm K s) (kmx K s) (ki1 K s) (ki2 K s) (k0_pay17 (ksm2 K s)) (ks1 K s R) (ks2a K s R) (ks2b K s R)
def kidx : IVec S128x1 32 := k0_pay41 (ksm K s) (kmx K s) (ki1 K s) (ki2 K s) (k0_pay17 (ksm2 K s)) (ks1 K s R) (ks2a K s R) (ks2b K s R)
def kp : FVec F S128x1 .f32 := k0_pay42 (ksm K s) (kmx K s) (ki1 K s) (ki2 K s) (k0_pay17 (ksm2 K s)) (ks1 K s R) (ks2a K s R) (ks2b K s R)
def klogp : FVec F S128x1 .f32 := k0_pay44 (kp K s R) k0_pay43
def kent : FVec F S128x1 .f32 := k0_pay39 (ksm K s) (kmx K s)
def khid : FVec F S128x128 .f32 := k0_pay5 (k0_pay46 s.hid (k0_pay22 R) (k0_pay23 R) (kwin K s R) K.X5 K.X7 K.X6 K.X8)

/-- Column 0 of an accumulator, and the accumulator with column 0 replaced. -/
def col0 (x : Vec F S128x8 .f32) : Vec F S128x1 .f32 := VecWindow.window x ![0, 0] S128x1.size inb_S128x8_S128x1_0_0
def putCol0 (x : Vec F S128x8 .f32) (w : Vec F S128x1 .f32) : Vec F S128x8 .f32 := VecWindow.put x ![0, 0] S128x1.size w

/-- One step, `R` the gathered rows. -/
def kStepR (t : ℕ) : KS F where
  hid := khid K s R
  vis := k0_pay45 iot s.vis (kidx K s R)
  tours := k0_pay6 (Scf.iv (0#32 : BitVec 32) 1#32 t) (kidx K s R) s.tours
  lp := putCol0 s.lp (k0_pay7 (klogp K s R) (col0 s.lp))
  ent := putCol0 s.ent (k0_pay8 (kent K s) (col0 s.ent))

end

end Cert.Proof.KRun
-- ==== Proof.KTrip.lean ====
module

public import proofs.«01_k».proof.Proof.KStep

/-! # One trip of the kernel's outer loop -/

@[expose] public section

noncomputable section

namespace Cert.Proof.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UU nD τ) ℕ

/-- The code word trip `k` reads is the one stored at row `k`. -/
theorem codeAt_stored (c : Dev nD) (arg14 : Memref sig .tc .vmem S128x1x8 .i32) (g14 : Buf (Elt F) (arg14.view.loc (c : Thread nD τ))) (p : IVec S128x1x1 32)
    (k : Fin k0_t2_loop.trips) : codeAt c arg14 (g14' c arg14 g14 p) k = p (ValueIdx.ix3 (k.cast trips_eq) (0 : Fin 1) (0 : Fin 1)) := by
  unfold codeAt extractAt g14'
  rw [View.readAt_apply]
  refine View.read_writes_cons_unit_of_mem (s := S128x1x8) (size := S128x1x1.size) _ _ _ _ _ _ (ValueIdx.ix3 (k.cast trips_eq) (0 : Fin 1) (0 : Fin 1)) rfl ?_
  intro a
  refine (congrArg (· + _) (congrFun (k0_off1_eq k) a)).trans ?_
  fin_cases a <;> simp

section Trip
variable (c : Dev nD)
  (arg0 : Memref sig .tc .vmem S128x256x128 .f32) (harg0 : arg0.IsWhole) (arg1 : Memref sig .tc .vmem S128x128x256 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x384 .f32) (harg5 : arg5.IsWhole) (arg6 : Memref sig .tc .vmem S128x384 .f32) (harg6 : arg6.IsWhole) (arg7 : Memref sig .tc .vmem S1x384 .f32) (harg7 : arg7.IsWhole) (arg8 : Memref sig .tc .vmem S1x384 .f32) (harg8 : arg8.IsWhole) (arg9 : Memref sig .tc .vmem S128x256 .i32) (harg9 : arg9.IsWhole) (arg10 : Memref sig .tc .vmem S128x8 .f32) (harg10 : arg10.IsWhole) (arg11 : Memref sig .tc .vmem S128x8 .f32) (harg11 : arg11.IsWhole) (arg12 : Memref sig .tc .vmem S128x128 .f32) (harg12 : arg12.IsWhole) (arg13 : Memref sig .tc .vmem S128x256 .f32) (harg13 : arg13.IsWhole) (arg14 : Memref sig .tc .vmem S128x1x8 .i32) (harg14 : arg14.IsWhole) (arg15 : Memref sig .tc .vmem S128x1x256 .f32) (harg15 : arg15.IsWhole) (arg16 : Memref sig .tc .vmem S128x128 .bf16) (harg16 : arg16.IsWhole) (arg17 : Memref sig .tc .vmem S128x256 .bf16) (harg17 : arg17.IsWhole)

set_option maxHeartbeats 2000000 in
theorem trip (K : KC F) (s : KS F) (t : Fin k0_t1_loop.trips) (i j : Fin 128 → Fin 256)
    (hc : ∀ b : Fin 128, (kcode K s (ValueIdx.ix3 b 0 0)).toInt = ((i b).val : ℤ) * 512 + (j b).val)
    (g14 : Buf (Elt F) (arg14.view.loc (c : Thread nD τ))) (g15 : Buf (Elt F) (arg15.view.loc (c : Thread nD τ)))
    (g16 : Buf (Elt F) (arg16.view.loc (c : Thread nD τ))) (g17 : Buf (Elt F) (arg17.view.loc (c : Thread nD τ))) :
    iprop((own c arg0 (harg0.unread K.X0) ∗ own c arg1 (harg1.unread K.X1) ∗ own c arg2 (harg2.unread K.X2) ∗ own c arg3 (harg3.unread K.X3) ∗ own c arg4 (harg4.unread K.X4) ∗ own c arg5 (harg5.unread K.X5) ∗ own c arg6 (harg6.unread K.X6) ∗ own c arg7 (harg7.unread K.X7) ∗ own c arg8 (harg8.unread K.X8)) ∗ (own c arg12 (harg12.unread s.hid) ∗ own c arg13 (harg13.unread s.vis) ∗ own c arg9 (harg9.unread s.tours) ∗ own c arg10 (harg10.unread s.lp) ∗ own c arg11 (harg11.unread s.ent)) ∗ own c arg14 g14 ∗ own c arg15 g15 ∗ own c arg16 g16 ∗ own c arg17 g17)
      ⊢ wp frame (wpE (defs₀ (F := F)) 𝒱₀ (c : Thread nD τ) none) Set.univ (k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 iot t ())
        (fun _ => iprop((own c arg0 (harg0.unread K.X0) ∗ own c arg1 (harg1.unread K.X1) ∗ own c arg2 (harg2.unread K.X2) ∗ own c arg3 (harg3.unread K.X3) ∗ own c arg4 (harg4.unread K.X4) ∗ own c arg5 (harg5.unread K.X5) ∗ own c arg6 (harg6.unread K.X6) ∗ own c arg7 (harg7.unread K.X7) ∗ own c arg8 (harg8.unread K.X8)) ∗ (own c arg12 (harg12.unread (kStepR K s (rows K.X0 i j) t.val).hid) ∗ own c arg13 (harg13.unread (kStepR K s (rows K.X0 i j) t.val).vis) ∗ own c arg9 (harg9.unread (kStepR K s (rows K.X0 i j) t.val).tours) ∗ own c arg10 (harg10.unread (kStepR K s (rows K.X0 i j) t.val).lp) ∗ own c arg11 (harg11.unread (kStepR K s (rows K.X0 i j) t.val).ent)) ∗ (∃ f, own c arg14 f) ∗ (∃ f, own c arg15 f) ∗ (∃ f, own c arg16 f) ∗ (∃ f, own c arg17 f))) := by
  iintro ⟨⟨H0, H1, H2, H3, H4, H5, H6, H7, H8⟩, ⟨H12, H13, H9, H10, H11⟩, H14, H15, H16, H17⟩
  unfold k0_t1_body
  rw [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  sl_exec
  have hq : trip.sl.v33 arg2 harg2 arg12 harg12 arg16 K s = kq K s := by
    unfold trip.sl.v33 trip.sl.H16_1 kq
    refine (View.readCov_full _ _ _ _ _).trans ?_
    refine congr (congrArg k0_pay9 ?_) ?_
    · exact (View.readAt_full _ _ _).trans (harg12.read_unread _)
    · exact (View.readAt_full _ _ _).trans (harg2.read_unread _)
  have r1 : arg1.view.readAt (Elt F) (Rect.unit (s := S128x128x256) ![0, 0, 0] S128x128x256.size inb_S128x128x256_S128x128x256_0_0_0).toLoadRect (harg1.unread K.X1) = K.X1 :=
    (View.readAt_full _ _ _).trans (harg1.read_unread _)
  have r13 : arg13.view.readAt (Elt F) (Rect.unit (s := S128x256) ![0, 0] S128x256.size inb_S128x256_S128x256_0_0).toLoadRect (harg13.unread s.vis) = s.vis :=
    (View.readAt_full _ _ _).trans (harg13.read_unread _)
  have r12 : arg12.view.readAt (Elt F) (Rect.unit (s := S128x128) ![0, 0] S128x128.size inb_S128x128_S128x128_0_0).toLoadRect (harg12.unread s.hid) = s.hid :=
    (View.readAt_full _ _ _).trans (harg12.read_unread _)
  rw [hq, r1, r13, r12]
  have hcode : ∀ k, (codeAt c arg14 (g14' c arg14 g14 (k0_pay18 iot (k0_pay13 iot (kq K s) K.X1 s.vis) (k0_pay14 iot (kq K s) K.X1 s.vis))) k).toInt = ((i (k.cast trips_eq)).val : ℤ) * 512 + (j (k.cast trips_eq)).val := by
    intro k
    rw [codeAt_stored]
    exact hc _
  have hchk : CodesOK c arg14 (g14' c arg14 g14 (k0_pay18 iot (k0_pay13 iot (kq K s) K.X1 s.vis) (k0_pay14 iot (kq K s) K.X1 s.vis))) :=
    codesOK_of c arg14 _ (fun k => (i (k.cast trips_eq)).val) (fun k => (j (k.cast trips_eq)).val) (fun k => (i _).isLt) (fun k => (j _).isLt) hcode
  rw [Prog.bind_assoc]
  sl_exec
  have h1 : trip.sl.v78 c arg0 harg0 arg14 arg15 K s g14 g15 hchk = rows K.X0 i j := by
    unfold trip.sl.v78
    refine (View.readAt_full _ _ _).trans ?_
    funext y
    refine (acc15_read c arg0 arg14 arg15 _ _ g15 hchk i j hcode 128 (le_refl _) y (y 0).isLt).trans ?_
    rw [harg0.read_unread]
  have h2 : trip.sl.v87 c arg0 harg0 arg14 arg15 arg17 K s g14 g15 hchk = k0_pay25 (rows K.X0 i j) := by
    unfold trip.sl.v87 trip.sl.H17_1
    refine (View.readCov_full _ _ _ _ _).trans ?_
    exact congrArg k0_pay25 h1
  have r5 : arg5.view.readAt (Elt F) (Rect.unit (s := S128x384) ![0, 0] S128x384.size inb_S128x384_S128x384_0_0).toLoadRect (harg5.unread K.X5) = K.X5 :=
    (View.readAt_full _ _ _).trans (harg5.read_unread _)
  have r6 : arg6.view.readAt (Elt F) (Rect.unit (s := S128x384) ![0, 0] S128x384.size inb_S128x384_S128x384_0_0).toLoadRect (harg6.unread K.X6) = K.X6 :=
    (View.readAt_full _ _ _).trans (harg6.read_unread _)
  have r7 : arg7.view.readAt (Elt F) (Rect.unit (s := S1x384) ![0, 0] S1x384.size inb_S1x384_S1x384_0_0).toLoadRect (harg7.unread K.X7) = K.X7 :=
    (View.readAt_full _ _ _).trans (harg7.read_unread _)
  have r8 : arg8.view.readAt (Elt F) (Rect.unit (s := S1x384) ![0, 0] S1x384.size inb_S1x384_S1x384_0_0).toLoadRect (harg8.unread K.X8) = K.X8 :=
    (View.readAt_full _ _ _).trans (harg8.read_unread _)
  have r9 : arg9.view.readAt (Elt F) (Rect.unit (s := S128x256) ![0, 0] S128x256.size inb_S128x256_S128x256_0_0).toLoadRect (harg9.unread s.tours) = s.tours :=
    (View.readAt_full _ _ _).trans (harg9.read_unread _)
  have r10 : arg10.view.readAt (Elt F) (Rect.unit (s := S128x8) ![0, 0] S128x1.size inb_S128x8_S128x1_0_0).toLoadRect (harg10.unread s.lp) = col0 s.lp :=
    (View.readAt_unit _ _ _ rfl inb_S128x8_S128x1_0_0).trans (by rw [harg10.read_unread]; rfl)
  have r11 : arg11.view.readAt (Elt F) (Rect.unit (s := S128x8) ![0, 0] S128x1.size inb_S128x8_S128x1_0_0).toLoadRect (harg11.unread s.ent) = col0 s.ent :=
    (View.readAt_unit _ _ _ rfl inb_S128x8_S128x1_0_0).trans (by rw [harg11.read_unread]; rfl)
  rw [h1, h2, r5, r6, r7, r8, r9, r10, r11]
  have w12 : ∀ p : Vec F S128x128 .f32, arg12.view.writes (Elt F) (harg12.unread s.hid) [⟨Rect.unit (s := S128x128) ![0, 0] S128x128.size inb_S128x128_S128x128_0_0, p⟩] = harg12.unread p :=
    fun p => harg12.eq_unread (View.read_writes_full _ _ _ _ _)
  have w13 : ∀ p : Vec F S128x256 .f32, arg13.view.writes (Elt F) (harg13.unread s.vis) [⟨Rect.unit (s := S128x256) ![0, 0] S128x256.size inb_S128x256_S128x256_0_0, p⟩] = harg13.unread p :=
    fun p => harg13.eq_unread (View.read_writes_full _ _ _ _ _)
  have w9 : ∀ p : Vec F S128x256 .i32, arg9.view.writes (Elt F) (harg9.unread s.tours) [⟨Rect.unit (s := S128x256) ![0, 0] S128x256.size inb_S128x256_S128x256_0_0, p⟩] = harg9.unread p :=
    fun p => harg9.eq_unread (View.read_writes_full _ _ _ _ _)
  have w10 : ∀ p : Vec F S128x1 .f32, arg10.view.writes (Elt F) (harg10.unread s.lp) [⟨Rect.unit (s := S128x8) ![0, 0] S128x1.size inb_S128x8_S128x1_0_0, p⟩] = harg10.unread (putCol0 s.lp p) :=
    fun p => harg10.eq_unread ((View.read_writes_cons_put (s := S128x8) (size := S128x1.size) _ _ _ _ _ rfl).trans (by rw [View.writes_nil, harg10.read_unread]; rfl))
  have w11 : ∀ p : Vec F S128x1 .f32, arg11.view.writes (Elt F) (harg11.unread s.ent) [⟨Rect.unit (s := S128x8) ![0, 0] S128x1.size inb_S128x8_S128x1_0_0, p⟩] = harg11.unread (putCol0 s.ent p) :=
    fun p => harg11.eq_unread ((View.read_writes_cons_put (s := S128x8) (size := S128x1.size) _ _ _ _ _ rfl).trans (by rw [View.writes_nil, harg11.read_unread]; rfl))
  rw [w12, w13, w9, w10, w11]
  sl_step
  sl_close
end Trip
end Cert.Proof.KRun
-- ==== Proof.KLoop.lean ====
module

public import proofs.«01_k».proof.Proof.KTrip

/-! # The kernel's body: the outer loop's invariant and what the body leaves -/

@[expose] public section

noncomputable section

namespace Cert.Proof.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UU nD τ) ℕ

/-- The first and the second candidate of batch row `b`, read off the code word. -/
def iOf (K : KC F) (s : KS F) (b : Fin 128) : Fin 256 := ⟨((kcode K s (ValueIdx.ix3 b 0 0)).toInt / 512).toNat % 256, Nat.mod_lt _ (by decide)⟩
def jOf (K : KC F) (s : KS F) (b : Fin 128) : Fin 256 := ⟨((kcode K s (ValueIdx.ix3 b 0 0)).toInt % 512).toNat % 256, Nat.mod_lt _ (by decide)⟩

/-- Every code word names two nodes of the row. -/
def CodeGood (K : KC F) (s : KS F) : Prop := ∀ b : Fin 128, (kcode K s (ValueIdx.ix3 b 0 0)).toInt = ((iOf K s b).val : ℤ) * 512 + (jOf K s b).val

/-- One decode step. -/
def kStep (K : KC F) (s : KS F) (t : ℕ) : KS F := kStepR K s (rows K.X0 (iOf K s) (jOf K s)) t

/-- The state before step `n`. -/
def kIter (K : KC F) (s0 : KS F) : ℕ → KS F
  | 0 => s0
  | n + 1 => kStep K (kIter K s0 n) n

/-- The state the body sets up before the first step; the tours are whatever their buffer held. -/
def kInit (K : KC F) (T : Vec F S128x256 .i32) : KS F where
  hid := k0_pay1 K.X0 K.X3 K.X4
  vis := k0_pay2
  tours := T
  lp := k0_pay3
  ent := k0_pay4

section Body
variable (c : Dev nD)
  (arg0 : Memref sig .tc .vmem S128x256x128 .f32) (harg0 : arg0.IsWhole) (arg1 : Memref sig .tc .vmem S128x128x256 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x384 .f32) (harg5 : arg5.IsWhole) (arg6 : Memref sig .tc .vmem S128x384 .f32) (harg6 : arg6.IsWhole) (arg7 : Memref sig .tc .vmem S1x384 .f32) (harg7 : arg7.IsWhole) (arg8 : Memref sig .tc .vmem S1x384 .f32) (harg8 : arg8.IsWhole) (arg9 : Memref sig .tc .vmem S128x256 .i32) (harg9 : arg9.IsWhole) (arg10 : Memref sig .tc .vmem S128x8 .f32) (harg10 : arg10.IsWhole) (arg11 : Memref sig .tc .vmem S128x8 .f32) (harg11 : arg11.IsWhole) (arg12 : Memref sig .tc .vmem S128x128 .f32) (harg12 : arg12.IsWhole) (arg13 : Memref sig .tc .vmem S128x256 .f32) (harg13 : arg13.IsWhole) (arg14 : Memref sig .tc .vmem S128x1x8 .i32) (harg14 : arg14.IsWhole) (arg15 : Memref sig .tc .vmem S128x1x256 .f32) (harg15 : arg15.IsWhole) (arg16 : Memref sig .tc .vmem S128x128 .bf16) (harg16 : arg16.IsWhole) (arg17 : Memref sig .tc .vmem S128x256 .bf16) (harg17 : arg17.IsWhole)

set_option warn.classDefReducibility false in
/-- The outer loop's invariant: the constants, the state before step `k`, and the scratch at anything. -/
def outerInv (K : KC F) (s0 : KS F) (hg : ∀ s : KS F, CodeGood K s) :
    LoopInvTy_k0_t1 (F := F) Unit ℕ (UU nD τ) ℕ 𝒱₀ c none Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 iot where
  inv k _ := iprop((own c arg0 (harg0.unread K.X0) ∗ own c arg1 (harg1.unread K.X1) ∗ own c arg2 (harg2.unread K.X2) ∗ own c arg3 (harg3.unread K.X3) ∗ own c arg4 (harg4.unread K.X4) ∗ own c arg5 (harg5.unread K.X5) ∗ own c arg6 (harg6.unread K.X6) ∗ own c arg7 (harg7.unread K.X7) ∗ own c arg8 (harg8.unread K.X8)) ∗ (own c arg12 (harg12.unread (kIter K s0 k).hid) ∗ own c arg13 (harg13.unread (kIter K s0 k).vis) ∗ own c arg9 (harg9.unread (kIter K s0 k).tours) ∗ own c arg10 (harg10.unread (kIter K s0 k).lp) ∗ own c arg11 (harg11.unread (kIter K s0 k).ent)) ∗ (∃ f, own c arg14 f) ∗ (∃ f, own c arg15 f) ∗ (∃ f, own c arg16 f) ∗ (∃ f, own c arg17 f))
  step k _ := by
    iintro ⟨HA, HS, ⟨%f14, H14⟩, ⟨%f15, H15⟩, ⟨%f16, H16⟩, ⟨%f17, H17⟩⟩
    iapply (trip c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 K (kIter K s0 k.val) k (iOf K (kIter K s0 k.val)) (jOf K (kIter K s0 k.val)) (hg _) f14 f15 f16 f17)
    isplitl [HA]; · iexact HA
    isplitl [HS]; · iexact HS
    isplitl [H14]; · iexact H14
    isplitl [H15]; · iexact H15
    isplitl [H16]; · iexact H16
    iexact H17

/-- The body: the constants unchanged, the three results at the state after 256 steps, the scratch at anything. -/
theorem bodyRun (K : KC F) (hg : ∀ s : KS F, CodeGood K s) (g9 : Buf (Elt F) (arg9.view.loc (c : Thread nD τ))) (g10 : Buf (Elt F) (arg10.view.loc (c : Thread nD τ))) (g11 : Buf (Elt F) (arg11.view.loc (c : Thread nD τ))) (Q : PUnit → sProp 𝕄) :
    iprop((own c arg0 (harg0.unread K.X0) ∗ own c arg1 (harg1.unread K.X1) ∗ own c arg2 (harg2.unread K.X2) ∗ own c arg3 (harg3.unread K.X3) ∗ own c arg4 (harg4.unread K.X4) ∗ own c arg5 (harg5.unread K.X5) ∗ own c arg6 (harg6.unread K.X6) ∗ own c arg7 (harg7.unread K.X7) ∗ own c arg8 (harg8.unread K.X8)) ∗ own c arg9 g9 ∗ own c arg10 g10 ∗ own c arg11 g11 ∗ ((∃ f, own c arg12 f) ∗ (∃ f, own c arg13 f) ∗ (∃ f, own c arg14 f) ∗ (∃ f, own c arg15 f) ∗ (∃ f, own c arg16 f) ∗ (∃ f, own c arg17 f))
        ∗ (((own c arg0 (harg0.unread K.X0) ∗ own c arg1 (harg1.unread K.X1) ∗ own c arg2 (harg2.unread K.X2) ∗ own c arg3 (harg3.unread K.X3) ∗ own c arg4 (harg4.unread K.X4) ∗ own c arg5 (harg5.unread K.X5) ∗ own c arg6 (harg6.unread K.X6) ∗ own c arg7 (harg7.unread K.X7) ∗ own c arg8 (harg8.unread K.X8)) ∗ own c arg9 (harg9.unread (kIter K (kInit K (arg9.view.read (Elt F) g9)) 256).tours) ∗ own c arg10 (harg10.unread (kIter K (kInit K (arg9.view.read (Elt F) g9)) 256).lp) ∗ own c arg11 (harg11.unread (kIter K (kInit K (arg9.view.read (Elt F) g9)) 256).ent) ∗ ((∃ f, own c arg12 f) ∗ (∃ f, own c arg13 f) ∗ (∃ f, own c arg14 f) ∗ (∃ f, own c arg15 f) ∗ (∃ f, own c arg16 f) ∗ (∃ f, own c arg17 f))) -∗ Q ⟨⟩))
      ⊢ wp frame (wpE (defs₀ (F := F)) 𝒱₀ (c : Thread nD τ) none) Set.univ (cc0__decode_kernel (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) Q := by
  iintro ⟨⟨H0, H1, H2, H3, H4, H5, H6, H7, H8⟩, H9, H10, H11, ⟨⟨%f12, H12⟩, ⟨%f13, H13⟩, ⟨%f14, H14⟩, ⟨%f15, H15⟩, ⟨%f16, H16⟩, ⟨%f17, H17⟩⟩, Hk⟩
  sl_unfold [cc0__decode_kernel]
  sl_exec
  have e9 : g9 = harg9.unread (arg9.view.read (Elt F) g9) := (harg9.unread_read _).symm
  have e10 : arg10.view.writes (Elt F) arg10.view.junk (bodyRun.sl.H10_1 (F := F)) = harg10.unread (k0_pay3 (F := F)) :=
    harg10.eq_unread (View.read_writes_full _ _ _ _ _)
  have e11 : arg11.view.writes (Elt F) arg11.view.junk (bodyRun.sl.H11_1 (F := F)) = harg11.unread (k0_pay4 (F := F)) :=
    harg11.eq_unread (View.read_writes_full _ _ _ _ _)
  have e13 : arg13.view.writes (Elt F) arg13.view.junk (bodyRun.sl.H13_1 (F := F)) = harg13.unread (k0_pay2 (F := F)) :=
    harg13.eq_unread (View.read_writes_full _ _ _ _ _)
  have e12 : arg12.view.writes (Elt F) arg12.view.junk (bodyRun.sl.H12_1 arg0 harg0 arg3 harg3 arg4 harg4 K) = harg12.unread (k0_pay1 K.X0 K.X3 K.X4) := by
    refine harg12.eq_unread ((View.read_writes_full _ _ _ _ _).trans ?_)
    refine congr (congr (congrArg k0_pay1 ?_) ?_) ?_
    · exact (View.readAt_full _ _ _).trans (harg0.read_unread _)
    · exact (View.readAt_full _ _ _).trans (harg3.read_unread _)
    · exact (View.readAt_full _ _ _).trans (harg4.read_unread _)
  have ev : bodyRun.sl.v23 = iot := rfl
  rw [e10, e11, e12, e13, ev]
  generalize hT : arg9.view.read (Elt F) g9 = T at *
  rw [e9]
  sl_for (outerInv c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 K (kInit K T) hg).inv $$ [H0 H1 H2 H3 H4 H5 H6 H7 H8 H9 H10 H11 H12 H13 H14 H15 H16 H17]
  case region => exact (outerInv c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 K (kInit K T) hg).step
  · sl_close
  iintro %acc HI
  have ht : Scf.trips k0_t1_loop.lb k0_t1_loop.ub k0_t1_loop.st = 256 := by decide +kernel
  have hI : ∀ n, n = 256 → (outerInv c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 K (kInit K T) hg).inv n acc ⊢ iprop((own c arg0 (harg0.unread K.X0) ∗ own c arg1 (harg1.unread K.X1) ∗ own c arg2 (harg2.unread K.X2) ∗ own c arg3 (harg3.unread K.X3) ∗ own c arg4 (harg4.unread K.X4) ∗ own c arg5 (harg5.unread K.X5) ∗ own c arg6 (harg6.unread K.X6) ∗ own c arg7 (harg7.unread K.X7) ∗ own c arg8 (harg8.unread K.X8)) ∗ (own c arg12 (harg12.unread (kIter K (kInit K T) 256).hid) ∗ own c arg13 (harg13.unread (kIter K (kInit K T) 256).vis) ∗ own c arg9 (harg9.unread (kIter K (kInit K T) 256).tours) ∗ own c arg10 (harg10.unread (kIter K (kInit K T) 256).lp) ∗ own c arg11 (harg11.unread (kIter K (kInit K T) 256).ent)) ∗ (∃ f, own c arg14 f) ∗ (∃ f, own c arg15 f) ∗ (∃ f, own c arg16 f) ∗ (∃ f, own c arg17 f)) := by
    rintro n rfl
    exact .rfl
  ihave HI' := (hI _ ht) $$ HI
  icases HI' with ⟨HA, ⟨H12, H13, H9, H10, H11⟩, HS⟩
  sl_exec
  sl_step
  iapply Hk
  isplitl [HA]; · iexact HA
  isplitl [H9]; · iexact H9
  isplitl [H10]; · iexact H10
  isplitl [H11]; · iexact H11
  isplitl [H12]; · iexists _; iexact H12
  isplitl [H13]; · iexists _; iexact H13
  iexact HS
end Body
end Cert.Proof.KRun
-- ==== Proof.KTours.lean ====
module

public import proofs.«01_k».proof.Proof.KLoop
public import Idealize.ShloMosaic.Lib.Pointwise

/-! # The results do not depend on what the tours' buffer held before the kernel ran -/

@[expose] public section

noncomputable section

namespace Cert.Proof.KRun

open Cert.KernelIdeal Cert.KernelIdeal.Gen
open Idealize.ShloMosaic Idealize.ShloMosaic.TcCoe

variable {F : FTy → Type} [FloatOps F] [Named F]

/-- Step `n` writes the chosen node into column `n` of the tours and keeps every other column. -/
theorem pay6_read (n : ℕ) (hn : n < 256) (w : IVec S128x1 32) (old : Vec F S128x256 .i32) (b : Fin 128) (j : Fin 256) :
    k0_pay6 (F := F) (Scf.iv (0#32 : BitVec 32) 1#32 n) w old (ix2 b j) = if j.val = n then w (ix2 b 0) else old (ix2 b j) := by
  have e : (Scf.iv (0#32 : BitVec 32) 1#32 n) = BitVec.ofNat 32 n := by simp [Scf.iv]
  rw [e]
  unfold k0_pay6
  pointwise
  have hj := j.isLt
  have : (BitVec.ofNat 32 j.val = BitVec.ofNat 32 n) ↔ j.val = n := by
    constructor
    · intro h
      have := congrArg BitVec.toNat h
      simp only [BitVec.toNat_ofNat] at this
      omega
    · intro h; rw [h]
  by_cases h : j.val = n
  · simp [h, IntOp.cmpi, Scalar.select]
  · have hb : (BitVec.ofNat 32 j.val == BitVec.ofNat 32 n) = false := beq_eq_false_iff_ne.mpr (fun h' => h (this.mp h'))
    simp [h, hb, IntOp.cmpi, Scalar.select]

/-- Two runs that differ only in the tours' buffer agree on everything else and on the columns written so far. -/
theorem kIter_tours (K : KC F) (T T' : Vec F S128x256 .i32) (n : ℕ) (hn : n ≤ 256) :
    (kIter K (kInit K T) n).hid = (kIter K (kInit K T') n).hid ∧ (kIter K (kInit K T) n).vis = (kIter K (kInit K T') n).vis
    ∧ (kIter K (kInit K T) n).lp = (kIter K (kInit K T') n).lp ∧ (kIter K (kInit K T) n).ent = (kIter K (kInit K T') n).ent
    ∧ ∀ (b : Fin 128) (j : Fin 256), j.val < n → (kIter K (kInit K T) n).tours (ix2 b j) = (kIter K (kInit K T') n).tours (ix2 b j) := by
  induction n with
  | zero => exact ⟨rfl, rfl, rfl, rfl, fun _ _ h => absurd h (by omega)⟩
  | succ n ih =>
    obtain ⟨h1, h2, h3, h4, h5⟩ := ih (by omega)
    simp only [kIter]
    generalize kIter K (kInit K T) n = s at *
    generalize kIter K (kInit K T') n = s' at *
    obtain ⟨hid, vis, tours, lp, ent⟩ := s
    obtain ⟨hid', vis', tours', lp', ent'⟩ := s'
    dsimp only at h1 h2 h3 h4 h5
    subst h1 h2 h3 h4
    refine ⟨rfl, rfl, rfl, rfl, fun b j hj => ?_⟩
    refine (pay6_read n (by omega) _ _ b j).trans (Eq.trans ?_ (pay6_read n (by omega) _ _ b j).symm)
    by_cases e : j.val = n
    · rw [if_pos e, if_pos e]; rfl
    · rw [if_neg e, if_neg e]; exact h5 b j (by omega)

/-- The state after the last step, from a tours' buffer of zeros. -/
def kFinal (K : KC F) : KS F := kIter K (kInit K fun _ => 0#32) 256

theorem final_tours (K : KC F) (T : Vec F S128x256 .i32) : (kIter K (kInit K T) 256).tours = (kFinal K).tours := by
  funext i
  have e : i = ix2 (i 0) (i 1) := by funext a; fin_cases a <;> rfl
  rw [e]
  exact (kIter_tours K T _ 256 (le_refl _)).2.2.2.2 (i 0) (i 1) (i 1).isLt
theorem final_lp (K : KC F) (T : Vec F S128x256 .i32) : (kIter K (kInit K T) 256).lp = (kFinal K).lp :=
  (kIter_tours K T _ 256 (le_refl _)).2.2.1
theorem final_ent (K : KC F) (T : Vec F S128x256 .i32) : (kIter K (kInit K T) 256).ent = (kFinal K).ent :=
  (kIter_tours K T _ 256 (le_refl _)).2.2.2.1

end Cert.Proof.KRun
-- ==== Proof.KLaunch.lean ====
module

public import proofs.«01_k».proof.Proof.KTours
public import proofs.«01_k».proof.Proof.Gen.KernelIdeal.Frame
public import proofs.«01_k».proof.Proof.Gen.KernelIdeal.Points
public import Idealize.ShloMosaic.Lib.Pipeline.FrameSuffix

/-! # The whole program: host operations, the kernel, host operations

The kernel is launched on a grid of one point; every window is its whole array. -/

@[expose] public section

set_option maxRecDepth 16384

noncomputable section

namespace Cert.Proof.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UU nD τ) ℕ

variable (m : (ℓ : Loc nD τ sig) → Buf (Elt F) ℓ) (ρ : Dev nD → PrngReg)

/-- The kernel's nine inputs at the one grid point. -/
def kc (c : Dev nD) (t : Fin cfg0.N) : KC F where
  X0 := iblk m c 0 t
  X1 := iblk m c 1 t
  X2 := iblk m c 2 t
  X3 := iblk m c 3 t
  X4 := iblk m c 4 t
  X5 := iblk m c 5 t
  X6 := iblk m c 6 t
  X7 := iblk m c 7 t
  X8 := iblk m c 8 t

/-- The launch's contents: the inputs stay, the three outputs are the last step's. -/
def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (kFinal (kc m c t)).tours
    | ⟨10, _⟩ => (kFinal (kc m c t)).lp
    | ⟨11, _⟩ => (kFinal (kc m c t)).ent
  Φ _ := Pipeline.ΦA spec0 c
  q _ := fullShare
  owed _ := 0

theorem before_0 (c : Dev nD) (t : Fin cfg0.N) (d) : (dats m 0 c).before 0 t d = iblk m c 0 t := before0_0_of m (dats m 0 c) rfl (fun _ => by dsimp only [dats]) t d
theorem before_1 (c : Dev nD) (t : Fin cfg0.N) (d) : (dats m 0 c).before 1 t d = iblk m c 1 t := before0_1_of m (dats m 0 c) rfl (fun _ => by dsimp only [dats]) t d
theorem before_2 (c : Dev nD) (t : Fin cfg0.N) (d) : (dats m 0 c).before 2 t d = iblk m c 2 t := before0_2_of m (dats m 0 c) rfl (fun _ => by dsimp only [dats]) t d
theorem before_3 (c : Dev nD) (t : Fin cfg0.N) (d) : (dats m 0 c).before 3 t d = iblk m c 3 t := before0_3_of m (dats m 0 c) rfl (fun _ => by dsimp only [dats]) t d
theorem before_4 (c : Dev nD) (t : Fin cfg0.N) (d) : (dats m 0 c).before 4 t d = iblk m c 4 t := before0_4_of m (dats m 0 c) rfl (fun _ => by dsimp only [dats]) t d
theorem before_5 (c : Dev nD) (t : Fin cfg0.N) (d) : (dats m 0 c).before 5 t d = iblk m c 5 t := before0_5_of m (dats m 0 c) rfl (fun _ => by dsimp only [dats]) t d
theorem before_6 (c : Dev nD) (t : Fin cfg0.N) (d) : (dats m 0 c).before 6 t d = iblk m c 6 t := before0_6_of m (dats m 0 c) rfl (fun _ => by dsimp only [dats]) t d
theorem before_7 (c : Dev nD) (t : Fin cfg0.N) (d) : (dats m 0 c).before 7 t d = iblk m c 7 t := before0_7_of m (dats m 0 c) rfl (fun _ => by dsimp only [dats]) t d
theorem before_8 (c : Dev nD) (t : Fin cfg0.N) (d) : (dats m 0 c).before 8 t d = iblk m c 8 t := before0_8_of m (dats m 0 c) rfl (fun _ => by dsimp only [dats]) t d
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = (kFinal (kc m c t)).tours := by dsimp only [dats]
theorem after_10 (c : Dev nD) (t : Fin cfg0.N) : (dats m 0 c).after 10 t = (kFinal (kc m c t)).lp := by dsimp only [dats]
theorem after_11 (c : Dev nD) (t : Fin cfg0.N) : (dats m 0 c).after 11 t = (kFinal (kc m c t)).ent := by dsimp only [dats]

theorem defs_tc : (defs₀ (F := F)) .tc cfg0.body
    = fun a => cc0__decode_kernel (win0_0.stage (a.2 0)) (hstage0_0 0) (win0_1.stage (a.2 1)) (hstage0_1 0) (win0_2.stage (a.2 2)) (hstage0_2 0) (win0_3.stage (a.2 3)) (hstage0_3 0) (win0_4.stage (a.2 4)) (hstage0_4 0) (win0_5.stage (a.2 5)) (hstage0_5 0) (win0_6.stage (a.2 6)) (hstage0_6 0) (win0_7.stage (a.2 7)) (hstage0_7 0) (win0_8.stage (a.2 8)) (hstage0_8 0) (win0_9.stage (a.2 9)) (hstage0_9 0) (win0_10.stage (a.2 10)) (hstage0_10 0) (win0_11.stage (a.2 11)) (hstage0_11 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) := rfl
theorem prog_eq (t : Fin cfg0.N) : (defs₀ (F := F)) .tc cfg0.body (cfg0.bodyArgs t (cfg0.slots t)) = cc0__decode_kernel (win0_0.stage (cfg0.slots t 0)) (hstage0_0 0) (win0_1.stage (cfg0.slots t 1)) (hstage0_1 0) (win0_2.stage (cfg0.slots t 2)) (hstage0_2 0) (win0_3.stage (cfg0.slots t 3)) (hstage0_3 0) (win0_4.stage (cfg0.slots t 4)) (hstage0_4 0) (win0_5.stage (cfg0.slots t 5)) (hstage0_5 0) (win0_6.stage (cfg0.slots t 6)) (hstage0_6 0) (win0_7.stage (cfg0.slots t 7)) (hstage0_7 0) (win0_8.stage (cfg0.slots t 8)) (hstage0_8 0) (win0_9.stage (cfg0.slots t 9)) (hstage0_9 0) (win0_10.stage (cfg0.slots t 10)) (hstage0_10 0) (win0_11.stage (cfg0.slots t 11)) (hstage0_11 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) := (congrFun defs_tc _).trans rfl

/-- Holding a whole operand is holding its buffer. -/
theorem own_whole {sp : Space} {s : Shape} {e : EltTy} (c : Dev nD) (mr : Memref sig .tc sp s e) (h : mr.IsWhole) :
    iprop(∃ f, own c mr f) = (iprop(∃ f : Buf (Elt F) (mr.view.loc (c : Thread nD τ)), mr.view.loc (c : Thread nD τ) ↦{fullShare} f) : sProp 𝕄) := by
  unfold own
  rw [h.set_eq_univ]

theorem sep_congr {P P' Q Q' : sProp 𝕄} (h : P = P') (h' : Q = Q') : iprop(P ∗ Q) = iprop(P' ∗ Q') := by rw [h, h']

/-- The scratch buffers as the launch holds them are the scratch operands as the body takes them. -/
theorem scratch_own (c : Dev nD) : (Pipeline.scopedRest (Ix := Unit) (Name := ℕ) (U := UR sig nD τ) (Lvl := ℕ) (Val := Elt F) spec0 c : sProp 𝕄)
    = iprop((∃ f, own c (Memref.whole cc0_scratch0) f) ∗ (∃ f, own c (Memref.whole cc0_scratch1) f) ∗ (∃ f, own c (Memref.whole cc0_scratch2) f) ∗ (∃ f, own c (Memref.whole cc0_scratch3) f) ∗ (∃ f, own c (Memref.whole cc0_scratch4) f) ∗ (∃ f, own c (Memref.whole cc0_scratch5) f)) :=
  (scopedRest0_eq c).trans (sep_congr (own_whole c (Memref.whole cc0_scratch0) (Memref.isWhole_whole _)).symm (sep_congr (own_whole c (Memref.whole cc0_scratch1) (Memref.isWhole_whole _)).symm (sep_congr (own_whole c (Memref.whole cc0_scratch2) (Memref.isWhole_whole _)).symm (sep_congr (own_whole c (Memref.whole cc0_scratch3) (Memref.isWhole_whole _)).symm (sep_congr (own_whole c (Memref.whole cc0_scratch4) (Memref.isWhole_whole _)).symm ((own_whole c (Memref.whole cc0_scratch5) (Memref.isWhole_whole _)).symm))))))

set_option backward.isDefEq.respectTransparency.types false in
set_option maxHeartbeats 2000000 in
theorem body_obligation (hg : ∀ (K : KC F) (s : KS F), CodeGood K s) (c : Dev nD) : BodyObligation (dats (F := F) m 0 c) (defs₀ (F := F)) 𝒱₀ () Set.univ := fun t => by
  rw [bigSep_W0, bigSep_W0]
  dsimp only
  simp only [before_0, before_1, before_2, before_3, before_4, before_5, before_6, before_7, before_8, after_0, after_1, after_2, after_3, after_4, after_5, after_6, after_7, after_8, after_9, after_10, after_11]
  rw [show (dats m 0 c).Φ t.castSucc = Pipeline.ΦA spec0 c from rfl, show (dats m 0 c).Φ t.succ = Pipeline.ΦA spec0 c from rfl]
  unfold Dat.owesAt Pipeline.owesWithin
  rw [show (dats m 0 c).owed t.castSucc = 0 from rfl, show (dats m 0 c).owed t.succ = 0 from rfl]
  unfold owns Pipeline.ΦA
  rw [scratch_own]
  iintro ⟨⟨HS, HP⟩, HW, ⟨%d0, %g0, %hg0, H0⟩, ⟨%d1, %g1, %hg1, H1⟩, ⟨%d2, %g2, %hg2, H2⟩, ⟨%d3, %g3, %hg3, H3⟩, ⟨%d4, %g4, %hg4, H4⟩, ⟨%d5, %g5, %hg5, H5⟩, ⟨%d6, %g6, %hg6, H6⟩, ⟨%d7, %g7, %hg7, H7⟩, ⟨%d8, %g8, %hg8, H8⟩, ⟨%d9, %g9, -, H9⟩, ⟨%d10, %g10, -, H10⟩, ⟨%d11, %g11, -, H11⟩⟩
  have e0 := (hstage0_0 0).eq_unread hg0
  subst e0
  have e1 := (hstage0_1 0).eq_unread hg1
  subst e1
  have e2 := (hstage0_2 0).eq_unread hg2
  subst e2
  have e3 := (hstage0_3 0).eq_unread hg3
  subst e3
  have e4 := (hstage0_4 0).eq_unread hg4
  subst e4
  have e5 := (hstage0_5 0).eq_unread hg5
  subst e5
  have e6 := (hstage0_6 0).eq_unread hg6
  subst e6
  have e7 := (hstage0_7 0).eq_unread hg7
  subst e7
  have e8 := (hstage0_8 0).eq_unread hg8
  subst e8
  sl_rw [prog_eq t]
  iapply (bodyRun c (win0_0.stage (cfg0.slots t 0)) (hstage0_0 0) (win0_1.stage (cfg0.slots t 1)) (hstage0_1 0) (win0_2.stage (cfg0.slots t 2)) (hstage0_2 0) (win0_3.stage (cfg0.slots t 3)) (hstage0_3 0) (win0_4.stage (cfg0.slots t 4)) (hstage0_4 0) (win0_5.stage (cfg0.slots t 5)) (hstage0_5 0) (win0_6.stage (cfg0.slots t 6)) (hstage0_6 0) (win0_7.stage (cfg0.slots t 7)) (hstage0_7 0) (win0_8.stage (cfg0.slots t 8)) (hstage0_8 0) (win0_9.stage (cfg0.slots t 9)) (hstage0_9 0) (win0_10.stage (cfg0.slots t 10)) (hstage0_10 0) (win0_11.stage (cfg0.slots t 11)) (hstage0_11 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (kc m c t) (hg _) g9 g10 g11 _)
  isplitl [H0 H1 H2 H3 H4 H5 H6 H7 H8]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [H9]; · iexact H9
  isplitl [H10]; · iexact H10
  isplitl [H11]; · iexact H11
  isplitl [HS]; · iexact HS
  iintro ⟨⟨H0, H1, H2, H3, H4, H5, H6, H7, H8⟩, H9, H10, H11, HS⟩
  rw [final_tours, final_lp, final_ent]
  isplitl [HS HP]
  · isplitl [HS]; · iexact HS
    iexact HP
  isplitl [HW]; · iexact HW
  isplitl [H0]
  · iexists _; isplitr
    · ipureintro; exact (hstage0_0 0).read_unread _
    iexact H0
  isplitl [H1]
  · iexists _; isplitr
    · ipureintro; exact (hstage0_1 0).read_unread _
    iexact H1
  isplitl [H2]
  · iexists _; isplitr
    · ipureintro; exact (hstage0_2 0).read_unread _
    iexact H2
  isplitl [H3]
  · iexists _; isplitr
    · ipureintro; exact (hstage0_3 0).read_unread _
    iexact H3
  isplitl [H4]
  · iexists _; isplitr
    · ipureintro; exact (hstage0_4 0).read_unread _
    iexact H4
  isplitl [H5]
  · iexists _; isplitr
    · ipureintro; exact (hstage0_5 0).read_unread _
    iexact H5
  isplitl [H6]
  · iexists _; isplitr
    · ipureintro; exact (hstage0_6 0).read_unread _
    iexact H6
  isplitl [H7]
  · iexists _; isplitr
    · ipureintro; exact (hstage0_7 0).read_unread _
    iexact H7
  isplitl [H8]
  · iexists _; isplitr
    · ipureintro; exact (hstage0_8 0).read_unread _
    iexact H8
  isplitl [H9]
  · iexists _; isplitr
    · ipureintro; exact (hstage0_9 0).read_unread _
    iexact H9
  isplitl [H10]
  · iexists _; isplitr
    · ipureintro; exact (hstage0_10 0).read_unread _
    iexact H10
  iexists _; isplitr
  · ipureintro; exact (hstage0_11 0).read_unread _
  iexact H11

/-- The run: every array ends at the launch's contents for it, every other buffer as the host operations leave it, and no semaphore holds a count. -/
theorem run_main (hg : ∀ (K : KC F) (s : KS F), CodeGood K s) : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around cfgs (dats m) (0 : Fin 1) launch0 defs₀ 𝒱₀ m ρ main
    (hbody := fun c => (body_obligation m hg c).loose) (hshare := fun c => (dats m 0 c).share_full fun _ => rfl)
    (howed := fun _ _ => rfl) (V₀ := V0 m) (opss := [hostOps1]) sfx_sub sfx_fresh sfx_keeps (hmain m 𝒱₀)
    (hA := fun _ _ => rfl) (hΦ := fun _ _ => rfl) (Q' := _) (hQ' := fun _ h => h)

end Cert.Proof.KRun
-- ==== Proof.Rows.lean ====
module

public import proofs.«01_k».proof.Proof.KTours
public import Idealize.ShloMosaic.Lib.Pointwise
public import Idealize.ShloMosaic.PureOps.Ideal.Laws

/-! # The kernel's row maximum and the first place that attains it, over the extended reals -/

@[expose] public section

noncomputable section

namespace Cert.Proof.Rows

open Idealize.ShloMosaic

/-- `i` is the first place where `f` takes its greatest value. -/
structure FirstMax (f : Fin 256 → EReal) (i : Fin 256) : Prop where
  ge : ∀ j, f j ≤ f i
  first : ∀ j, f j = f i → i ≤ j

theorem FirstMax.unique {f : Fin 256 → EReal} {i j : Fin 256} (hi : FirstMax f i) (hj : FirstMax f j) : i = j :=
  le_antisymm (hi.first j (le_antisymm (hi.ge j) (hj.ge i))) (hj.first i (le_antisymm (hj.ge i) (hi.ge j)))

/-- Every row has a first greatest place. -/
theorem exists_firstMax (f : Fin 256 → EReal) : ∃ i, FirstMax f i := by
  obtain ⟨m, -, hm⟩ := Finset.exists_max_image (Finset.univ : Finset (Fin 256)) f ⟨0, Finset.mem_univ _⟩
  have hne : (Finset.univ.filter fun j => f j = f m).Nonempty := ⟨m, by simp⟩
  refine ⟨(Finset.univ.filter fun j => f j = f m).min' hne, ?_, ?_⟩
  · have := Finset.min'_mem _ hne
    rw [Finset.mem_filter] at this
    intro j
    rw [this.2]
    exact hm j (Finset.mem_univ _)
  · have := Finset.min'_mem _ hne
    rw [Finset.mem_filter] at this
    intro j hj
    exact Finset.min'_le _ _ (by rw [Finset.mem_filter]; exact ⟨Finset.mem_univ _, hj.trans this.2⟩)

/-- The fold of `max` from the least value is the value at the first greatest place. -/
theorem fold_max_eq {f : Fin 256 → EReal} {i : Fin 256} (h : FirstMax f i) :
    (Finset.univ : Finset (Fin 256)).fold max (⊥ : EReal) f = f i := by
  refine le_antisymm ?_ ?_
  · rw [Finset.fold_max_le]
    exact ⟨bot_le, fun j _ => h.ge j⟩
  · rw [Finset.le_fold_max]
    exact Or.inr ⟨i, Finset.mem_univ _, le_refl _⟩

theorem fold_minsi_mem (s : Finset (Fin 256)) (b : BitVec 32) (f : Fin 256 → BitVec 32) :
    s.fold IntOp.minsi b f = b ∨ ∃ j ∈ s, s.fold IntOp.minsi b f = f j := by
  induction s using Finset.induction_on with
  | empty => exact Or.inl rfl
  | insert a s ha ih =>
    rw [Finset.fold_insert ha]
    have : ∀ x y : BitVec 32, IntOp.minsi x y = x ∨ IntOp.minsi x y = y := by
      intro x y
      unfold IntOp.minsi
      split <;> simp
    rcases this (f a) (s.fold IntOp.minsi b f) with e | e
    · exact Or.inr ⟨a, Finset.mem_insert_self _ _, e⟩
    · rw [e]
      rcases ih with h | ⟨j, hj, h⟩
      · exact Or.inl h
      · exact Or.inr ⟨j, Finset.mem_insert_of_mem hj, h⟩

theorem fold_minsi_le (s : Finset (Fin 256)) (b : BitVec 32) (f : Fin 256 → BitVec 32) (j : Fin 256) (hj : j ∈ s) :
    (s.fold IntOp.minsi b f).toInt ≤ (f j).toInt := by
  have hl : ∀ x y : BitVec 32, (IntOp.minsi x y).toInt = min x.toInt y.toInt := by
    intro x y
    unfold IntOp.minsi
    split <;> rename_i h <;> simp [BitVec.slt] at h <;> omega
  induction s using Finset.induction_on with
  | empty => exact absurd hj (Finset.notMem_empty _)
  | insert a s ha ih =>
    rw [Finset.fold_insert ha, hl]
    rcases Finset.mem_insert.mp hj with rfl | h
    · exact min_le_left _ _
    · exact (min_le_right _ _).trans (ih h)

/-- The least of the numbers of the places that attain the maximum, the others counted as 256. -/
theorem fold_minsi_eq {f : Fin 256 → EReal} {i : Fin 256} (h : FirstMax f i) :
    (Finset.univ : Finset (Fin 256)).fold IntOp.minsi 2147483647#32
      (fun j => if f i ≤ f j then BitVec.ofNat 32 j.val else 256#32) = BitVec.ofNat 32 i.val := by
  have ti : ∀ j : Fin 256, (BitVec.ofNat 32 j.val).toInt = j.val := by
    intro j
    have := j.isLt
    rw [BitVec.toInt_eq_toNat_cond, BitVec.toNat_ofNat]
    split <;> omega
  set g : Fin 256 → BitVec 32 := fun j => if f i ≤ f j then BitVec.ofNat 32 j.val else 256#32 with hg
  have hle := fold_minsi_le Finset.univ 2147483647#32 g i (Finset.mem_univ _)
  have hgi : g i = BitVec.ofNat 32 i.val := by simp [hg]
  rw [hgi, ti] at hle
  have hi := i.isLt
  rcases fold_minsi_mem Finset.univ 2147483647#32 g with e | ⟨j, -, e⟩
  · rw [e] at hle
    have : (2147483647#32 : BitVec 32).toInt = 2147483647 := by decide
    omega
  · rw [e] at hle ⊢
    by_cases hj : f i ≤ f j
    · have e1 : g j = BitVec.ofNat 32 j.val := by simp [hg, hj]
      rw [e1, ti] at hle
      have := h.first j (le_antisymm (h.ge j) hj)
      have e2 : j = i := le_antisymm (by exact_mod_cast hle) this
      rw [e1, e2]
    · have e1 : g j = 256#32 := by simp [hg, hj]
      rw [e1] at hle
      have : (256#32 : BitVec 32).toInt = 256 := by decide
      omega

end Cert.Proof.Rows
-- ==== Proof.KCode.lean ====
module

public import proofs.«01_k».proof.Proof.Rows

/-! # The two candidates of a step over the extended reals

The first candidate is the first greatest place of the masked scores, the second the first greatest place of the scores with the first candidate masked as well.
Both are always nodes of the row, whatever the scores are. -/

@[expose] public section

noncomputable section

namespace Cert.Proof.KRun

open Cert.KernelIdeal Cert.KernelIdeal.Gen Cert.Proof.Rows
open Idealize.ShloMosaic Idealize.ShloMosaic.TcCoe

theorem mask_val : (Named.named (F := Ideal) κ "mask" 0xF149F2CA#32 : Ideal .f32) = (⊥ : EReal) := by
  simp [Named.named, κ]
theorem isq_val : (Named.named (F := Ideal) κ "isq" 0x3DB504F3#32 : Ideal .f32) = (((1048576 / 11863283 : ℝ)) : EReal) := by
  simp [Named.named, κ]
theorem neg_inf_val : Ideal.ofBits FTy.f32 0xFF800000#32 = (⊥ : EReal) := by
  simp [Ideal.ofBits, Ideal.ieee]

variable (K : KC Ideal) (s : KS Ideal)

/-- The masked scores of batch row `b`. -/
def smR (b : Fin 128) : Fin 256 → EReal := fun n => ksm K s (ix2 b n)
/-- The masked scores of batch row `b` with the first candidate masked too. -/
def sm2R (b : Fin 128) : Fin 256 → EReal := fun n => ksm2 K s (ix2 b n)

/-- The first and the second candidate. -/
def c1 (b : Fin 128) : Fin 256 := (exists_firstMax (smR K s b)).choose
theorem c1_spec (b : Fin 128) : FirstMax (smR K s b) (c1 K s b) := (exists_firstMax (smR K s b)).choose_spec
def c2 (b : Fin 128) : Fin 256 := (exists_firstMax (sm2R K s b)).choose
theorem c2_spec (b : Fin 128) : FirstMax (sm2R K s b) (c2 K s b) := (exists_firstMax (sm2R K s b)).choose_spec

theorem kmx_read (b : Fin 128) : kmx K s (ix2 b 0) = smR K s b (c1 K s b) := by
  refine Eq.trans ?_ (fold_max_eq (c1_spec K s b))
  unfold kmx k0_pay12
  pointwise
  rw [neg_inf_val]
  rfl

theorem ki1_read (b : Fin 128) : ki1 K s (ix2 b 0) = BitVec.ofNat 32 (c1 K s b).val := by
  refine Eq.trans ?_ (fold_minsi_eq (c1_spec K s b))
  have h := kmx_read K s b
  unfold kmx at h
  unfold ki1 k0_pay13 iot
  pointwise
  rw [h]
  rfl

theorem ksm2_read (b : Fin 128) (n : Fin 256) : sm2R K s b n = if n = c1 K s b then ⊥ else smR K s b n := by
  have h := ki1_read K s b
  unfold ki1 iot at h
  unfold sm2R ksm2 k0_pay14 iot
  pointwise
  rw [h, mask_val]
  have hn := n.isLt
  have hc := (c1 K s b).isLt
  by_cases e : n = c1 K s b
  · simp [e, IntOp.cmpi, Scalar.select]
  · have hb : (BitVec.ofNat 32 n.val == BitVec.ofNat 32 (c1 K s b).val) = false := beq_eq_false_iff_ne.mpr (fun h' => e (Fin.ext (by
      have := congrArg BitVec.toNat h'
      simp only [BitVec.toNat_ofNat] at this
      omega)))
    simp [e, hb, IntOp.cmpi, Scalar.select]
    rfl

theorem kmx2_read (b : Fin 128) : k0_pay15 (ksm2 K s) (ix2 b 0) = sm2R K s b (c2 K s b) := by
  refine Eq.trans ?_ (fold_max_eq (c2_spec K s b))
  unfold k0_pay15
  pointwise
  rw [neg_inf_val]
  rfl

theorem ki2_read (b : Fin 128) : ki2 K s (ix2 b 0) = BitVec.ofNat 32 (c2 K s b).val := by
  refine Eq.trans ?_ (fold_minsi_eq (c2_spec K s b))
  have h := kmx2_read K s b
  unfold ki2 k0_pay16 iot
  unfold k0_pay15 at h ⊢
  pointwise at h
  pointwise
  rw [h]
  rfl

theorem kcode_read (b : Fin 128) : (kcode K s (ix3 b 0 0)).toInt = ((c1 K s b).val : ℤ) * 512 + (c2 K s b).val := by
  have e : kcode K s (ix3 b 0 0) = BitVec.ofNat 32 ((c1 K s b).val * 512 + (c2 K s b).val) := by
    have h2 := ki2_read K s b
    unfold ki2 at h2
    unfold kcode k0_pay18
    pointwise
    rw [ki1_read, h2]
    apply BitVec.eq_of_toNat_eq
    simp [IntOp.addi, IntOp.muli]
  have h1 := (c1 K s b).isLt
  have h2 := (c2 K s b).isLt
  rw [e, BitVec.toInt_eq_toNat_cond, BitVec.toNat_ofNat]
  split <;> omega

theorem kcode_read' (b : Fin 128) : (kcode K s (ValueIdx.ix3 b 0 0)).toInt = ((c1 K s b).val : ℤ) * 512 + (c2 K s b).val := by
  rw [← ix3_eq_valueIdx]
  exact kcode_read K s b
theorem hi_part (x : ℤ) (a c : Fin 256) (h : x = (a.val : ℤ) * 512 + c.val) : (x / 512).toNat % 256 = a.val := by
  have := a.isLt
  have := c.isLt
  omega
theorem lo_part (x : ℤ) (a c : Fin 256) (h : x = (a.val : ℤ) * 512 + c.val) : (x % 512).toNat % 256 = c.val := by
  have := a.isLt
  have := c.isLt
  omega
theorem iOf_eq (b : Fin 128) : iOf K s b = c1 K s b := by
  unfold iOf
  exact Fin.ext (hi_part _ _ _ (kcode_read' K s b))
theorem jOf_eq (b : Fin 128) : jOf K s b = c2 K s b := by
  unfold jOf
  exact Fin.ext (lo_part _ _ _ (kcode_read' K s b))

/-- Every code word names two nodes. -/
theorem codeGood : CodeGood K s := fun b => by
  rw [iOf_eq, jOf_eq]
  exact kcode_read' K s b

end Cert.Proof.KRun
-- ==== Proof.KFrame.lean ====
module

public import proofs.«01_k».proof.Proof.KLaunch
public import proofs.«01_k».proof.Proof.KCode

/-! # The kernel's frame over the extended reals

Over the extended reals every row number that the kernel reads back is inside the node embeddings (`codeGood`), so the
program always runs; its arguments end as they began and no semaphore holds a count. -/

@[expose] public section

set_option maxRecDepth 16384

noncomputable section

namespace Cert.Proof.KRun

open Cert.KernelIdeal Cert.KernelIdeal.Gen
open Idealize.ShloMosaic Idealize.ShloMosaic.TcCoe
open Idealize.SL.Sem

variable (m : (ℓ : Loc nD τ sig) → Buf (Elt Ideal) ℓ) (ρ : Dev nD → PrngReg)

/-- The run over the extended reals: what every array and every other buffer ends at. -/
theorem run_ideal : θ_run defs (onTc (τ := τ) (main (F := Ideal))) (s₀ m ρ)
    (fun r => Pipeline.FramePost cfgs (dats m) 0 (Pipeline.afterTail₀ cfgs (dats m) 0 (V0 m) [hostOps1]) r ∧ r.2.sem = fun _ => 0) :=
  run_main m ρ fun K s => codeGood K s

/-- The eight arguments are as at the start. -/
def ArgsKept (r : PUnit × MemSt nD τ sig (Elt Ideal)) (c : Dev nD) : Prop :=
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)
  ∧ r.2.mem ((c.tc : Thread nD τ).loc main_arg6) = m ((c.tc : Thread nD τ).loc main_arg6)
  ∧ r.2.mem ((c.tc : Thread nD τ).loc main_arg7) = m ((c.tc : Thread nD τ).loc main_arg7)

theorem argsKept {r : PUnit × MemSt nD τ sig (Elt Ideal)}
    (h : Pipeline.FramePost cfgs (dats m) 0 (Pipeline.afterTail₀ cfgs (dats m) 0 (V0 m) [hostOps1]) r) (c : Dev nD) :
    ArgsKept m r c :=
  ⟨((h c).1 0).trans (((dats m 0 c).arrAt_in 0 rfl _).trans
      ((rfl : (dats m 0 c).A 0 = V m c main_arg0).trans (V_main_arg0 m c))),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c),
    ((h c).2 main_arg6 (Pipeline.mem_restRefs_of main_arg6 (by decide) (by decide))).trans (W_main_arg6 m (dats m) c),
    ((h c).2 main_arg7 (Pipeline.mem_restRefs_of main_arg7 (by decide) (by decide))).trans (W_main_arg7 m (dats m) c)⟩

/-- The program runs, keeps its arguments and leaves every semaphore at zero. -/
theorem frame_ideal : θ_run defs (onTc (τ := τ) (main (F := Ideal))) ⟨m, fun _ => 0, ρ⟩
    (fun r => (∀ c : Dev nD, ArgsKept m r c) ∧ r.2.sem = fun _ => 0) :=
  (θ_run defs _ _).mono (fun _ h => ⟨fun c => argsKept m h.1 c, h.2⟩) (run_ideal m ρ)

end Cert.Proof.KRun

end
-- ==== Proof.RefRunA.lean ====
/- The reference program as a chain of host operations with one loop of 256 trips: the chain, and what the buffers hold before the loop.
   The declarations of this module follow, in form, the run modules that are generated for reference programs. They were
   written out mechanically from the reference program by an adapted copy of that generator, which does not cover this
   program as it stands, and then adapted by hand. -/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

-- a long stretch's list and the decided enumerations over the program's references recurse past the default depth
set_option maxRecDepth 2088

noncomputable section

namespace Cert.ReferenceIdeal.Gen

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]
/-! ## @main as segments and as a chain of items -/

/-- 34 host operations of @main, in order. -/
abbrev hostOps0 : List (HloOp τ sig (Elt F)) :=
  ( StableHlo.nullary main_cst (constant S_ .f32 0x00000000#32)
  :: StableHlo.binary main_arg0 main_cst main_v0 ((fun x v => Host.reduceAdd x v reducesTo_S128x256x128_S128x128_d1 h_S_) : (⟨S128x256x128, .f32⟩ : BufTy).Contents (Elt F) → (⟨S_, .f32⟩ : BufTy).Contents (Elt F) → (⟨S128x128, .f32⟩ : BufTy).Contents (Elt F))
  :: StableHlo.nullary main_cst_0 (constant S_ .f32 0x43800000#32)
  :: StableHlo.unary main_cst_0 main_v1 (broadcastInDim S128x128 ![] bcast_S_S128x128 : (⟨S_, .f32⟩ : BufTy).Contents (Elt F) → (⟨S128x128, .f32⟩ : BufTy).Contents (Elt F))
  :: StableHlo.binary main_v0 main_v1 main_v2 (Host.divf : (⟨S128x128, .f32⟩ : BufTy).Contents (Elt F) → (⟨S128x128, .f32⟩ : BufTy).Contents (Elt F) → (⟨S128x128, .f32⟩ : BufTy).Contents (Elt F))
  :: StableHlo.unary main_arg2 main_v3 ((transpose S128x128 [1, 0] · transposes_S128x128_S128x128_1_0) : (⟨S128x128, .f32⟩ : BufTy).Contents (Elt F) → (⟨S128x128, .f32⟩ : BufTy).Contents (Elt F))
  :: StableHlo.binary main_v2 main_v3 main_v4 ((fun l r => Host.dotGeneral dot_S128x128_S128x128_S128x128_1_0_0_1_n_n none l r) : (⟨S128x128, .f32⟩ : BufTy).Contents (Elt F) → (⟨S128x128, .f32⟩ : BufTy).Contents (Elt F) → (⟨S128x128, .f32⟩ : BufTy).Contents (Elt F))
  :: StableHlo.unary main_arg3 main_v5 (broadcastInDim S1x128 ![1] bcast_S128_S1x128_1 : (⟨S128, .f32⟩ : BufTy).Contents (Elt F) → (⟨S1x128, .f32⟩ : BufTy).Contents (Elt F))
  :: StableHlo.unary main_v5 main_v6 (broadcastInDim S128x128 ![0, 1] bcast_S1x128_S128x128_0_1 : (⟨S1x128, .f32⟩ : BufTy).Contents (Elt F) → (⟨S128x128, .f32⟩ : BufTy).Contents (Elt F))
  :: StableHlo.binary main_v4 main_v6 main_v7 (addf : (⟨S128x128, .f32⟩ : BufTy).Contents (Elt F) → (⟨S128x128, .f32⟩ : BufTy).Contents (Elt F) → (⟨S128x128, .f32⟩ : BufTy).Contents (Elt F))
  :: StableHlo.unary main_v7 main_v8 (Host.tanh : (⟨S128x128, .f32⟩ : BufTy).Contents (Elt F) → (⟨S128x128, .f32⟩ : BufTy).Contents (Elt F))
  :: StableHlo.nullary main_c (constantI S_ 1 0#1)
  :: StableHlo.unary main_c main_v9 (broadcastInDim S128x256 ![] bcast_S_S128x256 : (⟨S_, .i1⟩ : BufTy).Contents (Elt F) → (⟨S128x256, .i1⟩ : BufTy).Contents (Elt F))
  :: StableHlo.nullary main_v10 (iotaInDim S128 32 0)
  :: StableHlo.nullary main_c_1 (constantI S_ 32 0#32)
  :: StableHlo.unary main_c_1 main_v11 (broadcastInDim S256x128 ![] bcast_S_S256x128 : (⟨S_, .i32⟩ : BufTy).Contents (Elt F) → (⟨S256x128, .i32⟩ : BufTy).Contents (Elt F))
  :: StableHlo.nullary main_cst_2 (constant S_ .f32 0x00000000#32)
  :: StableHlo.unary main_cst_2 main_v12 (broadcastInDim S256x128 ![] bcast_S_S256x128 : (⟨S_, .f32⟩ : BufTy).Contents (Elt F) → (⟨S256x128, .f32⟩ : BufTy).Contents (Elt F))
  :: StableHlo.nullary main_cst_3 (constant S_ .f32 0x00000000#32)
  :: StableHlo.unary main_cst_3 main_v13 (broadcastInDim S256x128 ![] bcast_S_S256x128 : (⟨S_, .f32⟩ : BufTy).Contents (Elt F) → (⟨S256x128, .f32⟩ : BufTy).Contents (Elt F))
  :: StableHlo.nullary main_c_4 (constantI S_ 32 0#32)
  :: StableHlo.unary main_arg1 main_v14_0 id
  :: StableHlo.unary main_arg0 main_v14_1 id
  :: StableHlo.unary main_v10 main_v14_2 id
  :: StableHlo.unary main_arg4 main_v14_3 id
  :: StableHlo.unary main_arg6 main_v14_4 id
  :: StableHlo.unary main_arg5 main_v14_5 id
  :: StableHlo.unary main_arg7 main_v14_6 id
  :: StableHlo.unary main_c_4 main_v14_7 id
  :: StableHlo.unary main_v8 main_v14_8 id
  :: StableHlo.unary main_v9 main_v14_9 id
  :: StableHlo.unary main_v11 main_v14_10 id
  :: StableHlo.unary main_v12 main_v14_11 id
  :: StableHlo.unary main_v13 main_v14_12 id
  :: [] )
/-- Each touches TensorCore references only (`HostSeg.ofOps` over `StableHlo.tcRefs`, or a subset by `sub_ucRefs`). -/
theorem hostOps0_sub : (hostOps0 : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.unary_bufs_sub .., StableHlo.nullary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
/-- 5 host operations of @main, in order. -/
abbrev hostOps0_1 : List (HloOp τ sig (Elt F)) :=
  [ StableHlo.unary main_v14_10 main_v15 ((transpose S128x256 [1, 0] · transposes_S256x128_S128x256_1_0) : (⟨S256x128, .i32⟩ : BufTy).Contents (Elt F) → (⟨S128x256, .i32⟩ : BufTy).Contents (Elt F)),
    StableHlo.nullary main_cst_5 (constant S_ .f32 0x00000000#32),
    StableHlo.binary main_v14_11 main_cst_5 main_v16 ((fun x v => Host.reduceAdd x v reducesTo_S256x128_S128_d0 h_S_) : (⟨S256x128, .f32⟩ : BufTy).Contents (Elt F) → (⟨S_, .f32⟩ : BufTy).Contents (Elt F) → (⟨S128, .f32⟩ : BufTy).Contents (Elt F)),
    StableHlo.nullary main_cst_6 (constant S_ .f32 0x00000000#32),
    StableHlo.binary main_v14_12 main_cst_6 main_v17 ((fun x v => Host.reduceAdd x v reducesTo_S256x128_S128_d0 h_S_) : (⟨S256x128, .f32⟩ : BufTy).Contents (Elt F) → (⟨S_, .f32⟩ : BufTy).Contents (Elt F) → (⟨S128, .f32⟩ : BufTy).Contents (Elt F)) ]
/-- Each touches TensorCore references only (`HostSeg.ofOps` over `StableHlo.tcRefs`, or a subset by `sub_ucRefs`). -/
theorem hostOps0_1_sub : (hostOps0_1 : List (HloOp τ sig (Elt F))).Forall fun op => op.bufs ⊆ StableHlo.tcRefs τ sig :=
  ⟨StableHlo.unary_bufs_sub .., StableHlo.nullary_bufs_sub .., StableHlo.binary_bufs_sub .., StableHlo.nullary_bufs_sub .., StableHlo.binary_bufs_sub ..⟩
/-- `main` is the chain of its items (`Pipeline.chain`): operation stretches, regions, loops and branches in
    order, a module-local function called from it a stretch of its own. Each item aligned with the block's
    statements (`StableHlo.chain_seq_cons` for a stretch of its own operations, `Pipeline.chain_cons` for any other item),
    then `chain_rfl`: the KERNEL's definitional unfolding peels the `do` sequence against the items an operation at a
    time, re-associating no bind of the block's own stretches; a called function's body that holds a region, an
    `AllocateBuffer` or a call not in tail position, or a body printed in parts, is still met across its binds
    (the library's section on aligning a block with its items). -/
theorem main_chain (c : Dev nD) : main (F := F) c = (Pipeline.chain
  [ StableHlo.seq hostOps0,
    HostLoop.enter 0,
    StableHlo.seq hostOps0_1 ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, StableHlo.chain_seq_cons]
  chain_rfl

/-- 7 host operations of host loop 0's body region, in order. -/
abbrev while0Ops0 : List (HloOp τ sig (Elt F)) :=
  [ StableHlo.unary main_v14_0 main_while0b_v18 ((transpose S128x128 [1, 0] · transposes_S128x128_S128x128_1_0) : (⟨S128x128, .f32⟩ : BufTy).Contents (Elt F) → (⟨S128x128, .f32⟩ : BufTy).Contents (Elt F)),
    StableHlo.binary main_v14_8 main_while0b_v18 main_while0b_v19 ((fun l r => Host.dotGeneral dot_S128x128_S128x128_S128x128_1_0_0_1_n_n none l r) : (⟨S128x128, .f32⟩ : BufTy).Contents (Elt F) → (⟨S128x128, .f32⟩ : BufTy).Contents (Elt F) → (⟨S128x128, .f32⟩ : BufTy).Contents (Elt F)),
    StableHlo.binary main_while0b_v19 main_v14_1 main_while0b_v20 ((fun l r => Host.dotGeneral dot_S128x128_S128x256x128_S128x256_1_2_n_1_0_0 none l r) : (⟨S128x128, .f32⟩ : BufTy).Contents (Elt F) → (⟨S128x256x128, .f32⟩ : BufTy).Contents (Elt F) → (⟨S128x256, .f32⟩ : BufTy).Contents (Elt F)),
    StableHlo.nullary main_while0b_cst_19 (constant S_ .f32 0x413504F3#32),
    StableHlo.unary main_while0b_cst_19 main_while0b_v21 (broadcastInDim S128x256 ![] bcast_S_S128x256 : (⟨S_, .f32⟩ : BufTy).Contents (Elt F) → (⟨S128x256, .f32⟩ : BufTy).Contents (Elt F)),
    StableHlo.binary main_while0b_v20 main_while0b_v21 main_while0b_v22 (Host.divf : (⟨S128x256, .f32⟩ : BufTy).Contents (Elt F) → (⟨S128x256, .f32⟩ : BufTy).Contents (Elt F) → (⟨S128x256, .f32⟩ : BufTy).Contents (Elt F)),
    StableHlo.nullary main_while0b_cst_20 (constant S_ .f32 0xFF800000#32) ]
/-- Each touches TensorCore references only (`HostSeg.ofOps` over `StableHlo.tcRefs`, or a subset by `sub_ucRefs`). -/
theorem while0Ops0_sub : (while0Ops0 : List (HloOp τ sig (Elt F))).Forall fun op => op.bufs ⊆ StableHlo.tcRefs τ sig :=
  ⟨StableHlo.unary_bufs_sub .., StableHlo.binary_bufs_sub .., StableHlo.binary_bufs_sub .., StableHlo.nullary_bufs_sub .., StableHlo.unary_bufs_sub .., StableHlo.binary_bufs_sub .., StableHlo.nullary_bufs_sub ..⟩
/-- 3 host operations of @_where (main_while0b_call0), in order. -/
abbrev while0Ops0_1 : List (HloOp τ sig (Elt F)) :=
  [ StableHlo.TRef.unary (.of main_while0b_cst_20 : StableHlo.TRef sig ⟨S_, .f32⟩) (.of main_while0b_call0_v0 : StableHlo.TRef sig ⟨S_, .f32⟩) id,
    StableHlo.TRef.unary (.of main_while0b_call0_v0 : StableHlo.TRef sig ⟨S_, .f32⟩) (.of main_while0b_call0_v1 : StableHlo.TRef sig ⟨S128x256, .f32⟩) (broadcastInDim S128x256 ![] bcast_S_S128x256),
    StableHlo.TRef.ternary (.of main_v14_9 : StableHlo.TRef sig ⟨S128x256, .i1⟩) (.of main_while0b_call0_v1 : StableHlo.TRef sig ⟨S128x256, .f32⟩) (.of main_while0b_v22 : StableHlo.TRef sig ⟨S128x256, .f32⟩) (.of main_while0b_v23 : StableHlo.TRef sig ⟨S128x256, .f32⟩) select ]
/-- Each touches TensorCore references only (`HostSeg.ofOps` over `StableHlo.tcRefs`, or a subset by `sub_ucRefs`). -/
theorem while0Ops0_1_sub : (while0Ops0_1 : List (HloOp τ sig (Elt F))).Forall fun op => op.bufs ⊆ StableHlo.tcRefs τ sig :=
  ⟨StableHlo.unary_bufs_sub .., StableHlo.unary_bufs_sub .., StableHlo.ternary_bufs_sub ..⟩
/-- 14 host operations of host loop 0's body region, in order. -/
abbrev while0Ops0_2 : List (HloOp τ sig (Elt F)) :=
  [ StableHlo.nullary main_while0b_cst_21 (constant S_ .f32 0xFF800000#32),
    StableHlo.binary main_while0b_v23 main_while0b_cst_21 main_while0b_v24 ((fun x v => Host.reduce FloatOps.maximumf x v reducesTo_S128x256_S128_d1 h_S_) : (⟨S128x256, .f32⟩ : BufTy).Contents (Elt F) → (⟨S_, .f32⟩ : BufTy).Contents (Elt F) → (⟨S128, .f32⟩ : BufTy).Contents (Elt F)),
    StableHlo.nullary main_while0b_cst_22 (constant S_ .f32 0xFF800000#32),
    StableHlo.unary main_while0b_cst_22 main_while0b_v25 (broadcastInDim S128 ![] bcast_S_S128 : (⟨S_, .f32⟩ : BufTy).Contents (Elt F) → (⟨S128, .f32⟩ : BufTy).Contents (Elt F)),
    StableHlo.binary main_while0b_v25 main_while0b_v24 main_while0b_v26 (maximumf : (⟨S128, .f32⟩ : BufTy).Contents (Elt F) → (⟨S128, .f32⟩ : BufTy).Contents (Elt F) → (⟨S128, .f32⟩ : BufTy).Contents (Elt F)),
    StableHlo.unary main_while0b_v26 main_while0b_v27 (broadcastInDim S128x1 ![0] bcast_S128_S128x1_0 : (⟨S128, .f32⟩ : BufTy).Contents (Elt F) → (⟨S128x1, .f32⟩ : BufTy).Contents (Elt F)),
    StableHlo.unary main_while0b_v27 main_while0b_v28 (broadcastInDim S128x256 ![0, 1] bcast_S128x1_S128x256_0_1 : (⟨S128x1, .f32⟩ : BufTy).Contents (Elt F) → (⟨S128x256, .f32⟩ : BufTy).Contents (Elt F)),
    StableHlo.binary main_while0b_v23 main_while0b_v28 main_while0b_v29 (subf : (⟨S128x256, .f32⟩ : BufTy).Contents (Elt F) → (⟨S128x256, .f32⟩ : BufTy).Contents (Elt F) → (⟨S128x256, .f32⟩ : BufTy).Contents (Elt F)),
    StableHlo.unary main_while0b_v29 main_while0b_v30 (Host.exp : (⟨S128x256, .f32⟩ : BufTy).Contents (Elt F) → (⟨S128x256, .f32⟩ : BufTy).Contents (Elt F)),
    StableHlo.nullary main_while0b_cst_23 (constant S_ .f32 0x00000000#32),
    StableHlo.binary main_while0b_v30 main_while0b_cst_23 main_while0b_v31 ((fun x v => Host.reduceAdd x v reducesTo_S128x256_S128_d1 h_S_) : (⟨S128x256, .f32⟩ : BufTy).Contents (Elt F) → (⟨S_, .f32⟩ : BufTy).Contents (Elt F) → (⟨S128, .f32⟩ : BufTy).Contents (Elt F)),
    StableHlo.unary main_while0b_v31 main_while0b_v32 (broadcastInDim S128x1 ![0] bcast_S128_S128x1_0 : (⟨S128, .f32⟩ : BufTy).Contents (Elt F) → (⟨S128x1, .f32⟩ : BufTy).Contents (Elt F)),
    StableHlo.unary main_while0b_v32 main_while0b_v33 (broadcastInDim S128x256 ![0, 1] bcast_S128x1_S128x256_0_1 : (⟨S128x1, .f32⟩ : BufTy).Contents (Elt F) → (⟨S128x256, .f32⟩ : BufTy).Contents (Elt F)),
    StableHlo.binary main_while0b_v30 main_while0b_v33 main_while0b_v34 (Host.divf : (⟨S128x256, .f32⟩ : BufTy).Contents (Elt F) → (⟨S128x256, .f32⟩ : BufTy).Contents (Elt F) → (⟨S128x256, .f32⟩ : BufTy).Contents (Elt F)) ]
/-- Each touches TensorCore references only (`HostSeg.ofOps` over `StableHlo.tcRefs`, or a subset by `sub_ucRefs`). -/
theorem while0Ops0_2_sub : (while0Ops0_2 : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.binary_bufs_sub ..⟩
/-- 5 host operations of @argmax (main_while0b_call1), in order. -/
abbrev while0Ops0_3 : List (HloOp τ sig (Elt F)) :=
  [ StableHlo.TRef.nullary (.of main_while0b_call1_v0 : StableHlo.TRef sig ⟨S128x256, .i32⟩) (iotaInDim S128x256 32 1),
    StableHlo.TRef.nullary (.of main_while0b_call1_cst : StableHlo.TRef sig ⟨S_, .f32⟩) (constant S_ .f32 0xFF800000#32),
    StableHlo.TRef.nullary (.of main_while0b_call1_c : StableHlo.TRef sig ⟨S_, .i32⟩) (constantI S_ 32 0#32),
    StableHlo.TRef.quaternary (.of main_while0b_v34 : StableHlo.TRef sig ⟨S128x256, .f32⟩) (.of main_while0b_call1_v0 : StableHlo.TRef sig ⟨S128x256, .i32⟩) (.of main_while0b_call1_cst : StableHlo.TRef sig ⟨S_, .f32⟩) (.of main_while0b_call1_c : StableHlo.TRef sig ⟨S_, .i32⟩) (.of main_while0b_call1_v1_0 : StableHlo.TRef sig ⟨S128, .f32⟩) (fun x y u v j => (Host.argReduce reducer_argmax_f32_i32 x y u v reducesTo_S128x256_S128_d1 h_S_ j).1),
    StableHlo.TRef.quaternary (.of main_while0b_v34 : StableHlo.TRef sig ⟨S128x256, .f32⟩) (.of main_while0b_call1_v0 : StableHlo.TRef sig ⟨S128x256, .i32⟩) (.of main_while0b_call1_cst : StableHlo.TRef sig ⟨S_, .f32⟩) (.of main_while0b_call1_c : StableHlo.TRef sig ⟨S_, .i32⟩) (.of main_while0b_v35 : StableHlo.TRef sig ⟨S128, .i32⟩) (fun x y u v j => (Host.argReduce reducer_argmax_f32_i32 x y u v reducesTo_S128x256_S128_d1 h_S_ j).2) ]
/-- Each touches TensorCore references only (`HostSeg.ofOps` over `StableHlo.tcRefs`, or a subset by `sub_ucRefs`). -/
theorem while0Ops0_3_sub : (while0Ops0_3 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 1 host operation of host loop 0's body region, in order. -/
abbrev while0Ops0_4 : List (HloOp τ sig (Elt F)) :=
  [ StableHlo.unary main_while0b_v35 main_while0b_v36 (broadcastInDim S128x1 ![0] bcast_S128_S128x1_0 : (⟨S128, .i32⟩ : BufTy).Contents (Elt F) → (⟨S128x1, .i32⟩ : BufTy).Contents (Elt F)) ]
/-- Each touches TensorCore references only (`HostSeg.ofOps` over `StableHlo.tcRefs`, or a subset by `sub_ucRefs`). -/
theorem while0Ops0_4_sub : (while0Ops0_4 : List (HloOp τ sig (Elt F))).Forall fun op => op.bufs ⊆ StableHlo.tcRefs τ sig :=
  StableHlo.unary_bufs_sub ..
/-- 22 host operations of @take_along_axis (main_while0b_call2), in order. -/
abbrev while0Ops0_5 : List (HloOp τ sig (Elt F)) :=
  [ StableHlo.TRef.nullary (.of main_while0b_call2_c : StableHlo.TRef sig ⟨S_, .i32⟩) (constantI S_ 32 0#32),
    StableHlo.TRef.unary (.of main_while0b_call2_c : StableHlo.TRef sig ⟨S_, .i32⟩) (.of main_while0b_call2_v0 : StableHlo.TRef sig ⟨S128x1, .i32⟩) (broadcastInDim S128x1 ![] bcast_S_S128x1),
    StableHlo.TRef.binary (.of main_while0b_v36 : StableHlo.TRef sig ⟨S128x1, .i32⟩) (.of main_while0b_call2_v0 : StableHlo.TRef sig ⟨S128x1, .i32⟩) (.of main_while0b_call2_v1 : StableHlo.TRef sig ⟨S128x1, .i1⟩) (cmpi .slt),
    StableHlo.TRef.nullary (.of main_while0b_call2_c_0 : StableHlo.TRef sig ⟨S_, .i32⟩) (constantI S_ 32 256#32),
    StableHlo.TRef.unary (.of main_while0b_call2_c_0 : StableHlo.TRef sig ⟨S_, .i32⟩) (.of main_while0b_call2_v2 : StableHlo.TRef sig ⟨S128x1, .i32⟩) (broadcastInDim S128x1 ![] bcast_S_S128x1),
    StableHlo.TRef.binary (.of main_while0b_v36 : StableHlo.TRef sig ⟨S128x1, .i32⟩) (.of main_while0b_call2_v2 : StableHlo.TRef sig ⟨S128x1, .i32⟩) (.of main_while0b_call2_v3 : StableHlo.TRef sig ⟨S128x1, .i32⟩) addi,
    StableHlo.TRef.ternary (.of main_while0b_call2_v1 : StableHlo.TRef sig ⟨S128x1, .i1⟩) (.of main_while0b_call2_v3 : StableHlo.TRef sig ⟨S128x1, .i32⟩) (.of main_while0b_v36 : StableHlo.TRef sig ⟨S128x1, .i32⟩) (.of main_while0b_call2_v4 : StableHlo.TRef sig ⟨S128x1, .i32⟩) select,
    StableHlo.TRef.reshape (.of main_while0b_call2_v4 : StableHlo.TRef sig ⟨S128x1, .i32⟩) (.of main_while0b_call2_v5 : StableHlo.TRef sig ⟨S128x1x1, .i32⟩) (rfl : (.i32 : EltTy) = .i32) shapeCasts_S128x1_S128x1x1,
    StableHlo.TRef.nullary (.of main_while0b_call2_c_1 : StableHlo.TRef sig ⟨S1, .i32⟩) (constantI S1 32 255#32),
    StableHlo.TRef.nullary (.of main_while0b_call2_c_2 : StableHlo.TRef sig ⟨S_, .i32⟩) (constantI S_ 32 0#32),
    StableHlo.TRef.unary (.of main_while0b_call2_c_2 : StableHlo.TRef sig ⟨S_, .i32⟩) (.of main_while0b_call2_v6 : StableHlo.TRef sig ⟨S128x1x1, .i32⟩) (broadcastInDim S128x1x1 ![] bcast_S_S128x1x1),
    StableHlo.TRef.binary (.of main_while0b_call2_v5 : StableHlo.TRef sig ⟨S128x1x1, .i32⟩) (.of main_while0b_call2_v6 : StableHlo.TRef sig ⟨S128x1x1, .i32⟩) (.of main_while0b_call2_v7 : StableHlo.TRef sig ⟨S128x1x1, .i1⟩) (cmpi .sge),
    StableHlo.TRef.unary (.of main_while0b_call2_c_1 : StableHlo.TRef sig ⟨S1, .i32⟩) (.of main_while0b_call2_v8 : StableHlo.TRef sig ⟨S1x1x1, .i32⟩) (broadcastInDim S1x1x1 ![2] bcast_S1_S1x1x1_2),
    StableHlo.TRef.unary (.of main_while0b_call2_v8 : StableHlo.TRef sig ⟨S1x1x1, .i32⟩) (.of main_while0b_call2_v9 : StableHlo.TRef sig ⟨S128x1x1, .i32⟩) (broadcastInDim S128x1x1 ![0, 1, 2] bcast_S1x1x1_S128x1x1_0_1_2),
    StableHlo.TRef.binary (.of main_while0b_call2_v5 : StableHlo.TRef sig ⟨S128x1x1, .i32⟩) (.of main_while0b_call2_v9 : StableHlo.TRef sig ⟨S128x1x1, .i32⟩) (.of main_while0b_call2_v10 : StableHlo.TRef sig ⟨S128x1x1, .i1⟩) (cmpi .sle),
    StableHlo.TRef.binary (.of main_while0b_call2_v7 : StableHlo.TRef sig ⟨S128x1x1, .i1⟩) (.of main_while0b_call2_v10 : StableHlo.TRef sig ⟨S128x1x1, .i1⟩) (.of main_while0b_call2_v11 : StableHlo.TRef sig ⟨S128x1x1, .i1⟩) andi,
    StableHlo.TRef.nullary (.of main_while0b_call2_c_3 : StableHlo.TRef sig ⟨S_, .i1⟩) (constantI S_ 1 1#1),
    StableHlo.TRef.binary (.of main_while0b_call2_v11 : StableHlo.TRef sig ⟨S128x1x1, .i1⟩) (.of main_while0b_call2_c_3 : StableHlo.TRef sig ⟨S_, .i1⟩) (.of main_while0b_call2_v12 : StableHlo.TRef sig ⟨S128x1, .i1⟩) (fun x v => Host.reduce IntOp.andi x v reducesTo_S128x1x1_S128x1_d2 h_S_),
    StableHlo.TRef.binary (.of main_while0b_v34 : StableHlo.TRef sig ⟨S128x256, .f32⟩) (.of main_while0b_call2_v5 : StableHlo.TRef sig ⟨S128x1x1, .i32⟩) (.of main_while0b_call2_v13 : StableHlo.TRef sig ⟨S128x1, .f32⟩) (fun x i => Host.gather gather_S128x256_S128x1x1_S128x1_n_1_0_0_1_2_11 x i),
    StableHlo.TRef.nullary (.of main_while0b_call2_cst : StableHlo.TRef sig ⟨S_, .f32⟩) (constant S_ .f32 0x7FC00000#32),
    StableHlo.TRef.unary (.of main_while0b_call2_cst : StableHlo.TRef sig ⟨S_, .f32⟩) (.of main_while0b_call2_v14 : StableHlo.TRef sig ⟨S128x1, .f32⟩) (broadcastInDim S128x1 ![] bcast_S_S128x1),
    StableHlo.TRef.ternary (.of main_while0b_call2_v12 : StableHlo.TRef sig ⟨S128x1, .i1⟩) (.of main_while0b_call2_v13 : StableHlo.TRef sig ⟨S128x1, .f32⟩) (.of main_while0b_call2_v14 : StableHlo.TRef sig ⟨S128x1, .f32⟩) (.of main_while0b_v37 : StableHlo.TRef sig ⟨S128x1, .f32⟩) select ]
/-- Each touches TensorCore references only (`HostSeg.ofOps` over `StableHlo.tcRefs`, or a subset by `sub_ucRefs`). -/
theorem while0Ops0_5_sub : (while0Ops0_5 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.ternary_bufs_sub ..⟩
set_option maxHeartbeats 40000000 in  -- a long stretch: its list (or the term over it) exceeds the default budget
/-- 94 host operations of host loop 0's body region, in order. -/
abbrev while0Ops0_6 : List (HloOp τ sig (Elt F)) :=
  ( StableHlo.reshape main_while0b_v37 main_while0b_v38 (rfl : (.f32 : EltTy) = .f32) shapeCasts_S128x1_S128
  :: StableHlo.nullary main_while0b_cst_24 (constant S_ .f32 0x2B8CBCCC#32)
  :: StableHlo.unary main_while0b_cst_24 main_while0b_v39 (broadcastInDim S128 ![] bcast_S_S128 : (⟨S_, .f32⟩ : BufTy).Contents (Elt F) → (⟨S128, .f32⟩ : BufTy).Contents (Elt F))
  :: StableHlo.binary main_while0b_v38 main_while0b_v39 main_while0b_v40 (addf : (⟨S128, .f32⟩ : BufTy).Contents (Elt F) → (⟨S128, .f32⟩ : BufTy).Contents (Elt F) → (⟨S128, .f32⟩ : BufTy).Contents (Elt F))
  :: StableHlo.unary main_while0b_v40 main_while0b_v41 (Host.log : (⟨S128, .f32⟩ : BufTy).Contents (Elt F) → (⟨S128, .f32⟩ : BufTy).Contents (Elt F))
  :: StableHlo.nullary main_while0b_cst_25 (constant S_ .f32 0x2B8CBCCC#32)
  :: StableHlo.unary main_while0b_cst_25 main_while0b_v42 (broadcastInDim S128x256 ![] bcast_S_S128x256 : (⟨S_, .f32⟩ : BufTy).Contents (Elt F) → (⟨S128x256, .f32⟩ : BufTy).Contents (Elt F))
  :: StableHlo.binary main_while0b_v34 main_while0b_v42 main_while0b_v43 (addf : (⟨S128x256, .f32⟩ : BufTy).Contents (Elt F) → (⟨S128x256, .f32⟩ : BufTy).Contents (Elt F) → (⟨S128x256, .f32⟩ : BufTy).Contents (Elt F))
  :: StableHlo.unary main_while0b_v43 main_while0b_v44 (Host.log : (⟨S128x256, .f32⟩ : BufTy).Contents (Elt F) → (⟨S128x256, .f32⟩ : BufTy).Contents (Elt F))
  :: StableHlo.binary main_while0b_v34 main_while0b_v44 main_while0b_v45 (mulf : (⟨S128x256, .f32⟩ : BufTy).Contents (Elt F) → (⟨S128x256, .f32⟩ : BufTy).Contents (Elt F) → (⟨S128x256, .f32⟩ : BufTy).Contents (Elt F))
  :: StableHlo.nullary main_while0b_cst_26 (constant S_ .f32 0x00000000#32)
  :: StableHlo.binary main_while0b_v45 main_while0b_cst_26 main_while0b_v46 ((fun x v => Host.reduceAdd x v reducesTo_S128x256_S128_d1 h_S_) : (⟨S128x256, .f32⟩ : BufTy).Contents (Elt F) → (⟨S_, .f32⟩ : BufTy).Contents (Elt F) → (⟨S128, .f32⟩ : BufTy).Contents (Elt F))
  :: StableHlo.unary main_while0b_v46 main_while0b_v47 (Host.negf : (⟨S128, .f32⟩ : BufTy).Contents (Elt F) → (⟨S128, .f32⟩ : BufTy).Contents (Elt F))
  :: StableHlo.nullary main_while0b_c_27 (constantI S_ 32 0#32)
  :: StableHlo.unary main_while0b_c_27 main_while0b_v48 (broadcastInDim S128 ![] bcast_S_S128 : (⟨S_, .i32⟩ : BufTy).Contents (Elt F) → (⟨S128, .i32⟩ : BufTy).Contents (Elt F))
  :: StableHlo.binary main_v14_2 main_while0b_v48 main_while0b_v49 (cmpi .slt : (⟨S128, .i32⟩ : BufTy).Contents (Elt F) → (⟨S128, .i32⟩ : BufTy).Contents (Elt F) → (⟨S128, .i1⟩ : BufTy).Contents (Elt F))
  :: StableHlo.nullary main_while0b_c_28 (constantI S_ 32 128#32)
  :: StableHlo.unary main_while0b_c_28 main_while0b_v50 (broadcastInDim S128 ![] bcast_S_S128 : (⟨S_, .i32⟩ : BufTy).Contents (Elt F) → (⟨S128, .i32⟩ : BufTy).Contents (Elt F))
  :: StableHlo.binary main_v14_2 main_while0b_v50 main_while0b_v51 (addi : (⟨S128, .i32⟩ : BufTy).Contents (Elt F) → (⟨S128, .i32⟩ : BufTy).Contents (Elt F) → (⟨S128, .i32⟩ : BufTy).Contents (Elt F))
  :: StableHlo.ternary main_while0b_v49 main_while0b_v51 main_v14_2 main_while0b_v52 (select : (⟨S128, .i1⟩ : BufTy).Contents (Elt F) → (⟨S128, .i32⟩ : BufTy).Contents (Elt F) → (⟨S128, .i32⟩ : BufTy).Contents (Elt F) → (⟨S128, .i32⟩ : BufTy).Contents (Elt F))
  :: StableHlo.nullary main_while0b_c_29 (constantI S_ 32 0#32)
  :: StableHlo.unary main_while0b_c_29 main_while0b_v53 (broadcastInDim S128 ![] bcast_S_S128 : (⟨S_, .i32⟩ : BufTy).Contents (Elt F) → (⟨S128, .i32⟩ : BufTy).Contents (Elt F))
  :: StableHlo.binary main_while0b_v35 main_while0b_v53 main_while0b_v54 (cmpi .slt : (⟨S128, .i32⟩ : BufTy).Contents (Elt F) → (⟨S128, .i32⟩ : BufTy).Contents (Elt F) → (⟨S128, .i1⟩ : BufTy).Contents (Elt F))
  :: StableHlo.nullary main_while0b_c_30 (constantI S_ 32 256#32)
  :: StableHlo.unary main_while0b_c_30 main_while0b_v55 (broadcastInDim S128 ![] bcast_S_S128 : (⟨S_, .i32⟩ : BufTy).Contents (Elt F) → (⟨S128, .i32⟩ : BufTy).Contents (Elt F))
  :: StableHlo.binary main_while0b_v35 main_while0b_v55 main_while0b_v56 (addi : (⟨S128, .i32⟩ : BufTy).Contents (Elt F) → (⟨S128, .i32⟩ : BufTy).Contents (Elt F) → (⟨S128, .i32⟩ : BufTy).Contents (Elt F))
  :: StableHlo.ternary main_while0b_v54 main_while0b_v56 main_while0b_v35 main_while0b_v57 (select : (⟨S128, .i1⟩ : BufTy).Contents (Elt F) → (⟨S128, .i32⟩ : BufTy).Contents (Elt F) → (⟨S128, .i32⟩ : BufTy).Contents (Elt F) → (⟨S128, .i32⟩ : BufTy).Contents (Elt F))
  :: StableHlo.unary main_while0b_v52 main_while0b_v58 (broadcastInDim S128x1 ![0] bcast_S128_S128x1_0 : (⟨S128, .i32⟩ : BufTy).Contents (Elt F) → (⟨S128x1, .i32⟩ : BufTy).Contents (Elt F))
  :: StableHlo.unary main_while0b_v57 main_while0b_v59 (broadcastInDim S128x1 ![0] bcast_S128_S128x1_0 : (⟨S128, .i32⟩ : BufTy).Contents (Elt F) → (⟨S128x1, .i32⟩ : BufTy).Contents (Elt F))
  :: StableHlo.binary main_while0b_v58 main_while0b_v59 main_while0b_v60 ((fun a b => concatenate S128x2 1 [⟨S128x1, a⟩, ⟨S128x1, b⟩] concatenates_S128x1_S128x1_S128x2_d1) : (⟨S128x1, .i32⟩ : BufTy).Contents (Elt F) → (⟨S128x1, .i32⟩ : BufTy).Contents (Elt F) → (⟨S128x2, .i32⟩ : BufTy).Contents (Elt F))
  :: StableHlo.nullary main_while0b_c_31 (constantI S_ 1 1#1)
  :: StableHlo.unary main_while0b_c_31 main_while0b_v61 (broadcastInDim S128 ![] bcast_S_S128 : (⟨S_, .i1⟩ : BufTy).Contents (Elt F) → (⟨S128, .i1⟩ : BufTy).Contents (Elt F))
  :: StableHlo.ternary main_v14_9 main_while0b_v60 main_while0b_v61 main_while0b_v62 ((fun x i u => Host.scatter scatter_S128x256_S128x2_S128_n_01_01_1 (fun _ b => b) x i u) : (⟨S128x256, .i1⟩ : BufTy).Contents (Elt F) → (⟨S128x2, .i32⟩ : BufTy).Contents (Elt F) → (⟨S128, .i1⟩ : BufTy).Contents (Elt F) → (⟨S128x256, .i1⟩ : BufTy).Contents (Elt F))
  :: StableHlo.nullary main_while0b_c_32 (constantI S_ 32 0#32)
  :: StableHlo.unary main_while0b_c_32 main_while0b_v63 (broadcastInDim S128 ![] bcast_S_S128 : (⟨S_, .i32⟩ : BufTy).Contents (Elt F) → (⟨S128, .i32⟩ : BufTy).Contents (Elt F))
  :: StableHlo.binary main_v14_2 main_while0b_v63 main_while0b_v64 (cmpi .slt : (⟨S128, .i32⟩ : BufTy).Contents (Elt F) → (⟨S128, .i32⟩ : BufTy).Contents (Elt F) → (⟨S128, .i1⟩ : BufTy).Contents (Elt F))
  :: StableHlo.nullary main_while0b_c_33 (constantI S_ 32 128#32)
  :: StableHlo.unary main_while0b_c_33 main_while0b_v65 (broadcastInDim S128 ![] bcast_S_S128 : (⟨S_, .i32⟩ : BufTy).Contents (Elt F) → (⟨S128, .i32⟩ : BufTy).Contents (Elt F))
  :: StableHlo.binary main_v14_2 main_while0b_v65 main_while0b_v66 (addi : (⟨S128, .i32⟩ : BufTy).Contents (Elt F) → (⟨S128, .i32⟩ : BufTy).Contents (Elt F) → (⟨S128, .i32⟩ : BufTy).Contents (Elt F))
  :: StableHlo.ternary main_while0b_v64 main_while0b_v66 main_v14_2 main_while0b_v67 (select : (⟨S128, .i1⟩ : BufTy).Contents (Elt F) → (⟨S128, .i32⟩ : BufTy).Contents (Elt F) → (⟨S128, .i32⟩ : BufTy).Contents (Elt F) → (⟨S128, .i32⟩ : BufTy).Contents (Elt F))
  :: StableHlo.nullary main_while0b_c_34 (constantI S_ 32 0#32)
  :: StableHlo.unary main_while0b_c_34 main_while0b_v68 (broadcastInDim S128 ![] bcast_S_S128 : (⟨S_, .i32⟩ : BufTy).Contents (Elt F) → (⟨S128, .i32⟩ : BufTy).Contents (Elt F))
  :: StableHlo.binary main_while0b_v35 main_while0b_v68 main_while0b_v69 (cmpi .slt : (⟨S128, .i32⟩ : BufTy).Contents (Elt F) → (⟨S128, .i32⟩ : BufTy).Contents (Elt F) → (⟨S128, .i1⟩ : BufTy).Contents (Elt F))
  :: StableHlo.nullary main_while0b_c_35 (constantI S_ 32 256#32)
  :: StableHlo.unary main_while0b_c_35 main_while0b_v70 (broadcastInDim S128 ![] bcast_S_S128 : (⟨S_, .i32⟩ : BufTy).Contents (Elt F) → (⟨S128, .i32⟩ : BufTy).Contents (Elt F))
  :: StableHlo.binary main_while0b_v35 main_while0b_v70 main_while0b_v71 (addi : (⟨S128, .i32⟩ : BufTy).Contents (Elt F) → (⟨S128, .i32⟩ : BufTy).Contents (Elt F) → (⟨S128, .i32⟩ : BufTy).Contents (Elt F))
  :: StableHlo.ternary main_while0b_v69 main_while0b_v71 main_while0b_v35 main_while0b_v72 (select : (⟨S128, .i1⟩ : BufTy).Contents (Elt F) → (⟨S128, .i32⟩ : BufTy).Contents (Elt F) → (⟨S128, .i32⟩ : BufTy).Contents (Elt F) → (⟨S128, .i32⟩ : BufTy).Contents (Elt F))
  :: StableHlo.unary main_while0b_v67 main_while0b_v73 (broadcastInDim S128x1 ![0] bcast_S128_S128x1_0 : (⟨S128, .i32⟩ : BufTy).Contents (Elt F) → (⟨S128x1, .i32⟩ : BufTy).Contents (Elt F))
  :: StableHlo.unary main_while0b_v72 main_while0b_v74 (broadcastInDim S128x1 ![0] bcast_S128_S128x1_0 : (⟨S128, .i32⟩ : BufTy).Contents (Elt F) → (⟨S128x1, .i32⟩ : BufTy).Contents (Elt F))
  :: StableHlo.binary main_while0b_v73 main_while0b_v74 main_while0b_v75 ((fun a b => concatenate S128x2 1 [⟨S128x1, a⟩, ⟨S128x1, b⟩] concatenates_S128x1_S128x1_S128x2_d1) : (⟨S128x1, .i32⟩ : BufTy).Contents (Elt F) → (⟨S128x1, .i32⟩ : BufTy).Contents (Elt F) → (⟨S128x2, .i32⟩ : BufTy).Contents (Elt F))
  :: StableHlo.binary main_v14_1 main_while0b_v75 main_while0b_v76 ((fun x i => Host.gather gather_S128x256x128_S128x2_S128x128_1_01_n_n_01_1_11128 x i) : (⟨S128x256x128, .f32⟩ : BufTy).Contents (Elt F) → (⟨S128x2, .i32⟩ : BufTy).Contents (Elt F) → (⟨S128x128, .f32⟩ : BufTy).Contents (Elt F))
  :: StableHlo.unary main_v14_3 main_while0b_v77 ((transpose S128x384 [1, 0] · transposes_S384x128_S128x384_1_0) : (⟨S384x128, .f32⟩ : BufTy).Contents (Elt F) → (⟨S128x384, .f32⟩ : BufTy).Contents (Elt F))
  :: StableHlo.binary main_while0b_v76 main_while0b_v77 main_while0b_v78 ((fun l r => Host.dotGeneral dot_S128x128_S128x384_S128x384_1_0_0_1_n_n none l r) : (⟨S128x128, .f32⟩ : BufTy).Contents (Elt F) → (⟨S128x384, .f32⟩ : BufTy).Contents (Elt F) → (⟨S128x384, .f32⟩ : BufTy).Contents (Elt F))
  :: StableHlo.unary main_v14_4 main_while0b_v79 (broadcastInDim S1x384 ![1] bcast_S384_S1x384_1 : (⟨S384, .f32⟩ : BufTy).Contents (Elt F) → (⟨S1x384, .f32⟩ : BufTy).Contents (Elt F))
  :: StableHlo.unary main_while0b_v79 main_while0b_v80 (broadcastInDim S128x384 ![0, 1] bcast_S1x384_S128x384_0_1 : (⟨S1x384, .f32⟩ : BufTy).Contents (Elt F) → (⟨S128x384, .f32⟩ : BufTy).Contents (Elt F))
  :: StableHlo.binary main_while0b_v78 main_while0b_v80 main_while0b_v81 (addf : (⟨S128x384, .f32⟩ : BufTy).Contents (Elt F) → (⟨S128x384, .f32⟩ : BufTy).Contents (Elt F) → (⟨S128x384, .f32⟩ : BufTy).Contents (Elt F))
  :: StableHlo.unary main_v14_5 main_while0b_v82 ((transpose S128x384 [1, 0] · transposes_S384x128_S128x384_1_0) : (⟨S384x128, .f32⟩ : BufTy).Contents (Elt F) → (⟨S128x384, .f32⟩ : BufTy).Contents (Elt F))
  :: StableHlo.binary main_v14_8 main_while0b_v82 main_while0b_v83 ((fun l r => Host.dotGeneral dot_S128x128_S128x384_S128x384_1_0_0_1_n_n none l r) : (⟨S128x128, .f32⟩ : BufTy).Contents (Elt F) → (⟨S128x384, .f32⟩ : BufTy).Contents (Elt F) → (⟨S128x384, .f32⟩ : BufTy).Contents (Elt F))
  :: StableHlo.unary main_v14_6 main_while0b_v84 (broadcastInDim S1x384 ![1] bcast_S384_S1x384_1 : (⟨S384, .f32⟩ : BufTy).Contents (Elt F) → (⟨S1x384, .f32⟩ : BufTy).Contents (Elt F))
  :: StableHlo.unary main_while0b_v84 main_while0b_v85 (broadcastInDim S128x384 ![0, 1] bcast_S1x384_S128x384_0_1 : (⟨S1x384, .f32⟩ : BufTy).Contents (Elt F) → (⟨S128x384, .f32⟩ : BufTy).Contents (Elt F))
  :: StableHlo.binary main_while0b_v83 main_while0b_v85 main_while0b_v86 (addf : (⟨S128x384, .f32⟩ : BufTy).Contents (Elt F) → (⟨S128x384, .f32⟩ : BufTy).Contents (Elt F) → (⟨S128x384, .f32⟩ : BufTy).Contents (Elt F))
  :: StableHlo.unary main_while0b_v81 main_while0b_v87 ((extractStridedSlice S128x128 ![0, 0] · slices_S128x384_S128x128_0_0) : (⟨S128x384, .f32⟩ : BufTy).Contents (Elt F) → (⟨S128x128, .f32⟩ : BufTy).Contents (Elt F))
  :: StableHlo.unary main_while0b_v81 main_while0b_v88 ((extractStridedSlice S128x128 ![0, 128] · slices_S128x384_S128x128_0_128) : (⟨S128x384, .f32⟩ : BufTy).Contents (Elt F) → (⟨S128x128, .f32⟩ : BufTy).Contents (Elt F))
  :: StableHlo.unary main_while0b_v81 main_while0b_v89 ((extractStridedSlice S128x128 ![0, 256] · slices_S128x384_S128x128_0_256) : (⟨S128x384, .f32⟩ : BufTy).Contents (Elt F) → (⟨S128x128, .f32⟩ : BufTy).Contents (Elt F))
  :: StableHlo.unary main_while0b_v86 main_while0b_v90 ((extractStridedSlice S128x128 ![0, 0] · slices_S128x384_S128x128_0_0) : (⟨S128x384, .f32⟩ : BufTy).Contents (Elt F) → (⟨S128x128, .f32⟩ : BufTy).Contents (Elt F))
  :: StableHlo.unary main_while0b_v86 main_while0b_v91 ((extractStridedSlice S128x128 ![0, 128] · slices_S128x384_S128x128_0_128) : (⟨S128x384, .f32⟩ : BufTy).Contents (Elt F) → (⟨S128x128, .f32⟩ : BufTy).Contents (Elt F))
  :: StableHlo.unary main_while0b_v86 main_while0b_v92 ((extractStridedSlice S128x128 ![0, 256] · slices_S128x384_S128x128_0_256) : (⟨S128x384, .f32⟩ : BufTy).Contents (Elt F) → (⟨S128x128, .f32⟩ : BufTy).Contents (Elt F))
  :: StableHlo.binary main_while0b_v87 main_while0b_v90 main_while0b_v93 (addf : (⟨S128x128, .f32⟩ : BufTy).Contents (Elt F) → (⟨S128x128, .f32⟩ : BufTy).Contents (Elt F) → (⟨S128x128, .f32⟩ : BufTy).Contents (Elt F))
  :: StableHlo.unary main_while0b_v93 main_while0b_v94 (Host.negf : (⟨S128x128, .f32⟩ : BufTy).Contents (Elt F) → (⟨S128x128, .f32⟩ : BufTy).Contents (Elt F))
  :: StableHlo.unary main_while0b_v94 main_while0b_v95 (Host.exp : (⟨S128x128, .f32⟩ : BufTy).Contents (Elt F) → (⟨S128x128, .f32⟩ : BufTy).Contents (Elt F))
  :: StableHlo.nullary main_while0b_cst_36 (constant S_ .f32 0x3F800000#32)
  :: StableHlo.unary main_while0b_cst_36 main_while0b_v96 (broadcastInDim S128x128 ![] bcast_S_S128x128 : (⟨S_, .f32⟩ : BufTy).Contents (Elt F) → (⟨S128x128, .f32⟩ : BufTy).Contents (Elt F))
  :: StableHlo.binary main_while0b_v96 main_while0b_v95 main_while0b_v97 (addf : (⟨S128x128, .f32⟩ : BufTy).Contents (Elt F) → (⟨S128x128, .f32⟩ : BufTy).Contents (Elt F) → (⟨S128x128, .f32⟩ : BufTy).Contents (Elt F))
  :: StableHlo.nullary main_while0b_cst_37 (constant S_ .f32 0x3F800000#32)
  :: StableHlo.unary main_while0b_cst_37 main_while0b_v98 (broadcastInDim S128x128 ![] bcast_S_S128x128 : (⟨S_, .f32⟩ : BufTy).Contents (Elt F) → (⟨S128x128, .f32⟩ : BufTy).Contents (Elt F))
  :: StableHlo.binary main_while0b_v98 main_while0b_v97 main_while0b_v99 (Host.divf : (⟨S128x128, .f32⟩ : BufTy).Contents (Elt F) → (⟨S128x128, .f32⟩ : BufTy).Contents (Elt F) → (⟨S128x128, .f32⟩ : BufTy).Contents (Elt F))
  :: StableHlo.binary main_while0b_v88 main_while0b_v91 main_while0b_v100 (addf : (⟨S128x128, .f32⟩ : BufTy).Contents (Elt F) → (⟨S128x128, .f32⟩ : BufTy).Contents (Elt F) → (⟨S128x128, .f32⟩ : BufTy).Contents (Elt F))
  :: StableHlo.unary main_while0b_v100 main_while0b_v101 (Host.negf : (⟨S128x128, .f32⟩ : BufTy).Contents (Elt F) → (⟨S128x128, .f32⟩ : BufTy).Contents (Elt F))
  :: StableHlo.unary main_while0b_v101 main_while0b_v102 (Host.exp : (⟨S128x128, .f32⟩ : BufTy).Contents (Elt F) → (⟨S128x128, .f32⟩ : BufTy).Contents (Elt F))
  :: StableHlo.nullary main_while0b_cst_38 (constant S_ .f32 0x3F800000#32)
  :: StableHlo.unary main_while0b_cst_38 main_while0b_v103 (broadcastInDim S128x128 ![] bcast_S_S128x128 : (⟨S_, .f32⟩ : BufTy).Contents (Elt F) → (⟨S128x128, .f32⟩ : BufTy).Contents (Elt F))
  :: StableHlo.binary main_while0b_v103 main_while0b_v102 main_while0b_v104 (addf : (⟨S128x128, .f32⟩ : BufTy).Contents (Elt F) → (⟨S128x128, .f32⟩ : BufTy).Contents (Elt F) → (⟨S128x128, .f32⟩ : BufTy).Contents (Elt F))
  :: StableHlo.nullary main_while0b_cst_39 (constant S_ .f32 0x3F800000#32)
  :: StableHlo.unary main_while0b_cst_39 main_while0b_v105 (broadcastInDim S128x128 ![] bcast_S_S128x128 : (⟨S_, .f32⟩ : BufTy).Contents (Elt F) → (⟨S128x128, .f32⟩ : BufTy).Contents (Elt F))
  :: StableHlo.binary main_while0b_v105 main_while0b_v104 main_while0b_v106 (Host.divf : (⟨S128x128, .f32⟩ : BufTy).Contents (Elt F) → (⟨S128x128, .f32⟩ : BufTy).Contents (Elt F) → (⟨S128x128, .f32⟩ : BufTy).Contents (Elt F))
  :: StableHlo.binary main_while0b_v99 main_while0b_v92 main_while0b_v107 (mulf : (⟨S128x128, .f32⟩ : BufTy).Contents (Elt F) → (⟨S128x128, .f32⟩ : BufTy).Contents (Elt F) → (⟨S128x128, .f32⟩ : BufTy).Contents (Elt F))
  :: StableHlo.binary main_while0b_v89 main_while0b_v107 main_while0b_v108 (addf : (⟨S128x128, .f32⟩ : BufTy).Contents (Elt F) → (⟨S128x128, .f32⟩ : BufTy).Contents (Elt F) → (⟨S128x128, .f32⟩ : BufTy).Contents (Elt F))
  :: StableHlo.unary main_while0b_v108 main_while0b_v109 (Host.tanh : (⟨S128x128, .f32⟩ : BufTy).Contents (Elt F) → (⟨S128x128, .f32⟩ : BufTy).Contents (Elt F))
  :: StableHlo.nullary main_while0b_cst_40 (constant S_ .f32 0x3F800000#32)
  :: StableHlo.unary main_while0b_cst_40 main_while0b_v110 (broadcastInDim S128x128 ![] bcast_S_S128x128 : (⟨S_, .f32⟩ : BufTy).Contents (Elt F) → (⟨S128x128, .f32⟩ : BufTy).Contents (Elt F))
  :: StableHlo.binary main_while0b_v110 main_while0b_v106 main_while0b_v111 (subf : (⟨S128x128, .f32⟩ : BufTy).Contents (Elt F) → (⟨S128x128, .f32⟩ : BufTy).Contents (Elt F) → (⟨S128x128, .f32⟩ : BufTy).Contents (Elt F))
  :: StableHlo.binary main_while0b_v111 main_while0b_v109 main_while0b_v112 (mulf : (⟨S128x128, .f32⟩ : BufTy).Contents (Elt F) → (⟨S128x128, .f32⟩ : BufTy).Contents (Elt F) → (⟨S128x128, .f32⟩ : BufTy).Contents (Elt F))
  :: StableHlo.binary main_while0b_v106 main_v14_8 main_while0b_v113 (mulf : (⟨S128x128, .f32⟩ : BufTy).Contents (Elt F) → (⟨S128x128, .f32⟩ : BufTy).Contents (Elt F) → (⟨S128x128, .f32⟩ : BufTy).Contents (Elt F))
  :: StableHlo.binary main_while0b_v112 main_while0b_v113 main_while0b_v114 (addf : (⟨S128x128, .f32⟩ : BufTy).Contents (Elt F) → (⟨S128x128, .f32⟩ : BufTy).Contents (Elt F) → (⟨S128x128, .f32⟩ : BufTy).Contents (Elt F))
  :: [] )
set_option maxHeartbeats 40000000 in  -- a long stretch: its list (or the term over it) exceeds the default budget
/-- Each touches TensorCore references only (`HostSeg.ofOps` over `StableHlo.tcRefs`, or a subset by `sub_ucRefs`). -/
theorem while0Ops0_6_sub : (while0Ops0_6 : List (HloOp τ sig (Elt F))).Forall fun op => op.bufs ⊆ StableHlo.tcRefs τ sig :=
  ⟨StableHlo.reshape_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.nullary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.nullary_bufs_sub .., StableHlo.unary_bufs_sub .., StableHlo.binary_bufs_sub .., StableHlo.binary_bufs_sub .., StableHlo.binary_bufs_sub .., StableHlo.binary_bufs_sub ..⟩
/-- 3 host operations of @dynamic_update_index_in_dim (main_while0b_call3), in order. -/
abbrev while0Ops0_7 : List (HloOp τ sig (Elt F)) :=
  [ StableHlo.TRef.unary (.of main_while0b_v35 : StableHlo.TRef sig ⟨S128, .i32⟩) (.of main_while0b_call3_v0 : StableHlo.TRef sig ⟨S1x128, .i32⟩) (broadcastInDim S1x128 ![1] bcast_S128_S1x128_1),
    StableHlo.TRef.nullary (.of main_while0b_call3_c : StableHlo.TRef sig ⟨S_, .i32⟩) (constantI S_ 32 0#32),
    StableHlo.TRef.binaryIndexed (.of main_v14_10 : StableHlo.TRef sig ⟨S256x128, .i32⟩) (.of main_while0b_call3_v0 : StableHlo.TRef sig ⟨S1x128, .i32⟩) ![(.of main_v14_7 : StableHlo.TRef sig ⟨S_, .i32⟩), (.of main_while0b_call3_c : StableHlo.TRef sig ⟨S_, .i32⟩)] (.of main_while0b_v115 : StableHlo.TRef sig ⟨S256x128, .i32⟩) (fun x u i => Host.dynamicUpdateSlice x u (fun k => (i k (Shape.Idx.first h_S_)).toInt) updateFits_S256x128_S1x128) ]
/-- Each touches TensorCore references only (`HostSeg.ofOps` over `StableHlo.tcRefs`, or a subset by `sub_ucRefs`). -/
theorem while0Ops0_7_sub : (while0Ops0_7 : List (HloOp τ sig (Elt F))).Forall fun op => op.bufs ⊆ StableHlo.tcRefs τ sig :=
  ⟨StableHlo.unary_bufs_sub .., StableHlo.nullary_bufs_sub .., StableHlo.binaryIndexed_bufs_sub ..⟩
/-- 3 host operations of @dynamic_update_index_in_dim_0 (main_while0b_call4), in order. -/
abbrev while0Ops0_8 : List (HloOp τ sig (Elt F)) :=
  [ StableHlo.TRef.unary (.of main_while0b_v41 : StableHlo.TRef sig ⟨S128, .f32⟩) (.of main_while0b_call4_v0 : StableHlo.TRef sig ⟨S1x128, .f32⟩) (broadcastInDim S1x128 ![1] bcast_S128_S1x128_1),
    StableHlo.TRef.nullary (.of main_while0b_call4_c : StableHlo.TRef sig ⟨S_, .i32⟩) (constantI S_ 32 0#32),
    StableHlo.TRef.binaryIndexed (.of main_v14_11 : StableHlo.TRef sig ⟨S256x128, .f32⟩) (.of main_while0b_call4_v0 : StableHlo.TRef sig ⟨S1x128, .f32⟩) ![(.of main_v14_7 : StableHlo.TRef sig ⟨S_, .i32⟩), (.of main_while0b_call4_c : StableHlo.TRef sig ⟨S_, .i32⟩)] (.of main_while0b_v116 : StableHlo.TRef sig ⟨S256x128, .f32⟩) (fun x u i => Host.dynamicUpdateSlice x u (fun k => (i k (Shape.Idx.first h_S_)).toInt) updateFits_S256x128_S1x128) ]
/-- Each touches TensorCore references only (`HostSeg.ofOps` over `StableHlo.tcRefs`, or a subset by `sub_ucRefs`). -/
theorem while0Ops0_8_sub : (while0Ops0_8 : List (HloOp τ sig (Elt F))).Forall fun op => op.bufs ⊆ StableHlo.tcRefs τ sig :=
  ⟨StableHlo.unary_bufs_sub .., StableHlo.nullary_bufs_sub .., StableHlo.binaryIndexed_bufs_sub ..⟩
/-- 3 host operations of @dynamic_update_index_in_dim_0 (main_while0b_call5), in order. -/
abbrev while0Ops0_9 : List (HloOp τ sig (Elt F)) :=
  [ StableHlo.TRef.unary (.of main_while0b_v47 : StableHlo.TRef sig ⟨S128, .f32⟩) (.of main_while0b_call5_v0 : StableHlo.TRef sig ⟨S1x128, .f32⟩) (broadcastInDim S1x128 ![1] bcast_S128_S1x128_1),
    StableHlo.TRef.nullary (.of main_while0b_call5_c : StableHlo.TRef sig ⟨S_, .i32⟩) (constantI S_ 32 0#32),
    StableHlo.TRef.binaryIndexed (.of main_v14_12 : StableHlo.TRef sig ⟨S256x128, .f32⟩) (.of main_while0b_call5_v0 : StableHlo.TRef sig ⟨S1x128, .f32⟩) ![(.of main_v14_7 : StableHlo.TRef sig ⟨S_, .i32⟩), (.of main_while0b_call5_c : StableHlo.TRef sig ⟨S_, .i32⟩)] (.of main_while0b_v117 : StableHlo.TRef sig ⟨S256x128, .f32⟩) (fun x u i => Host.dynamicUpdateSlice x u (fun k => (i k (Shape.Idx.first h_S_)).toInt) updateFits_S256x128_S1x128) ]
/-- Each touches TensorCore references only (`HostSeg.ofOps` over `StableHlo.tcRefs`, or a subset by `sub_ucRefs`). -/
theorem while0Ops0_9_sub : (while0Ops0_9 : List (HloOp τ sig (Elt F))).Forall fun op => op.bufs ⊆ StableHlo.tcRefs τ sig :=
  ⟨StableHlo.unary_bufs_sub .., StableHlo.nullary_bufs_sub .., StableHlo.binaryIndexed_bufs_sub ..⟩
/-- 8 host operations of host loop 0's body region, in order. -/
abbrev while0Ops0_10 : List (HloOp τ sig (Elt F)) :=
  [ StableHlo.nullary main_while0b_c_41 (constantI S_ 32 1#32),
    StableHlo.binary main_v14_7 main_while0b_c_41 main_while0b_v118 (addi : (⟨S_, .i32⟩ : BufTy).Contents (Elt F) → (⟨S_, .i32⟩ : BufTy).Contents (Elt F) → (⟨S_, .i32⟩ : BufTy).Contents (Elt F)),
    StableHlo.unary main_while0b_v118 main_v14_7 id,
    StableHlo.unary main_while0b_v114 main_v14_8 id,
    StableHlo.unary main_while0b_v62 main_v14_9 id,
    StableHlo.unary main_while0b_v115 main_v14_10 id,
    StableHlo.unary main_while0b_v116 main_v14_11 id,
    StableHlo.unary main_while0b_v117 main_v14_12 id ]
/-- Each touches TensorCore references only (`HostSeg.ofOps` over `StableHlo.tcRefs`, or a subset by `sub_ucRefs`). -/
theorem while0Ops0_10_sub : (while0Ops0_10 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub ..⟩
/-- `main_while0_body` is the chain of its items (`Pipeline.chain`): operation stretches, regions, loops and branches in
    order, a module-local function called from it a stretch of its own. Each item aligned with the block's
    statements (`StableHlo.chain_seq_cons` for a stretch of its own operations, `Pipeline.chain_cons` for any other item),
    then `chain_rfl`: the KERNEL's definitional unfolding peels the `do` sequence against the items an operation at a
    time, re-associating no bind of the block's own stretches; a called function's body that holds a region, an
    `AllocateBuffer` or a call not in tail position, or a body printed in parts, is still met across its binds
    (the library's section on aligning a block with its items). -/
theorem while0_body_chain : main_while0_body (F := F) = (Pipeline.chain
  [ StableHlo.seq while0Ops0,
    StableHlo.seq while0Ops0_1,
    StableHlo.seq while0Ops0_2,
    StableHlo.seq while0Ops0_3,
    StableHlo.seq while0Ops0_4,
    StableHlo.seq while0Ops0_5,
    StableHlo.seq while0Ops0_6,
    StableHlo.seq while0Ops0_7,
    StableHlo.seq while0Ops0_8,
    StableHlo.seq while0Ops0_9,
    StableHlo.seq while0Ops0_10 ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, StableHlo.chain_seq_cons, Pipeline.chain_cons, StableHlo.chain_seq_cons, Pipeline.chain_cons, StableHlo.chain_seq_cons, Pipeline.chain_cons, Pipeline.chain_cons, Pipeline.chain_cons, StableHlo.chain_seq_cons]
  chain_rfl

end Cert.ReferenceIdeal.Gen

namespace Cert.ReferenceIdeal.Value

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-! ## The stretches: none allocates a buffer, and what each writes -/

/-- No operation of `hostOps0` allocates a buffer. -/
theorem hostOps0_fresh : (hostOps0 : List (HloOp τ sig (Elt F))).Forall fun op => op.fresh = ∅ :=
  StableHlo.forall_fresh_of_map rfl
/-- The reference each operation of `hostOps0` writes, in order. -/
abbrev hostOps0_W : List (Ref sig .tc) := [main_cst, main_v0, main_cst_0, main_v1, main_v2, main_v3, main_v4, main_v5, main_v6, main_v7, main_v8, main_c, main_v9, main_v10, main_c_1, main_v11, main_cst_2, main_v12, main_cst_3, main_v13, main_c_4, main_v14_0, main_v14_1, main_v14_2, main_v14_3, main_v14_4, main_v14_5, main_v14_6, main_v14_7, main_v14_8, main_v14_9, main_v14_10, main_v14_11, main_v14_12]
theorem hostOps0_writes : (hostOps0 : List (HloOp τ sig (Elt F))).Forall fun op => op.writes ⊆ (hostOps0_W.map (Proc.devRef (τ := τ) .tc)).toFinset :=
  StableHlo.forall_writes_sub_of_map rfl
/-- No operation of `while0Ops0` allocates a buffer. -/
theorem while0Ops0_fresh : (while0Ops0 : List (HloOp τ sig (Elt F))).Forall fun op => op.fresh = ∅ :=
  StableHlo.forall_fresh_of_map rfl
/-- The reference each operation of `while0Ops0` writes, in order. -/
abbrev while0Ops0_W : List (Ref sig .tc) := [main_while0b_v18, main_while0b_v19, main_while0b_v20, main_while0b_cst_19, main_while0b_v21, main_while0b_v22, main_while0b_cst_20]
theorem while0Ops0_writes : (while0Ops0 : List (HloOp τ sig (Elt F))).Forall fun op => op.writes ⊆ (while0Ops0_W.map (Proc.devRef (τ := τ) .tc)).toFinset :=
  StableHlo.forall_writes_sub_of_map rfl
/-- No operation of `while0Ops0_1` allocates a buffer. -/
theorem while0Ops0_1_fresh : (while0Ops0_1 : List (HloOp τ sig (Elt F))).Forall fun op => op.fresh = ∅ :=
  StableHlo.forall_fresh_of_map rfl
/-- The reference each operation of `while0Ops0_1` writes, in order. -/
abbrev while0Ops0_1_W : List (Ref sig .tc) := [main_while0b_call0_v0, main_while0b_call0_v1, main_while0b_v23]
theorem while0Ops0_1_writes : (while0Ops0_1 : List (HloOp τ sig (Elt F))).Forall fun op => op.writes ⊆ (while0Ops0_1_W.map (Proc.devRef (τ := τ) .tc)).toFinset :=
  StableHlo.forall_writes_sub_of_map rfl
/-- No operation of `while0Ops0_2` allocates a buffer. -/
theorem while0Ops0_2_fresh : (while0Ops0_2 : List (HloOp τ sig (Elt F))).Forall fun op => op.fresh = ∅ :=
  StableHlo.forall_fresh_of_map rfl
/-- The reference each operation of `while0Ops0_2` writes, in order. -/
abbrev while0Ops0_2_W : List (Ref sig .tc) := [main_while0b_cst_21, main_while0b_v24, main_while0b_cst_22, main_while0b_v25, main_while0b_v26, main_while0b_v27, main_while0b_v28, main_while0b_v29, main_while0b_v30, main_while0b_cst_23, main_while0b_v31, main_while0b_v32, main_while0b_v33, main_while0b_v34]
theorem while0Ops0_2_writes : (while0Ops0_2 : List (HloOp τ sig (Elt F))).Forall fun op => op.writes ⊆ (while0Ops0_2_W.map (Proc.devRef (τ := τ) .tc)).toFinset :=
  StableHlo.forall_writes_sub_of_map rfl
/-- No operation of `while0Ops0_3` allocates a buffer. -/
theorem while0Ops0_3_fresh : (while0Ops0_3 : List (HloOp τ sig (Elt F))).Forall fun op => op.fresh = ∅ :=
  StableHlo.forall_fresh_of_map rfl
/-- The reference each operation of `while0Ops0_3` writes, in order. -/
abbrev while0Ops0_3_W : List (Ref sig .tc) := [main_while0b_call1_v0, main_while0b_call1_cst, main_while0b_call1_c, main_while0b_call1_v1_0, main_while0b_v35]
theorem while0Ops0_3_writes : (while0Ops0_3 : List (HloOp τ sig (Elt F))).Forall fun op => op.writes ⊆ (while0Ops0_3_W.map (Proc.devRef (τ := τ) .tc)).toFinset :=
  StableHlo.forall_writes_sub_of_map rfl
/-- No operation of `while0Ops0_4` allocates a buffer. -/
theorem while0Ops0_4_fresh : (while0Ops0_4 : List (HloOp τ sig (Elt F))).Forall fun op => op.fresh = ∅ :=
  StableHlo.forall_fresh_of_map rfl
/-- The reference each operation of `while0Ops0_4` writes, in order. -/
abbrev while0Ops0_4_W : List (Ref sig .tc) := [main_while0b_v36]
theorem while0Ops0_4_writes : (while0Ops0_4 : List (HloOp τ sig (Elt F))).Forall fun op => op.writes ⊆ (while0Ops0_4_W.map (Proc.devRef (τ := τ) .tc)).toFinset :=
  StableHlo.forall_writes_sub_of_map rfl
/-- No operation of `while0Ops0_5` allocates a buffer. -/
theorem while0Ops0_5_fresh : (while0Ops0_5 : List (HloOp τ sig (Elt F))).Forall fun op => op.fresh = ∅ :=
  StableHlo.forall_fresh_of_map rfl
/-- The reference each operation of `while0Ops0_5` writes, in order. -/
abbrev while0Ops0_5_W : List (Ref sig .tc) := [main_while0b_call2_c, main_while0b_call2_v0, main_while0b_call2_v1, main_while0b_call2_c_0, main_while0b_call2_v2, main_while0b_call2_v3, main_while0b_call2_v4, main_while0b_call2_v5, main_while0b_call2_c_1, main_while0b_call2_c_2, main_while0b_call2_v6, main_while0b_call2_v7, main_while0b_call2_v8, main_while0b_call2_v9, main_while0b_call2_v10, main_while0b_call2_v11, main_while0b_call2_c_3, main_while0b_call2_v12, main_while0b_call2_v13, main_while0b_call2_cst, main_while0b_call2_v14, main_while0b_v37]
theorem while0Ops0_5_writes : (while0Ops0_5 : List (HloOp τ sig (Elt F))).Forall fun op => op.writes ⊆ (while0Ops0_5_W.map (Proc.devRef (τ := τ) .tc)).toFinset :=
  StableHlo.forall_writes_sub_of_map rfl
/-- No operation of `while0Ops0_6` allocates a buffer. -/
theorem while0Ops0_6_fresh : (while0Ops0_6 : List (HloOp τ sig (Elt F))).Forall fun op => op.fresh = ∅ :=
  StableHlo.forall_fresh_of_map rfl
/-- The reference each operation of `while0Ops0_6` writes, in order. -/
abbrev while0Ops0_6_W : List (Ref sig .tc) := [main_while0b_v38, main_while0b_cst_24, main_while0b_v39, main_while0b_v40, main_while0b_v41, main_while0b_cst_25, main_while0b_v42, main_while0b_v43, main_while0b_v44, main_while0b_v45, main_while0b_cst_26, main_while0b_v46, main_while0b_v47, main_while0b_c_27, main_while0b_v48, main_while0b_v49, main_while0b_c_28, main_while0b_v50, main_while0b_v51, main_while0b_v52, main_while0b_c_29, main_while0b_v53, main_while0b_v54, main_while0b_c_30, main_while0b_v55, main_while0b_v56, main_while0b_v57, main_while0b_v58, main_while0b_v59, main_while0b_v60, main_while0b_c_31, main_while0b_v61, main_while0b_v62, main_while0b_c_32, main_while0b_v63, main_while0b_v64, main_while0b_c_33, main_while0b_v65, main_while0b_v66, main_while0b_v67, main_while0b_c_34, main_while0b_v68, main_while0b_v69, main_while0b_c_35, main_while0b_v70, main_while0b_v71, main_while0b_v72, main_while0b_v73, main_while0b_v74, main_while0b_v75, main_while0b_v76, main_while0b_v77, main_while0b_v78, main_while0b_v79, main_while0b_v80, main_while0b_v81, main_while0b_v82, main_while0b_v83, main_while0b_v84, main_while0b_v85, main_while0b_v86, main_while0b_v87, main_while0b_v88, main_while0b_v89, main_while0b_v90, main_while0b_v91, main_while0b_v92, main_while0b_v93, main_while0b_v94, main_while0b_v95, main_while0b_cst_36, main_while0b_v96, main_while0b_v97, main_while0b_cst_37, main_while0b_v98, main_while0b_v99, main_while0b_v100, main_while0b_v101, main_while0b_v102, main_while0b_cst_38, main_while0b_v103, main_while0b_v104, main_while0b_cst_39, main_while0b_v105, main_while0b_v106, main_while0b_v107, main_while0b_v108, main_while0b_v109, main_while0b_cst_40, main_while0b_v110, main_while0b_v111, main_while0b_v112, main_while0b_v113, main_while0b_v114]
theorem while0Ops0_6_writes : (while0Ops0_6 : List (HloOp τ sig (Elt F))).Forall fun op => op.writes ⊆ (while0Ops0_6_W.map (Proc.devRef (τ := τ) .tc)).toFinset :=
  StableHlo.forall_writes_sub_of_map rfl
/-- No operation of `while0Ops0_7` allocates a buffer. -/
theorem while0Ops0_7_fresh : (while0Ops0_7 : List (HloOp τ sig (Elt F))).Forall fun op => op.fresh = ∅ :=
  StableHlo.forall_fresh_of_map rfl
/-- The reference each operation of `while0Ops0_7` writes, in order. -/
abbrev while0Ops0_7_W : List (Ref sig .tc) := [main_while0b_call3_v0, main_while0b_call3_c, main_while0b_v115]
theorem while0Ops0_7_writes : (while0Ops0_7 : List (HloOp τ sig (Elt F))).Forall fun op => op.writes ⊆ (while0Ops0_7_W.map (Proc.devRef (τ := τ) .tc)).toFinset :=
  StableHlo.forall_writes_sub_of_map rfl
/-- No operation of `while0Ops0_8` allocates a buffer. -/
theorem while0Ops0_8_fresh : (while0Ops0_8 : List (HloOp τ sig (Elt F))).Forall fun op => op.fresh = ∅ :=
  StableHlo.forall_fresh_of_map rfl
/-- The reference each operation of `while0Ops0_8` writes, in order. -/
abbrev while0Ops0_8_W : List (Ref sig .tc) := [main_while0b_call4_v0, main_while0b_call4_c, main_while0b_v116]
theorem while0Ops0_8_writes : (while0Ops0_8 : List (HloOp τ sig (Elt F))).Forall fun op => op.writes ⊆ (while0Ops0_8_W.map (Proc.devRef (τ := τ) .tc)).toFinset :=
  StableHlo.forall_writes_sub_of_map rfl
/-- No operation of `while0Ops0_9` allocates a buffer. -/
theorem while0Ops0_9_fresh : (while0Ops0_9 : List (HloOp τ sig (Elt F))).Forall fun op => op.fresh = ∅ :=
  StableHlo.forall_fresh_of_map rfl
/-- The reference each operation of `while0Ops0_9` writes, in order. -/
abbrev while0Ops0_9_W : List (Ref sig .tc) := [main_while0b_call5_v0, main_while0b_call5_c, main_while0b_v117]
theorem while0Ops0_9_writes : (while0Ops0_9 : List (HloOp τ sig (Elt F))).Forall fun op => op.writes ⊆ (while0Ops0_9_W.map (Proc.devRef (τ := τ) .tc)).toFinset :=
  StableHlo.forall_writes_sub_of_map rfl
/-- No operation of `while0Ops0_10` allocates a buffer. -/
theorem while0Ops0_10_fresh : (while0Ops0_10 : List (HloOp τ sig (Elt F))).Forall fun op => op.fresh = ∅ :=
  StableHlo.forall_fresh_of_map rfl
/-- The reference each operation of `while0Ops0_10` writes, in order. -/
abbrev while0Ops0_10_W : List (Ref sig .tc) := [main_while0b_c_41, main_while0b_v118, main_v14_7, main_v14_8, main_v14_9, main_v14_10, main_v14_11, main_v14_12]
theorem while0Ops0_10_writes : (while0Ops0_10 : List (HloOp τ sig (Elt F))).Forall fun op => op.writes ⊆ (while0Ops0_10_W.map (Proc.devRef (τ := τ) .tc)).toFinset :=
  StableHlo.forall_writes_sub_of_map rfl
/-- No operation of `hostOps0_1` allocates a buffer. -/
theorem hostOps0_1_fresh : (hostOps0_1 : List (HloOp τ sig (Elt F))).Forall fun op => op.fresh = ∅ :=
  StableHlo.forall_fresh_of_map rfl
/-- The reference each operation of `hostOps0_1` writes, in order. -/
abbrev hostOps0_1_W : List (Ref sig .tc) := [main_v15, main_cst_5, main_v16, main_cst_6, main_v17]
theorem hostOps0_1_writes : (hostOps0_1 : List (HloOp τ sig (Elt F))).Forall fun op => op.writes ⊆ (hostOps0_1_W.map (Proc.devRef (τ := τ) .tc)).toFinset :=
  StableHlo.forall_writes_sub_of_map rfl

/-- The condition region's two operations: the bound, and the trip counter compared with it. -/
abbrev condOps : List (HloOp τ sig (Elt F)) :=
  [ StableHlo.nullary main_while0c_c_19 (constantI S_ 32 256#32),
    StableHlo.binary main_v14_7 main_while0c_c_19 main_while0c_v18 (cmpi .slt) ]

/-- @main's stretches before the loop, the loop body's, and @main's after the loop. -/
abbrev preI : List (List (HloOp τ sig (Elt F))) := [hostOps0]
abbrev bodyI : List (List (HloOp τ sig (Elt F))) := [while0Ops0, while0Ops0_1, while0Ops0_2, while0Ops0_3, while0Ops0_4, while0Ops0_5, while0Ops0_6, while0Ops0_7, while0Ops0_8, while0Ops0_9, while0Ops0_10]
abbrev postI : List (List (HloOp τ sig (Elt F))) := [hostOps0_1]

theorem hpre : Plain (preI (F := F)) := .cons hostOps0_sub (hf := List.forall_iff_forall_mem.mp hostOps0_fresh) (.nil)
theorem hbodyI : Plain (bodyI (F := F)) := .cons while0Ops0_sub (hf := List.forall_iff_forall_mem.mp while0Ops0_fresh) (.cons while0Ops0_1_sub (hf := List.forall_iff_forall_mem.mp while0Ops0_1_fresh) (.cons while0Ops0_2_sub (hf := List.forall_iff_forall_mem.mp while0Ops0_2_fresh) (.cons while0Ops0_3_sub (hf := List.forall_iff_forall_mem.mp while0Ops0_3_fresh) (.cons while0Ops0_4_sub (hf := List.forall_iff_forall_mem.mp while0Ops0_4_fresh) (.cons while0Ops0_5_sub (hf := List.forall_iff_forall_mem.mp while0Ops0_5_fresh) (.cons while0Ops0_6_sub (hf := List.forall_iff_forall_mem.mp while0Ops0_6_fresh) (.cons while0Ops0_7_sub (hf := List.forall_iff_forall_mem.mp while0Ops0_7_fresh) (.cons while0Ops0_8_sub (hf := List.forall_iff_forall_mem.mp while0Ops0_8_fresh) (.cons while0Ops0_9_sub (hf := List.forall_iff_forall_mem.mp while0Ops0_9_fresh) (.cons while0Ops0_10_sub (hf := List.forall_iff_forall_mem.mp while0Ops0_10_fresh) (.nil)))))))))))
theorem hpost : Plain (postI (F := F)) := .cons hostOps0_1_sub (hf := List.forall_iff_forall_mem.mp hostOps0_1_fresh) (.nil)

/-- The reference each operation of `condOps` writes, in order. -/
abbrev condOps_W : List (Ref sig .tc) := [main_while0c_c_19, main_while0c_v18]
theorem condOps_writes : (condOps : List (HloOp τ sig (Elt F))).Forall fun op => op.writes ⊆ (condOps_W.map (Proc.devRef (τ := τ) .tc)).toFinset :=
  StableHlo.forall_writes_sub_of_map rfl

variable (m : (ℓ : Loc nD τ sig) → Buf (Elt F) ℓ) (ρ : Dev nD → PrngReg)

/-- Every buffer's contents before the `k`-th run of the condition, counted from 0. -/
abbrev atK (k : ℕ) (c : Dev nD) : Valuation τ sig (Elt F) := atTrip condOps bodyI (entryContents preI m) k c

/-- The trip counter (`main_v14_7`) is written by one stretch of the body, `while0Ops0_10`: not by the condition, nor by the
    body's other stretches. -/
theorem ctr_cond (V : Valuation τ sig (Elt F)) : after condOps V (Proc.devRef .tc main_v14_7) = V (Proc.devRef .tc main_v14_7) :=
  after_of_writes_sub condOps V condOps_writes (by decide +kernel)
theorem ctr_while0Ops0 (V : Valuation τ sig (Elt F)) : after while0Ops0 V (Proc.devRef .tc main_v14_7) = V (Proc.devRef .tc main_v14_7) :=
  after_of_writes_sub while0Ops0 V while0Ops0_writes (by decide +kernel)
theorem ctr_while0Ops0_1 (V : Valuation τ sig (Elt F)) : after while0Ops0_1 V (Proc.devRef .tc main_v14_7) = V (Proc.devRef .tc main_v14_7) :=
  after_of_writes_sub while0Ops0_1 V while0Ops0_1_writes (by decide +kernel)
theorem ctr_while0Ops0_2 (V : Valuation τ sig (Elt F)) : after while0Ops0_2 V (Proc.devRef .tc main_v14_7) = V (Proc.devRef .tc main_v14_7) :=
  after_of_writes_sub while0Ops0_2 V while0Ops0_2_writes (by decide +kernel)
theorem ctr_while0Ops0_3 (V : Valuation τ sig (Elt F)) : after while0Ops0_3 V (Proc.devRef .tc main_v14_7) = V (Proc.devRef .tc main_v14_7) :=
  after_of_writes_sub while0Ops0_3 V while0Ops0_3_writes (by decide +kernel)
theorem ctr_while0Ops0_4 (V : Valuation τ sig (Elt F)) : after while0Ops0_4 V (Proc.devRef .tc main_v14_7) = V (Proc.devRef .tc main_v14_7) :=
  after_of_writes_sub while0Ops0_4 V while0Ops0_4_writes (by decide +kernel)
theorem ctr_while0Ops0_5 (V : Valuation τ sig (Elt F)) : after while0Ops0_5 V (Proc.devRef .tc main_v14_7) = V (Proc.devRef .tc main_v14_7) :=
  after_of_writes_sub while0Ops0_5 V while0Ops0_5_writes (by decide +kernel)
theorem ctr_while0Ops0_6 (V : Valuation τ sig (Elt F)) : after while0Ops0_6 V (Proc.devRef .tc main_v14_7) = V (Proc.devRef .tc main_v14_7) :=
  after_of_writes_sub while0Ops0_6 V while0Ops0_6_writes (by decide +kernel)
theorem ctr_while0Ops0_7 (V : Valuation τ sig (Elt F)) : after while0Ops0_7 V (Proc.devRef .tc main_v14_7) = V (Proc.devRef .tc main_v14_7) :=
  after_of_writes_sub while0Ops0_7 V while0Ops0_7_writes (by decide +kernel)
theorem ctr_while0Ops0_8 (V : Valuation τ sig (Elt F)) : after while0Ops0_8 V (Proc.devRef .tc main_v14_7) = V (Proc.devRef .tc main_v14_7) :=
  after_of_writes_sub while0Ops0_8 V while0Ops0_8_writes (by decide +kernel)
theorem ctr_while0Ops0_9 (V : Valuation τ sig (Elt F)) : after while0Ops0_9 V (Proc.devRef .tc main_v14_7) = V (Proc.devRef .tc main_v14_7) :=
  after_of_writes_sub while0Ops0_9 V while0Ops0_9_writes (by decide +kernel)

set_option maxRecDepth 100000 in
/-- `while0Ops0_10` leaves the counter one step on. -/
theorem ctr_step (X : Valuation τ sig (Elt F)) :
    after while0Ops0_10 X (Proc.devRef .tc main_v14_7) = addi (X (Proc.devRef .tc main_v14_7)) (constantI S_ 32 1#32) := by
  after_results
  rfl

/-- The counter is the loop's lower bound at the loop's entry: its last writer before the loop read back. -/
theorem ctr_entry (c : Dev nD) : entryContents preI m c (Proc.devRef .tc main_v14_7) = fun _ => (0#32 : BitVec 32) := by
  simp only [entryContents, afterL_cons, afterL_nil]
  after_reads_simp
  rfl

/-- Before the `k`-th condition the counter is the loop's induction variable at `k`. -/
theorem atK_ctr (c : Dev nD) : ∀ k, atK m k c (Proc.devRef .tc main_v14_7) = fun _ => Scf.iv 0#32 1#32 k
  | 0 => by rw [show atK m 0 c = entryContents preI m c from rfl, ctr_entry, Scf.iv_zero]
  | k + 1 => by
    rw [show atK m (k + 1) c = afterL bodyI (after condOps (atK m k c)) from rfl]
    simp only [afterL_cons, afterL_nil]
    rw [ctr_step, ctr_while0Ops0_9, ctr_while0Ops0_8, ctr_while0Ops0_7, ctr_while0Ops0_6, ctr_while0Ops0_5, ctr_while0Ops0_4, ctr_while0Ops0_3, ctr_while0Ops0_2, ctr_while0Ops0_1, ctr_while0Ops0, ctr_cond, atK_ctr c k, Scf.iv_succ]
    rfl

-- `iapply` of a rule stated for any thread at the TensorCore thread unifies only when unification may unfold
-- plain definitions in a metavariable's type
set_option backward.isDefEq.respectTransparency.types false in
/-- The condition's specification at the fold. -/
theorem cond_spec : CondSpec (pcfgs (F := F)) defs₀ loops (main_while0_cond (F := F)) condOps bodyI (entryContents preI m) 256 := by
  intro k hk c bd
  have hctr := atK_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m k c) main_v14_7 HostLoop.idx0)
        (HloOp.result _ (atK m k c) main_while0c_c_19 HostLoop.idx0) = 1#1) (k < 256)
    rw [nullary_result_ne _ _ _ _ (by decide), nullary_result, hctr]
    exact Scf.cmpi_slt_iv_ub_iff (lb := 0#32) (ub := 256#32) (st := 1#32) (by decide) (show k ≤ Scf.trips 0#32 256#32 1#32 from hk)
  isplitl [Hb]; · iexact Hb
  rw [after_cons, after_cons, after_nil]; iexact Hh

set_option maxRecDepth 100000 in
/-- On every device, for any float values, from any memory with zero counters: every weakly fair execution of @main
    terminates with every unscoped TensorCore buffer at the fold. -/
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = finalContents condOps preI bodyI postI 256 m c (Proc.devRef .tc b)) :=
  run_loop (pcfgs (F := F)) defs₀ loops main 0 main_while0_cond main_while0_body rfl preI bodyI postI condOps hpre hbodyI hpost
    (fun c => by rw [main_chain]; rfl) (by rw [while0_body_chain]; rfl) 256 m ρ (cond_spec m)

/-! ## One trip's values -/

/-- The function of the body's operation that writes `main_while0b_v60`, named. It packs its operands into a list of dependent pairs
    whose shapes a later argument's type mentions, so `simp` cannot rewrite an operand where it stands; applied by
    name, the operands are plain arguments, which the window lemmas below rewrite before the name unfolds. -/
def fn_main_while0b_v60 : (⟨S128x1, .i32⟩ : BufTy).Contents (Elt F) → (⟨S128x1, .i32⟩ : BufTy).Contents (Elt F) → (⟨S128x2, .i32⟩ : BufTy).Contents (Elt F) :=
  (fun a b => concatenate S128x2 1 [⟨S128x1, a⟩, ⟨S128x1, b⟩] concatenates_S128x1_S128x1_S128x2_d1)

/-- The function of the body's operation that writes `main_while0b_v75`, named. It packs its operands into a list of dependent pairs
    whose shapes a later argument's type mentions, so `simp` cannot rewrite an operand where it stands; applied by
    name, the operands are plain arguments, which the window lemmas below rewrite before the name unfolds. -/
def fn_main_while0b_v75 : (⟨S128x1, .i32⟩ : BufTy).Contents (Elt F) → (⟨S128x1, .i32⟩ : BufTy).Contents (Elt F) → (⟨S128x2, .i32⟩ : BufTy).Contents (Elt F) :=
  (fun a b => concatenate S128x2 1 [⟨S128x1, a⟩, ⟨S128x1, b⟩] concatenates_S128x1_S128x1_S128x2_d1)

/-- The body's operations 1 … 7 of 163. -/
abbrev trip_w0 : List (HloOp τ sig (Elt F)) :=
  [ StableHlo.unary main_v14_0 main_while0b_v18 ((transpose S128x128 [1, 0] · transposes_S128x128_S128x128_1_0) : (⟨S128x128, .f32⟩ : BufTy).Contents (Elt F) → (⟨S128x128, .f32⟩ : BufTy).Contents (Elt F)),
    StableHlo.binary main_v14_8 main_while0b_v18 main_while0b_v19 ((fun l r => Host.dotGeneral dot_S128x128_S128x128_S128x128_1_0_0_1_n_n none l r) : (⟨S128x128, .f32⟩ : BufTy).Contents (Elt F) → (⟨S128x128, .f32⟩ : BufTy).Contents (Elt F) → (⟨S128x128, .f32⟩ : BufTy).Contents (Elt F)),
    StableHlo.binary main_while0b_v19 main_v14_1 main_while0b_v20 ((fun l r => Host.dotGeneral dot_S128x128_S128x256x128_S128x256_1_2_n_1_0_0 none l r) : (⟨S128x128, .f32⟩ : BufTy).Contents (Elt F) → (⟨S128x256x128, .f32⟩ : BufTy).Contents (Elt F) → (⟨S128x256, .f32⟩ : BufTy).Contents (Elt F)),
    StableHlo.nullary main_while0b_cst_19 (constant S_ .f32 0x413504F3#32),
    StableHlo.unary main_while0b_cst_19 main_while0b_v21 (broadcastInDim S128x256 ![] bcast_S_S128x256 : (⟨S_, .f32⟩ : BufTy).Contents (Elt F) → (⟨S128x256, .f32⟩ : BufTy).Contents (Elt F)),
    StableHlo.binary main_while0b_v20 main_while0b_v21 main_while0b_v22 (Host.divf : (⟨S128x256, .f32⟩ : BufTy).Contents (Elt F) → (⟨S128x256, .f32⟩ : BufTy).Contents (Elt F) → (⟨S128x256, .f32⟩ : BufTy).Contents (Elt F)),
    StableHlo.nullary main_while0b_cst_20 (constant S_ .f32 0xFF800000#32) ]

/-- The body's operations 8 … 10 of 163. -/
abbrev trip_w1 : List (HloOp τ sig (Elt F)) :=
  [ StableHlo.TRef.unary (.of main_while0b_cst_20 : StableHlo.TRef sig ⟨S_, .f32⟩) (.of main_while0b_call0_v0 : StableHlo.TRef sig ⟨S_, .f32⟩) id,
    StableHlo.TRef.unary (.of main_while0b_call0_v0 : StableHlo.TRef sig ⟨S_, .f32⟩) (.of main_while0b_call0_v1 : StableHlo.TRef sig ⟨S128x256, .f32⟩) (broadcastInDim S128x256 ![] bcast_S_S128x256),
    StableHlo.TRef.ternary (.of main_v14_9 : StableHlo.TRef sig ⟨S128x256, .i1⟩) (.of main_while0b_call0_v1 : StableHlo.TRef sig ⟨S128x256, .f32⟩) (.of main_while0b_v22 : StableHlo.TRef sig ⟨S128x256, .f32⟩) (.of main_while0b_v23 : StableHlo.TRef sig ⟨S128x256, .f32⟩) select ]

/-- The body's operations 11 … 24 of 163. -/
abbrev trip_w2 : List (HloOp τ sig (Elt F)) :=
  [ StableHlo.nullary main_while0b_cst_21 (constant S_ .f32 0xFF800000#32),
    StableHlo.binary main_while0b_v23 main_while0b_cst_21 main_while0b_v24 ((fun x v => Host.reduce FloatOps.maximumf x v reducesTo_S128x256_S128_d1 h_S_) : (⟨S128x256, .f32⟩ : BufTy).Contents (Elt F) → (⟨S_, .f32⟩ : BufTy).Contents (Elt F) → (⟨S128, .f32⟩ : BufTy).Contents (Elt F)),
    StableHlo.nullary main_while0b_cst_22 (constant S_ .f32 0xFF800000#32),
    StableHlo.unary main_while0b_cst_22 main_while0b_v25 (broadcastInDim S128 ![] bcast_S_S128 : (⟨S_, .f32⟩ : BufTy).Contents (Elt F) → (⟨S128, .f32⟩ : BufTy).Contents (Elt F)),
    StableHlo.binary main_while0b_v25 main_while0b_v24 main_while0b_v26 (maximumf : (⟨S128, .f32⟩ : BufTy).Contents (Elt F) → (⟨S128, .f32⟩ : BufTy).Contents (Elt F) → (⟨S128, .f32⟩ : BufTy).Contents (Elt F)),
    StableHlo.unary main_while0b_v26 main_while0b_v27 (broadcastInDim S128x1 ![0] bcast_S128_S128x1_0 : (⟨S128, .f32⟩ : BufTy).Contents (Elt F) → (⟨S128x1, .f32⟩ : BufTy).Contents (Elt F)),
    StableHlo.unary main_while0b_v27 main_while0b_v28 (broadcastInDim S128x256 ![0, 1] bcast_S128x1_S128x256_0_1 : (⟨S128x1, .f32⟩ : BufTy).Contents (Elt F) → (⟨S128x256, .f32⟩ : BufTy).Contents (Elt F)),
    StableHlo.binary main_while0b_v23 main_while0b_v28 main_while0b_v29 (subf : (⟨S128x256, .f32⟩ : BufTy).Contents (Elt F) → (⟨S128x256, .f32⟩ : BufTy).Contents (Elt F) → (⟨S128x256, .f32⟩ : BufTy).Contents (Elt F)),
    StableHlo.unary main_while0b_v29 main_while0b_v30 (Host.exp : (⟨S128x256, .f32⟩ : BufTy).Contents (Elt F) → (⟨S128x256, .f32⟩ : BufTy).Contents (Elt F)),
    StableHlo.nullary main_while0b_cst_23 (constant S_ .f32 0x00000000#32),
    StableHlo.binary main_while0b_v30 main_while0b_cst_23 main_while0b_v31 ((fun x v => Host.reduceAdd x v reducesTo_S128x256_S128_d1 h_S_) : (⟨S128x256, .f32⟩ : BufTy).Contents (Elt F) → (⟨S_, .f32⟩ : BufTy).Contents (Elt F) → (⟨S128, .f32⟩ : BufTy).Contents (Elt F)),
    StableHlo.unary main_while0b_v31 main_while0b_v32 (broadcastInDim S128x1 ![0] bcast_S128_S128x1_0 : (⟨S128, .f32⟩ : BufTy).Contents (Elt F) → (⟨S128x1, .f32⟩ : BufTy).Contents (Elt F)),
    StableHlo.unary main_while0b_v32 main_while0b_v33 (broadcastInDim S128x256 ![0, 1] bcast_S128x1_S128x256_0_1 : (⟨S128x1, .f32⟩ : BufTy).Contents (Elt F) → (⟨S128x256, .f32⟩ : BufTy).Contents (Elt F)),
    StableHlo.binary main_while0b_v30 main_while0b_v33 main_while0b_v34 (Host.divf : (⟨S128x256, .f32⟩ : BufTy).Contents (Elt F) → (⟨S128x256, .f32⟩ : BufTy).Contents (Elt F) → (⟨S128x256, .f32⟩ : BufTy).Contents (Elt F)) ]

/-- The body's operations 25 … 29 of 163. -/
abbrev trip_w3 : List (HloOp τ sig (Elt F)) :=
  [ StableHlo.TRef.nullary (.of main_while0b_call1_v0 : StableHlo.TRef sig ⟨S128x256, .i32⟩) (iotaInDim S128x256 32 1),
    StableHlo.TRef.nullary (.of main_while0b_call1_cst : StableHlo.TRef sig ⟨S_, .f32⟩) (constant S_ .f32 0xFF800000#32),
    StableHlo.TRef.nullary (.of main_while0b_call1_c : StableHlo.TRef sig ⟨S_, .i32⟩) (constantI S_ 32 0#32),
    StableHlo.TRef.quaternary (.of main_while0b_v34 : StableHlo.TRef sig ⟨S128x256, .f32⟩) (.of main_while0b_call1_v0 : StableHlo.TRef sig ⟨S128x256, .i32⟩) (.of main_while0b_call1_cst : StableHlo.TRef sig ⟨S_, .f32⟩) (.of main_while0b_call1_c : StableHlo.TRef sig ⟨S_, .i32⟩) (.of main_while0b_call1_v1_0 : StableHlo.TRef sig ⟨S128, .f32⟩) (fun x y u v j => (Host.argReduce reducer_argmax_f32_i32 x y u v reducesTo_S128x256_S128_d1 h_S_ j).1),
    StableHlo.TRef.quaternary (.of main_while0b_v34 : StableHlo.TRef sig ⟨S128x256, .f32⟩) (.of main_while0b_call1_v0 : StableHlo.TRef sig ⟨S128x256, .i32⟩) (.of main_while0b_call1_cst : StableHlo.TRef sig ⟨S_, .f32⟩) (.of main_while0b_call1_c : StableHlo.TRef sig ⟨S_, .i32⟩) (.of main_while0b_v35 : StableHlo.TRef sig ⟨S128, .i32⟩) (fun x y u v j => (Host.argReduce reducer_argmax_f32_i32 x y u v reducesTo_S128x256_S128_d1 h_S_ j).2) ]

/-- The body's operations 30 … 30 of 163. -/
abbrev trip_w4 : List (HloOp τ sig (Elt F)) :=
  [ StableHlo.unary main_while0b_v35 main_while0b_v36 (broadcastInDim S128x1 ![0] bcast_S128_S128x1_0 : (⟨S128, .i32⟩ : BufTy).Contents (Elt F) → (⟨S128x1, .i32⟩ : BufTy).Contents (Elt F)) ]

/-- The body's operations 31 … 52 of 163. -/
abbrev trip_w5 : List (HloOp τ sig (Elt F)) :=
  [ StableHlo.TRef.nullary (.of main_while0b_call2_c : StableHlo.TRef sig ⟨S_, .i32⟩) (constantI S_ 32 0#32),
    StableHlo.TRef.unary (.of main_while0b_call2_c : StableHlo.TRef sig ⟨S_, .i32⟩) (.of main_while0b_call2_v0 : StableHlo.TRef sig ⟨S128x1, .i32⟩) (broadcastInDim S128x1 ![] bcast_S_S128x1),
    StableHlo.TRef.binary (.of main_while0b_v36 : StableHlo.TRef sig ⟨S128x1, .i32⟩) (.of main_while0b_call2_v0 : StableHlo.TRef sig ⟨S128x1, .i32⟩) (.of main_while0b_call2_v1 : StableHlo.TRef sig ⟨S128x1, .i1⟩) (cmpi .slt),
    StableHlo.TRef.nullary (.of main_while0b_call2_c_0 : StableHlo.TRef sig ⟨S_, .i32⟩) (constantI S_ 32 256#32),
    StableHlo.TRef.unary (.of main_while0b_call2_c_0 : StableHlo.TRef sig ⟨S_, .i32⟩) (.of main_while0b_call2_v2 : StableHlo.TRef sig ⟨S128x1, .i32⟩) (broadcastInDim S128x1 ![] bcast_S_S128x1),
    StableHlo.TRef.binary (.of main_while0b_v36 : StableHlo.TRef sig ⟨S128x1, .i32⟩) (.of main_while0b_call2_v2 : StableHlo.TRef sig ⟨S128x1, .i32⟩) (.of main_while0b_call2_v3 : StableHlo.TRef sig ⟨S128x1, .i32⟩) addi,
    StableHlo.TRef.ternary (.of main_while0b_call2_v1 : StableHlo.TRef sig ⟨S128x1, .i1⟩) (.of main_while0b_call2_v3 : StableHlo.TRef sig ⟨S128x1, .i32⟩) (.of main_while0b_v36 : StableHlo.TRef sig ⟨S128x1, .i32⟩) (.of main_while0b_call2_v4 : StableHlo.TRef sig ⟨S128x1, .i32⟩) select,
    StableHlo.TRef.reshape (.of main_while0b_call2_v4 : StableHlo.TRef sig ⟨S128x1, .i32⟩) (.of main_while0b_call2_v5 : StableHlo.TRef sig ⟨S128x1x1, .i32⟩) (rfl : (.i32 : EltTy) = .i32) shapeCasts_S128x1_S128x1x1,
    StableHlo.TRef.nullary (.of main_while0b_call2_c_1 : StableHlo.TRef sig ⟨S1, .i32⟩) (constantI S1 32 255#32),
    StableHlo.TRef.nullary (.of main_while0b_call2_c_2 : StableHlo.TRef sig ⟨S_, .i32⟩) (constantI S_ 32 0#32),
    StableHlo.TRef.unary (.of main_while0b_call2_c_2 : StableHlo.TRef sig ⟨S_, .i32⟩) (.of main_while0b_call2_v6 : StableHlo.TRef sig ⟨S128x1x1, .i32⟩) (broadcastInDim S128x1x1 ![] bcast_S_S128x1x1),
    StableHlo.TRef.binary (.of main_while0b_call2_v5 : StableHlo.TRef sig ⟨S128x1x1, .i32⟩) (.of main_while0b_call2_v6 : StableHlo.TRef sig ⟨S128x1x1, .i32⟩) (.of main_while0b_call2_v7 : StableHlo.TRef sig ⟨S128x1x1, .i1⟩) (cmpi .sge),
    StableHlo.TRef.unary (.of main_while0b_call2_c_1 : StableHlo.TRef sig ⟨S1, .i32⟩) (.of main_while0b_call2_v8 : StableHlo.TRef sig ⟨S1x1x1, .i32⟩) (broadcastInDim S1x1x1 ![2] bcast_S1_S1x1x1_2),
    StableHlo.TRef.unary (.of main_while0b_call2_v8 : StableHlo.TRef sig ⟨S1x1x1, .i32⟩) (.of main_while0b_call2_v9 : StableHlo.TRef sig ⟨S128x1x1, .i32⟩) (broadcastInDim S128x1x1 ![0, 1, 2] bcast_S1x1x1_S128x1x1_0_1_2),
    StableHlo.TRef.binary (.of main_while0b_call2_v5 : StableHlo.TRef sig ⟨S128x1x1, .i32⟩) (.of main_while0b_call2_v9 : StableHlo.TRef sig ⟨S128x1x1, .i32⟩) (.of main_while0b_call2_v10 : StableHlo.TRef sig ⟨S128x1x1, .i1⟩) (cmpi .sle),
    StableHlo.TRef.binary (.of main_while0b_call2_v7 : StableHlo.TRef sig ⟨S128x1x1, .i1⟩) (.of main_while0b_call2_v10 : StableHlo.TRef sig ⟨S128x1x1, .i1⟩) (.of main_while0b_call2_v11 : StableHlo.TRef sig ⟨S128x1x1, .i1⟩) andi,
    StableHlo.TRef.nullary (.of main_while0b_call2_c_3 : StableHlo.TRef sig ⟨S_, .i1⟩) (constantI S_ 1 1#1),
    StableHlo.TRef.binary (.of main_while0b_call2_v11 : StableHlo.TRef sig ⟨S128x1x1, .i1⟩) (.of main_while0b_call2_c_3 : StableHlo.TRef sig ⟨S_, .i1⟩) (.of main_while0b_call2_v12 : StableHlo.TRef sig ⟨S128x1, .i1⟩) (fun x v => Host.reduce IntOp.andi x v reducesTo_S128x1x1_S128x1_d2 h_S_),
    StableHlo.TRef.binary (.of main_while0b_v34 : StableHlo.TRef sig ⟨S128x256, .f32⟩) (.of main_while0b_call2_v5 : StableHlo.TRef sig ⟨S128x1x1, .i32⟩) (.of main_while0b_call2_v13 : StableHlo.TRef sig ⟨S128x1, .f32⟩) (fun x i => Host.gather gather_S128x256_S128x1x1_S128x1_n_1_0_0_1_2_11 x i),
    StableHlo.TRef.nullary (.of main_while0b_call2_cst : StableHlo.TRef sig ⟨S_, .f32⟩) (constant S_ .f32 0x7FC00000#32),
    StableHlo.TRef.unary (.of main_while0b_call2_cst : StableHlo.TRef sig ⟨S_, .f32⟩) (.of main_while0b_call2_v14 : StableHlo.TRef sig ⟨S128x1, .f32⟩) (broadcastInDim S128x1 ![] bcast_S_S128x1),
    StableHlo.TRef.ternary (.of main_while0b_call2_v12 : StableHlo.TRef sig ⟨S128x1, .i1⟩) (.of main_while0b_call2_v13 : StableHlo.TRef sig ⟨S128x1, .f32⟩) (.of main_while0b_call2_v14 : StableHlo.TRef sig ⟨S128x1, .f32⟩) (.of main_while0b_v37 : StableHlo.TRef sig ⟨S128x1, .f32⟩) select ]

/-- The body's operations 53 … 76 of 163. -/
abbrev trip_w6 : List (HloOp τ sig (Elt F)) :=
  [ StableHlo.reshape main_while0b_v37 main_while0b_v38 (rfl : (.f32 : EltTy) = .f32) shapeCasts_S128x1_S128,
    StableHlo.nullary main_while0b_cst_24 (constant S_ .f32 0x2B8CBCCC#32),
    StableHlo.unary main_while0b_cst_24 main_while0b_v39 (broadcastInDim S128 ![] bcast_S_S128 : (⟨S_, .f32⟩ : BufTy).Contents (Elt F) → (⟨S128, .f32⟩ : BufTy).Contents (Elt F)),
    StableHlo.binary main_while0b_v38 main_while0b_v39 main_while0b_v40 (addf : (⟨S128, .f32⟩ : BufTy).Contents (Elt F) → (⟨S128, .f32⟩ : BufTy).Contents (Elt F) → (⟨S128, .f32⟩ : BufTy).Contents (Elt F)),
    StableHlo.unary main_while0b_v40 main_while0b_v41 (Host.log : (⟨S128, .f32⟩ : BufTy).Contents (Elt F) → (⟨S128, .f32⟩ : BufTy).Contents (Elt F)),
    StableHlo.nullary main_while0b_cst_25 (constant S_ .f32 0x2B8CBCCC#32),
    StableHlo.unary main_while0b_cst_25 main_while0b_v42 (broadcastInDim S128x256 ![] bcast_S_S128x256 : (⟨S_, .f32⟩ : BufTy).Contents (Elt F) → (⟨S128x256, .f32⟩ : BufTy).Contents (Elt F)),
    StableHlo.binary main_while0b_v34 main_while0b_v42 main_while0b_v43 (addf : (⟨S128x256, .f32⟩ : BufTy).Contents (Elt F) → (⟨S128x256, .f32⟩ : BufTy).Contents (Elt F) → (⟨S128x256, .f32⟩ : BufTy).Contents (Elt F)),
    StableHlo.unary main_while0b_v43 main_while0b_v44 (Host.log : (⟨S128x256, .f32⟩ : BufTy).Contents (Elt F) → (⟨S128x256, .f32⟩ : BufTy).Contents (Elt F)),
    StableHlo.binary main_while0b_v34 main_while0b_v44 main_while0b_v45 (mulf : (⟨S128x256, .f32⟩ : BufTy).Contents (Elt F) → (⟨S128x256, .f32⟩ : BufTy).Contents (Elt F) → (⟨S128x256, .f32⟩ : BufTy).Contents (Elt F)),
    StableHlo.nullary main_while0b_cst_26 (constant S_ .f32 0x00000000#32),
    StableHlo.binary main_while0b_v45 main_while0b_cst_26 main_while0b_v46 ((fun x v => Host.reduceAdd x v reducesTo_S128x256_S128_d1 h_S_) : (⟨S128x256, .f32⟩ : BufTy).Contents (Elt F) → (⟨S_, .f32⟩ : BufTy).Contents (Elt F) → (⟨S128, .f32⟩ : BufTy).Contents (Elt F)),
    StableHlo.unary main_while0b_v46 main_while0b_v47 (Host.negf : (⟨S128, .f32⟩ : BufTy).Contents (Elt F) → (⟨S128, .f32⟩ : BufTy).Contents (Elt F)),
    StableHlo.nullary main_while0b_c_27 (constantI S_ 32 0#32),
    StableHlo.unary main_while0b_c_27 main_while0b_v48 (broadcastInDim S128 ![] bcast_S_S128 : (⟨S_, .i32⟩ : BufTy).Contents (Elt F) → (⟨S128, .i32⟩ : BufTy).Contents (Elt F)),
    StableHlo.binary main_v14_2 main_while0b_v48 main_while0b_v49 (cmpi .slt : (⟨S128, .i32⟩ : BufTy).Contents (Elt F) → (⟨S128, .i32⟩ : BufTy).Contents (Elt F) → (⟨S128, .i1⟩ : BufTy).Contents (Elt F)),
    StableHlo.nullary main_while0b_c_28 (constantI S_ 32 128#32),
    StableHlo.unary main_while0b_c_28 main_while0b_v50 (broadcastInDim S128 ![] bcast_S_S128 : (⟨S_, .i32⟩ : BufTy).Contents (Elt F) → (⟨S128, .i32⟩ : BufTy).Contents (Elt F)),
    StableHlo.binary main_v14_2 main_while0b_v50 main_while0b_v51 (addi : (⟨S128, .i32⟩ : BufTy).Contents (Elt F) → (⟨S128, .i32⟩ : BufTy).Contents (Elt F) → (⟨S128, .i32⟩ : BufTy).Contents (Elt F)),
    StableHlo.ternary main_while0b_v49 main_while0b_v51 main_v14_2 main_while0b_v52 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    StableHlo.nullary main_while0b_c_29 (constantI S_ 32 0#32),
    StableHlo.unary main_while0b_c_29 main_while0b_v53 (broadcastInDim S128 ![] bcast_S_S128 : (⟨S_, .i32⟩ : BufTy).Contents (Elt F) → (⟨S128, .i32⟩ : BufTy).Contents (Elt F)),
    StableHlo.binary main_while0b_v35 main_while0b_v53 main_while0b_v54 (cmpi .slt : (⟨S128, .i32⟩ : BufTy).Contents (Elt F) → (⟨S128, .i32⟩ : BufTy).Contents (Elt F) → (⟨S128, .i1⟩ : BufTy).Contents (Elt F)),
    StableHlo.nullary main_while0b_c_30 (constantI S_ 32 256#32) ]

/-- The body's operations 77 … 100 of 163. -/
abbrev trip_w7 : List (HloOp τ sig (Elt F)) :=
  [ StableHlo.unary main_while0b_c_30 main_while0b_v55 (broadcastInDim S128 ![] bcast_S_S128 : (⟨S_, .i32⟩ : BufTy).Contents (Elt F) → (⟨S128, .i32⟩ : BufTy).Contents (Elt F)),
    StableHlo.binary main_while0b_v35 main_while0b_v55 main_while0b_v56 (addi : (⟨S128, .i32⟩ : BufTy).Contents (Elt F) → (⟨S128, .i32⟩ : BufTy).Contents (Elt F) → (⟨S128, .i32⟩ : BufTy).Contents (Elt F)),
    StableHlo.ternary main_while0b_v54 main_while0b_v56 main_while0b_v35 main_while0b_v57 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    StableHlo.unary main_while0b_v52 main_while0b_v58 (broadcastInDim S128x1 ![0] bcast_S128_S128x1_0 : (⟨S128, .i32⟩ : BufTy).Contents (Elt F) → (⟨S128x1, .i32⟩ : BufTy).Contents (Elt F)),
    StableHlo.unary main_while0b_v57 main_while0b_v59 (broadcastInDim S128x1 ![0] bcast_S128_S128x1_0 : (⟨S128, .i32⟩ : BufTy).Contents (Elt F) → (⟨S128x1, .i32⟩ : BufTy).Contents (Elt F)),
    StableHlo.binary main_while0b_v58 main_while0b_v59 main_while0b_v60 (fn_main_while0b_v60 (F := F)),
    StableHlo.nullary main_while0b_c_31 (constantI S_ 1 1#1),
    StableHlo.unary main_while0b_c_31 main_while0b_v61 (broadcastInDim S128 ![] bcast_S_S128 : (⟨S_, .i1⟩ : BufTy).Contents (Elt F) → (⟨S128, .i1⟩ : BufTy).Contents (Elt F)),
    StableHlo.ternary main_v14_9 main_while0b_v60 main_while0b_v61 main_while0b_v62 ((fun x i u => Host.scatter scatter_S128x256_S128x2_S128_n_01_01_1 (fun _ b => b) x i u) : (⟨S128x256, .i1⟩ : BufTy).Contents (Elt F) → (⟨S128x2, .i32⟩ : BufTy).Contents (Elt F) → (⟨S128, .i1⟩ : BufTy).Contents (Elt F) → (⟨S128x256, .i1⟩ : BufTy).Contents (Elt F)),
    StableHlo.nullary main_while0b_c_32 (constantI S_ 32 0#32),
    StableHlo.unary main_while0b_c_32 main_while0b_v63 (broadcastInDim S128 ![] bcast_S_S128 : (⟨S_, .i32⟩ : BufTy).Contents (Elt F) → (⟨S128, .i32⟩ : BufTy).Contents (Elt F)),
    StableHlo.binary main_v14_2 main_while0b_v63 main_while0b_v64 (cmpi .slt : (⟨S128, .i32⟩ : BufTy).Contents (Elt F) → (⟨S128, .i32⟩ : BufTy).Contents (Elt F) → (⟨S128, .i1⟩ : BufTy).Contents (Elt F)),
    StableHlo.nullary main_while0b_c_33 (constantI S_ 32 128#32),
    StableHlo.unary main_while0b_c_33 main_while0b_v65 (broadcastInDim S128 ![] bcast_S_S128 : (⟨S_, .i32⟩ : BufTy).Contents (Elt F) → (⟨S128, .i32⟩ : BufTy).Contents (Elt F)),
    StableHlo.binary main_v14_2 main_while0b_v65 main_while0b_v66 (addi : (⟨S128, .i32⟩ : BufTy).Contents (Elt F) → (⟨S128, .i32⟩ : BufTy).Contents (Elt F) → (⟨S128, .i32⟩ : BufTy).Contents (Elt F)),
    StableHlo.ternary main_while0b_v64 main_while0b_v66 main_v14_2 main_while0b_v67 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    StableHlo.nullary main_while0b_c_34 (constantI S_ 32 0#32),
    StableHlo.unary main_while0b_c_34 main_while0b_v68 (broadcastInDim S128 ![] bcast_S_S128 : (⟨S_, .i32⟩ : BufTy).Contents (Elt F) → (⟨S128, .i32⟩ : BufTy).Contents (Elt F)),
    StableHlo.binary main_while0b_v35 main_while0b_v68 main_while0b_v69 (cmpi .slt : (⟨S128, .i32⟩ : BufTy).Contents (Elt F) → (⟨S128, .i32⟩ : BufTy).Contents (Elt F) → (⟨S128, .i1⟩ : BufTy).Contents (Elt F)),
    StableHlo.nullary main_while0b_c_35 (constantI S_ 32 256#32),
    StableHlo.unary main_while0b_c_35 main_while0b_v70 (broadcastInDim S128 ![] bcast_S_S128 : (⟨S_, .i32⟩ : BufTy).Contents (Elt F) → (⟨S128, .i32⟩ : BufTy).Contents (Elt F)),
    StableHlo.binary main_while0b_v35 main_while0b_v70 main_while0b_v71 (addi : (⟨S128, .i32⟩ : BufTy).Contents (Elt F) → (⟨S128, .i32⟩ : BufTy).Contents (Elt F) → (⟨S128, .i32⟩ : BufTy).Contents (Elt F)),
    StableHlo.ternary main_while0b_v69 main_while0b_v71 main_while0b_v35 main_while0b_v72 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    StableHlo.unary main_while0b_v67 main_while0b_v73 (broadcastInDim S128x1 ![0] bcast_S128_S128x1_0 : (⟨S128, .i32⟩ : BufTy).Contents (Elt F) → (⟨S128x1, .i32⟩ : BufTy).Contents (Elt F)) ]

/-- The body's operations 101 … 124 of 163. -/
abbrev trip_w8 : List (HloOp τ sig (Elt F)) :=
  [ StableHlo.unary main_while0b_v72 main_while0b_v74 (broadcastInDim S128x1 ![0] bcast_S128_S128x1_0 : (⟨S128, .i32⟩ : BufTy).Contents (Elt F) → (⟨S128x1, .i32⟩ : BufTy).Contents (Elt F)),
    StableHlo.binary main_while0b_v73 main_while0b_v74 main_while0b_v75 (fn_main_while0b_v75 (F := F)),
    StableHlo.binary main_v14_1 main_while0b_v75 main_while0b_v76 ((fun x i => Host.gather gather_S128x256x128_S128x2_S128x128_1_01_n_n_01_1_11128 x i) : (⟨S128x256x128, .f32⟩ : BufTy).Contents (Elt F) → (⟨S128x2, .i32⟩ : BufTy).Contents (Elt F) → (⟨S128x128, .f32⟩ : BufTy).Contents (Elt F)),
    StableHlo.unary main_v14_3 main_while0b_v77 ((transpose S128x384 [1, 0] · transposes_S384x128_S128x384_1_0) : (⟨S384x128, .f32⟩ : BufTy).Contents (Elt F) → (⟨S128x384, .f32⟩ : BufTy).Contents (Elt F)),
    StableHlo.binary main_while0b_v76 main_while0b_v77 main_while0b_v78 ((fun l r => Host.dotGeneral dot_S128x128_S128x384_S128x384_1_0_0_1_n_n none l r) : (⟨S128x128, .f32⟩ : BufTy).Contents (Elt F) → (⟨S128x384, .f32⟩ : BufTy).Contents (Elt F) → (⟨S128x384, .f32⟩ : BufTy).Contents (Elt F)),
    StableHlo.unary main_v14_4 main_while0b_v79 (broadcastInDim S1x384 ![1] bcast_S384_S1x384_1 : (⟨S384, .f32⟩ : BufTy).Contents (Elt F) → (⟨S1x384, .f32⟩ : BufTy).Contents (Elt F)),
    StableHlo.unary main_while0b_v79 main_while0b_v80 (broadcastInDim S128x384 ![0, 1] bcast_S1x384_S128x384_0_1 : (⟨S1x384, .f32⟩ : BufTy).Contents (Elt F) → (⟨S128x384, .f32⟩ : BufTy).Contents (Elt F)),
    StableHlo.binary main_while0b_v78 main_while0b_v80 main_while0b_v81 (addf : (⟨S128x384, .f32⟩ : BufTy).Contents (Elt F) → (⟨S128x384, .f32⟩ : BufTy).Contents (Elt F) → (⟨S128x384, .f32⟩ : BufTy).Contents (Elt F)),
    StableHlo.unary main_v14_5 main_while0b_v82 ((transpose S128x384 [1, 0] · transposes_S384x128_S128x384_1_0) : (⟨S384x128, .f32⟩ : BufTy).Contents (Elt F) → (⟨S128x384, .f32⟩ : BufTy).Contents (Elt F)),
    StableHlo.binary main_v14_8 main_while0b_v82 main_while0b_v83 ((fun l r => Host.dotGeneral dot_S128x128_S128x384_S128x384_1_0_0_1_n_n none l r) : (⟨S128x128, .f32⟩ : BufTy).Contents (Elt F) → (⟨S128x384, .f32⟩ : BufTy).Contents (Elt F) → (⟨S128x384, .f32⟩ : BufTy).Contents (Elt F)),
    StableHlo.unary main_v14_6 main_while0b_v84 (broadcastInDim S1x384 ![1] bcast_S384_S1x384_1 : (⟨S384, .f32⟩ : BufTy).Contents (Elt F) → (⟨S1x384, .f32⟩ : BufTy).Contents (Elt F)),
    StableHlo.unary main_while0b_v84 main_while0b_v85 (broadcastInDim S128x384 ![0, 1] bcast_S1x384_S128x384_0_1 : (⟨S1x384, .f32⟩ : BufTy).Contents (Elt F) → (⟨S128x384, .f32⟩ : BufTy).Contents (Elt F)),
    StableHlo.binary main_while0b_v83 main_while0b_v85 main_while0b_v86 (addf : (⟨S128x384, .f32⟩ : BufTy).Contents (Elt F) → (⟨S128x384, .f32⟩ : BufTy).Contents (Elt F) → (⟨S128x384, .f32⟩ : BufTy).Contents (Elt F)),
    StableHlo.unary main_while0b_v81 main_while0b_v87 ((extractStridedSlice S128x128 ![0, 0] · slices_S128x384_S128x128_0_0) : (⟨S128x384, .f32⟩ : BufTy).Contents (Elt F) → (⟨S128x128, .f32⟩ : BufTy).Contents (Elt F)),
    StableHlo.unary main_while0b_v81 main_while0b_v88 ((extractStridedSlice S128x128 ![0, 128] · slices_S128x384_S128x128_0_128) : (⟨S128x384, .f32⟩ : BufTy).Contents (Elt F) → (⟨S128x128, .f32⟩ : BufTy).Contents (Elt F)),
    StableHlo.unary main_while0b_v81 main_while0b_v89 ((extractStridedSlice S128x128 ![0, 256] · slices_S128x384_S128x128_0_256) : (⟨S128x384, .f32⟩ : BufTy).Contents (Elt F) → (⟨S128x128, .f32⟩ : BufTy).Contents (Elt F)),
    StableHlo.unary main_while0b_v86 main_while0b_v90 ((extractStridedSlice S128x128 ![0, 0] · slices_S128x384_S128x128_0_0) : (⟨S128x384, .f32⟩ : BufTy).Contents (Elt F) → (⟨S128x128, .f32⟩ : BufTy).Contents (Elt F)),
    StableHlo.unary main_while0b_v86 main_while0b_v91 ((extractStridedSlice S128x128 ![0, 128] · slices_S128x384_S128x128_0_128) : (⟨S128x384, .f32⟩ : BufTy).Contents (Elt F) → (⟨S128x128, .f32⟩ : BufTy).Contents (Elt F)),
    StableHlo.unary main_while0b_v86 main_while0b_v92 ((extractStridedSlice S128x128 ![0, 256] · slices_S128x384_S128x128_0_256) : (⟨S128x384, .f32⟩ : BufTy).Contents (Elt F) → (⟨S128x128, .f32⟩ : BufTy).Contents (Elt F)),
    StableHlo.binary main_while0b_v87 main_while0b_v90 main_while0b_v93 (addf : (⟨S128x128, .f32⟩ : BufTy).Contents (Elt F) → (⟨S128x128, .f32⟩ : BufTy).Contents (Elt F) → (⟨S128x128, .f32⟩ : BufTy).Contents (Elt F)),
    StableHlo.unary main_while0b_v93 main_while0b_v94 (Host.negf : (⟨S128x128, .f32⟩ : BufTy).Contents (Elt F) → (⟨S128x128, .f32⟩ : BufTy).Contents (Elt F)),
    StableHlo.unary main_while0b_v94 main_while0b_v95 (Host.exp : (⟨S128x128, .f32⟩ : BufTy).Contents (Elt F) → (⟨S128x128, .f32⟩ : BufTy).Contents (Elt F)),
    StableHlo.nullary main_while0b_cst_36 (constant S_ .f32 0x3F800000#32),
    StableHlo.unary main_while0b_cst_36 main_while0b_v96 (broadcastInDim S128x128 ![] bcast_S_S128x128 : (⟨S_, .f32⟩ : BufTy).Contents (Elt F) → (⟨S128x128, .f32⟩ : BufTy).Contents (Elt F)) ]

/-- The body's operations 125 … 146 of 163. -/
abbrev trip_w9 : List (HloOp τ sig (Elt F)) :=
  [ StableHlo.binary main_while0b_v96 main_while0b_v95 main_while0b_v97 (addf : (⟨S128x128, .f32⟩ : BufTy).Contents (Elt F) → (⟨S128x128, .f32⟩ : BufTy).Contents (Elt F) → (⟨S128x128, .f32⟩ : BufTy).Contents (Elt F)),
    StableHlo.nullary main_while0b_cst_37 (constant S_ .f32 0x3F800000#32),
    StableHlo.unary main_while0b_cst_37 main_while0b_v98 (broadcastInDim S128x128 ![] bcast_S_S128x128 : (⟨S_, .f32⟩ : BufTy).Contents (Elt F) → (⟨S128x128, .f32⟩ : BufTy).Contents (Elt F)),
    StableHlo.binary main_while0b_v98 main_while0b_v97 main_while0b_v99 (Host.divf : (⟨S128x128, .f32⟩ : BufTy).Contents (Elt F) → (⟨S128x128, .f32⟩ : BufTy).Contents (Elt F) → (⟨S128x128, .f32⟩ : BufTy).Contents (Elt F)),
    StableHlo.binary main_while0b_v88 main_while0b_v91 main_while0b_v100 (addf : (⟨S128x128, .f32⟩ : BufTy).Contents (Elt F) → (⟨S128x128, .f32⟩ : BufTy).Contents (Elt F) → (⟨S128x128, .f32⟩ : BufTy).Contents (Elt F)),
    StableHlo.unary main_while0b_v100 main_while0b_v101 (Host.negf : (⟨S128x128, .f32⟩ : BufTy).Contents (Elt F) → (⟨S128x128, .f32⟩ : BufTy).Contents (Elt F)),
    StableHlo.unary main_while0b_v101 main_while0b_v102 (Host.exp : (⟨S128x128, .f32⟩ : BufTy).Contents (Elt F) → (⟨S128x128, .f32⟩ : BufTy).Contents (Elt F)),
    StableHlo.nullary main_while0b_cst_38 (constant S_ .f32 0x3F800000#32),
    StableHlo.unary main_while0b_cst_38 main_while0b_v103 (broadcastInDim S128x128 ![] bcast_S_S128x128 : (⟨S_, .f32⟩ : BufTy).Contents (Elt F) → (⟨S128x128, .f32⟩ : BufTy).Contents (Elt F)),
    StableHlo.binary main_while0b_v103 main_while0b_v102 main_while0b_v104 (addf : (⟨S128x128, .f32⟩ : BufTy).Contents (Elt F) → (⟨S128x128, .f32⟩ : BufTy).Contents (Elt F) → (⟨S128x128, .f32⟩ : BufTy).Contents (Elt F)),
    StableHlo.nullary main_while0b_cst_39 (constant S_ .f32 0x3F800000#32),
    StableHlo.unary main_while0b_cst_39 main_while0b_v105 (broadcastInDim S128x128 ![] bcast_S_S128x128 : (⟨S_, .f32⟩ : BufTy).Contents (Elt F) → (⟨S128x128, .f32⟩ : BufTy).Contents (Elt F)),
    StableHlo.binary main_while0b_v105 main_while0b_v104 main_while0b_v106 (Host.divf : (⟨S128x128, .f32⟩ : BufTy).Contents (Elt F) → (⟨S128x128, .f32⟩ : BufTy).Contents (Elt F) → (⟨S128x128, .f32⟩ : BufTy).Contents (Elt F)),
    StableHlo.binary main_while0b_v99 main_while0b_v92 main_while0b_v107 (mulf : (⟨S128x128, .f32⟩ : BufTy).Contents (Elt F) → (⟨S128x128, .f32⟩ : BufTy).Contents (Elt F) → (⟨S128x128, .f32⟩ : BufTy).Contents (Elt F)),
    StableHlo.binary main_while0b_v89 main_while0b_v107 main_while0b_v108 (addf : (⟨S128x128, .f32⟩ : BufTy).Contents (Elt F) → (⟨S128x128, .f32⟩ : BufTy).Contents (Elt F) → (⟨S128x128, .f32⟩ : BufTy).Contents (Elt F)),
    StableHlo.unary main_while0b_v108 main_while0b_v109 (Host.tanh : (⟨S128x128, .f32⟩ : BufTy).Contents (Elt F) → (⟨S128x128, .f32⟩ : BufTy).Contents (Elt F)),
    StableHlo.nullary main_while0b_cst_40 (constant S_ .f32 0x3F800000#32),
    StableHlo.unary main_while0b_cst_40 main_while0b_v110 (broadcastInDim S128x128 ![] bcast_S_S128x128 : (⟨S_, .f32⟩ : BufTy).Contents (Elt F) → (⟨S128x128, .f32⟩ : BufTy).Contents (Elt F)),
    StableHlo.binary main_while0b_v110 main_while0b_v106 main_while0b_v111 (subf : (⟨S128x128, .f32⟩ : BufTy).Contents (Elt F) → (⟨S128x128, .f32⟩ : BufTy).Contents (Elt F) → (⟨S128x128, .f32⟩ : BufTy).Contents (Elt F)),
    StableHlo.binary main_while0b_v111 main_while0b_v109 main_while0b_v112 (mulf : (⟨S128x128, .f32⟩ : BufTy).Contents (Elt F) → (⟨S128x128, .f32⟩ : BufTy).Contents (Elt F) → (⟨S128x128, .f32⟩ : BufTy).Contents (Elt F)),
    StableHlo.binary main_while0b_v106 main_v14_8 main_while0b_v113 (mulf : (⟨S128x128, .f32⟩ : BufTy).Contents (Elt F) → (⟨S128x128, .f32⟩ : BufTy).Contents (Elt F) → (⟨S128x128, .f32⟩ : BufTy).Contents (Elt F)),
    StableHlo.binary main_while0b_v112 main_while0b_v113 main_while0b_v114 (addf : (⟨S128x128, .f32⟩ : BufTy).Contents (Elt F) → (⟨S128x128, .f32⟩ : BufTy).Contents (Elt F) → (⟨S128x128, .f32⟩ : BufTy).Contents (Elt F)) ]

/-- The body's operations 147 … 149 of 163. -/
abbrev trip_w10 : List (HloOp τ sig (Elt F)) :=
  [ StableHlo.TRef.unary (.of main_while0b_v35 : StableHlo.TRef sig ⟨S128, .i32⟩) (.of main_while0b_call3_v0 : StableHlo.TRef sig ⟨S1x128, .i32⟩) (broadcastInDim S1x128 ![1] bcast_S128_S1x128_1),
    StableHlo.TRef.nullary (.of main_while0b_call3_c : StableHlo.TRef sig ⟨S_, .i32⟩) (constantI S_ 32 0#32),
    StableHlo.TRef.binaryIndexed (.of main_v14_10 : StableHlo.TRef sig ⟨S256x128, .i32⟩) (.of main_while0b_call3_v0 : StableHlo.TRef sig ⟨S1x128, .i32⟩) ![(.of main_v14_7 : StableHlo.TRef sig ⟨S_, .i32⟩), (.of main_while0b_call3_c : StableHlo.TRef sig ⟨S_, .i32⟩)] (.of main_while0b_v115 : StableHlo.TRef sig ⟨S256x128, .i32⟩) (fun x u i => Host.dynamicUpdateSlice x u (fun k => (i k (Shape.Idx.first h_S_)).toInt) updateFits_S256x128_S1x128) ]

/-- The body's operations 150 … 152 of 163. -/
abbrev trip_w11 : List (HloOp τ sig (Elt F)) :=
  [ StableHlo.TRef.unary (.of main_while0b_v41 : StableHlo.TRef sig ⟨S128, .f32⟩) (.of main_while0b_call4_v0 : StableHlo.TRef sig ⟨S1x128, .f32⟩) (broadcastInDim S1x128 ![1] bcast_S128_S1x128_1),
    StableHlo.TRef.nullary (.of main_while0b_call4_c : StableHlo.TRef sig ⟨S_, .i32⟩) (constantI S_ 32 0#32),
    StableHlo.TRef.binaryIndexed (.of main_v14_11 : StableHlo.TRef sig ⟨S256x128, .f32⟩) (.of main_while0b_call4_v0 : StableHlo.TRef sig ⟨S1x128, .f32⟩) ![(.of main_v14_7 : StableHlo.TRef sig ⟨S_, .i32⟩), (.of main_while0b_call4_c : StableHlo.TRef sig ⟨S_, .i32⟩)] (.of main_while0b_v116 : StableHlo.TRef sig ⟨S256x128, .f32⟩) (fun x u i => Host.dynamicUpdateSlice x u (fun k => (i k (Shape.Idx.first h_S_)).toInt) updateFits_S256x128_S1x128) ]

/-- The body's operations 153 … 155 of 163. -/
abbrev trip_w12 : List (HloOp τ sig (Elt F)) :=
  [ StableHlo.TRef.unary (.of main_while0b_v47 : StableHlo.TRef sig ⟨S128, .f32⟩) (.of main_while0b_call5_v0 : StableHlo.TRef sig ⟨S1x128, .f32⟩) (broadcastInDim S1x128 ![1] bcast_S128_S1x128_1),
    StableHlo.TRef.nullary (.of main_while0b_call5_c : StableHlo.TRef sig ⟨S_, .i32⟩) (constantI S_ 32 0#32),
    StableHlo.TRef.binaryIndexed (.of main_v14_12 : StableHlo.TRef sig ⟨S256x128, .f32⟩) (.of main_while0b_call5_v0 : StableHlo.TRef sig ⟨S1x128, .f32⟩) ![(.of main_v14_7 : StableHlo.TRef sig ⟨S_, .i32⟩), (.of main_while0b_call5_c : StableHlo.TRef sig ⟨S_, .i32⟩)] (.of main_while0b_v117 : StableHlo.TRef sig ⟨S256x128, .f32⟩) (fun x u i => Host.dynamicUpdateSlice x u (fun k => (i k (Shape.Idx.first h_S_)).toInt) updateFits_S256x128_S1x128) ]

set_option maxRecDepth 5000 in
/-- `while0Ops0` is its windows in order. -/
theorem while0Ops0_cut : (while0Ops0 : List (HloOp τ sig (Elt F))) = trip_w0 := rfl
set_option maxRecDepth 5000 in
/-- `while0Ops0_1` is its windows in order. -/
theorem while0Ops0_1_cut : (while0Ops0_1 : List (HloOp τ sig (Elt F))) = trip_w1 := rfl
set_option maxRecDepth 5000 in
/-- `while0Ops0_2` is its windows in order. -/
theorem while0Ops0_2_cut : (while0Ops0_2 : List (HloOp τ sig (Elt F))) = trip_w2 := rfl
set_option maxRecDepth 5000 in
/-- `while0Ops0_3` is its windows in order. -/
theorem while0Ops0_3_cut : (while0Ops0_3 : List (HloOp τ sig (Elt F))) = trip_w3 := rfl
set_option maxRecDepth 5000 in
/-- `while0Ops0_4` is its windows in order. -/
theorem while0Ops0_4_cut : (while0Ops0_4 : List (HloOp τ sig (Elt F))) = trip_w4 := rfl
set_option maxRecDepth 5000 in
/-- `while0Ops0_5` is its windows in order. -/
theorem while0Ops0_5_cut : (while0Ops0_5 : List (HloOp τ sig (Elt F))) = trip_w5 := rfl
set_option maxRecDepth 5000 in
/-- `while0Ops0_6` is its windows in order. -/
theorem while0Ops0_6_cut : (while0Ops0_6 : List (HloOp τ sig (Elt F))) = trip_w6 ++ (trip_w7 ++ (trip_w8 ++ (trip_w9))) := rfl
set_option maxRecDepth 5000 in
/-- `while0Ops0_7` is its windows in order. -/
theorem while0Ops0_7_cut : (while0Ops0_7 : List (HloOp τ sig (Elt F))) = trip_w10 := rfl
set_option maxRecDepth 5000 in
/-- `while0Ops0_8` is its windows in order. -/
theorem while0Ops0_8_cut : (while0Ops0_8 : List (HloOp τ sig (Elt F))) = trip_w11 := rfl
set_option maxRecDepth 5000 in
/-- `while0Ops0_9` is its windows in order. -/
theorem while0Ops0_9_cut : (while0Ops0_9 : List (HloOp τ sig (Elt F))) = trip_w12 := rfl

set_option maxRecDepth 8192 in
/-- `main_while0b_v23`'s composed term of the carried buffers (named: it is used 2 times). -/
def res_main_while0b_v23 (V0 : Valuation τ sig (Elt F)) : (Proc.devRef .tc main_while0b_v23 : DevRef τ sig).ty.Contents (Elt F) :=
  select (V0 (Proc.devRef .tc main_v14_9)) (broadcastInDim S128x256 ![] bcast_S_S128x256 (id (constant S_ .f32 0xFF800000#32))) (Host.divf (Host.dotGeneral dot_S128x128_S128x256x128_S128x256_1_2_n_1_0_0 none (Host.dotGeneral dot_S128x128_S128x128_S128x128_1_0_0_1_n_n none (V0 (Proc.devRef .tc main_v14_8)) (transpose S128x128 [1, 0] (V0 (Proc.devRef .tc main_v14_0)) transposes_S128x128_S128x128_1_0)) (V0 (Proc.devRef .tc main_v14_1))) (broadcastInDim S128x256 ![] bcast_S_S128x256 (constant S_ .f32 0x413504F3#32)))

set_option maxRecDepth 8192 in
/-- `main_while0b_v30`'s composed term of the carried buffers (named: it is used 2 times). -/
def res_main_while0b_v30 (V0 : Valuation τ sig (Elt F)) : (Proc.devRef .tc main_while0b_v30 : DevRef τ sig).ty.Contents (Elt F) :=
  Host.exp (subf (res_main_while0b_v23 V0) (broadcastInDim S128x256 ![0, 1] bcast_S128x1_S128x256_0_1 (broadcastInDim S128x1 ![0] bcast_S128_S128x1_0 (maximumf (broadcastInDim S128 ![] bcast_S_S128 (constant S_ .f32 0xFF800000#32)) (Host.reduce FloatOps.maximumf (res_main_while0b_v23 V0) (constant S_ .f32 0xFF800000#32) reducesTo_S128x256_S128_d1 h_S_)))))

set_option maxRecDepth 8192 in
/-- `main_while0b_v34`'s composed term of the carried buffers (named: it is used 5 times). -/
def res_main_while0b_v34 (V0 : Valuation τ sig (Elt F)) : (Proc.devRef .tc main_while0b_v34 : DevRef τ sig).ty.Contents (Elt F) :=
  Host.divf (res_main_while0b_v30 V0) (broadcastInDim S128x256 ![0, 1] bcast_S128x1_S128x256_0_1 (broadcastInDim S128x1 ![0] bcast_S128_S128x1_0 (Host.reduceAdd (res_main_while0b_v30 V0) (constant S_ .f32 0x00000000#32) reducesTo_S128x256_S128_d1 h_S_)))

set_option maxRecDepth 8192 in
/-- `main_while0b_call1_v0`'s composed term of the carried buffers (named: it is used 2 times). -/
def res_main_while0b_call1_v0 (V0 : Valuation τ sig (Elt F)) : (Proc.devRef .tc main_while0b_call1_v0 : DevRef τ sig).ty.Contents (Elt F) :=
  iotaInDim S128x256 32 1

set_option maxRecDepth 8192 in
/-- `main_while0b_call1_cst`'s composed term of the carried buffers (named: it is used 2 times). -/
def res_main_while0b_call1_cst (V0 : Valuation τ sig (Elt F)) : (Proc.devRef .tc main_while0b_call1_cst : DevRef τ sig).ty.Contents (Elt F) :=
  constant S_ .f32 0xFF800000#32

set_option maxRecDepth 8192 in
/-- `main_while0b_call1_c`'s composed term of the carried buffers (named: it is used 2 times). -/
def res_main_while0b_call1_c (V0 : Valuation τ sig (Elt F)) : (Proc.devRef .tc main_while0b_call1_c : DevRef τ sig).ty.Contents (Elt F) :=
  constantI S_ 32 0#32

set_option maxRecDepth 8192 in
/-- `main_while0b_v35`'s composed term of the carried buffers (named: it is used 8 times). -/
def res_main_while0b_v35 (V0 : Valuation τ sig (Elt F)) : (Proc.devRef .tc main_while0b_v35 : DevRef τ sig).ty.Contents (Elt F) :=
  (fun j => (Host.argReduce reducer_argmax_f32_i32 (res_main_while0b_v34 V0) (res_main_while0b_call1_v0 V0) (res_main_while0b_call1_cst V0) (res_main_while0b_call1_c V0) reducesTo_S128x256_S128_d1 h_S_ j).2)

set_option maxRecDepth 8192 in
/-- `main_while0b_v36`'s composed term of the carried buffers (named: it is used 3 times). -/
def res_main_while0b_v36 (V0 : Valuation τ sig (Elt F)) : (Proc.devRef .tc main_while0b_v36 : DevRef τ sig).ty.Contents (Elt F) :=
  broadcastInDim S128x1 ![0] bcast_S128_S128x1_0 (res_main_while0b_v35 V0)

set_option maxRecDepth 8192 in
/-- `main_while0b_call2_v5`'s composed term of the carried buffers (named: it is used 3 times). -/
def res_main_while0b_call2_v5 (V0 : Valuation τ sig (Elt F)) : (Proc.devRef .tc main_while0b_call2_v5 : DevRef τ sig).ty.Contents (Elt F) :=
  shapeCast S128x1x1 (select (cmpi .slt (res_main_while0b_v36 V0) (broadcastInDim S128x1 ![] bcast_S_S128x1 (constantI S_ 32 0#32))) (addi (res_main_while0b_v36 V0) (broadcastInDim S128x1 ![] bcast_S_S128x1 (constantI S_ 32 256#32))) (res_main_while0b_v36 V0)) shapeCasts_S128x1_S128x1x1

set_option maxRecDepth 8192 in
/-- `main_while0b_v81`'s composed term of the carried buffers (named: it is used 3 times). -/
def res_main_while0b_v81 (V0 : Valuation τ sig (Elt F)) : (Proc.devRef .tc main_while0b_v81 : DevRef τ sig).ty.Contents (Elt F) :=
  addf (Host.dotGeneral dot_S128x128_S128x384_S128x384_1_0_0_1_n_n none (Host.gather gather_S128x256x128_S128x2_S128x128_1_01_n_n_01_1_11128 (V0 (Proc.devRef .tc main_v14_1)) (concatenate S128x2 1 [⟨S128x1, (broadcastInDim S128x1 ![0] bcast_S128_S128x1_0 (select (cmpi .slt (V0 (Proc.devRef .tc main_v14_2)) (broadcastInDim S128 ![] bcast_S_S128 (constantI S_ 32 0#32))) (addi (V0 (Proc.devRef .tc main_v14_2)) (broadcastInDim S128 ![] bcast_S_S128 (constantI S_ 32 128#32))) (V0 (Proc.devRef .tc main_v14_2))))⟩, ⟨S128x1, (broadcastInDim S128x1 ![0] bcast_S128_S128x1_0 (select (cmpi .slt (res_main_while0b_v35 V0) (broadcastInDim S128 ![] bcast_S_S128 (constantI S_ 32 0#32))) (addi (res_main_while0b_v35 V0) (broadcastInDim S128 ![] bcast_S_S128 (constantI S_ 32 256#32))) (res_main_while0b_v35 V0)))⟩] concatenates_S128x1_S128x1_S128x2_d1)) (transpose S128x384 [1, 0] (V0 (Proc.devRef .tc main_v14_3)) transposes_S384x128_S128x384_1_0)) (broadcastInDim S128x384 ![0, 1] bcast_S1x384_S128x384_0_1 (broadcastInDim S1x384 ![1] bcast_S384_S1x384_1 (V0 (Proc.devRef .tc main_v14_4))))

set_option maxRecDepth 8192 in
/-- `main_while0b_v86`'s composed term of the carried buffers (named: it is used 3 times). -/
def res_main_while0b_v86 (V0 : Valuation τ sig (Elt F)) : (Proc.devRef .tc main_while0b_v86 : DevRef τ sig).ty.Contents (Elt F) :=
  addf (Host.dotGeneral dot_S128x128_S128x384_S128x384_1_0_0_1_n_n none (V0 (Proc.devRef .tc main_v14_8)) (transpose S128x384 [1, 0] (V0 (Proc.devRef .tc main_v14_5)) transposes_S384x128_S128x384_1_0)) (broadcastInDim S128x384 ![0, 1] bcast_S1x384_S128x384_0_1 (broadcastInDim S1x384 ![1] bcast_S384_S1x384_1 (V0 (Proc.devRef .tc main_v14_6))))

set_option maxRecDepth 8192 in
/-- `main_while0b_v106`'s composed term of the carried buffers (named: it is used 2 times). -/
def res_main_while0b_v106 (V0 : Valuation τ sig (Elt F)) : (Proc.devRef .tc main_while0b_v106 : DevRef τ sig).ty.Contents (Elt F) :=
  Host.divf (broadcastInDim S128x128 ![] bcast_S_S128x128 (constant S_ .f32 0x3F800000#32)) (addf (broadcastInDim S128x128 ![] bcast_S_S128x128 (constant S_ .f32 0x3F800000#32)) (Host.exp (Host.negf (addf (extractStridedSlice S128x128 ![0, 128] (res_main_while0b_v81 V0) slices_S128x384_S128x128_0_128) (extractStridedSlice S128x128 ![0, 128] (res_main_while0b_v86 V0) slices_S128x384_S128x128_0_128)))))

/-- The device's buffer contents before the body's first window. -/
def val0 (V0 : Valuation τ sig (Elt F)) : Valuation τ sig (Elt F) := V0
theorem val0_main_v14_0 (V0 : Valuation τ sig (Elt F)) : val0 V0 (no_index (Proc.devRef .tc main_v14_0)) = V0 (Proc.devRef .tc main_v14_0) := rfl
theorem val0_main_v14_8 (V0 : Valuation τ sig (Elt F)) : val0 V0 (no_index (Proc.devRef .tc main_v14_8)) = V0 (Proc.devRef .tc main_v14_8) := rfl
theorem val0_main_v14_1 (V0 : Valuation τ sig (Elt F)) : val0 V0 (no_index (Proc.devRef .tc main_v14_1)) = V0 (Proc.devRef .tc main_v14_1) := rfl
theorem val0_main_v14_9 (V0 : Valuation τ sig (Elt F)) : val0 V0 (no_index (Proc.devRef .tc main_v14_9)) = V0 (Proc.devRef .tc main_v14_9) := rfl
theorem val0_main_v14_2 (V0 : Valuation τ sig (Elt F)) : val0 V0 (no_index (Proc.devRef .tc main_v14_2)) = V0 (Proc.devRef .tc main_v14_2) := rfl
theorem val0_main_v14_3 (V0 : Valuation τ sig (Elt F)) : val0 V0 (no_index (Proc.devRef .tc main_v14_3)) = V0 (Proc.devRef .tc main_v14_3) := rfl
theorem val0_main_v14_4 (V0 : Valuation τ sig (Elt F)) : val0 V0 (no_index (Proc.devRef .tc main_v14_4)) = V0 (Proc.devRef .tc main_v14_4) := rfl
theorem val0_main_v14_5 (V0 : Valuation τ sig (Elt F)) : val0 V0 (no_index (Proc.devRef .tc main_v14_5)) = V0 (Proc.devRef .tc main_v14_5) := rfl
theorem val0_main_v14_6 (V0 : Valuation τ sig (Elt F)) : val0 V0 (no_index (Proc.devRef .tc main_v14_6)) = V0 (Proc.devRef .tc main_v14_6) := rfl
theorem val0_main_v14_10 (V0 : Valuation τ sig (Elt F)) : val0 V0 (no_index (Proc.devRef .tc main_v14_10)) = V0 (Proc.devRef .tc main_v14_10) := rfl
theorem val0_main_v14_7 (V0 : Valuation τ sig (Elt F)) : val0 V0 (no_index (Proc.devRef .tc main_v14_7)) = V0 (Proc.devRef .tc main_v14_7) := rfl
theorem val0_main_v14_11 (V0 : Valuation τ sig (Elt F)) : val0 V0 (no_index (Proc.devRef .tc main_v14_11)) = V0 (Proc.devRef .tc main_v14_11) := rfl
theorem val0_main_v14_12 (V0 : Valuation τ sig (Elt F)) : val0 V0 (no_index (Proc.devRef .tc main_v14_12)) = V0 (Proc.devRef .tc main_v14_12) := rfl

end Cert.ReferenceIdeal.Value

end
-- ==== Proof.RefRunB.lean ====
/- The reference program's loop body, first half: what the buffers hold after each window of its operations.
   The declarations of this module follow, in form, the run modules that are generated for reference programs. They were
   written out mechanically from the reference program by an adapted copy of that generator, which does not cover this
   program as it stands, and then adapted by hand. -/
module

public import proofs.«01_k».proof.Proof.RefRunA

@[expose] public section

-- a long stretch's list and the decided enumerations over the program's references recurse past the default depth
set_option maxRecDepth 2088

noncomputable section

namespace Cert.ReferenceIdeal.Value

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

variable (m : (ℓ : Loc nD τ sig) → Buf (Elt F) ℓ) (ρ : Dev nD → PrngReg)

/-- The device's buffer contents after the body's first 1 window. -/
def val1 (V0 : Valuation τ sig (Elt F)) : Valuation τ sig (Elt F) := after trip_w0 (val0 V0)
/-- The buffers that window `trip_w0`'s operations write. -/
abbrev trip_w0_W : List (Ref sig .tc) := [main_while0b_v18, main_while0b_v19, main_while0b_v20, main_while0b_cst_19, main_while0b_v21, main_while0b_v22, main_while0b_cst_20]
set_option maxRecDepth 8192 in
theorem trip_w0_writes : (trip_w0 : List (HloOp τ sig (Elt F))).Forall fun op => op.writes ⊆ (trip_w0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w0` does not write keeps its contents through it. -/
theorem val1_keep (V0 : Valuation τ sig (Elt F)) (r : Ref sig .tc) (h : r ∉ trip_w0_W) :
    val1 V0 (Proc.devRef .tc r) = val0 V0 (Proc.devRef .tc r) :=
  after_of_writes_sub trip_w0 _ trip_w0_writes h
theorem val1_main_v14_0 (V0 : Valuation τ sig (Elt F)) : val1 V0 (no_index (Proc.devRef .tc main_v14_0)) = V0 (Proc.devRef .tc main_v14_0) :=
  (val1_keep V0 main_v14_0 (by decide)).trans (val0_main_v14_0 V0)
theorem val1_main_v14_8 (V0 : Valuation τ sig (Elt F)) : val1 V0 (no_index (Proc.devRef .tc main_v14_8)) = V0 (Proc.devRef .tc main_v14_8) :=
  (val1_keep V0 main_v14_8 (by decide)).trans (val0_main_v14_8 V0)
theorem val1_main_v14_1 (V0 : Valuation τ sig (Elt F)) : val1 V0 (no_index (Proc.devRef .tc main_v14_1)) = V0 (Proc.devRef .tc main_v14_1) :=
  (val1_keep V0 main_v14_1 (by decide)).trans (val0_main_v14_1 V0)
theorem val1_main_v14_9 (V0 : Valuation τ sig (Elt F)) : val1 V0 (no_index (Proc.devRef .tc main_v14_9)) = V0 (Proc.devRef .tc main_v14_9) :=
  (val1_keep V0 main_v14_9 (by decide)).trans (val0_main_v14_9 V0)
theorem val1_main_v14_2 (V0 : Valuation τ sig (Elt F)) : val1 V0 (no_index (Proc.devRef .tc main_v14_2)) = V0 (Proc.devRef .tc main_v14_2) :=
  (val1_keep V0 main_v14_2 (by decide)).trans (val0_main_v14_2 V0)
theorem val1_main_v14_3 (V0 : Valuation τ sig (Elt F)) : val1 V0 (no_index (Proc.devRef .tc main_v14_3)) = V0 (Proc.devRef .tc main_v14_3) :=
  (val1_keep V0 main_v14_3 (by decide)).trans (val0_main_v14_3 V0)
theorem val1_main_v14_4 (V0 : Valuation τ sig (Elt F)) : val1 V0 (no_index (Proc.devRef .tc main_v14_4)) = V0 (Proc.devRef .tc main_v14_4) :=
  (val1_keep V0 main_v14_4 (by decide)).trans (val0_main_v14_4 V0)
theorem val1_main_v14_5 (V0 : Valuation τ sig (Elt F)) : val1 V0 (no_index (Proc.devRef .tc main_v14_5)) = V0 (Proc.devRef .tc main_v14_5) :=
  (val1_keep V0 main_v14_5 (by decide)).trans (val0_main_v14_5 V0)
theorem val1_main_v14_6 (V0 : Valuation τ sig (Elt F)) : val1 V0 (no_index (Proc.devRef .tc main_v14_6)) = V0 (Proc.devRef .tc main_v14_6) :=
  (val1_keep V0 main_v14_6 (by decide)).trans (val0_main_v14_6 V0)
theorem val1_main_v14_10 (V0 : Valuation τ sig (Elt F)) : val1 V0 (no_index (Proc.devRef .tc main_v14_10)) = V0 (Proc.devRef .tc main_v14_10) :=
  (val1_keep V0 main_v14_10 (by decide)).trans (val0_main_v14_10 V0)
theorem val1_main_v14_7 (V0 : Valuation τ sig (Elt F)) : val1 V0 (no_index (Proc.devRef .tc main_v14_7)) = V0 (Proc.devRef .tc main_v14_7) :=
  (val1_keep V0 main_v14_7 (by decide)).trans (val0_main_v14_7 V0)
theorem val1_main_v14_11 (V0 : Valuation τ sig (Elt F)) : val1 V0 (no_index (Proc.devRef .tc main_v14_11)) = V0 (Proc.devRef .tc main_v14_11) :=
  (val1_keep V0 main_v14_11 (by decide)).trans (val0_main_v14_11 V0)
theorem val1_main_v14_12 (V0 : Valuation τ sig (Elt F)) : val1 V0 (no_index (Proc.devRef .tc main_v14_12)) = V0 (Proc.devRef .tc main_v14_12) :=
  (val1_keep V0 main_v14_12 (by decide)).trans (val0_main_v14_12 V0)
set_option maxRecDepth 8192 in
theorem val1_main_while0b_v22 (V0 : Valuation τ sig (Elt F)) : val1 V0 (no_index (Proc.devRef .tc main_while0b_v22)) = Host.divf (Host.dotGeneral dot_S128x128_S128x256x128_S128x256_1_2_n_1_0_0 none (Host.dotGeneral dot_S128x128_S128x128_S128x128_1_0_0_1_n_n none (V0 (Proc.devRef .tc main_v14_8)) (transpose S128x128 [1, 0] (V0 (Proc.devRef .tc main_v14_0)) transposes_S128x128_S128x128_1_0)) (V0 (Proc.devRef .tc main_v14_1))) (broadcastInDim S128x256 ![] bcast_S_S128x256 (constant S_ .f32 0x413504F3#32)) := by
  unfold val1
  simp only [trip_w0]
  after_results_entrywise [val0_main_v14_1, val0_main_v14_0, val0_main_v14_8, cast_eq]
set_option maxRecDepth 8192 in
theorem val1_main_while0b_cst_20 (V0 : Valuation τ sig (Elt F)) : val1 V0 (no_index (Proc.devRef .tc main_while0b_cst_20)) = constant S_ .f32 0xFF800000#32 := by
  unfold val1
  simp only [trip_w0]
  after_results_entrywise [cast_eq]

/-- The device's buffer contents after the body's first 2 windows. -/
def val2 (V0 : Valuation τ sig (Elt F)) : Valuation τ sig (Elt F) := after trip_w1 (val1 V0)
/-- The buffers that window `trip_w1`'s operations write. -/
abbrev trip_w1_W : List (Ref sig .tc) := [main_while0b_call0_v0, main_while0b_call0_v1, main_while0b_v23]
set_option maxRecDepth 8192 in
theorem trip_w1_writes : (trip_w1 : List (HloOp τ sig (Elt F))).Forall fun op => op.writes ⊆ (trip_w1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w1` does not write keeps its contents through it. -/
theorem val2_keep (V0 : Valuation τ sig (Elt F)) (r : Ref sig .tc) (h : r ∉ trip_w1_W) :
    val2 V0 (Proc.devRef .tc r) = val1 V0 (Proc.devRef .tc r) :=
  after_of_writes_sub trip_w1 _ trip_w1_writes h
theorem val2_main_v14_0 (V0 : Valuation τ sig (Elt F)) : val2 V0 (no_index (Proc.devRef .tc main_v14_0)) = V0 (Proc.devRef .tc main_v14_0) :=
  (val2_keep V0 main_v14_0 (by decide)).trans (val1_main_v14_0 V0)
theorem val2_main_v14_8 (V0 : Valuation τ sig (Elt F)) : val2 V0 (no_index (Proc.devRef .tc main_v14_8)) = V0 (Proc.devRef .tc main_v14_8) :=
  (val2_keep V0 main_v14_8 (by decide)).trans (val1_main_v14_8 V0)
theorem val2_main_v14_1 (V0 : Valuation τ sig (Elt F)) : val2 V0 (no_index (Proc.devRef .tc main_v14_1)) = V0 (Proc.devRef .tc main_v14_1) :=
  (val2_keep V0 main_v14_1 (by decide)).trans (val1_main_v14_1 V0)
theorem val2_main_v14_9 (V0 : Valuation τ sig (Elt F)) : val2 V0 (no_index (Proc.devRef .tc main_v14_9)) = V0 (Proc.devRef .tc main_v14_9) :=
  (val2_keep V0 main_v14_9 (by decide)).trans (val1_main_v14_9 V0)
theorem val2_main_v14_2 (V0 : Valuation τ sig (Elt F)) : val2 V0 (no_index (Proc.devRef .tc main_v14_2)) = V0 (Proc.devRef .tc main_v14_2) :=
  (val2_keep V0 main_v14_2 (by decide)).trans (val1_main_v14_2 V0)
theorem val2_main_v14_3 (V0 : Valuation τ sig (Elt F)) : val2 V0 (no_index (Proc.devRef .tc main_v14_3)) = V0 (Proc.devRef .tc main_v14_3) :=
  (val2_keep V0 main_v14_3 (by decide)).trans (val1_main_v14_3 V0)
theorem val2_main_v14_4 (V0 : Valuation τ sig (Elt F)) : val2 V0 (no_index (Proc.devRef .tc main_v14_4)) = V0 (Proc.devRef .tc main_v14_4) :=
  (val2_keep V0 main_v14_4 (by decide)).trans (val1_main_v14_4 V0)
theorem val2_main_v14_5 (V0 : Valuation τ sig (Elt F)) : val2 V0 (no_index (Proc.devRef .tc main_v14_5)) = V0 (Proc.devRef .tc main_v14_5) :=
  (val2_keep V0 main_v14_5 (by decide)).trans (val1_main_v14_5 V0)
theorem val2_main_v14_6 (V0 : Valuation τ sig (Elt F)) : val2 V0 (no_index (Proc.devRef .tc main_v14_6)) = V0 (Proc.devRef .tc main_v14_6) :=
  (val2_keep V0 main_v14_6 (by decide)).trans (val1_main_v14_6 V0)
theorem val2_main_v14_10 (V0 : Valuation τ sig (Elt F)) : val2 V0 (no_index (Proc.devRef .tc main_v14_10)) = V0 (Proc.devRef .tc main_v14_10) :=
  (val2_keep V0 main_v14_10 (by decide)).trans (val1_main_v14_10 V0)
theorem val2_main_v14_7 (V0 : Valuation τ sig (Elt F)) : val2 V0 (no_index (Proc.devRef .tc main_v14_7)) = V0 (Proc.devRef .tc main_v14_7) :=
  (val2_keep V0 main_v14_7 (by decide)).trans (val1_main_v14_7 V0)
theorem val2_main_v14_11 (V0 : Valuation τ sig (Elt F)) : val2 V0 (no_index (Proc.devRef .tc main_v14_11)) = V0 (Proc.devRef .tc main_v14_11) :=
  (val2_keep V0 main_v14_11 (by decide)).trans (val1_main_v14_11 V0)
theorem val2_main_v14_12 (V0 : Valuation τ sig (Elt F)) : val2 V0 (no_index (Proc.devRef .tc main_v14_12)) = V0 (Proc.devRef .tc main_v14_12) :=
  (val2_keep V0 main_v14_12 (by decide)).trans (val1_main_v14_12 V0)
set_option maxRecDepth 8192 in
theorem val2_main_while0b_v23 (V0 : Valuation τ sig (Elt F)) : val2 V0 (no_index (Proc.devRef .tc main_while0b_v23)) = res_main_while0b_v23 V0 := by
  unfold val2
  simp only [trip_w1]
  after_results_entrywise [val1_main_while0b_v22, val1_main_while0b_cst_20, val1_main_v14_9, res_main_while0b_v23, cast_eq]

/-- The device's buffer contents after the body's first 3 windows. -/
def val3 (V0 : Valuation τ sig (Elt F)) : Valuation τ sig (Elt F) := after trip_w2 (val2 V0)
/-- The buffers that window `trip_w2`'s operations write. -/
abbrev trip_w2_W : List (Ref sig .tc) := [main_while0b_cst_21, main_while0b_v24, main_while0b_cst_22, main_while0b_v25, main_while0b_v26, main_while0b_v27, main_while0b_v28, main_while0b_v29, main_while0b_v30, main_while0b_cst_23, main_while0b_v31, main_while0b_v32, main_while0b_v33, main_while0b_v34]
set_option maxRecDepth 8192 in
theorem trip_w2_writes : (trip_w2 : List (HloOp τ sig (Elt F))).Forall fun op => op.writes ⊆ (trip_w2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w2` does not write keeps its contents through it. -/
theorem val3_keep (V0 : Valuation τ sig (Elt F)) (r : Ref sig .tc) (h : r ∉ trip_w2_W) :
    val3 V0 (Proc.devRef .tc r) = val2 V0 (Proc.devRef .tc r) :=
  after_of_writes_sub trip_w2 _ trip_w2_writes h
theorem val3_main_v14_0 (V0 : Valuation τ sig (Elt F)) : val3 V0 (no_index (Proc.devRef .tc main_v14_0)) = V0 (Proc.devRef .tc main_v14_0) :=
  (val3_keep V0 main_v14_0 (by decide)).trans (val2_main_v14_0 V0)
theorem val3_main_v14_8 (V0 : Valuation τ sig (Elt F)) : val3 V0 (no_index (Proc.devRef .tc main_v14_8)) = V0 (Proc.devRef .tc main_v14_8) :=
  (val3_keep V0 main_v14_8 (by decide)).trans (val2_main_v14_8 V0)
theorem val3_main_v14_1 (V0 : Valuation τ sig (Elt F)) : val3 V0 (no_index (Proc.devRef .tc main_v14_1)) = V0 (Proc.devRef .tc main_v14_1) :=
  (val3_keep V0 main_v14_1 (by decide)).trans (val2_main_v14_1 V0)
theorem val3_main_v14_9 (V0 : Valuation τ sig (Elt F)) : val3 V0 (no_index (Proc.devRef .tc main_v14_9)) = V0 (Proc.devRef .tc main_v14_9) :=
  (val3_keep V0 main_v14_9 (by decide)).trans (val2_main_v14_9 V0)
theorem val3_main_v14_2 (V0 : Valuation τ sig (Elt F)) : val3 V0 (no_index (Proc.devRef .tc main_v14_2)) = V0 (Proc.devRef .tc main_v14_2) :=
  (val3_keep V0 main_v14_2 (by decide)).trans (val2_main_v14_2 V0)
theorem val3_main_v14_3 (V0 : Valuation τ sig (Elt F)) : val3 V0 (no_index (Proc.devRef .tc main_v14_3)) = V0 (Proc.devRef .tc main_v14_3) :=
  (val3_keep V0 main_v14_3 (by decide)).trans (val2_main_v14_3 V0)
theorem val3_main_v14_4 (V0 : Valuation τ sig (Elt F)) : val3 V0 (no_index (Proc.devRef .tc main_v14_4)) = V0 (Proc.devRef .tc main_v14_4) :=
  (val3_keep V0 main_v14_4 (by decide)).trans (val2_main_v14_4 V0)
theorem val3_main_v14_5 (V0 : Valuation τ sig (Elt F)) : val3 V0 (no_index (Proc.devRef .tc main_v14_5)) = V0 (Proc.devRef .tc main_v14_5) :=
  (val3_keep V0 main_v14_5 (by decide)).trans (val2_main_v14_5 V0)
theorem val3_main_v14_6 (V0 : Valuation τ sig (Elt F)) : val3 V0 (no_index (Proc.devRef .tc main_v14_6)) = V0 (Proc.devRef .tc main_v14_6) :=
  (val3_keep V0 main_v14_6 (by decide)).trans (val2_main_v14_6 V0)
theorem val3_main_v14_10 (V0 : Valuation τ sig (Elt F)) : val3 V0 (no_index (Proc.devRef .tc main_v14_10)) = V0 (Proc.devRef .tc main_v14_10) :=
  (val3_keep V0 main_v14_10 (by decide)).trans (val2_main_v14_10 V0)
theorem val3_main_v14_7 (V0 : Valuation τ sig (Elt F)) : val3 V0 (no_index (Proc.devRef .tc main_v14_7)) = V0 (Proc.devRef .tc main_v14_7) :=
  (val3_keep V0 main_v14_7 (by decide)).trans (val2_main_v14_7 V0)
theorem val3_main_v14_11 (V0 : Valuation τ sig (Elt F)) : val3 V0 (no_index (Proc.devRef .tc main_v14_11)) = V0 (Proc.devRef .tc main_v14_11) :=
  (val3_keep V0 main_v14_11 (by decide)).trans (val2_main_v14_11 V0)
theorem val3_main_v14_12 (V0 : Valuation τ sig (Elt F)) : val3 V0 (no_index (Proc.devRef .tc main_v14_12)) = V0 (Proc.devRef .tc main_v14_12) :=
  (val3_keep V0 main_v14_12 (by decide)).trans (val2_main_v14_12 V0)
set_option maxRecDepth 8192 in
set_option maxHeartbeats 1400000 in
theorem val3_main_while0b_v34 (V0 : Valuation τ sig (Elt F)) : val3 V0 (no_index (Proc.devRef .tc main_while0b_v34)) = res_main_while0b_v34 V0 := by
  unfold val3
  simp only [trip_w2]
  after_results_entrywise [val2_main_while0b_v23, res_main_while0b_v30, res_main_while0b_v34, cast_eq]

/-- The device's buffer contents after the body's first 4 windows. -/
def val4 (V0 : Valuation τ sig (Elt F)) : Valuation τ sig (Elt F) := after trip_w3 (val3 V0)
/-- The buffers that window `trip_w3`'s operations write. -/
abbrev trip_w3_W : List (Ref sig .tc) := [main_while0b_call1_v0, main_while0b_call1_cst, main_while0b_call1_c, main_while0b_call1_v1_0, main_while0b_v35]
set_option maxRecDepth 8192 in
theorem trip_w3_writes : (trip_w3 : List (HloOp τ sig (Elt F))).Forall fun op => op.writes ⊆ (trip_w3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w3` does not write keeps its contents through it. -/
theorem val4_keep (V0 : Valuation τ sig (Elt F)) (r : Ref sig .tc) (h : r ∉ trip_w3_W) :
    val4 V0 (Proc.devRef .tc r) = val3 V0 (Proc.devRef .tc r) :=
  after_of_writes_sub trip_w3 _ trip_w3_writes h
theorem val4_main_v14_0 (V0 : Valuation τ sig (Elt F)) : val4 V0 (no_index (Proc.devRef .tc main_v14_0)) = V0 (Proc.devRef .tc main_v14_0) :=
  (val4_keep V0 main_v14_0 (by decide)).trans (val3_main_v14_0 V0)
theorem val4_main_v14_8 (V0 : Valuation τ sig (Elt F)) : val4 V0 (no_index (Proc.devRef .tc main_v14_8)) = V0 (Proc.devRef .tc main_v14_8) :=
  (val4_keep V0 main_v14_8 (by decide)).trans (val3_main_v14_8 V0)
theorem val4_main_v14_1 (V0 : Valuation τ sig (Elt F)) : val4 V0 (no_index (Proc.devRef .tc main_v14_1)) = V0 (Proc.devRef .tc main_v14_1) :=
  (val4_keep V0 main_v14_1 (by decide)).trans (val3_main_v14_1 V0)
theorem val4_main_v14_9 (V0 : Valuation τ sig (Elt F)) : val4 V0 (no_index (Proc.devRef .tc main_v14_9)) = V0 (Proc.devRef .tc main_v14_9) :=
  (val4_keep V0 main_v14_9 (by decide)).trans (val3_main_v14_9 V0)
theorem val4_main_v14_2 (V0 : Valuation τ sig (Elt F)) : val4 V0 (no_index (Proc.devRef .tc main_v14_2)) = V0 (Proc.devRef .tc main_v14_2) :=
  (val4_keep V0 main_v14_2 (by decide)).trans (val3_main_v14_2 V0)
theorem val4_main_v14_3 (V0 : Valuation τ sig (Elt F)) : val4 V0 (no_index (Proc.devRef .tc main_v14_3)) = V0 (Proc.devRef .tc main_v14_3) :=
  (val4_keep V0 main_v14_3 (by decide)).trans (val3_main_v14_3 V0)
theorem val4_main_v14_4 (V0 : Valuation τ sig (Elt F)) : val4 V0 (no_index (Proc.devRef .tc main_v14_4)) = V0 (Proc.devRef .tc main_v14_4) :=
  (val4_keep V0 main_v14_4 (by decide)).trans (val3_main_v14_4 V0)
theorem val4_main_v14_5 (V0 : Valuation τ sig (Elt F)) : val4 V0 (no_index (Proc.devRef .tc main_v14_5)) = V0 (Proc.devRef .tc main_v14_5) :=
  (val4_keep V0 main_v14_5 (by decide)).trans (val3_main_v14_5 V0)
theorem val4_main_v14_6 (V0 : Valuation τ sig (Elt F)) : val4 V0 (no_index (Proc.devRef .tc main_v14_6)) = V0 (Proc.devRef .tc main_v14_6) :=
  (val4_keep V0 main_v14_6 (by decide)).trans (val3_main_v14_6 V0)
theorem val4_main_v14_10 (V0 : Valuation τ sig (Elt F)) : val4 V0 (no_index (Proc.devRef .tc main_v14_10)) = V0 (Proc.devRef .tc main_v14_10) :=
  (val4_keep V0 main_v14_10 (by decide)).trans (val3_main_v14_10 V0)
theorem val4_main_v14_7 (V0 : Valuation τ sig (Elt F)) : val4 V0 (no_index (Proc.devRef .tc main_v14_7)) = V0 (Proc.devRef .tc main_v14_7) :=
  (val4_keep V0 main_v14_7 (by decide)).trans (val3_main_v14_7 V0)
theorem val4_main_v14_11 (V0 : Valuation τ sig (Elt F)) : val4 V0 (no_index (Proc.devRef .tc main_v14_11)) = V0 (Proc.devRef .tc main_v14_11) :=
  (val4_keep V0 main_v14_11 (by decide)).trans (val3_main_v14_11 V0)
theorem val4_main_v14_12 (V0 : Valuation τ sig (Elt F)) : val4 V0 (no_index (Proc.devRef .tc main_v14_12)) = V0 (Proc.devRef .tc main_v14_12) :=
  (val4_keep V0 main_v14_12 (by decide)).trans (val3_main_v14_12 V0)
theorem val4_main_while0b_v34 (V0 : Valuation τ sig (Elt F)) : val4 V0 (no_index (Proc.devRef .tc main_while0b_v34)) = res_main_while0b_v34 V0 :=
  (val4_keep V0 main_while0b_v34 (by decide)).trans (val3_main_while0b_v34 V0)
set_option maxRecDepth 8192 in
theorem val4_main_while0b_v35 (V0 : Valuation τ sig (Elt F)) : val4 V0 (no_index (Proc.devRef .tc main_while0b_v35)) = res_main_while0b_v35 V0 := by
  unfold val4
  simp only [trip_w3]
  after_results_entrywise [val3_main_while0b_v34, res_main_while0b_call1_v0, res_main_while0b_call1_cst, res_main_while0b_call1_c, res_main_while0b_v35, cast_eq]

/-- The device's buffer contents after the body's first 5 windows. -/
def val5 (V0 : Valuation τ sig (Elt F)) : Valuation τ sig (Elt F) := after trip_w4 (val4 V0)
/-- The buffers that window `trip_w4`'s operations write. -/
abbrev trip_w4_W : List (Ref sig .tc) := [main_while0b_v36]
set_option maxRecDepth 8192 in
theorem trip_w4_writes : (trip_w4 : List (HloOp τ sig (Elt F))).Forall fun op => op.writes ⊆ (trip_w4_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `trip_w4` does not write keeps its contents through it. -/
theorem val5_keep (V0 : Valuation τ sig (Elt F)) (r : Ref sig .tc) (h : r ∉ trip_w4_W) :
    val5 V0 (Proc.devRef .tc r) = val4 V0 (Proc.devRef .tc r) :=
  after_of_writes_sub trip_w4 _ trip_w4_writes h
theorem val5_main_v14_0 (V0 : Valuation τ sig (Elt F)) : val5 V0 (no_index (Proc.devRef .tc main_v14_0)) = V0 (Proc.devRef .tc main_v14_0) :=
  (val5_keep V0 main_v14_0 (by decide)).trans (val4_main_v14_0 V0)
theorem val5_main_v14_8 (V0 : Valuation τ sig (Elt F)) : val5 V0 (no_index (Proc.devRef .tc main_v14_8)) = V0 (Proc.devRef .tc main_v14_8) :=
  (val5_keep V0 main_v14_8 (by decide)).trans (val4_main_v14_8 V0)
theorem val5_main_v14_1 (V0 : Valuation τ sig (Elt F)) : val5 V0 (no_index (Proc.devRef .tc main_v14_1)) = V0 (Proc.devRef .tc main_v14_1) :=
  (val5_keep V0 main_v14_1 (by decide)).trans (val4_main_v14_1 V0)
theorem val5_main_v14_9 (V0 : Valuation τ sig (Elt F)) : val5 V0 (no_index (Proc.devRef .tc main_v14_9)) = V0 (Proc.devRef .tc main_v14_9) :=
  (val5_keep V0 main_v14_9 (by decide)).trans (val4_main_v14_9 V0)
theorem val5_main_v14_2 (V0 : Valuation τ sig (Elt F)) : val5 V0 (no_index (Proc.devRef .tc main_v14_2)) = V0 (Proc.devRef .tc main_v14_2) :=
  (val5_keep V0 main_v14_2 (by decide)).trans (val4_main_v14_2 V0)
theorem val5_main_v14_3 (V0 : Valuation τ sig (Elt F)) : val5 V0 (no_index (Proc.devRef .tc main_v14_3)) = V0 (Proc.devRef .tc main_v14_3) :=
  (val5_keep V0 main_v14_3 (by decide)).trans (val4_main_v14_3 V0)
theorem val5_main_v14_4 (V0 : Valuation τ sig (Elt F)) : val5 V0 (no_index (Proc.devRef .tc main_v14_4)) = V0 (Proc.devRef .tc main_v14_4) :=
  (val5_keep V0 main_v14_4 (by decide)).trans (val4_main_v14_4 V0)
theorem val5_main_v14_5 (V0 : Valuation τ sig (Elt F)) : val5 V0 (no_index (Proc.devRef .tc main_v14_5)) = V0 (Proc.devRef .tc main_v14_5) :=
  (val5_keep V0 main_v14_5 (by decide)).trans (val4_main_v14_5 V0)
theorem val5_main_v14_6 (V0 : Valuation τ sig (Elt F)) : val5 V0 (no_index (Proc.devRef .tc main_v14_6)) = V0 (Proc.devRef .tc main_v14_6) :=
  (val5_keep V0 main_v14_6 (by decide)).trans (val4_main_v14_6 V0)
theorem val5_main_v14_10 (V0 : Valuation τ sig (Elt F)) : val5 V0 (no_index (Proc.devRef .tc main_v14_10)) = V0 (Proc.devRef .tc main_v14_10) :=
  (val5_keep V0 main_v14_10 (by decide)).trans (val4_main_v14_10 V0)
theorem val5_main_v14_7 (V0 : Valuation τ sig (Elt F)) : val5 V0 (no_index (Proc.devRef .tc main_v14_7)) = V0 (Proc.devRef .tc main_v14_7) :=
  (val5_keep V0 main_v14_7 (by decide)).trans (val4_main_v14_7 V0)
theorem val5_main_v14_11 (V0 : Valuation τ sig (Elt F)) : val5 V0 (no_index (Proc.devRef .tc main_v14_11)) = V0 (Proc.devRef .tc main_v14_11) :=
  (val5_keep V0 main_v14_11 (by decide)).trans (val4_main_v14_11 V0)
theorem val5_main_v14_12 (V0 : Valuation τ sig (Elt F)) : val5 V0 (no_index (Proc.devRef .tc main_v14_12)) = V0 (Proc.devRef .tc main_v14_12) :=
  (val5_keep V0 main_v14_12 (by decide)).trans (val4_main_v14_12 V0)
theorem val5_main_while0b_v34 (V0 : Valuation τ sig (Elt F)) : val5 V0 (no_index (Proc.devRef .tc main_while0b_v34)) = res_main_while0b_v34 V0 :=
  (val5_keep V0 main_while0b_v34 (by decide)).trans (val4_main_while0b_v34 V0)
theorem val5_main_while0b_v35 (V0 : Valuation τ sig (Elt F)) : val5 V0 (no_index (Proc.devRef .tc main_while0b_v35)) = res_main_while0b_v35 V0 :=
  (val5_keep V0 main_while0b_v35 (by decide)).trans (val4_main_while0b_v35 V0)
set_option maxRecDepth 8192 in
theorem val5_main_while0b_v36 (V0 : Valuation τ sig (Elt F)) : val5 V0 (no_index (Proc.devRef .tc main_while0b_v36)) = res_main_while0b_v36 V0 := by
  unfold val5
  simp only [trip_w4]
  after_results_entrywise [val4_main_while0b_v35, res_main_while0b_v36, cast_eq]

/-- The device's buffer contents after the body's first 6 windows. -/
def val6 (V0 : Valuation τ sig (Elt F)) : Valuation τ sig (Elt F) := after trip_w5 (val5 V0)
/-- The buffers that window `trip_w5`'s operations write. -/
abbrev trip_w5_W : List (Ref sig .tc) := [main_while0b_call2_c, main_while0b_call2_v0, main_while0b_call2_v1, main_while0b_call2_c_0, main_while0b_call2_v2, main_while0b_call2_v3, main_while0b_call2_v4, main_while0b_call2_v5, main_while0b_call2_c_1, main_while0b_call2_c_2, main_while0b_call2_v6, main_while0b_call2_v7, main_while0b_call2_v8, main_while0b_call2_v9, main_while0b_call2_v10, main_while0b_call2_v11, main_while0b_call2_c_3, main_while0b_call2_v12, main_while0b_call2_v13, main_while0b_call2_cst, main_while0b_call2_v14, main_while0b_v37]
set_option maxRecDepth 8192 in
theorem trip_w5_writes : (trip_w5 : List (HloOp τ sig (Elt F))).Forall fun op => op.writes ⊆ (trip_w5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w5` does not write keeps its contents through it. -/
theorem val6_keep (V0 : Valuation τ sig (Elt F)) (r : Ref sig .tc) (h : r ∉ trip_w5_W) :
    val6 V0 (Proc.devRef .tc r) = val5 V0 (Proc.devRef .tc r) :=
  after_of_writes_sub trip_w5 _ trip_w5_writes h
theorem val6_main_v14_0 (V0 : Valuation τ sig (Elt F)) : val6 V0 (no_index (Proc.devRef .tc main_v14_0)) = V0 (Proc.devRef .tc main_v14_0) :=
  (val6_keep V0 main_v14_0 (by decide)).trans (val5_main_v14_0 V0)
theorem val6_main_v14_8 (V0 : Valuation τ sig (Elt F)) : val6 V0 (no_index (Proc.devRef .tc main_v14_8)) = V0 (Proc.devRef .tc main_v14_8) :=
  (val6_keep V0 main_v14_8 (by decide)).trans (val5_main_v14_8 V0)
theorem val6_main_v14_1 (V0 : Valuation τ sig (Elt F)) : val6 V0 (no_index (Proc.devRef .tc main_v14_1)) = V0 (Proc.devRef .tc main_v14_1) :=
  (val6_keep V0 main_v14_1 (by decide)).trans (val5_main_v14_1 V0)
theorem val6_main_v14_9 (V0 : Valuation τ sig (Elt F)) : val6 V0 (no_index (Proc.devRef .tc main_v14_9)) = V0 (Proc.devRef .tc main_v14_9) :=
  (val6_keep V0 main_v14_9 (by decide)).trans (val5_main_v14_9 V0)
theorem val6_main_v14_2 (V0 : Valuation τ sig (Elt F)) : val6 V0 (no_index (Proc.devRef .tc main_v14_2)) = V0 (Proc.devRef .tc main_v14_2) :=
  (val6_keep V0 main_v14_2 (by decide)).trans (val5_main_v14_2 V0)
theorem val6_main_v14_3 (V0 : Valuation τ sig (Elt F)) : val6 V0 (no_index (Proc.devRef .tc main_v14_3)) = V0 (Proc.devRef .tc main_v14_3) :=
  (val6_keep V0 main_v14_3 (by decide)).trans (val5_main_v14_3 V0)
theorem val6_main_v14_4 (V0 : Valuation τ sig (Elt F)) : val6 V0 (no_index (Proc.devRef .tc main_v14_4)) = V0 (Proc.devRef .tc main_v14_4) :=
  (val6_keep V0 main_v14_4 (by decide)).trans (val5_main_v14_4 V0)
theorem val6_main_v14_5 (V0 : Valuation τ sig (Elt F)) : val6 V0 (no_index (Proc.devRef .tc main_v14_5)) = V0 (Proc.devRef .tc main_v14_5) :=
  (val6_keep V0 main_v14_5 (by decide)).trans (val5_main_v14_5 V0)
theorem val6_main_v14_6 (V0 : Valuation τ sig (Elt F)) : val6 V0 (no_index (Proc.devRef .tc main_v14_6)) = V0 (Proc.devRef .tc main_v14_6) :=
  (val6_keep V0 main_v14_6 (by decide)).trans (val5_main_v14_6 V0)
theorem val6_main_v14_10 (V0 : Valuation τ sig (Elt F)) : val6 V0 (no_index (Proc.devRef .tc main_v14_10)) = V0 (Proc.devRef .tc main_v14_10) :=
  (val6_keep V0 main_v14_10 (by decide)).trans (val5_main_v14_10 V0)
theorem val6_main_v14_7 (V0 : Valuation τ sig (Elt F)) : val6 V0 (no_index (Proc.devRef .tc main_v14_7)) = V0 (Proc.devRef .tc main_v14_7) :=
  (val6_keep V0 main_v14_7 (by decide)).trans (val5_main_v14_7 V0)
theorem val6_main_v14_11 (V0 : Valuation τ sig (Elt F)) : val6 V0 (no_index (Proc.devRef .tc main_v14_11)) = V0 (Proc.devRef .tc main_v14_11) :=
  (val6_keep V0 main_v14_11 (by decide)).trans (val5_main_v14_11 V0)
theorem val6_main_v14_12 (V0 : Valuation τ sig (Elt F)) : val6 V0 (no_index (Proc.devRef .tc main_v14_12)) = V0 (Proc.devRef .tc main_v14_12) :=
  (val6_keep V0 main_v14_12 (by decide)).trans (val5_main_v14_12 V0)
theorem val6_main_while0b_v34 (V0 : Valuation τ sig (Elt F)) : val6 V0 (no_index (Proc.devRef .tc main_while0b_v34)) = res_main_while0b_v34 V0 :=
  (val6_keep V0 main_while0b_v34 (by decide)).trans (val5_main_while0b_v34 V0)
theorem val6_main_while0b_v35 (V0 : Valuation τ sig (Elt F)) : val6 V0 (no_index (Proc.devRef .tc main_while0b_v35)) = res_main_while0b_v35 V0 :=
  (val6_keep V0 main_while0b_v35 (by decide)).trans (val5_main_while0b_v35 V0)
set_option maxRecDepth 8192 in
set_option maxHeartbeats 2000000 in
theorem val6_main_while0b_v37 (V0 : Valuation τ sig (Elt F)) : val6 V0 (no_index (Proc.devRef .tc main_while0b_v37)) = select (Host.reduce IntOp.andi (andi (cmpi .sge (res_main_while0b_call2_v5 V0) (broadcastInDim S128x1x1 ![] bcast_S_S128x1x1 (constantI S_ 32 0#32))) (cmpi .sle (res_main_while0b_call2_v5 V0) (broadcastInDim S128x1x1 ![0, 1, 2] bcast_S1x1x1_S128x1x1_0_1_2 (broadcastInDim S1x1x1 ![2] bcast_S1_S1x1x1_2 (constantI S1 32 255#32))))) (constantI S_ 1 1#1) reducesTo_S128x1x1_S128x1_d2 h_S_) (Host.gather gather_S128x256_S128x1x1_S128x1_n_1_0_0_1_2_11 (res_main_while0b_v34 V0) (res_main_while0b_call2_v5 V0)) (broadcastInDim S128x1 ![] bcast_S_S128x1 (constant S_ .f32 0x7FC00000#32)) := by
  unfold val6
  simp only [trip_w5]
  after_results_entrywise [val5_main_while0b_v36, val5_main_while0b_v34, res_main_while0b_call2_v5, cast_eq]

/-- The device's buffer contents after the body's first 7 windows. -/
def val7 (V0 : Valuation τ sig (Elt F)) : Valuation τ sig (Elt F) := after trip_w6 (val6 V0)
/-- The buffers that window `trip_w6`'s operations write. -/
abbrev trip_w6_W : List (Ref sig .tc) := [main_while0b_v38, main_while0b_cst_24, main_while0b_v39, main_while0b_v40, main_while0b_v41, main_while0b_cst_25, main_while0b_v42, main_while0b_v43, main_while0b_v44, main_while0b_v45, main_while0b_cst_26, main_while0b_v46, main_while0b_v47, main_while0b_c_27, main_while0b_v48, main_while0b_v49, main_while0b_c_28, main_while0b_v50, main_while0b_v51, main_while0b_v52, main_while0b_c_29, main_while0b_v53, main_while0b_v54, main_while0b_c_30]
set_option maxRecDepth 8192 in
theorem trip_w6_writes : (trip_w6 : List (HloOp τ sig (Elt F))).Forall fun op => op.writes ⊆ (trip_w6_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w6` does not write keeps its contents through it. -/
theorem val7_keep (V0 : Valuation τ sig (Elt F)) (r : Ref sig .tc) (h : r ∉ trip_w6_W) :
    val7 V0 (Proc.devRef .tc r) = val6 V0 (Proc.devRef .tc r) :=
  after_of_writes_sub trip_w6 _ trip_w6_writes h
theorem val7_main_v14_0 (V0 : Valuation τ sig (Elt F)) : val7 V0 (no_index (Proc.devRef .tc main_v14_0)) = V0 (Proc.devRef .tc main_v14_0) :=
  (val7_keep V0 main_v14_0 (by decide)).trans (val6_main_v14_0 V0)
theorem val7_main_v14_8 (V0 : Valuation τ sig (Elt F)) : val7 V0 (no_index (Proc.devRef .tc main_v14_8)) = V0 (Proc.devRef .tc main_v14_8) :=
  (val7_keep V0 main_v14_8 (by decide)).trans (val6_main_v14_8 V0)
theorem val7_main_v14_1 (V0 : Valuation τ sig (Elt F)) : val7 V0 (no_index (Proc.devRef .tc main_v14_1)) = V0 (Proc.devRef .tc main_v14_1) :=
  (val7_keep V0 main_v14_1 (by decide)).trans (val6_main_v14_1 V0)
theorem val7_main_v14_9 (V0 : Valuation τ sig (Elt F)) : val7 V0 (no_index (Proc.devRef .tc main_v14_9)) = V0 (Proc.devRef .tc main_v14_9) :=
  (val7_keep V0 main_v14_9 (by decide)).trans (val6_main_v14_9 V0)
theorem val7_main_v14_2 (V0 : Valuation τ sig (Elt F)) : val7 V0 (no_index (Proc.devRef .tc main_v14_2)) = V0 (Proc.devRef .tc main_v14_2) :=
  (val7_keep V0 main_v14_2 (by decide)).trans (val6_main_v14_2 V0)
theorem val7_main_v14_3 (V0 : Valuation τ sig (Elt F)) : val7 V0 (no_index (Proc.devRef .tc main_v14_3)) = V0 (Proc.devRef .tc main_v14_3) :=
  (val7_keep V0 main_v14_3 (by decide)).trans (val6_main_v14_3 V0)
theorem val7_main_v14_4 (V0 : Valuation τ sig (Elt F)) : val7 V0 (no_index (Proc.devRef .tc main_v14_4)) = V0 (Proc.devRef .tc main_v14_4) :=
  (val7_keep V0 main_v14_4 (by decide)).trans (val6_main_v14_4 V0)
theorem val7_main_v14_5 (V0 : Valuation τ sig (Elt F)) : val7 V0 (no_index (Proc.devRef .tc main_v14_5)) = V0 (Proc.devRef .tc main_v14_5) :=
  (val7_keep V0 main_v14_5 (by decide)).trans (val6_main_v14_5 V0)
theorem val7_main_v14_6 (V0 : Valuation τ sig (Elt F)) : val7 V0 (no_index (Proc.devRef .tc main_v14_6)) = V0 (Proc.devRef .tc main_v14_6) :=
  (val7_keep V0 main_v14_6 (by decide)).trans (val6_main_v14_6 V0)
theorem val7_main_v14_10 (V0 : Valuation τ sig (Elt F)) : val7 V0 (no_index (Proc.devRef .tc main_v14_10)) = V0 (Proc.devRef .tc main_v14_10) :=
  (val7_keep V0 main_v14_10 (by decide)).trans (val6_main_v14_10 V0)
theorem val7_main_v14_7 (V0 : Valuation τ sig (Elt F)) : val7 V0 (no_index (Proc.devRef .tc main_v14_7)) = V0 (Proc.devRef .tc main_v14_7) :=
  (val7_keep V0 main_v14_7 (by decide)).trans (val6_main_v14_7 V0)
theorem val7_main_v14_11 (V0 : Valuation τ sig (Elt F)) : val7 V0 (no_index (Proc.devRef .tc main_v14_11)) = V0 (Proc.devRef .tc main_v14_11) :=
  (val7_keep V0 main_v14_11 (by decide)).trans (val6_main_v14_11 V0)
theorem val7_main_v14_12 (V0 : Valuation τ sig (Elt F)) : val7 V0 (no_index (Proc.devRef .tc main_v14_12)) = V0 (Proc.devRef .tc main_v14_12) :=
  (val7_keep V0 main_v14_12 (by decide)).trans (val6_main_v14_12 V0)
theorem val7_main_while0b_v35 (V0 : Valuation τ sig (Elt F)) : val7 V0 (no_index (Proc.devRef .tc main_while0b_v35)) = res_main_while0b_v35 V0 :=
  (val7_keep V0 main_while0b_v35 (by decide)).trans (val6_main_while0b_v35 V0)
set_option maxRecDepth 8192 in
set_option maxHeartbeats 2000000 in
theorem val7_main_while0b_v41 (V0 : Valuation τ sig (Elt F)) : val7 V0 (no_index (Proc.devRef .tc main_while0b_v41)) = Host.log (addf (shapeCast S128 (select (Host.reduce IntOp.andi (andi (cmpi .sge (res_main_while0b_call2_v5 V0) (broadcastInDim S128x1x1 ![] bcast_S_S128x1x1 (constantI S_ 32 0#32))) (cmpi .sle (res_main_while0b_call2_v5 V0) (broadcastInDim S128x1x1 ![0, 1, 2] bcast_S1x1x1_S128x1x1_0_1_2 (broadcastInDim S1x1x1 ![2] bcast_S1_S1x1x1_2 (constantI S1 32 255#32))))) (constantI S_ 1 1#1) reducesTo_S128x1x1_S128x1_d2 h_S_) (Host.gather gather_S128x256_S128x1x1_S128x1_n_1_0_0_1_2_11 (res_main_while0b_v34 V0) (res_main_while0b_call2_v5 V0)) (broadcastInDim S128x1 ![] bcast_S_S128x1 (constant S_ .f32 0x7FC00000#32))) shapeCasts_S128x1_S128) (broadcastInDim S128 ![] bcast_S_S128 (constant S_ .f32 0x2B8CBCCC#32))) := by
  unfold val7
  simp only [trip_w6]
  after_results_entrywise [val6_main_while0b_v37, cast_eq]
set_option maxRecDepth 8192 in
set_option maxHeartbeats 2000000 in
theorem val7_main_while0b_v47 (V0 : Valuation τ sig (Elt F)) : val7 V0 (no_index (Proc.devRef .tc main_while0b_v47)) = Host.negf (Host.reduceAdd (mulf (res_main_while0b_v34 V0) (Host.log (addf (res_main_while0b_v34 V0) (broadcastInDim S128x256 ![] bcast_S_S128x256 (constant S_ .f32 0x2B8CBCCC#32))))) (constant S_ .f32 0x00000000#32) reducesTo_S128x256_S128_d1 h_S_) := by
  unfold val7
  simp only [trip_w6]
  after_results_entrywise [val6_main_while0b_v34, cast_eq]
set_option maxRecDepth 8192 in
set_option maxHeartbeats 2000000 in
theorem val7_main_while0b_v52 (V0 : Valuation τ sig (Elt F)) : val7 V0 (no_index (Proc.devRef .tc main_while0b_v52)) = select (cmpi .slt (V0 (Proc.devRef .tc main_v14_2)) (broadcastInDim S128 ![] bcast_S_S128 (constantI S_ 32 0#32))) (addi (V0 (Proc.devRef .tc main_v14_2)) (broadcastInDim S128 ![] bcast_S_S128 (constantI S_ 32 128#32))) (V0 (Proc.devRef .tc main_v14_2)) := by
  unfold val7
  simp only [trip_w6]
  after_results_entrywise [val6_main_v14_2, cast_eq]
set_option maxRecDepth 8192 in
set_option maxHeartbeats 2000000 in
theorem val7_main_while0b_v54 (V0 : Valuation τ sig (Elt F)) : val7 V0 (no_index (Proc.devRef .tc main_while0b_v54)) = cmpi .slt (res_main_while0b_v35 V0) (broadcastInDim S128 ![] bcast_S_S128 (constantI S_ 32 0#32)) := by
  unfold val7
  simp only [trip_w6]
  after_results_entrywise [val6_main_while0b_v35, cast_eq]
set_option maxRecDepth 8192 in
set_option maxHeartbeats 2000000 in
theorem val7_main_while0b_c_30 (V0 : Valuation τ sig (Elt F)) : val7 V0 (no_index (Proc.devRef .tc main_while0b_c_30)) = constantI S_ 32 256#32 := by
  unfold val7
  simp only [trip_w6]
  after_results_entrywise [cast_eq]

/-- The device's buffer contents after the body's first 8 windows. -/
def val8 (V0 : Valuation τ sig (Elt F)) : Valuation τ sig (Elt F) := after trip_w7 (val7 V0)
/-- The buffers that window `trip_w7`'s operations write. -/
abbrev trip_w7_W : List (Ref sig .tc) := [main_while0b_v55, main_while0b_v56, main_while0b_v57, main_while0b_v58, main_while0b_v59, main_while0b_v60, main_while0b_c_31, main_while0b_v61, main_while0b_v62, main_while0b_c_32, main_while0b_v63, main_while0b_v64, main_while0b_c_33, main_while0b_v65, main_while0b_v66, main_while0b_v67, main_while0b_c_34, main_while0b_v68, main_while0b_v69, main_while0b_c_35, main_while0b_v70, main_while0b_v71, main_while0b_v72, main_while0b_v73]
set_option maxRecDepth 8192 in
theorem trip_w7_writes : (trip_w7 : List (HloOp τ sig (Elt F))).Forall fun op => op.writes ⊆ (trip_w7_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w7` does not write keeps its contents through it. -/
theorem val8_keep (V0 : Valuation τ sig (Elt F)) (r : Ref sig .tc) (h : r ∉ trip_w7_W) :
    val8 V0 (Proc.devRef .tc r) = val7 V0 (Proc.devRef .tc r) :=
  after_of_writes_sub trip_w7 _ trip_w7_writes h
theorem val8_main_v14_0 (V0 : Valuation τ sig (Elt F)) : val8 V0 (no_index (Proc.devRef .tc main_v14_0)) = V0 (Proc.devRef .tc main_v14_0) :=
  (val8_keep V0 main_v14_0 (by decide)).trans (val7_main_v14_0 V0)
theorem val8_main_v14_8 (V0 : Valuation τ sig (Elt F)) : val8 V0 (no_index (Proc.devRef .tc main_v14_8)) = V0 (Proc.devRef .tc main_v14_8) :=
  (val8_keep V0 main_v14_8 (by decide)).trans (val7_main_v14_8 V0)
theorem val8_main_v14_1 (V0 : Valuation τ sig (Elt F)) : val8 V0 (no_index (Proc.devRef .tc main_v14_1)) = V0 (Proc.devRef .tc main_v14_1) :=
  (val8_keep V0 main_v14_1 (by decide)).trans (val7_main_v14_1 V0)
theorem val8_main_v14_9 (V0 : Valuation τ sig (Elt F)) : val8 V0 (no_index (Proc.devRef .tc main_v14_9)) = V0 (Proc.devRef .tc main_v14_9) :=
  (val8_keep V0 main_v14_9 (by decide)).trans (val7_main_v14_9 V0)
theorem val8_main_v14_2 (V0 : Valuation τ sig (Elt F)) : val8 V0 (no_index (Proc.devRef .tc main_v14_2)) = V0 (Proc.devRef .tc main_v14_2) :=
  (val8_keep V0 main_v14_2 (by decide)).trans (val7_main_v14_2 V0)
theorem val8_main_v14_3 (V0 : Valuation τ sig (Elt F)) : val8 V0 (no_index (Proc.devRef .tc main_v14_3)) = V0 (Proc.devRef .tc main_v14_3) :=
  (val8_keep V0 main_v14_3 (by decide)).trans (val7_main_v14_3 V0)
theorem val8_main_v14_4 (V0 : Valuation τ sig (Elt F)) : val8 V0 (no_index (Proc.devRef .tc main_v14_4)) = V0 (Proc.devRef .tc main_v14_4) :=
  (val8_keep V0 main_v14_4 (by decide)).trans (val7_main_v14_4 V0)
theorem val8_main_v14_5 (V0 : Valuation τ sig (Elt F)) : val8 V0 (no_index (Proc.devRef .tc main_v14_5)) = V0 (Proc.devRef .tc main_v14_5) :=
  (val8_keep V0 main_v14_5 (by decide)).trans (val7_main_v14_5 V0)
theorem val8_main_v14_6 (V0 : Valuation τ sig (Elt F)) : val8 V0 (no_index (Proc.devRef .tc main_v14_6)) = V0 (Proc.devRef .tc main_v14_6) :=
  (val8_keep V0 main_v14_6 (by decide)).trans (val7_main_v14_6 V0)
theorem val8_main_v14_10 (V0 : Valuation τ sig (Elt F)) : val8 V0 (no_index (Proc.devRef .tc main_v14_10)) = V0 (Proc.devRef .tc main_v14_10) :=
  (val8_keep V0 main_v14_10 (by decide)).trans (val7_main_v14_10 V0)
theorem val8_main_v14_7 (V0 : Valuation τ sig (Elt F)) : val8 V0 (no_index (Proc.devRef .tc main_v14_7)) = V0 (Proc.devRef .tc main_v14_7) :=
  (val8_keep V0 main_v14_7 (by decide)).trans (val7_main_v14_7 V0)
theorem val8_main_v14_11 (V0 : Valuation τ sig (Elt F)) : val8 V0 (no_index (Proc.devRef .tc main_v14_11)) = V0 (Proc.devRef .tc main_v14_11) :=
  (val8_keep V0 main_v14_11 (by decide)).trans (val7_main_v14_11 V0)
theorem val8_main_v14_12 (V0 : Valuation τ sig (Elt F)) : val8 V0 (no_index (Proc.devRef .tc main_v14_12)) = V0 (Proc.devRef .tc main_v14_12) :=
  (val8_keep V0 main_v14_12 (by decide)).trans (val7_main_v14_12 V0)
theorem val8_main_while0b_v35 (V0 : Valuation τ sig (Elt F)) : val8 V0 (no_index (Proc.devRef .tc main_while0b_v35)) = res_main_while0b_v35 V0 :=
  (val8_keep V0 main_while0b_v35 (by decide)).trans (val7_main_while0b_v35 V0)
theorem val8_main_while0b_v41 (V0 : Valuation τ sig (Elt F)) : val8 V0 (no_index (Proc.devRef .tc main_while0b_v41)) = Host.log (addf (shapeCast S128 (select (Host.reduce IntOp.andi (andi (cmpi .sge (res_main_while0b_call2_v5 V0) (broadcastInDim S128x1x1 ![] bcast_S_S128x1x1 (constantI S_ 32 0#32))) (cmpi .sle (res_main_while0b_call2_v5 V0) (broadcastInDim S128x1x1 ![0, 1, 2] bcast_S1x1x1_S128x1x1_0_1_2 (broadcastInDim S1x1x1 ![2] bcast_S1_S1x1x1_2 (constantI S1 32 255#32))))) (constantI S_ 1 1#1) reducesTo_S128x1x1_S128x1_d2 h_S_) (Host.gather gather_S128x256_S128x1x1_S128x1_n_1_0_0_1_2_11 (res_main_while0b_v34 V0) (res_main_while0b_call2_v5 V0)) (broadcastInDim S128x1 ![] bcast_S_S128x1 (constant S_ .f32 0x7FC00000#32))) shapeCasts_S128x1_S128) (broadcastInDim S128 ![] bcast_S_S128 (constant S_ .f32 0x2B8CBCCC#32))) :=
  (val8_keep V0 main_while0b_v41 (by decide)).trans (val7_main_while0b_v41 V0)
theorem val8_main_while0b_v47 (V0 : Valuation τ sig (Elt F)) : val8 V0 (no_index (Proc.devRef .tc main_while0b_v47)) = Host.negf (Host.reduceAdd (mulf (res_main_while0b_v34 V0) (Host.log (addf (res_main_while0b_v34 V0) (broadcastInDim S128x256 ![] bcast_S_S128x256 (constant S_ .f32 0x2B8CBCCC#32))))) (constant S_ .f32 0x00000000#32) reducesTo_S128x256_S128_d1 h_S_) :=
  (val8_keep V0 main_while0b_v47 (by decide)).trans (val7_main_while0b_v47 V0)
set_option maxRecDepth 8192 in
set_option maxHeartbeats 2000000 in
theorem val8_main_while0b_v62 (V0 : Valuation τ sig (Elt F)) : val8 V0 (no_index (Proc.devRef .tc main_while0b_v62)) = Host.scatter scatter_S128x256_S128x2_S128_n_01_01_1 (fun _ b => b) (V0 (Proc.devRef .tc main_v14_9)) (concatenate S128x2 1 [⟨S128x1, (broadcastInDim S128x1 ![0] bcast_S128_S128x1_0 (select (cmpi .slt (V0 (Proc.devRef .tc main_v14_2)) (broadcastInDim S128 ![] bcast_S_S128 (constantI S_ 32 0#32))) (addi (V0 (Proc.devRef .tc main_v14_2)) (broadcastInDim S128 ![] bcast_S_S128 (constantI S_ 32 128#32))) (V0 (Proc.devRef .tc main_v14_2))))⟩, ⟨S128x1, (broadcastInDim S128x1 ![0] bcast_S128_S128x1_0 (select (cmpi .slt (res_main_while0b_v35 V0) (broadcastInDim S128 ![] bcast_S_S128 (constantI S_ 32 0#32))) (addi (res_main_while0b_v35 V0) (broadcastInDim S128 ![] bcast_S_S128 (constantI S_ 32 256#32))) (res_main_while0b_v35 V0)))⟩] concatenates_S128x1_S128x1_S128x2_d1) (broadcastInDim S128 ![] bcast_S_S128 (constantI S_ 1 1#1)) := by
  unfold val8
  simp only [trip_w7]
  after_results_entrywise [val7_main_while0b_v35, val7_main_while0b_c_30, val7_main_while0b_v54, val7_main_while0b_v52, val7_main_v14_9, cast_eq]
set_option maxRecDepth 8192 in
set_option maxHeartbeats 2000000 in
theorem val8_main_while0b_v72 (V0 : Valuation τ sig (Elt F)) : val8 V0 (no_index (Proc.devRef .tc main_while0b_v72)) = select (cmpi .slt (res_main_while0b_v35 V0) (broadcastInDim S128 ![] bcast_S_S128 (constantI S_ 32 0#32))) (addi (res_main_while0b_v35 V0) (broadcastInDim S128 ![] bcast_S_S128 (constantI S_ 32 256#32))) (res_main_while0b_v35 V0) := by
  unfold val8
  simp only [trip_w7]
  after_results_entrywise [val7_main_while0b_v35, cast_eq]
set_option maxRecDepth 8192 in
set_option maxHeartbeats 2000000 in
theorem val8_main_while0b_v73 (V0 : Valuation τ sig (Elt F)) : val8 V0 (no_index (Proc.devRef .tc main_while0b_v73)) = broadcastInDim S128x1 ![0] bcast_S128_S128x1_0 (select (cmpi .slt (V0 (Proc.devRef .tc main_v14_2)) (broadcastInDim S128 ![] bcast_S_S128 (constantI S_ 32 0#32))) (addi (V0 (Proc.devRef .tc main_v14_2)) (broadcastInDim S128 ![] bcast_S_S128 (constantI S_ 32 128#32))) (V0 (Proc.devRef .tc main_v14_2))) := by
  unfold val8
  simp only [trip_w7]
  after_results_entrywise [val7_main_v14_2, cast_eq]

/-- The device's buffer contents after the body's first 9 windows. -/
def val9 (V0 : Valuation τ sig (Elt F)) : Valuation τ sig (Elt F) := after trip_w8 (val8 V0)
/-- The buffers that window `trip_w8`'s operations write. -/
abbrev trip_w8_W : List (Ref sig .tc) := [main_while0b_v74, main_while0b_v75, main_while0b_v76, main_while0b_v77, main_while0b_v78, main_while0b_v79, main_while0b_v80, main_while0b_v81, main_while0b_v82, main_while0b_v83, main_while0b_v84, main_while0b_v85, main_while0b_v86, main_while0b_v87, main_while0b_v88, main_while0b_v89, main_while0b_v90, main_while0b_v91, main_while0b_v92, main_while0b_v93, main_while0b_v94, main_while0b_v95, main_while0b_cst_36, main_while0b_v96]
set_option maxRecDepth 8192 in
theorem trip_w8_writes : (trip_w8 : List (HloOp τ sig (Elt F))).Forall fun op => op.writes ⊆ (trip_w8_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w8` does not write keeps its contents through it. -/
theorem val9_keep (V0 : Valuation τ sig (Elt F)) (r : Ref sig .tc) (h : r ∉ trip_w8_W) :
    val9 V0 (Proc.devRef .tc r) = val8 V0 (Proc.devRef .tc r) :=
  after_of_writes_sub trip_w8 _ trip_w8_writes h
theorem val9_main_v14_0 (V0 : Valuation τ sig (Elt F)) : val9 V0 (no_index (Proc.devRef .tc main_v14_0)) = V0 (Proc.devRef .tc main_v14_0) :=
  (val9_keep V0 main_v14_0 (by decide)).trans (val8_main_v14_0 V0)
theorem val9_main_v14_8 (V0 : Valuation τ sig (Elt F)) : val9 V0 (no_index (Proc.devRef .tc main_v14_8)) = V0 (Proc.devRef .tc main_v14_8) :=
  (val9_keep V0 main_v14_8 (by decide)).trans (val8_main_v14_8 V0)
theorem val9_main_v14_1 (V0 : Valuation τ sig (Elt F)) : val9 V0 (no_index (Proc.devRef .tc main_v14_1)) = V0 (Proc.devRef .tc main_v14_1) :=
  (val9_keep V0 main_v14_1 (by decide)).trans (val8_main_v14_1 V0)
theorem val9_main_v14_9 (V0 : Valuation τ sig (Elt F)) : val9 V0 (no_index (Proc.devRef .tc main_v14_9)) = V0 (Proc.devRef .tc main_v14_9) :=
  (val9_keep V0 main_v14_9 (by decide)).trans (val8_main_v14_9 V0)
theorem val9_main_v14_2 (V0 : Valuation τ sig (Elt F)) : val9 V0 (no_index (Proc.devRef .tc main_v14_2)) = V0 (Proc.devRef .tc main_v14_2) :=
  (val9_keep V0 main_v14_2 (by decide)).trans (val8_main_v14_2 V0)
theorem val9_main_v14_3 (V0 : Valuation τ sig (Elt F)) : val9 V0 (no_index (Proc.devRef .tc main_v14_3)) = V0 (Proc.devRef .tc main_v14_3) :=
  (val9_keep V0 main_v14_3 (by decide)).trans (val8_main_v14_3 V0)
theorem val9_main_v14_4 (V0 : Valuation τ sig (Elt F)) : val9 V0 (no_index (Proc.devRef .tc main_v14_4)) = V0 (Proc.devRef .tc main_v14_4) :=
  (val9_keep V0 main_v14_4 (by decide)).trans (val8_main_v14_4 V0)
theorem val9_main_v14_5 (V0 : Valuation τ sig (Elt F)) : val9 V0 (no_index (Proc.devRef .tc main_v14_5)) = V0 (Proc.devRef .tc main_v14_5) :=
  (val9_keep V0 main_v14_5 (by decide)).trans (val8_main_v14_5 V0)
theorem val9_main_v14_6 (V0 : Valuation τ sig (Elt F)) : val9 V0 (no_index (Proc.devRef .tc main_v14_6)) = V0 (Proc.devRef .tc main_v14_6) :=
  (val9_keep V0 main_v14_6 (by decide)).trans (val8_main_v14_6 V0)
theorem val9_main_v14_10 (V0 : Valuation τ sig (Elt F)) : val9 V0 (no_index (Proc.devRef .tc main_v14_10)) = V0 (Proc.devRef .tc main_v14_10) :=
  (val9_keep V0 main_v14_10 (by decide)).trans (val8_main_v14_10 V0)
theorem val9_main_v14_7 (V0 : Valuation τ sig (Elt F)) : val9 V0 (no_index (Proc.devRef .tc main_v14_7)) = V0 (Proc.devRef .tc main_v14_7) :=
  (val9_keep V0 main_v14_7 (by decide)).trans (val8_main_v14_7 V0)
theorem val9_main_v14_11 (V0 : Valuation τ sig (Elt F)) : val9 V0 (no_index (Proc.devRef .tc main_v14_11)) = V0 (Proc.devRef .tc main_v14_11) :=
  (val9_keep V0 main_v14_11 (by decide)).trans (val8_main_v14_11 V0)
theorem val9_main_v14_12 (V0 : Valuation τ sig (Elt F)) : val9 V0 (no_index (Proc.devRef .tc main_v14_12)) = V0 (Proc.devRef .tc main_v14_12) :=
  (val9_keep V0 main_v14_12 (by decide)).trans (val8_main_v14_12 V0)
theorem val9_main_while0b_v35 (V0 : Valuation τ sig (Elt F)) : val9 V0 (no_index (Proc.devRef .tc main_while0b_v35)) = res_main_while0b_v35 V0 :=
  (val9_keep V0 main_while0b_v35 (by decide)).trans (val8_main_while0b_v35 V0)
theorem val9_main_while0b_v41 (V0 : Valuation τ sig (Elt F)) : val9 V0 (no_index (Proc.devRef .tc main_while0b_v41)) = Host.log (addf (shapeCast S128 (select (Host.reduce IntOp.andi (andi (cmpi .sge (res_main_while0b_call2_v5 V0) (broadcastInDim S128x1x1 ![] bcast_S_S128x1x1 (constantI S_ 32 0#32))) (cmpi .sle (res_main_while0b_call2_v5 V0) (broadcastInDim S128x1x1 ![0, 1, 2] bcast_S1x1x1_S128x1x1_0_1_2 (broadcastInDim S1x1x1 ![2] bcast_S1_S1x1x1_2 (constantI S1 32 255#32))))) (constantI S_ 1 1#1) reducesTo_S128x1x1_S128x1_d2 h_S_) (Host.gather gather_S128x256_S128x1x1_S128x1_n_1_0_0_1_2_11 (res_main_while0b_v34 V0) (res_main_while0b_call2_v5 V0)) (broadcastInDim S128x1 ![] bcast_S_S128x1 (constant S_ .f32 0x7FC00000#32))) shapeCasts_S128x1_S128) (broadcastInDim S128 ![] bcast_S_S128 (constant S_ .f32 0x2B8CBCCC#32))) :=
  (val9_keep V0 main_while0b_v41 (by decide)).trans (val8_main_while0b_v41 V0)
theorem val9_main_while0b_v47 (V0 : Valuation τ sig (Elt F)) : val9 V0 (no_index (Proc.devRef .tc main_while0b_v47)) = Host.negf (Host.reduceAdd (mulf (res_main_while0b_v34 V0) (Host.log (addf (res_main_while0b_v34 V0) (broadcastInDim S128x256 ![] bcast_S_S128x256 (constant S_ .f32 0x2B8CBCCC#32))))) (constant S_ .f32 0x00000000#32) reducesTo_S128x256_S128_d1 h_S_) :=
  (val9_keep V0 main_while0b_v47 (by decide)).trans (val8_main_while0b_v47 V0)
theorem val9_main_while0b_v62 (V0 : Valuation τ sig (Elt F)) : val9 V0 (no_index (Proc.devRef .tc main_while0b_v62)) = Host.scatter scatter_S128x256_S128x2_S128_n_01_01_1 (fun _ b => b) (V0 (Proc.devRef .tc main_v14_9)) (concatenate S128x2 1 [⟨S128x1, (broadcastInDim S128x1 ![0] bcast_S128_S128x1_0 (select (cmpi .slt (V0 (Proc.devRef .tc main_v14_2)) (broadcastInDim S128 ![] bcast_S_S128 (constantI S_ 32 0#32))) (addi (V0 (Proc.devRef .tc main_v14_2)) (broadcastInDim S128 ![] bcast_S_S128 (constantI S_ 32 128#32))) (V0 (Proc.devRef .tc main_v14_2))))⟩, ⟨S128x1, (broadcastInDim S128x1 ![0] bcast_S128_S128x1_0 (select (cmpi .slt (res_main_while0b_v35 V0) (broadcastInDim S128 ![] bcast_S_S128 (constantI S_ 32 0#32))) (addi (res_main_while0b_v35 V0) (broadcastInDim S128 ![] bcast_S_S128 (constantI S_ 32 256#32))) (res_main_while0b_v35 V0)))⟩] concatenates_S128x1_S128x1_S128x2_d1) (broadcastInDim S128 ![] bcast_S_S128 (constantI S_ 1 1#1)) :=
  (val9_keep V0 main_while0b_v62 (by decide)).trans (val8_main_while0b_v62 V0)
set_option maxRecDepth 8192 in
set_option maxHeartbeats 2000000 in
theorem val9_main_while0b_v88 (V0 : Valuation τ sig (Elt F)) : val9 V0 (no_index (Proc.devRef .tc main_while0b_v88)) = extractStridedSlice S128x128 ![0, 128] (res_main_while0b_v81 V0) slices_S128x384_S128x128_0_128 := by
  unfold val9
  simp only [trip_w8]
  after_results_entrywise [val8_main_v14_4, val8_main_v14_3, val8_main_while0b_v72, val8_main_while0b_v73, val8_main_v14_1, res_main_while0b_v81, cast_eq]
set_option maxRecDepth 8192 in
set_option maxHeartbeats 2000000 in
theorem val9_main_while0b_v89 (V0 : Valuation τ sig (Elt F)) : val9 V0 (no_index (Proc.devRef .tc main_while0b_v89)) = extractStridedSlice S128x128 ![0, 256] (res_main_while0b_v81 V0) slices_S128x384_S128x128_0_256 := by
  unfold val9
  simp only [trip_w8]
  after_results_entrywise [val8_main_v14_4, val8_main_v14_3, val8_main_while0b_v72, val8_main_while0b_v73, val8_main_v14_1, res_main_while0b_v81, cast_eq]
set_option maxRecDepth 8192 in
set_option maxHeartbeats 2000000 in
theorem val9_main_while0b_v91 (V0 : Valuation τ sig (Elt F)) : val9 V0 (no_index (Proc.devRef .tc main_while0b_v91)) = extractStridedSlice S128x128 ![0, 128] (res_main_while0b_v86 V0) slices_S128x384_S128x128_0_128 := by
  unfold val9
  simp only [trip_w8]
  after_results_entrywise [val8_main_v14_6, val8_main_v14_5, val8_main_v14_8, res_main_while0b_v86, cast_eq]
set_option maxRecDepth 8192 in
set_option maxHeartbeats 2000000 in
theorem val9_main_while0b_v92 (V0 : Valuation τ sig (Elt F)) : val9 V0 (no_index (Proc.devRef .tc main_while0b_v92)) = extractStridedSlice S128x128 ![0, 256] (res_main_while0b_v86 V0) slices_S128x384_S128x128_0_256 := by
  unfold val9
  simp only [trip_w8]
  after_results_entrywise [val8_main_v14_6, val8_main_v14_5, val8_main_v14_8, res_main_while0b_v86, cast_eq]
set_option maxRecDepth 8192 in
set_option maxHeartbeats 2000000 in
theorem val9_main_while0b_v95 (V0 : Valuation τ sig (Elt F)) : val9 V0 (no_index (Proc.devRef .tc main_while0b_v95)) = Host.exp (Host.negf (addf (extractStridedSlice S128x128 ![0, 0] (res_main_while0b_v81 V0) slices_S128x384_S128x128_0_0) (extractStridedSlice S128x128 ![0, 0] (res_main_while0b_v86 V0) slices_S128x384_S128x128_0_0))) := by
  unfold val9
  simp only [trip_w8]
  after_results_entrywise [val8_main_v14_6, val8_main_v14_5, val8_main_v14_8, val8_main_v14_4, val8_main_v14_3, val8_main_while0b_v72, val8_main_while0b_v73, val8_main_v14_1, res_main_while0b_v81, res_main_while0b_v86, cast_eq]
set_option maxRecDepth 8192 in
set_option maxHeartbeats 2000000 in
theorem val9_main_while0b_v96 (V0 : Valuation τ sig (Elt F)) : val9 V0 (no_index (Proc.devRef .tc main_while0b_v96)) = broadcastInDim S128x128 ![] bcast_S_S128x128 (constant S_ .f32 0x3F800000#32) := by
  unfold val9
  simp only [trip_w8]
  after_results_entrywise [cast_eq]

/-- The device's buffer contents after the body's first 10 windows. -/
def val10 (V0 : Valuation τ sig (Elt F)) : Valuation τ sig (Elt F) := after trip_w9 (val9 V0)
/-- The buffers that window `trip_w9`'s operations write. -/
abbrev trip_w9_W : List (Ref sig .tc) := [main_while0b_v97, main_while0b_cst_37, main_while0b_v98, main_while0b_v99, main_while0b_v100, main_while0b_v101, main_while0b_v102, main_while0b_cst_38, main_while0b_v103, main_while0b_v104, main_while0b_cst_39, main_while0b_v105, main_while0b_v106, main_while0b_v107, main_while0b_v108, main_while0b_v109, main_while0b_cst_40, main_while0b_v110, main_while0b_v111, main_while0b_v112, main_while0b_v113, main_while0b_v114]
set_option maxRecDepth 8192 in
theorem trip_w9_writes : (trip_w9 : List (HloOp τ sig (Elt F))).Forall fun op => op.writes ⊆ (trip_w9_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w9` does not write keeps its contents through it. -/
theorem val10_keep (V0 : Valuation τ sig (Elt F)) (r : Ref sig .tc) (h : r ∉ trip_w9_W) :
    val10 V0 (Proc.devRef .tc r) = val9 V0 (Proc.devRef .tc r) :=
  after_of_writes_sub trip_w9 _ trip_w9_writes h
theorem val10_main_v14_0 (V0 : Valuation τ sig (Elt F)) : val10 V0 (no_index (Proc.devRef .tc main_v14_0)) = V0 (Proc.devRef .tc main_v14_0) :=
  (val10_keep V0 main_v14_0 (by decide)).trans (val9_main_v14_0 V0)
theorem val10_main_v14_8 (V0 : Valuation τ sig (Elt F)) : val10 V0 (no_index (Proc.devRef .tc main_v14_8)) = V0 (Proc.devRef .tc main_v14_8) :=
  (val10_keep V0 main_v14_8 (by decide)).trans (val9_main_v14_8 V0)
theorem val10_main_v14_1 (V0 : Valuation τ sig (Elt F)) : val10 V0 (no_index (Proc.devRef .tc main_v14_1)) = V0 (Proc.devRef .tc main_v14_1) :=
  (val10_keep V0 main_v14_1 (by decide)).trans (val9_main_v14_1 V0)
theorem val10_main_v14_9 (V0 : Valuation τ sig (Elt F)) : val10 V0 (no_index (Proc.devRef .tc main_v14_9)) = V0 (Proc.devRef .tc main_v14_9) :=
  (val10_keep V0 main_v14_9 (by decide)).trans (val9_main_v14_9 V0)
theorem val10_main_v14_2 (V0 : Valuation τ sig (Elt F)) : val10 V0 (no_index (Proc.devRef .tc main_v14_2)) = V0 (Proc.devRef .tc main_v14_2) :=
  (val10_keep V0 main_v14_2 (by decide)).trans (val9_main_v14_2 V0)
theorem val10_main_v14_3 (V0 : Valuation τ sig (Elt F)) : val10 V0 (no_index (Proc.devRef .tc main_v14_3)) = V0 (Proc.devRef .tc main_v14_3) :=
  (val10_keep V0 main_v14_3 (by decide)).trans (val9_main_v14_3 V0)
theorem val10_main_v14_4 (V0 : Valuation τ sig (Elt F)) : val10 V0 (no_index (Proc.devRef .tc main_v14_4)) = V0 (Proc.devRef .tc main_v14_4) :=
  (val10_keep V0 main_v14_4 (by decide)).trans (val9_main_v14_4 V0)
theorem val10_main_v14_5 (V0 : Valuation τ sig (Elt F)) : val10 V0 (no_index (Proc.devRef .tc main_v14_5)) = V0 (Proc.devRef .tc main_v14_5) :=
  (val10_keep V0 main_v14_5 (by decide)).trans (val9_main_v14_5 V0)
theorem val10_main_v14_6 (V0 : Valuation τ sig (Elt F)) : val10 V0 (no_index (Proc.devRef .tc main_v14_6)) = V0 (Proc.devRef .tc main_v14_6) :=
  (val10_keep V0 main_v14_6 (by decide)).trans (val9_main_v14_6 V0)
theorem val10_main_v14_10 (V0 : Valuation τ sig (Elt F)) : val10 V0 (no_index (Proc.devRef .tc main_v14_10)) = V0 (Proc.devRef .tc main_v14_10) :=
  (val10_keep V0 main_v14_10 (by decide)).trans (val9_main_v14_10 V0)
theorem val10_main_v14_7 (V0 : Valuation τ sig (Elt F)) : val10 V0 (no_index (Proc.devRef .tc main_v14_7)) = V0 (Proc.devRef .tc main_v14_7) :=
  (val10_keep V0 main_v14_7 (by decide)).trans (val9_main_v14_7 V0)
theorem val10_main_v14_11 (V0 : Valuation τ sig (Elt F)) : val10 V0 (no_index (Proc.devRef .tc main_v14_11)) = V0 (Proc.devRef .tc main_v14_11) :=
  (val10_keep V0 main_v14_11 (by decide)).trans (val9_main_v14_11 V0)
theorem val10_main_v14_12 (V0 : Valuation τ sig (Elt F)) : val10 V0 (no_index (Proc.devRef .tc main_v14_12)) = V0 (Proc.devRef .tc main_v14_12) :=
  (val10_keep V0 main_v14_12 (by decide)).trans (val9_main_v14_12 V0)
theorem val10_main_while0b_v35 (V0 : Valuation τ sig (Elt F)) : val10 V0 (no_index (Proc.devRef .tc main_while0b_v35)) = res_main_while0b_v35 V0 :=
  (val10_keep V0 main_while0b_v35 (by decide)).trans (val9_main_while0b_v35 V0)
theorem val10_main_while0b_v41 (V0 : Valuation τ sig (Elt F)) : val10 V0 (no_index (Proc.devRef .tc main_while0b_v41)) = Host.log (addf (shapeCast S128 (select (Host.reduce IntOp.andi (andi (cmpi .sge (res_main_while0b_call2_v5 V0) (broadcastInDim S128x1x1 ![] bcast_S_S128x1x1 (constantI S_ 32 0#32))) (cmpi .sle (res_main_while0b_call2_v5 V0) (broadcastInDim S128x1x1 ![0, 1, 2] bcast_S1x1x1_S128x1x1_0_1_2 (broadcastInDim S1x1x1 ![2] bcast_S1_S1x1x1_2 (constantI S1 32 255#32))))) (constantI S_ 1 1#1) reducesTo_S128x1x1_S128x1_d2 h_S_) (Host.gather gather_S128x256_S128x1x1_S128x1_n_1_0_0_1_2_11 (res_main_while0b_v34 V0) (res_main_while0b_call2_v5 V0)) (broadcastInDim S128x1 ![] bcast_S_S128x1 (constant S_ .f32 0x7FC00000#32))) shapeCasts_S128x1_S128) (broadcastInDim S128 ![] bcast_S_S128 (constant S_ .f32 0x2B8CBCCC#32))) :=
  (val10_keep V0 main_while0b_v41 (by decide)).trans (val9_main_while0b_v41 V0)
theorem val10_main_while0b_v47 (V0 : Valuation τ sig (Elt F)) : val10 V0 (no_index (Proc.devRef .tc main_while0b_v47)) = Host.negf (Host.reduceAdd (mulf (res_main_while0b_v34 V0) (Host.log (addf (res_main_while0b_v34 V0) (broadcastInDim S128x256 ![] bcast_S_S128x256 (constant S_ .f32 0x2B8CBCCC#32))))) (constant S_ .f32 0x00000000#32) reducesTo_S128x256_S128_d1 h_S_) :=
  (val10_keep V0 main_while0b_v47 (by decide)).trans (val9_main_while0b_v47 V0)
theorem val10_main_while0b_v62 (V0 : Valuation τ sig (Elt F)) : val10 V0 (no_index (Proc.devRef .tc main_while0b_v62)) = Host.scatter scatter_S128x256_S128x2_S128_n_01_01_1 (fun _ b => b) (V0 (Proc.devRef .tc main_v14_9)) (concatenate S128x2 1 [⟨S128x1, (broadcastInDim S128x1 ![0] bcast_S128_S128x1_0 (select (cmpi .slt (V0 (Proc.devRef .tc main_v14_2)) (broadcastInDim S128 ![] bcast_S_S128 (constantI S_ 32 0#32))) (addi (V0 (Proc.devRef .tc main_v14_2)) (broadcastInDim S128 ![] bcast_S_S128 (constantI S_ 32 128#32))) (V0 (Proc.devRef .tc main_v14_2))))⟩, ⟨S128x1, (broadcastInDim S128x1 ![0] bcast_S128_S128x1_0 (select (cmpi .slt (res_main_while0b_v35 V0) (broadcastInDim S128 ![] bcast_S_S128 (constantI S_ 32 0#32))) (addi (res_main_while0b_v35 V0) (broadcastInDim S128 ![] bcast_S_S128 (constantI S_ 32 256#32))) (res_main_while0b_v35 V0)))⟩] concatenates_S128x1_S128x1_S128x2_d1) (broadcastInDim S128 ![] bcast_S_S128 (constantI S_ 1 1#1)) :=
  (val10_keep V0 main_while0b_v62 (by decide)).trans (val9_main_while0b_v62 V0)
set_option maxRecDepth 8192 in
set_option maxHeartbeats 2000000 in
theorem val10_main_while0b_v114 (V0 : Valuation τ sig (Elt F)) : val10 V0 (no_index (Proc.devRef .tc main_while0b_v114)) = addf (mulf (subf (broadcastInDim S128x128 ![] bcast_S_S128x128 (constant S_ .f32 0x3F800000#32)) (res_main_while0b_v106 V0)) (Host.tanh (addf (extractStridedSlice S128x128 ![0, 256] (res_main_while0b_v81 V0) slices_S128x384_S128x128_0_256) (mulf (Host.divf (broadcastInDim S128x128 ![] bcast_S_S128x128 (constant S_ .f32 0x3F800000#32)) (addf (broadcastInDim S128x128 ![] bcast_S_S128x128 (constant S_ .f32 0x3F800000#32)) (Host.exp (Host.negf (addf (extractStridedSlice S128x128 ![0, 0] (res_main_while0b_v81 V0) slices_S128x384_S128x128_0_0) (extractStridedSlice S128x128 ![0, 0] (res_main_while0b_v86 V0) slices_S128x384_S128x128_0_0)))))) (extractStridedSlice S128x128 ![0, 256] (res_main_while0b_v86 V0) slices_S128x384_S128x128_0_256))))) (mulf (res_main_while0b_v106 V0) (V0 (Proc.devRef .tc main_v14_8))) := by
  unfold val10
  simp only [trip_w9]
  after_results_entrywise [val9_main_v14_8, val9_main_while0b_v91, val9_main_while0b_v88, val9_main_while0b_v92, val9_main_while0b_v95, val9_main_while0b_v96, val9_main_while0b_v89, res_main_while0b_v106, cast_eq]

/-- The device's buffer contents after the body's first 11 windows. -/
def val11 (V0 : Valuation τ sig (Elt F)) : Valuation τ sig (Elt F) := after trip_w10 (val10 V0)
/-- The buffers that window `trip_w10`'s operations write. -/
abbrev trip_w10_W : List (Ref sig .tc) := [main_while0b_call3_v0, main_while0b_call3_c, main_while0b_v115]
set_option maxRecDepth 8192 in
theorem trip_w10_writes : (trip_w10 : List (HloOp τ sig (Elt F))).Forall fun op => op.writes ⊆ (trip_w10_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w10` does not write keeps its contents through it. -/
theorem val11_keep (V0 : Valuation τ sig (Elt F)) (r : Ref sig .tc) (h : r ∉ trip_w10_W) :
    val11 V0 (Proc.devRef .tc r) = val10 V0 (Proc.devRef .tc r) :=
  after_of_writes_sub trip_w10 _ trip_w10_writes h
theorem val11_main_v14_0 (V0 : Valuation τ sig (Elt F)) : val11 V0 (no_index (Proc.devRef .tc main_v14_0)) = V0 (Proc.devRef .tc main_v14_0) :=
  (val11_keep V0 main_v14_0 (by decide)).trans (val10_main_v14_0 V0)
theorem val11_main_v14_8 (V0 : Valuation τ sig (Elt F)) : val11 V0 (no_index (Proc.devRef .tc main_v14_8)) = V0 (Proc.devRef .tc main_v14_8) :=
  (val11_keep V0 main_v14_8 (by decide)).trans (val10_main_v14_8 V0)
theorem val11_main_v14_1 (V0 : Valuation τ sig (Elt F)) : val11 V0 (no_index (Proc.devRef .tc main_v14_1)) = V0 (Proc.devRef .tc main_v14_1) :=
  (val11_keep V0 main_v14_1 (by decide)).trans (val10_main_v14_1 V0)
theorem val11_main_v14_9 (V0 : Valuation τ sig (Elt F)) : val11 V0 (no_index (Proc.devRef .tc main_v14_9)) = V0 (Proc.devRef .tc main_v14_9) :=
  (val11_keep V0 main_v14_9 (by decide)).trans (val10_main_v14_9 V0)
theorem val11_main_v14_2 (V0 : Valuation τ sig (Elt F)) : val11 V0 (no_index (Proc.devRef .tc main_v14_2)) = V0 (Proc.devRef .tc main_v14_2) :=
  (val11_keep V0 main_v14_2 (by decide)).trans (val10_main_v14_2 V0)
theorem val11_main_v14_3 (V0 : Valuation τ sig (Elt F)) : val11 V0 (no_index (Proc.devRef .tc main_v14_3)) = V0 (Proc.devRef .tc main_v14_3) :=
  (val11_keep V0 main_v14_3 (by decide)).trans (val10_main_v14_3 V0)
theorem val11_main_v14_4 (V0 : Valuation τ sig (Elt F)) : val11 V0 (no_index (Proc.devRef .tc main_v14_4)) = V0 (Proc.devRef .tc main_v14_4) :=
  (val11_keep V0 main_v14_4 (by decide)).trans (val10_main_v14_4 V0)
theorem val11_main_v14_5 (V0 : Valuation τ sig (Elt F)) : val11 V0 (no_index (Proc.devRef .tc main_v14_5)) = V0 (Proc.devRef .tc main_v14_5) :=
  (val11_keep V0 main_v14_5 (by decide)).trans (val10_main_v14_5 V0)
theorem val11_main_v14_6 (V0 : Valuation τ sig (Elt F)) : val11 V0 (no_index (Proc.devRef .tc main_v14_6)) = V0 (Proc.devRef .tc main_v14_6) :=
  (val11_keep V0 main_v14_6 (by decide)).trans (val10_main_v14_6 V0)
theorem val11_main_v14_10 (V0 : Valuation τ sig (Elt F)) : val11 V0 (no_index (Proc.devRef .tc main_v14_10)) = V0 (Proc.devRef .tc main_v14_10) :=
  (val11_keep V0 main_v14_10 (by decide)).trans (val10_main_v14_10 V0)
theorem val11_main_v14_7 (V0 : Valuation τ sig (Elt F)) : val11 V0 (no_index (Proc.devRef .tc main_v14_7)) = V0 (Proc.devRef .tc main_v14_7) :=
  (val11_keep V0 main_v14_7 (by decide)).trans (val10_main_v14_7 V0)
theorem val11_main_v14_11 (V0 : Valuation τ sig (Elt F)) : val11 V0 (no_index (Proc.devRef .tc main_v14_11)) = V0 (Proc.devRef .tc main_v14_11) :=
  (val11_keep V0 main_v14_11 (by decide)).trans (val10_main_v14_11 V0)
theorem val11_main_v14_12 (V0 : Valuation τ sig (Elt F)) : val11 V0 (no_index (Proc.devRef .tc main_v14_12)) = V0 (Proc.devRef .tc main_v14_12) :=
  (val11_keep V0 main_v14_12 (by decide)).trans (val10_main_v14_12 V0)
theorem val11_main_while0b_v41 (V0 : Valuation τ sig (Elt F)) : val11 V0 (no_index (Proc.devRef .tc main_while0b_v41)) = Host.log (addf (shapeCast S128 (select (Host.reduce IntOp.andi (andi (cmpi .sge (res_main_while0b_call2_v5 V0) (broadcastInDim S128x1x1 ![] bcast_S_S128x1x1 (constantI S_ 32 0#32))) (cmpi .sle (res_main_while0b_call2_v5 V0) (broadcastInDim S128x1x1 ![0, 1, 2] bcast_S1x1x1_S128x1x1_0_1_2 (broadcastInDim S1x1x1 ![2] bcast_S1_S1x1x1_2 (constantI S1 32 255#32))))) (constantI S_ 1 1#1) reducesTo_S128x1x1_S128x1_d2 h_S_) (Host.gather gather_S128x256_S128x1x1_S128x1_n_1_0_0_1_2_11 (res_main_while0b_v34 V0) (res_main_while0b_call2_v5 V0)) (broadcastInDim S128x1 ![] bcast_S_S128x1 (constant S_ .f32 0x7FC00000#32))) shapeCasts_S128x1_S128) (broadcastInDim S128 ![] bcast_S_S128 (constant S_ .f32 0x2B8CBCCC#32))) :=
  (val11_keep V0 main_while0b_v41 (by decide)).trans (val10_main_while0b_v41 V0)
theorem val11_main_while0b_v47 (V0 : Valuation τ sig (Elt F)) : val11 V0 (no_index (Proc.devRef .tc main_while0b_v47)) = Host.negf (Host.reduceAdd (mulf (res_main_while0b_v34 V0) (Host.log (addf (res_main_while0b_v34 V0) (broadcastInDim S128x256 ![] bcast_S_S128x256 (constant S_ .f32 0x2B8CBCCC#32))))) (constant S_ .f32 0x00000000#32) reducesTo_S128x256_S128_d1 h_S_) :=
  (val11_keep V0 main_while0b_v47 (by decide)).trans (val10_main_while0b_v47 V0)
theorem val11_main_while0b_v62 (V0 : Valuation τ sig (Elt F)) : val11 V0 (no_index (Proc.devRef .tc main_while0b_v62)) = Host.scatter scatter_S128x256_S128x2_S128_n_01_01_1 (fun _ b => b) (V0 (Proc.devRef .tc main_v14_9)) (concatenate S128x2 1 [⟨S128x1, (broadcastInDim S128x1 ![0] bcast_S128_S128x1_0 (select (cmpi .slt (V0 (Proc.devRef .tc main_v14_2)) (broadcastInDim S128 ![] bcast_S_S128 (constantI S_ 32 0#32))) (addi (V0 (Proc.devRef .tc main_v14_2)) (broadcastInDim S128 ![] bcast_S_S128 (constantI S_ 32 128#32))) (V0 (Proc.devRef .tc main_v14_2))))⟩, ⟨S128x1, (broadcastInDim S128x1 ![0] bcast_S128_S128x1_0 (select (cmpi .slt (res_main_while0b_v35 V0) (broadcastInDim S128 ![] bcast_S_S128 (constantI S_ 32 0#32))) (addi (res_main_while0b_v35 V0) (broadcastInDim S128 ![] bcast_S_S128 (constantI S_ 32 256#32))) (res_main_while0b_v35 V0)))⟩] concatenates_S128x1_S128x1_S128x2_d1) (broadcastInDim S128 ![] bcast_S_S128 (constantI S_ 1 1#1)) :=
  (val11_keep V0 main_while0b_v62 (by decide)).trans (val10_main_while0b_v62 V0)
theorem val11_main_while0b_v114 (V0 : Valuation τ sig (Elt F)) : val11 V0 (no_index (Proc.devRef .tc main_while0b_v114)) = addf (mulf (subf (broadcastInDim S128x128 ![] bcast_S_S128x128 (constant S_ .f32 0x3F800000#32)) (res_main_while0b_v106 V0)) (Host.tanh (addf (extractStridedSlice S128x128 ![0, 256] (res_main_while0b_v81 V0) slices_S128x384_S128x128_0_256) (mulf (Host.divf (broadcastInDim S128x128 ![] bcast_S_S128x128 (constant S_ .f32 0x3F800000#32)) (addf (broadcastInDim S128x128 ![] bcast_S_S128x128 (constant S_ .f32 0x3F800000#32)) (Host.exp (Host.negf (addf (extractStridedSlice S128x128 ![0, 0] (res_main_while0b_v81 V0) slices_S128x384_S128x128_0_0) (extractStridedSlice S128x128 ![0, 0] (res_main_while0b_v86 V0) slices_S128x384_S128x128_0_0)))))) (extractStridedSlice S128x128 ![0, 256] (res_main_while0b_v86 V0) slices_S128x384_S128x128_0_256))))) (mulf (res_main_while0b_v106 V0) (V0 (Proc.devRef .tc main_v14_8))) :=
  (val11_keep V0 main_while0b_v114 (by decide)).trans (val10_main_while0b_v114 V0)
set_option maxRecDepth 8192 in
theorem val11_main_while0b_v115 (V0 : Valuation τ sig (Elt F)) : val11 V0 (no_index (Proc.devRef .tc main_while0b_v115)) = Host.dynamicUpdateSlice (V0 (Proc.devRef .tc main_v14_10)) (broadcastInDim S1x128 ![1] bcast_S128_S1x128_1 (res_main_while0b_v35 V0)) (fun k => (((![V0 (Proc.devRef .tc main_v14_7), constantI S_ 32 0#32] : Fin 2 → (⟨S_, .i32⟩ : BufTy).Contents (Elt F))) k (Shape.Idx.first h_S_)).toInt) updateFits_S256x128_S1x128 := by
  unfold val11
  simp only [trip_w10]
  after_results_entrywise [val10_main_v14_7, val10_main_while0b_v35, val10_main_v14_10, cast_eq]

/-- The device's buffer contents after the body's first 12 windows. -/
def val12 (V0 : Valuation τ sig (Elt F)) : Valuation τ sig (Elt F) := after trip_w11 (val11 V0)
/-- The buffers that window `trip_w11`'s operations write. -/
abbrev trip_w11_W : List (Ref sig .tc) := [main_while0b_call4_v0, main_while0b_call4_c, main_while0b_v116]
set_option maxRecDepth 8192 in
theorem trip_w11_writes : (trip_w11 : List (HloOp τ sig (Elt F))).Forall fun op => op.writes ⊆ (trip_w11_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w11` does not write keeps its contents through it. -/
theorem val12_keep (V0 : Valuation τ sig (Elt F)) (r : Ref sig .tc) (h : r ∉ trip_w11_W) :
    val12 V0 (Proc.devRef .tc r) = val11 V0 (Proc.devRef .tc r) :=
  after_of_writes_sub trip_w11 _ trip_w11_writes h
theorem val12_main_v14_0 (V0 : Valuation τ sig (Elt F)) : val12 V0 (no_index (Proc.devRef .tc main_v14_0)) = V0 (Proc.devRef .tc main_v14_0) :=
  (val12_keep V0 main_v14_0 (by decide)).trans (val11_main_v14_0 V0)
theorem val12_main_v14_8 (V0 : Valuation τ sig (Elt F)) : val12 V0 (no_index (Proc.devRef .tc main_v14_8)) = V0 (Proc.devRef .tc main_v14_8) :=
  (val12_keep V0 main_v14_8 (by decide)).trans (val11_main_v14_8 V0)
theorem val12_main_v14_1 (V0 : Valuation τ sig (Elt F)) : val12 V0 (no_index (Proc.devRef .tc main_v14_1)) = V0 (Proc.devRef .tc main_v14_1) :=
  (val12_keep V0 main_v14_1 (by decide)).trans (val11_main_v14_1 V0)
theorem val12_main_v14_9 (V0 : Valuation τ sig (Elt F)) : val12 V0 (no_index (Proc.devRef .tc main_v14_9)) = V0 (Proc.devRef .tc main_v14_9) :=
  (val12_keep V0 main_v14_9 (by decide)).trans (val11_main_v14_9 V0)
theorem val12_main_v14_2 (V0 : Valuation τ sig (Elt F)) : val12 V0 (no_index (Proc.devRef .tc main_v14_2)) = V0 (Proc.devRef .tc main_v14_2) :=
  (val12_keep V0 main_v14_2 (by decide)).trans (val11_main_v14_2 V0)
theorem val12_main_v14_3 (V0 : Valuation τ sig (Elt F)) : val12 V0 (no_index (Proc.devRef .tc main_v14_3)) = V0 (Proc.devRef .tc main_v14_3) :=
  (val12_keep V0 main_v14_3 (by decide)).trans (val11_main_v14_3 V0)
theorem val12_main_v14_4 (V0 : Valuation τ sig (Elt F)) : val12 V0 (no_index (Proc.devRef .tc main_v14_4)) = V0 (Proc.devRef .tc main_v14_4) :=
  (val12_keep V0 main_v14_4 (by decide)).trans (val11_main_v14_4 V0)
theorem val12_main_v14_5 (V0 : Valuation τ sig (Elt F)) : val12 V0 (no_index (Proc.devRef .tc main_v14_5)) = V0 (Proc.devRef .tc main_v14_5) :=
  (val12_keep V0 main_v14_5 (by decide)).trans (val11_main_v14_5 V0)
theorem val12_main_v14_6 (V0 : Valuation τ sig (Elt F)) : val12 V0 (no_index (Proc.devRef .tc main_v14_6)) = V0 (Proc.devRef .tc main_v14_6) :=
  (val12_keep V0 main_v14_6 (by decide)).trans (val11_main_v14_6 V0)
theorem val12_main_v14_10 (V0 : Valuation τ sig (Elt F)) : val12 V0 (no_index (Proc.devRef .tc main_v14_10)) = V0 (Proc.devRef .tc main_v14_10) :=
  (val12_keep V0 main_v14_10 (by decide)).trans (val11_main_v14_10 V0)
theorem val12_main_v14_7 (V0 : Valuation τ sig (Elt F)) : val12 V0 (no_index (Proc.devRef .tc main_v14_7)) = V0 (Proc.devRef .tc main_v14_7) :=
  (val12_keep V0 main_v14_7 (by decide)).trans (val11_main_v14_7 V0)
theorem val12_main_v14_11 (V0 : Valuation τ sig (Elt F)) : val12 V0 (no_index (Proc.devRef .tc main_v14_11)) = V0 (Proc.devRef .tc main_v14_11) :=
  (val12_keep V0 main_v14_11 (by decide)).trans (val11_main_v14_11 V0)
theorem val12_main_v14_12 (V0 : Valuation τ sig (Elt F)) : val12 V0 (no_index (Proc.devRef .tc main_v14_12)) = V0 (Proc.devRef .tc main_v14_12) :=
  (val12_keep V0 main_v14_12 (by decide)).trans (val11_main_v14_12 V0)
theorem val12_main_while0b_v47 (V0 : Valuation τ sig (Elt F)) : val12 V0 (no_index (Proc.devRef .tc main_while0b_v47)) = Host.negf (Host.reduceAdd (mulf (res_main_while0b_v34 V0) (Host.log (addf (res_main_while0b_v34 V0) (broadcastInDim S128x256 ![] bcast_S_S128x256 (constant S_ .f32 0x2B8CBCCC#32))))) (constant S_ .f32 0x00000000#32) reducesTo_S128x256_S128_d1 h_S_) :=
  (val12_keep V0 main_while0b_v47 (by decide)).trans (val11_main_while0b_v47 V0)
theorem val12_main_while0b_v62 (V0 : Valuation τ sig (Elt F)) : val12 V0 (no_index (Proc.devRef .tc main_while0b_v62)) = Host.scatter scatter_S128x256_S128x2_S128_n_01_01_1 (fun _ b => b) (V0 (Proc.devRef .tc main_v14_9)) (concatenate S128x2 1 [⟨S128x1, (broadcastInDim S128x1 ![0] bcast_S128_S128x1_0 (select (cmpi .slt (V0 (Proc.devRef .tc main_v14_2)) (broadcastInDim S128 ![] bcast_S_S128 (constantI S_ 32 0#32))) (addi (V0 (Proc.devRef .tc main_v14_2)) (broadcastInDim S128 ![] bcast_S_S128 (constantI S_ 32 128#32))) (V0 (Proc.devRef .tc main_v14_2))))⟩, ⟨S128x1, (broadcastInDim S128x1 ![0] bcast_S128_S128x1_0 (select (cmpi .slt (res_main_while0b_v35 V0) (broadcastInDim S128 ![] bcast_S_S128 (constantI S_ 32 0#32))) (addi (res_main_while0b_v35 V0) (broadcastInDim S128 ![] bcast_S_S128 (constantI S_ 32 256#32))) (res_main_while0b_v35 V0)))⟩] concatenates_S128x1_S128x1_S128x2_d1) (broadcastInDim S128 ![] bcast_S_S128 (constantI S_ 1 1#1)) :=
  (val12_keep V0 main_while0b_v62 (by decide)).trans (val11_main_while0b_v62 V0)
theorem val12_main_while0b_v114 (V0 : Valuation τ sig (Elt F)) : val12 V0 (no_index (Proc.devRef .tc main_while0b_v114)) = addf (mulf (subf (broadcastInDim S128x128 ![] bcast_S_S128x128 (constant S_ .f32 0x3F800000#32)) (res_main_while0b_v106 V0)) (Host.tanh (addf (extractStridedSlice S128x128 ![0, 256] (res_main_while0b_v81 V0) slices_S128x384_S128x128_0_256) (mulf (Host.divf (broadcastInDim S128x128 ![] bcast_S_S128x128 (constant S_ .f32 0x3F800000#32)) (addf (broadcastInDim S128x128 ![] bcast_S_S128x128 (constant S_ .f32 0x3F800000#32)) (Host.exp (Host.negf (addf (extractStridedSlice S128x128 ![0, 0] (res_main_while0b_v81 V0) slices_S128x384_S128x128_0_0) (extractStridedSlice S128x128 ![0, 0] (res_main_while0b_v86 V0) slices_S128x384_S128x128_0_0)))))) (extractStridedSlice S128x128 ![0, 256] (res_main_while0b_v86 V0) slices_S128x384_S128x128_0_256))))) (mulf (res_main_while0b_v106 V0) (V0 (Proc.devRef .tc main_v14_8))) :=
  (val12_keep V0 main_while0b_v114 (by decide)).trans (val11_main_while0b_v114 V0)
theorem val12_main_while0b_v115 (V0 : Valuation τ sig (Elt F)) : val12 V0 (no_index (Proc.devRef .tc main_while0b_v115)) = Host.dynamicUpdateSlice (V0 (Proc.devRef .tc main_v14_10)) (broadcastInDim S1x128 ![1] bcast_S128_S1x128_1 (res_main_while0b_v35 V0)) (fun k => (((![V0 (Proc.devRef .tc main_v14_7), constantI S_ 32 0#32] : Fin 2 → (⟨S_, .i32⟩ : BufTy).Contents (Elt F))) k (Shape.Idx.first h_S_)).toInt) updateFits_S256x128_S1x128 :=
  (val12_keep V0 main_while0b_v115 (by decide)).trans (val11_main_while0b_v115 V0)
set_option maxRecDepth 8192 in
theorem val12_main_while0b_v116 (V0 : Valuation τ sig (Elt F)) : val12 V0 (no_index (Proc.devRef .tc main_while0b_v116)) = Host.dynamicUpdateSlice (V0 (Proc.devRef .tc main_v14_11)) (broadcastInDim S1x128 ![1] bcast_S128_S1x128_1 (Host.log (addf (shapeCast S128 (select (Host.reduce IntOp.andi (andi (cmpi .sge (res_main_while0b_call2_v5 V0) (broadcastInDim S128x1x1 ![] bcast_S_S128x1x1 (constantI S_ 32 0#32))) (cmpi .sle (res_main_while0b_call2_v5 V0) (broadcastInDim S128x1x1 ![0, 1, 2] bcast_S1x1x1_S128x1x1_0_1_2 (broadcastInDim S1x1x1 ![2] bcast_S1_S1x1x1_2 (constantI S1 32 255#32))))) (constantI S_ 1 1#1) reducesTo_S128x1x1_S128x1_d2 h_S_) (Host.gather gather_S128x256_S128x1x1_S128x1_n_1_0_0_1_2_11 (res_main_while0b_v34 V0) (res_main_while0b_call2_v5 V0)) (broadcastInDim S128x1 ![] bcast_S_S128x1 (constant S_ .f32 0x7FC00000#32))) shapeCasts_S128x1_S128) (broadcastInDim S128 ![] bcast_S_S128 (constant S_ .f32 0x2B8CBCCC#32))))) (fun k => (((![V0 (Proc.devRef .tc main_v14_7), constantI S_ 32 0#32] : Fin 2 → (⟨S_, .i32⟩ : BufTy).Contents (Elt F))) k (Shape.Idx.first h_S_)).toInt) updateFits_S256x128_S1x128 := by
  unfold val12
  simp only [trip_w11]
  after_results_entrywise [val11_main_v14_7, val11_main_while0b_v41, val11_main_v14_11, cast_eq]

/-- The device's buffer contents after the body's first 13 windows. -/
def val13 (V0 : Valuation τ sig (Elt F)) : Valuation τ sig (Elt F) := after trip_w12 (val12 V0)
/-- The buffers that window `trip_w12`'s operations write. -/
abbrev trip_w12_W : List (Ref sig .tc) := [main_while0b_call5_v0, main_while0b_call5_c, main_while0b_v117]
set_option maxRecDepth 8192 in
theorem trip_w12_writes : (trip_w12 : List (HloOp τ sig (Elt F))).Forall fun op => op.writes ⊆ (trip_w12_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w12` does not write keeps its contents through it. -/
theorem val13_keep (V0 : Valuation τ sig (Elt F)) (r : Ref sig .tc) (h : r ∉ trip_w12_W) :
    val13 V0 (Proc.devRef .tc r) = val12 V0 (Proc.devRef .tc r) :=
  after_of_writes_sub trip_w12 _ trip_w12_writes h
theorem val13_main_v14_0 (V0 : Valuation τ sig (Elt F)) : val13 V0 (no_index (Proc.devRef .tc main_v14_0)) = V0 (Proc.devRef .tc main_v14_0) :=
  (val13_keep V0 main_v14_0 (by decide)).trans (val12_main_v14_0 V0)
theorem val13_main_v14_8 (V0 : Valuation τ sig (Elt F)) : val13 V0 (no_index (Proc.devRef .tc main_v14_8)) = V0 (Proc.devRef .tc main_v14_8) :=
  (val13_keep V0 main_v14_8 (by decide)).trans (val12_main_v14_8 V0)
theorem val13_main_v14_1 (V0 : Valuation τ sig (Elt F)) : val13 V0 (no_index (Proc.devRef .tc main_v14_1)) = V0 (Proc.devRef .tc main_v14_1) :=
  (val13_keep V0 main_v14_1 (by decide)).trans (val12_main_v14_1 V0)
theorem val13_main_v14_9 (V0 : Valuation τ sig (Elt F)) : val13 V0 (no_index (Proc.devRef .tc main_v14_9)) = V0 (Proc.devRef .tc main_v14_9) :=
  (val13_keep V0 main_v14_9 (by decide)).trans (val12_main_v14_9 V0)
theorem val13_main_v14_2 (V0 : Valuation τ sig (Elt F)) : val13 V0 (no_index (Proc.devRef .tc main_v14_2)) = V0 (Proc.devRef .tc main_v14_2) :=
  (val13_keep V0 main_v14_2 (by decide)).trans (val12_main_v14_2 V0)
theorem val13_main_v14_3 (V0 : Valuation τ sig (Elt F)) : val13 V0 (no_index (Proc.devRef .tc main_v14_3)) = V0 (Proc.devRef .tc main_v14_3) :=
  (val13_keep V0 main_v14_3 (by decide)).trans (val12_main_v14_3 V0)
theorem val13_main_v14_4 (V0 : Valuation τ sig (Elt F)) : val13 V0 (no_index (Proc.devRef .tc main_v14_4)) = V0 (Proc.devRef .tc main_v14_4) :=
  (val13_keep V0 main_v14_4 (by decide)).trans (val12_main_v14_4 V0)
theorem val13_main_v14_5 (V0 : Valuation τ sig (Elt F)) : val13 V0 (no_index (Proc.devRef .tc main_v14_5)) = V0 (Proc.devRef .tc main_v14_5) :=
  (val13_keep V0 main_v14_5 (by decide)).trans (val12_main_v14_5 V0)
theorem val13_main_v14_6 (V0 : Valuation τ sig (Elt F)) : val13 V0 (no_index (Proc.devRef .tc main_v14_6)) = V0 (Proc.devRef .tc main_v14_6) :=
  (val13_keep V0 main_v14_6 (by decide)).trans (val12_main_v14_6 V0)
theorem val13_main_v14_10 (V0 : Valuation τ sig (Elt F)) : val13 V0 (no_index (Proc.devRef .tc main_v14_10)) = V0 (Proc.devRef .tc main_v14_10) :=
  (val13_keep V0 main_v14_10 (by decide)).trans (val12_main_v14_10 V0)
theorem val13_main_v14_7 (V0 : Valuation τ sig (Elt F)) : val13 V0 (no_index (Proc.devRef .tc main_v14_7)) = V0 (Proc.devRef .tc main_v14_7) :=
  (val13_keep V0 main_v14_7 (by decide)).trans (val12_main_v14_7 V0)
theorem val13_main_v14_11 (V0 : Valuation τ sig (Elt F)) : val13 V0 (no_index (Proc.devRef .tc main_v14_11)) = V0 (Proc.devRef .tc main_v14_11) :=
  (val13_keep V0 main_v14_11 (by decide)).trans (val12_main_v14_11 V0)
theorem val13_main_v14_12 (V0 : Valuation τ sig (Elt F)) : val13 V0 (no_index (Proc.devRef .tc main_v14_12)) = V0 (Proc.devRef .tc main_v14_12) :=
  (val13_keep V0 main_v14_12 (by decide)).trans (val12_main_v14_12 V0)
theorem val13_main_while0b_v62 (V0 : Valuation τ sig (Elt F)) : val13 V0 (no_index (Proc.devRef .tc main_while0b_v62)) = Host.scatter scatter_S128x256_S128x2_S128_n_01_01_1 (fun _ b => b) (V0 (Proc.devRef .tc main_v14_9)) (concatenate S128x2 1 [⟨S128x1, (broadcastInDim S128x1 ![0] bcast_S128_S128x1_0 (select (cmpi .slt (V0 (Proc.devRef .tc main_v14_2)) (broadcastInDim S128 ![] bcast_S_S128 (constantI S_ 32 0#32))) (addi (V0 (Proc.devRef .tc main_v14_2)) (broadcastInDim S128 ![] bcast_S_S128 (constantI S_ 32 128#32))) (V0 (Proc.devRef .tc main_v14_2))))⟩, ⟨S128x1, (broadcastInDim S128x1 ![0] bcast_S128_S128x1_0 (select (cmpi .slt (res_main_while0b_v35 V0) (broadcastInDim S128 ![] bcast_S_S128 (constantI S_ 32 0#32))) (addi (res_main_while0b_v35 V0) (broadcastInDim S128 ![] bcast_S_S128 (constantI S_ 32 256#32))) (res_main_while0b_v35 V0)))⟩] concatenates_S128x1_S128x1_S128x2_d1) (broadcastInDim S128 ![] bcast_S_S128 (constantI S_ 1 1#1)) :=
  (val13_keep V0 main_while0b_v62 (by decide)).trans (val12_main_while0b_v62 V0)
theorem val13_main_while0b_v114 (V0 : Valuation τ sig (Elt F)) : val13 V0 (no_index (Proc.devRef .tc main_while0b_v114)) = addf (mulf (subf (broadcastInDim S128x128 ![] bcast_S_S128x128 (constant S_ .f32 0x3F800000#32)) (res_main_while0b_v106 V0)) (Host.tanh (addf (extractStridedSlice S128x128 ![0, 256] (res_main_while0b_v81 V0) slices_S128x384_S128x128_0_256) (mulf (Host.divf (broadcastInDim S128x128 ![] bcast_S_S128x128 (constant S_ .f32 0x3F800000#32)) (addf (broadcastInDim S128x128 ![] bcast_S_S128x128 (constant S_ .f32 0x3F800000#32)) (Host.exp (Host.negf (addf (extractStridedSlice S128x128 ![0, 0] (res_main_while0b_v81 V0) slices_S128x384_S128x128_0_0) (extractStridedSlice S128x128 ![0, 0] (res_main_while0b_v86 V0) slices_S128x384_S128x128_0_0)))))) (extractStridedSlice S128x128 ![0, 256] (res_main_while0b_v86 V0) slices_S128x384_S128x128_0_256))))) (mulf (res_main_while0b_v106 V0) (V0 (Proc.devRef .tc main_v14_8))) :=
  (val13_keep V0 main_while0b_v114 (by decide)).trans (val12_main_while0b_v114 V0)
theorem val13_main_while0b_v115 (V0 : Valuation τ sig (Elt F)) : val13 V0 (no_index (Proc.devRef .tc main_while0b_v115)) = Host.dynamicUpdateSlice (V0 (Proc.devRef .tc main_v14_10)) (broadcastInDim S1x128 ![1] bcast_S128_S1x128_1 (res_main_while0b_v35 V0)) (fun k => (((![V0 (Proc.devRef .tc main_v14_7), constantI S_ 32 0#32] : Fin 2 → (⟨S_, .i32⟩ : BufTy).Contents (Elt F))) k (Shape.Idx.first h_S_)).toInt) updateFits_S256x128_S1x128 :=
  (val13_keep V0 main_while0b_v115 (by decide)).trans (val12_main_while0b_v115 V0)
theorem val13_main_while0b_v116 (V0 : Valuation τ sig (Elt F)) : val13 V0 (no_index (Proc.devRef .tc main_while0b_v116)) = Host.dynamicUpdateSlice (V0 (Proc.devRef .tc main_v14_11)) (broadcastInDim S1x128 ![1] bcast_S128_S1x128_1 (Host.log (addf (shapeCast S128 (select (Host.reduce IntOp.andi (andi (cmpi .sge (res_main_while0b_call2_v5 V0) (broadcastInDim S128x1x1 ![] bcast_S_S128x1x1 (constantI S_ 32 0#32))) (cmpi .sle (res_main_while0b_call2_v5 V0) (broadcastInDim S128x1x1 ![0, 1, 2] bcast_S1x1x1_S128x1x1_0_1_2 (broadcastInDim S1x1x1 ![2] bcast_S1_S1x1x1_2 (constantI S1 32 255#32))))) (constantI S_ 1 1#1) reducesTo_S128x1x1_S128x1_d2 h_S_) (Host.gather gather_S128x256_S128x1x1_S128x1_n_1_0_0_1_2_11 (res_main_while0b_v34 V0) (res_main_while0b_call2_v5 V0)) (broadcastInDim S128x1 ![] bcast_S_S128x1 (constant S_ .f32 0x7FC00000#32))) shapeCasts_S128x1_S128) (broadcastInDim S128 ![] bcast_S_S128 (constant S_ .f32 0x2B8CBCCC#32))))) (fun k => (((![V0 (Proc.devRef .tc main_v14_7), constantI S_ 32 0#32] : Fin 2 → (⟨S_, .i32⟩ : BufTy).Contents (Elt F))) k (Shape.Idx.first h_S_)).toInt) updateFits_S256x128_S1x128 :=
  (val13_keep V0 main_while0b_v116 (by decide)).trans (val12_main_while0b_v116 V0)
set_option maxRecDepth 8192 in
theorem val13_main_while0b_v117 (V0 : Valuation τ sig (Elt F)) : val13 V0 (no_index (Proc.devRef .tc main_while0b_v117)) = Host.dynamicUpdateSlice (V0 (Proc.devRef .tc main_v14_12)) (broadcastInDim S1x128 ![1] bcast_S128_S1x128_1 (Host.negf (Host.reduceAdd (mulf (res_main_while0b_v34 V0) (Host.log (addf (res_main_while0b_v34 V0) (broadcastInDim S128x256 ![] bcast_S_S128x256 (constant S_ .f32 0x2B8CBCCC#32))))) (constant S_ .f32 0x00000000#32) reducesTo_S128x256_S128_d1 h_S_))) (fun k => (((![V0 (Proc.devRef .tc main_v14_7), constantI S_ 32 0#32] : Fin 2 → (⟨S_, .i32⟩ : BufTy).Contents (Elt F))) k (Shape.Idx.first h_S_)).toInt) updateFits_S256x128_S1x128 := by
  unfold val13
  simp only [trip_w12]
  after_results_entrywise [val12_main_v14_7, val12_main_while0b_v47, val12_main_v14_12, cast_eq]

set_option maxRecDepth 8192 in
/-- The body's stretches before `while0Ops0_10`, from any contents: their windows in order. -/
theorem trip_windows (V0 : Valuation τ sig (Elt F)) : after while0Ops0_9 (after while0Ops0_8 (after while0Ops0_7 (after while0Ops0_6 (after while0Ops0_5 (after while0Ops0_4 (after while0Ops0_3 (after while0Ops0_2 (after while0Ops0_1 (after while0Ops0 (V0)))))))))) = val13 V0 := by
  simp only [while0Ops0_cut, while0Ops0_1_cut, while0Ops0_2_cut, while0Ops0_3_cut, while0Ops0_4_cut, while0Ops0_5_cut, while0Ops0_6_cut, while0Ops0_7_cut, while0Ops0_8_cut, while0Ops0_9_cut, after_append]
  rfl

set_option maxRecDepth 8192 in
set_option maxHeartbeats 2000000 in
/-- `main_v14_0` after one trip's body, from any contents. -/
theorem trip_main_v14_0 (V0 : Valuation τ sig (Elt F)) : afterL bodyI V0 (no_index (Proc.devRef .tc main_v14_0)) = V0 (Proc.devRef .tc main_v14_0) := by
  simp only [bodyI, afterL_cons, afterL_nil, trip_windows]
  after_results
  all_goals (try simp only [val13_main_while0b_v114, val13_main_while0b_v62, val13_main_while0b_v115, val13_main_while0b_v116, val13_main_while0b_v117, val13_main_v14_0, val13_main_v14_1, val13_main_v14_2, val13_main_v14_3, val13_main_v14_4, val13_main_v14_5, val13_main_v14_6, val13_main_v14_7, val13_main_v14_8, val13_main_v14_9, val13_main_v14_10, val13_main_v14_11, val13_main_v14_12]) <;> rfl
set_option maxRecDepth 8192 in
set_option maxHeartbeats 2000000 in
/-- `main_v14_1` after one trip's body, from any contents. -/
theorem trip_main_v14_1 (V0 : Valuation τ sig (Elt F)) : afterL bodyI V0 (no_index (Proc.devRef .tc main_v14_1)) = V0 (Proc.devRef .tc main_v14_1) := by
  simp only [bodyI, afterL_cons, afterL_nil, trip_windows]
  after_results
  all_goals (try simp only [val13_main_while0b_v114, val13_main_while0b_v62, val13_main_while0b_v115, val13_main_while0b_v116, val13_main_while0b_v117, val13_main_v14_0, val13_main_v14_1, val13_main_v14_2, val13_main_v14_3, val13_main_v14_4, val13_main_v14_5, val13_main_v14_6, val13_main_v14_7, val13_main_v14_8, val13_main_v14_9, val13_main_v14_10, val13_main_v14_11, val13_main_v14_12]) <;> rfl
set_option maxRecDepth 8192 in
set_option maxHeartbeats 2000000 in
/-- `main_v14_2` after one trip's body, from any contents. -/
theorem trip_main_v14_2 (V0 : Valuation τ sig (Elt F)) : afterL bodyI V0 (no_index (Proc.devRef .tc main_v14_2)) = V0 (Proc.devRef .tc main_v14_2) := by
  simp only [bodyI, afterL_cons, afterL_nil, trip_windows]
  after_results
  all_goals (try simp only [val13_main_while0b_v114, val13_main_while0b_v62, val13_main_while0b_v115, val13_main_while0b_v116, val13_main_while0b_v117, val13_main_v14_0, val13_main_v14_1, val13_main_v14_2, val13_main_v14_3, val13_main_v14_4, val13_main_v14_5, val13_main_v14_6, val13_main_v14_7, val13_main_v14_8, val13_main_v14_9, val13_main_v14_10, val13_main_v14_11, val13_main_v14_12]) <;> rfl
set_option maxRecDepth 8192 in
set_option maxHeartbeats 2000000 in
/-- `main_v14_3` after one trip's body, from any contents. -/
theorem trip_main_v14_3 (V0 : Valuation τ sig (Elt F)) : afterL bodyI V0 (no_index (Proc.devRef .tc main_v14_3)) = V0 (Proc.devRef .tc main_v14_3) := by
  simp only [bodyI, afterL_cons, afterL_nil, trip_windows]
  after_results
  all_goals (try simp only [val13_main_while0b_v114, val13_main_while0b_v62, val13_main_while0b_v115, val13_main_while0b_v116, val13_main_while0b_v117, val13_main_v14_0, val13_main_v14_1, val13_main_v14_2, val13_main_v14_3, val13_main_v14_4, val13_main_v14_5, val13_main_v14_6, val13_main_v14_7, val13_main_v14_8, val13_main_v14_9, val13_main_v14_10, val13_main_v14_11, val13_main_v14_12]) <;> rfl
set_option maxRecDepth 8192 in
set_option maxHeartbeats 2000000 in
/-- `main_v14_4` after one trip's body, from any contents. -/
theorem trip_main_v14_4 (V0 : Valuation τ sig (Elt F)) : afterL bodyI V0 (no_index (Proc.devRef .tc main_v14_4)) = V0 (Proc.devRef .tc main_v14_4) := by
  simp only [bodyI, afterL_cons, afterL_nil, trip_windows]
  after_results
  all_goals (try simp only [val13_main_while0b_v114, val13_main_while0b_v62, val13_main_while0b_v115, val13_main_while0b_v116, val13_main_while0b_v117, val13_main_v14_0, val13_main_v14_1, val13_main_v14_2, val13_main_v14_3, val13_main_v14_4, val13_main_v14_5, val13_main_v14_6, val13_main_v14_7, val13_main_v14_8, val13_main_v14_9, val13_main_v14_10, val13_main_v14_11, val13_main_v14_12]) <;> rfl
set_option maxRecDepth 8192 in
set_option maxHeartbeats 2000000 in
/-- `main_v14_5` after one trip's body, from any contents. -/
theorem trip_main_v14_5 (V0 : Valuation τ sig (Elt F)) : afterL bodyI V0 (no_index (Proc.devRef .tc main_v14_5)) = V0 (Proc.devRef .tc main_v14_5) := by
  simp only [bodyI, afterL_cons, afterL_nil, trip_windows]
  after_results
  all_goals (try simp only [val13_main_while0b_v114, val13_main_while0b_v62, val13_main_while0b_v115, val13_main_while0b_v116, val13_main_while0b_v117, val13_main_v14_0, val13_main_v14_1, val13_main_v14_2, val13_main_v14_3, val13_main_v14_4, val13_main_v14_5, val13_main_v14_6, val13_main_v14_7, val13_main_v14_8, val13_main_v14_9, val13_main_v14_10, val13_main_v14_11, val13_main_v14_12]) <;> rfl
set_option maxRecDepth 8192 in
set_option maxHeartbeats 2000000 in
/-- `main_v14_6` after one trip's body, from any contents. -/
theorem trip_main_v14_6 (V0 : Valuation τ sig (Elt F)) : afterL bodyI V0 (no_index (Proc.devRef .tc main_v14_6)) = V0 (Proc.devRef .tc main_v14_6) := by
  simp only [bodyI, afterL_cons, afterL_nil, trip_windows]
  after_results
  all_goals (try simp only [val13_main_while0b_v114, val13_main_while0b_v62, val13_main_while0b_v115, val13_main_while0b_v116, val13_main_while0b_v117, val13_main_v14_0, val13_main_v14_1, val13_main_v14_2, val13_main_v14_3, val13_main_v14_4, val13_main_v14_5, val13_main_v14_6, val13_main_v14_7, val13_main_v14_8, val13_main_v14_9, val13_main_v14_10, val13_main_v14_11, val13_main_v14_12]) <;> rfl
set_option maxRecDepth 8192 in
set_option maxHeartbeats 2000000 in
/-- `main_v14_7` after one trip's body, from any contents. -/
theorem trip_main_v14_7 (V0 : Valuation τ sig (Elt F)) : afterL bodyI V0 (no_index (Proc.devRef .tc main_v14_7)) = id (addi (V0 (Proc.devRef .tc main_v14_7)) (constantI S_ 32 1#32)) := by
  simp only [bodyI, afterL_cons, afterL_nil, trip_windows]
  after_results
  all_goals (try simp only [val13_main_while0b_v114, val13_main_while0b_v62, val13_main_while0b_v115, val13_main_while0b_v116, val13_main_while0b_v117, val13_main_v14_0, val13_main_v14_1, val13_main_v14_2, val13_main_v14_3, val13_main_v14_4, val13_main_v14_5, val13_main_v14_6, val13_main_v14_7, val13_main_v14_8, val13_main_v14_9, val13_main_v14_10, val13_main_v14_11, val13_main_v14_12]) <;> rfl
set_option maxRecDepth 8192 in
set_option maxHeartbeats 2000000 in
/-- `main_v14_8` after one trip's body, from any contents. -/
theorem trip_main_v14_8 (V0 : Valuation τ sig (Elt F)) : afterL bodyI V0 (no_index (Proc.devRef .tc main_v14_8)) = id (addf (mulf (subf (broadcastInDim S128x128 ![] bcast_S_S128x128 (constant S_ .f32 0x3F800000#32)) (res_main_while0b_v106 V0)) (Host.tanh (addf (extractStridedSlice S128x128 ![0, 256] (res_main_while0b_v81 V0) slices_S128x384_S128x128_0_256) (mulf (Host.divf (broadcastInDim S128x128 ![] bcast_S_S128x128 (constant S_ .f32 0x3F800000#32)) (addf (broadcastInDim S128x128 ![] bcast_S_S128x128 (constant S_ .f32 0x3F800000#32)) (Host.exp (Host.negf (addf (extractStridedSlice S128x128 ![0, 0] (res_main_while0b_v81 V0) slices_S128x384_S128x128_0_0) (extractStridedSlice S128x128 ![0, 0] (res_main_while0b_v86 V0) slices_S128x384_S128x128_0_0)))))) (extractStridedSlice S128x128 ![0, 256] (res_main_while0b_v86 V0) slices_S128x384_S128x128_0_256))))) (mulf (res_main_while0b_v106 V0) (V0 (Proc.devRef .tc main_v14_8)))) := by
  simp only [bodyI, afterL_cons, afterL_nil, trip_windows]
  after_results
  all_goals (try simp only [val13_main_while0b_v114, val13_main_while0b_v62, val13_main_while0b_v115, val13_main_while0b_v116, val13_main_while0b_v117, val13_main_v14_0, val13_main_v14_1, val13_main_v14_2, val13_main_v14_3, val13_main_v14_4, val13_main_v14_5, val13_main_v14_6, val13_main_v14_7, val13_main_v14_8, val13_main_v14_9, val13_main_v14_10, val13_main_v14_11, val13_main_v14_12]) <;> rfl
set_option maxRecDepth 8192 in
set_option maxHeartbeats 2000000 in
/-- `main_v14_9` after one trip's body, from any contents. -/
theorem trip_main_v14_9 (V0 : Valuation τ sig (Elt F)) : afterL bodyI V0 (no_index (Proc.devRef .tc main_v14_9)) = id (Host.scatter scatter_S128x256_S128x2_S128_n_01_01_1 (fun _ b => b) (V0 (Proc.devRef .tc main_v14_9)) (concatenate S128x2 1 [⟨S128x1, (broadcastInDim S128x1 ![0] bcast_S128_S128x1_0 (select (cmpi .slt (V0 (Proc.devRef .tc main_v14_2)) (broadcastInDim S128 ![] bcast_S_S128 (constantI S_ 32 0#32))) (addi (V0 (Proc.devRef .tc main_v14_2)) (broadcastInDim S128 ![] bcast_S_S128 (constantI S_ 32 128#32))) (V0 (Proc.devRef .tc main_v14_2))))⟩, ⟨S128x1, (broadcastInDim S128x1 ![0] bcast_S128_S128x1_0 (select (cmpi .slt (res_main_while0b_v35 V0) (broadcastInDim S128 ![] bcast_S_S128 (constantI S_ 32 0#32))) (addi (res_main_while0b_v35 V0) (broadcastInDim S128 ![] bcast_S_S128 (constantI S_ 32 256#32))) (res_main_while0b_v35 V0)))⟩] concatenates_S128x1_S128x1_S128x2_d1) (broadcastInDim S128 ![] bcast_S_S128 (constantI S_ 1 1#1))) := by
  simp only [bodyI, afterL_cons, afterL_nil, trip_windows]
  after_results
  all_goals (try simp only [val13_main_while0b_v114, val13_main_while0b_v62, val13_main_while0b_v115, val13_main_while0b_v116, val13_main_while0b_v117, val13_main_v14_0, val13_main_v14_1, val13_main_v14_2, val13_main_v14_3, val13_main_v14_4, val13_main_v14_5, val13_main_v14_6, val13_main_v14_7, val13_main_v14_8, val13_main_v14_9, val13_main_v14_10, val13_main_v14_11, val13_main_v14_12]) <;> rfl
set_option maxRecDepth 8192 in
set_option maxHeartbeats 2000000 in
/-- `main_v14_10` after one trip's body, from any contents. -/
theorem trip_main_v14_10 (V0 : Valuation τ sig (Elt F)) : afterL bodyI V0 (no_index (Proc.devRef .tc main_v14_10)) = id (Host.dynamicUpdateSlice (V0 (Proc.devRef .tc main_v14_10)) (broadcastInDim S1x128 ![1] bcast_S128_S1x128_1 (res_main_while0b_v35 V0)) (fun k => (((![V0 (Proc.devRef .tc main_v14_7), constantI S_ 32 0#32] : Fin 2 → (⟨S_, .i32⟩ : BufTy).Contents (Elt F))) k (Shape.Idx.first h_S_)).toInt) updateFits_S256x128_S1x128) := by
  simp only [bodyI, afterL_cons, afterL_nil, trip_windows]
  after_results
  all_goals (try simp only [val13_main_while0b_v114, val13_main_while0b_v62, val13_main_while0b_v115, val13_main_while0b_v116, val13_main_while0b_v117, val13_main_v14_0, val13_main_v14_1, val13_main_v14_2, val13_main_v14_3, val13_main_v14_4, val13_main_v14_5, val13_main_v14_6, val13_main_v14_7, val13_main_v14_8, val13_main_v14_9, val13_main_v14_10, val13_main_v14_11, val13_main_v14_12]) <;> rfl
set_option maxRecDepth 8192 in
set_option maxHeartbeats 2000000 in
/-- `main_v14_11` after one trip's body, from any contents. -/
theorem trip_main_v14_11 (V0 : Valuation τ sig (Elt F)) : afterL bodyI V0 (no_index (Proc.devRef .tc main_v14_11)) = id (Host.dynamicUpdateSlice (V0 (Proc.devRef .tc main_v14_11)) (broadcastInDim S1x128 ![1] bcast_S128_S1x128_1 (Host.log (addf (shapeCast S128 (select (Host.reduce IntOp.andi (andi (cmpi .sge (res_main_while0b_call2_v5 V0) (broadcastInDim S128x1x1 ![] bcast_S_S128x1x1 (constantI S_ 32 0#32))) (cmpi .sle (res_main_while0b_call2_v5 V0) (broadcastInDim S128x1x1 ![0, 1, 2] bcast_S1x1x1_S128x1x1_0_1_2 (broadcastInDim S1x1x1 ![2] bcast_S1_S1x1x1_2 (constantI S1 32 255#32))))) (constantI S_ 1 1#1) reducesTo_S128x1x1_S128x1_d2 h_S_) (Host.gather gather_S128x256_S128x1x1_S128x1_n_1_0_0_1_2_11 (res_main_while0b_v34 V0) (res_main_while0b_call2_v5 V0)) (broadcastInDim S128x1 ![] bcast_S_S128x1 (constant S_ .f32 0x7FC00000#32))) shapeCasts_S128x1_S128) (broadcastInDim S128 ![] bcast_S_S128 (constant S_ .f32 0x2B8CBCCC#32))))) (fun k => (((![V0 (Proc.devRef .tc main_v14_7), constantI S_ 32 0#32] : Fin 2 → (⟨S_, .i32⟩ : BufTy).Contents (Elt F))) k (Shape.Idx.first h_S_)).toInt) updateFits_S256x128_S1x128) := by
  simp only [bodyI, afterL_cons, afterL_nil, trip_windows]
  after_results
  all_goals (try simp only [val13_main_while0b_v114, val13_main_while0b_v62, val13_main_while0b_v115, val13_main_while0b_v116, val13_main_while0b_v117, val13_main_v14_0, val13_main_v14_1, val13_main_v14_2, val13_main_v14_3, val13_main_v14_4, val13_main_v14_5, val13_main_v14_6, val13_main_v14_7, val13_main_v14_8, val13_main_v14_9, val13_main_v14_10, val13_main_v14_11, val13_main_v14_12]) <;> rfl
set_option maxRecDepth 8192 in
set_option maxHeartbeats 2000000 in
/-- `main_v14_12` after one trip's body, from any contents. -/
theorem trip_main_v14_12 (V0 : Valuation τ sig (Elt F)) : afterL bodyI V0 (no_index (Proc.devRef .tc main_v14_12)) = id (Host.dynamicUpdateSlice (V0 (Proc.devRef .tc main_v14_12)) (broadcastInDim S1x128 ![1] bcast_S128_S1x128_1 (Host.negf (Host.reduceAdd (mulf (res_main_while0b_v34 V0) (Host.log (addf (res_main_while0b_v34 V0) (broadcastInDim S128x256 ![] bcast_S_S128x256 (constant S_ .f32 0x2B8CBCCC#32))))) (constant S_ .f32 0x00000000#32) reducesTo_S128x256_S128_d1 h_S_))) (fun k => (((![V0 (Proc.devRef .tc main_v14_7), constantI S_ 32 0#32] : Fin 2 → (⟨S_, .i32⟩ : BufTy).Contents (Elt F))) k (Shape.Idx.first h_S_)).toInt) updateFits_S256x128_S1x128) := by
  simp only [bodyI, afterL_cons, afterL_nil, trip_windows]
  after_results
  all_goals (try simp only [val13_main_while0b_v114, val13_main_while0b_v62, val13_main_while0b_v115, val13_main_while0b_v116, val13_main_while0b_v117, val13_main_v14_0, val13_main_v14_1, val13_main_v14_2, val13_main_v14_3, val13_main_v14_4, val13_main_v14_5, val13_main_v14_6, val13_main_v14_7, val13_main_v14_8, val13_main_v14_9, val13_main_v14_10, val13_main_v14_11, val13_main_v14_12]) <;> rfl

end Cert.ReferenceIdeal.Value

end
-- ==== Proof.RefRunC.lean ====
/- The reference program's loop body, second half, and the run: every result is the step iterated on the loop's entry.
   The declarations of this module follow, in form, the run modules that are generated for reference programs. They were
   written out mechanically from the reference program by an adapted copy of that generator, which does not cover this
   program as it stands, and then adapted by hand. -/
module

public import proofs.«01_k».proof.Proof.RefRunB

@[expose] public section

-- a long stretch's list and the decided enumerations over the program's references recurse past the default depth
set_option maxRecDepth 2088

noncomputable section

namespace Cert.ReferenceIdeal.Value

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

variable (m : (ℓ : Loc nD τ sig) → Buf (Elt F) ℓ) (ρ : Dev nD → PrngReg)

/-- The loop's carried buffers. -/
abbrev carriedRefs : List (Ref sig .tc) := [main_v14_0, main_v14_1, main_v14_2, main_v14_3, main_v14_4, main_v14_5, main_v14_6, main_v14_7, main_v14_8, main_v14_9, main_v14_10, main_v14_11, main_v14_12]
/-- Two contents agree on the carried buffers: all that one trip reads. -/
def Agree (V V' : Valuation τ sig (Elt F)) : Prop := ∀ j ∈ carriedRefs, V (Proc.devRef .tc j) = V' (Proc.devRef .tc j)

set_option maxRecDepth 8192 in
theorem res_main_while0b_v23_congr {V0 V0' : Valuation τ sig (Elt F)} (h : Agree V0 V0') : res_main_while0b_v23 V0 = res_main_while0b_v23 V0' := by
  unfold res_main_while0b_v23
  rw [h main_v14_9 (by decide), h main_v14_8 (by decide), h main_v14_0 (by decide), h main_v14_1 (by decide)]
set_option maxRecDepth 8192 in
theorem res_main_while0b_v30_congr {V0 V0' : Valuation τ sig (Elt F)} (h : Agree V0 V0') : res_main_while0b_v30 V0 = res_main_while0b_v30 V0' := by
  unfold res_main_while0b_v30
  rw [res_main_while0b_v23_congr h]
set_option maxRecDepth 8192 in
theorem res_main_while0b_v34_congr {V0 V0' : Valuation τ sig (Elt F)} (h : Agree V0 V0') : res_main_while0b_v34 V0 = res_main_while0b_v34 V0' := by
  unfold res_main_while0b_v34
  rw [res_main_while0b_v30_congr h]
set_option maxRecDepth 8192 in
theorem res_main_while0b_call1_v0_congr {V0 V0' : Valuation τ sig (Elt F)} (h : Agree V0 V0') : res_main_while0b_call1_v0 V0 = res_main_while0b_call1_v0 V0' := by
  unfold res_main_while0b_call1_v0
  rfl
set_option maxRecDepth 8192 in
theorem res_main_while0b_call1_cst_congr {V0 V0' : Valuation τ sig (Elt F)} (h : Agree V0 V0') : res_main_while0b_call1_cst V0 = res_main_while0b_call1_cst V0' := by
  unfold res_main_while0b_call1_cst
  rfl
set_option maxRecDepth 8192 in
theorem res_main_while0b_call1_c_congr {V0 V0' : Valuation τ sig (Elt F)} (h : Agree V0 V0') : res_main_while0b_call1_c V0 = res_main_while0b_call1_c V0' := by
  unfold res_main_while0b_call1_c
  rfl
set_option maxRecDepth 8192 in
theorem res_main_while0b_v35_congr {V0 V0' : Valuation τ sig (Elt F)} (h : Agree V0 V0') : res_main_while0b_v35 V0 = res_main_while0b_v35 V0' := by
  unfold res_main_while0b_v35
  rw [res_main_while0b_v34_congr h, res_main_while0b_call1_v0_congr h, res_main_while0b_call1_cst_congr h, res_main_while0b_call1_c_congr h]
set_option maxRecDepth 8192 in
theorem res_main_while0b_v36_congr {V0 V0' : Valuation τ sig (Elt F)} (h : Agree V0 V0') : res_main_while0b_v36 V0 = res_main_while0b_v36 V0' := by
  unfold res_main_while0b_v36
  rw [res_main_while0b_v35_congr h]
set_option maxRecDepth 8192 in
theorem res_main_while0b_call2_v5_congr {V0 V0' : Valuation τ sig (Elt F)} (h : Agree V0 V0') : res_main_while0b_call2_v5 V0 = res_main_while0b_call2_v5 V0' := by
  unfold res_main_while0b_call2_v5
  rw [res_main_while0b_v36_congr h]
set_option maxRecDepth 8192 in
theorem res_main_while0b_v81_congr {V0 V0' : Valuation τ sig (Elt F)} (h : Agree V0 V0') : res_main_while0b_v81 V0 = res_main_while0b_v81 V0' := by
  unfold res_main_while0b_v81
  rw [res_main_while0b_v35_congr h, h main_v14_1 (by decide), h main_v14_2 (by decide), h main_v14_3 (by decide), h main_v14_4 (by decide)]
set_option maxRecDepth 8192 in
theorem res_main_while0b_v86_congr {V0 V0' : Valuation τ sig (Elt F)} (h : Agree V0 V0') : res_main_while0b_v86 V0 = res_main_while0b_v86 V0' := by
  unfold res_main_while0b_v86
  rw [h main_v14_8 (by decide), h main_v14_5 (by decide), h main_v14_6 (by decide)]
set_option maxRecDepth 8192 in
theorem res_main_while0b_v106_congr {V0 V0' : Valuation τ sig (Elt F)} (h : Agree V0 V0') : res_main_while0b_v106 V0 = res_main_while0b_v106 V0' := by
  unfold res_main_while0b_v106
  rw [res_main_while0b_v81_congr h, res_main_while0b_v86_congr h]

set_option maxRecDepth 8192 in
/-- `main_v14_7` after one trip, of the contents before it. -/
def step_main_v14_7 (V0 : Valuation τ sig (Elt F)) : (Proc.devRef .tc main_v14_7 : DevRef τ sig).ty.Contents (Elt F) :=
  id (addi (V0 (Proc.devRef .tc main_v14_7)) (constantI S_ 32 1#32))
set_option maxRecDepth 8192 in
theorem step_main_v14_7_congr {V0 V0' : Valuation τ sig (Elt F)} (h : Agree V0 V0') : step_main_v14_7 V0 = step_main_v14_7 V0' := by
  unfold step_main_v14_7
  rw [h main_v14_7 (by decide)]
set_option maxRecDepth 8192 in
/-- `main_v14_8` after one trip, of the contents before it. -/
def step_main_v14_8 (V0 : Valuation τ sig (Elt F)) : (Proc.devRef .tc main_v14_8 : DevRef τ sig).ty.Contents (Elt F) :=
  id (addf (mulf (subf (broadcastInDim S128x128 ![] bcast_S_S128x128 (constant S_ .f32 0x3F800000#32)) (res_main_while0b_v106 V0)) (Host.tanh (addf (extractStridedSlice S128x128 ![0, 256] (res_main_while0b_v81 V0) slices_S128x384_S128x128_0_256) (mulf (Host.divf (broadcastInDim S128x128 ![] bcast_S_S128x128 (constant S_ .f32 0x3F800000#32)) (addf (broadcastInDim S128x128 ![] bcast_S_S128x128 (constant S_ .f32 0x3F800000#32)) (Host.exp (Host.negf (addf (extractStridedSlice S128x128 ![0, 0] (res_main_while0b_v81 V0) slices_S128x384_S128x128_0_0) (extractStridedSlice S128x128 ![0, 0] (res_main_while0b_v86 V0) slices_S128x384_S128x128_0_0)))))) (extractStridedSlice S128x128 ![0, 256] (res_main_while0b_v86 V0) slices_S128x384_S128x128_0_256))))) (mulf (res_main_while0b_v106 V0) (V0 (Proc.devRef .tc main_v14_8))))
set_option maxRecDepth 8192 in
theorem step_main_v14_8_congr {V0 V0' : Valuation τ sig (Elt F)} (h : Agree V0 V0') : step_main_v14_8 V0 = step_main_v14_8 V0' := by
  unfold step_main_v14_8
  rw [res_main_while0b_v106_congr h, res_main_while0b_v81_congr h, res_main_while0b_v86_congr h, h main_v14_8 (by decide)]
set_option maxRecDepth 8192 in
/-- `main_v14_9` after one trip, of the contents before it. -/
def step_main_v14_9 (V0 : Valuation τ sig (Elt F)) : (Proc.devRef .tc main_v14_9 : DevRef τ sig).ty.Contents (Elt F) :=
  id (Host.scatter scatter_S128x256_S128x2_S128_n_01_01_1 (fun _ b => b) (V0 (Proc.devRef .tc main_v14_9)) (concatenate S128x2 1 [⟨S128x1, (broadcastInDim S128x1 ![0] bcast_S128_S128x1_0 (select (cmpi .slt (V0 (Proc.devRef .tc main_v14_2)) (broadcastInDim S128 ![] bcast_S_S128 (constantI S_ 32 0#32))) (addi (V0 (Proc.devRef .tc main_v14_2)) (broadcastInDim S128 ![] bcast_S_S128 (constantI S_ 32 128#32))) (V0 (Proc.devRef .tc main_v14_2))))⟩, ⟨S128x1, (broadcastInDim S128x1 ![0] bcast_S128_S128x1_0 (select (cmpi .slt (res_main_while0b_v35 V0) (broadcastInDim S128 ![] bcast_S_S128 (constantI S_ 32 0#32))) (addi (res_main_while0b_v35 V0) (broadcastInDim S128 ![] bcast_S_S128 (constantI S_ 32 256#32))) (res_main_while0b_v35 V0)))⟩] concatenates_S128x1_S128x1_S128x2_d1) (broadcastInDim S128 ![] bcast_S_S128 (constantI S_ 1 1#1)))
set_option maxRecDepth 8192 in
theorem step_main_v14_9_congr {V0 V0' : Valuation τ sig (Elt F)} (h : Agree V0 V0') : step_main_v14_9 V0 = step_main_v14_9 V0' := by
  unfold step_main_v14_9
  rw [res_main_while0b_v35_congr h, h main_v14_9 (by decide), h main_v14_2 (by decide)]
set_option maxRecDepth 8192 in
/-- `main_v14_10` after one trip, of the contents before it. -/
def step_main_v14_10 (V0 : Valuation τ sig (Elt F)) : (Proc.devRef .tc main_v14_10 : DevRef τ sig).ty.Contents (Elt F) :=
  id (Host.dynamicUpdateSlice (V0 (Proc.devRef .tc main_v14_10)) (broadcastInDim S1x128 ![1] bcast_S128_S1x128_1 (res_main_while0b_v35 V0)) (fun k => (((![V0 (Proc.devRef .tc main_v14_7), constantI S_ 32 0#32] : Fin 2 → (⟨S_, .i32⟩ : BufTy).Contents (Elt F))) k (Shape.Idx.first h_S_)).toInt) updateFits_S256x128_S1x128)
set_option maxRecDepth 8192 in
theorem step_main_v14_10_congr {V0 V0' : Valuation τ sig (Elt F)} (h : Agree V0 V0') : step_main_v14_10 V0 = step_main_v14_10 V0' := by
  unfold step_main_v14_10
  rw [res_main_while0b_v35_congr h, h main_v14_10 (by decide), h main_v14_7 (by decide)]
set_option maxRecDepth 8192 in
/-- `main_v14_11` after one trip, of the contents before it. -/
def step_main_v14_11 (V0 : Valuation τ sig (Elt F)) : (Proc.devRef .tc main_v14_11 : DevRef τ sig).ty.Contents (Elt F) :=
  id (Host.dynamicUpdateSlice (V0 (Proc.devRef .tc main_v14_11)) (broadcastInDim S1x128 ![1] bcast_S128_S1x128_1 (Host.log (addf (shapeCast S128 (select (Host.reduce IntOp.andi (andi (cmpi .sge (res_main_while0b_call2_v5 V0) (broadcastInDim S128x1x1 ![] bcast_S_S128x1x1 (constantI S_ 32 0#32))) (cmpi .sle (res_main_while0b_call2_v5 V0) (broadcastInDim S128x1x1 ![0, 1, 2] bcast_S1x1x1_S128x1x1_0_1_2 (broadcastInDim S1x1x1 ![2] bcast_S1_S1x1x1_2 (constantI S1 32 255#32))))) (constantI S_ 1 1#1) reducesTo_S128x1x1_S128x1_d2 h_S_) (Host.gather gather_S128x256_S128x1x1_S128x1_n_1_0_0_1_2_11 (res_main_while0b_v34 V0) (res_main_while0b_call2_v5 V0)) (broadcastInDim S128x1 ![] bcast_S_S128x1 (constant S_ .f32 0x7FC00000#32))) shapeCasts_S128x1_S128) (broadcastInDim S128 ![] bcast_S_S128 (constant S_ .f32 0x2B8CBCCC#32))))) (fun k => (((![V0 (Proc.devRef .tc main_v14_7), constantI S_ 32 0#32] : Fin 2 → (⟨S_, .i32⟩ : BufTy).Contents (Elt F))) k (Shape.Idx.first h_S_)).toInt) updateFits_S256x128_S1x128)
set_option maxRecDepth 8192 in
theorem step_main_v14_11_congr {V0 V0' : Valuation τ sig (Elt F)} (h : Agree V0 V0') : step_main_v14_11 V0 = step_main_v14_11 V0' := by
  unfold step_main_v14_11
  rw [res_main_while0b_call2_v5_congr h, res_main_while0b_v34_congr h, h main_v14_11 (by decide), h main_v14_7 (by decide)]
set_option maxRecDepth 8192 in
/-- `main_v14_12` after one trip, of the contents before it. -/
def step_main_v14_12 (V0 : Valuation τ sig (Elt F)) : (Proc.devRef .tc main_v14_12 : DevRef τ sig).ty.Contents (Elt F) :=
  id (Host.dynamicUpdateSlice (V0 (Proc.devRef .tc main_v14_12)) (broadcastInDim S1x128 ![1] bcast_S128_S1x128_1 (Host.negf (Host.reduceAdd (mulf (res_main_while0b_v34 V0) (Host.log (addf (res_main_while0b_v34 V0) (broadcastInDim S128x256 ![] bcast_S_S128x256 (constant S_ .f32 0x2B8CBCCC#32))))) (constant S_ .f32 0x00000000#32) reducesTo_S128x256_S128_d1 h_S_))) (fun k => (((![V0 (Proc.devRef .tc main_v14_7), constantI S_ 32 0#32] : Fin 2 → (⟨S_, .i32⟩ : BufTy).Contents (Elt F))) k (Shape.Idx.first h_S_)).toInt) updateFits_S256x128_S1x128)
set_option maxRecDepth 8192 in
theorem step_main_v14_12_congr {V0 V0' : Valuation τ sig (Elt F)} (h : Agree V0 V0') : step_main_v14_12 V0 = step_main_v14_12 V0' := by
  unfold step_main_v14_12
  rw [res_main_while0b_v34_congr h, h main_v14_12 (by decide), h main_v14_7 (by decide)]

/-- ONE TRIP on the carried buffers: the buffers the body writes step, everything else is as it was. -/
def STEP (V0 : Valuation τ sig (Elt F)) : Valuation τ sig (Elt F) :=
  Function.update (Function.update (Function.update (Function.update (Function.update (Function.update (V0) (Proc.devRef .tc main_v14_7) (step_main_v14_7 V0)) (Proc.devRef .tc main_v14_8) (step_main_v14_8 V0)) (Proc.devRef .tc main_v14_9) (step_main_v14_9 V0)) (Proc.devRef .tc main_v14_10) (step_main_v14_10 V0)) (Proc.devRef .tc main_v14_11) (step_main_v14_11 V0)) (Proc.devRef .tc main_v14_12) (step_main_v14_12 V0)

theorem STEP_main_v14_0 (V0 : Valuation τ sig (Elt F)) : STEP V0 (Proc.devRef .tc main_v14_0) = V0 (Proc.devRef .tc main_v14_0) := by
  unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]
theorem STEP_main_v14_1 (V0 : Valuation τ sig (Elt F)) : STEP V0 (Proc.devRef .tc main_v14_1) = V0 (Proc.devRef .tc main_v14_1) := by
  unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]
theorem STEP_main_v14_2 (V0 : Valuation τ sig (Elt F)) : STEP V0 (Proc.devRef .tc main_v14_2) = V0 (Proc.devRef .tc main_v14_2) := by
  unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]
theorem STEP_main_v14_3 (V0 : Valuation τ sig (Elt F)) : STEP V0 (Proc.devRef .tc main_v14_3) = V0 (Proc.devRef .tc main_v14_3) := by
  unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]
theorem STEP_main_v14_4 (V0 : Valuation τ sig (Elt F)) : STEP V0 (Proc.devRef .tc main_v14_4) = V0 (Proc.devRef .tc main_v14_4) := by
  unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]
theorem STEP_main_v14_5 (V0 : Valuation τ sig (Elt F)) : STEP V0 (Proc.devRef .tc main_v14_5) = V0 (Proc.devRef .tc main_v14_5) := by
  unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]
theorem STEP_main_v14_6 (V0 : Valuation τ sig (Elt F)) : STEP V0 (Proc.devRef .tc main_v14_6) = V0 (Proc.devRef .tc main_v14_6) := by
  unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]
theorem STEP_main_v14_7 (V0 : Valuation τ sig (Elt F)) : STEP V0 (Proc.devRef .tc main_v14_7) = step_main_v14_7 V0 := by
  unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_self]
theorem STEP_main_v14_8 (V0 : Valuation τ sig (Elt F)) : STEP V0 (Proc.devRef .tc main_v14_8) = step_main_v14_8 V0 := by
  unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_self]
theorem STEP_main_v14_9 (V0 : Valuation τ sig (Elt F)) : STEP V0 (Proc.devRef .tc main_v14_9) = step_main_v14_9 V0 := by
  unfold STEP; rw [Function.update_of_ne (devRef_ne_of_ne (by decide))]; rw [Function.update_of_ne (devRef_ne_of_ne (by decide))]; rw [Function.update_of_ne (devRef_ne_of_ne (by decide))]; rw [Function.update_self]
theorem STEP_main_v14_10 (V0 : Valuation τ sig (Elt F)) : STEP V0 (Proc.devRef .tc main_v14_10) = step_main_v14_10 V0 := by
  unfold STEP; rw [Function.update_of_ne (devRef_ne_of_ne (by decide))]; rw [Function.update_of_ne (devRef_ne_of_ne (by decide))]; rw [Function.update_self]
theorem STEP_main_v14_11 (V0 : Valuation τ sig (Elt F)) : STEP V0 (Proc.devRef .tc main_v14_11) = step_main_v14_11 V0 := by
  unfold STEP; rw [Function.update_of_ne (devRef_ne_of_ne (by decide))]; rw [Function.update_self]
theorem STEP_main_v14_12 (V0 : Valuation τ sig (Elt F)) : STEP V0 (Proc.devRef .tc main_v14_12) = step_main_v14_12 V0 := by
  unfold STEP; rw [Function.update_self]

/-- The condition's operations write none of the carried buffers. -/
theorem cond_keeps (X : Valuation τ sig (Elt F)) : Agree (after condOps X) X := by
  intro j hj
  refine after_of_forall_not_mem condOps X fun op hop => ?_
  fin_cases hop <;> fin_cases hj <;> exact fun h => devRef_ne_of_ne (by decide) (Finset.mem_singleton.mp h)

set_option maxRecDepth 8192 in
/-- One trip (the condition's operations, then the body's stretches) is `STEP` on the carried buffers. -/
theorem trip_agree (X : Valuation τ sig (Elt F)) : Agree (afterL bodyI (after condOps X)) (STEP X) := by
  have hc := cond_keeps X
  intro j hj
  fin_cases hj
  · exact (trip_main_v14_0 (after condOps X)).trans ((hc main_v14_0 (by decide)).trans (STEP_main_v14_0 X).symm)
  · exact (trip_main_v14_1 (after condOps X)).trans ((hc main_v14_1 (by decide)).trans (STEP_main_v14_1 X).symm)
  · exact (trip_main_v14_2 (after condOps X)).trans ((hc main_v14_2 (by decide)).trans (STEP_main_v14_2 X).symm)
  · exact (trip_main_v14_3 (after condOps X)).trans ((hc main_v14_3 (by decide)).trans (STEP_main_v14_3 X).symm)
  · exact (trip_main_v14_4 (after condOps X)).trans ((hc main_v14_4 (by decide)).trans (STEP_main_v14_4 X).symm)
  · exact (trip_main_v14_5 (after condOps X)).trans ((hc main_v14_5 (by decide)).trans (STEP_main_v14_5 X).symm)
  · exact (trip_main_v14_6 (after condOps X)).trans ((hc main_v14_6 (by decide)).trans (STEP_main_v14_6 X).symm)
  · exact (trip_main_v14_7 (after condOps X)).trans ((step_main_v14_7_congr hc).trans (STEP_main_v14_7 X).symm)
  · exact (trip_main_v14_8 (after condOps X)).trans ((step_main_v14_8_congr hc).trans (STEP_main_v14_8 X).symm)
  · exact (trip_main_v14_9 (after condOps X)).trans ((step_main_v14_9_congr hc).trans (STEP_main_v14_9 X).symm)
  · exact (trip_main_v14_10 (after condOps X)).trans ((step_main_v14_10_congr hc).trans (STEP_main_v14_10 X).symm)
  · exact (trip_main_v14_11 (after condOps X)).trans ((step_main_v14_11_congr hc).trans (STEP_main_v14_11 X).symm)
  · exact (trip_main_v14_12 (after condOps X)).trans ((step_main_v14_12_congr hc).trans (STEP_main_v14_12 X).symm)

set_option maxRecDepth 8192 in
/-- `STEP` reads the carried buffers only. -/
theorem STEP_congr {V V' : Valuation τ sig (Elt F)} (h : Agree V V') : Agree (STEP V) (STEP V') := by
  intro j hj
  fin_cases hj
  · rw [STEP_main_v14_0, STEP_main_v14_0]; exact h main_v14_0 (by decide)
  · rw [STEP_main_v14_1, STEP_main_v14_1]; exact h main_v14_1 (by decide)
  · rw [STEP_main_v14_2, STEP_main_v14_2]; exact h main_v14_2 (by decide)
  · rw [STEP_main_v14_3, STEP_main_v14_3]; exact h main_v14_3 (by decide)
  · rw [STEP_main_v14_4, STEP_main_v14_4]; exact h main_v14_4 (by decide)
  · rw [STEP_main_v14_5, STEP_main_v14_5]; exact h main_v14_5 (by decide)
  · rw [STEP_main_v14_6, STEP_main_v14_6]; exact h main_v14_6 (by decide)
  · rw [STEP_main_v14_7, STEP_main_v14_7]; exact step_main_v14_7_congr h
  · rw [STEP_main_v14_8, STEP_main_v14_8]; exact step_main_v14_8_congr h
  · rw [STEP_main_v14_9, STEP_main_v14_9]; exact step_main_v14_9_congr h
  · rw [STEP_main_v14_10, STEP_main_v14_10]; exact step_main_v14_10_congr h
  · rw [STEP_main_v14_11, STEP_main_v14_11]; exact step_main_v14_11_congr h
  · rw [STEP_main_v14_12, STEP_main_v14_12]; exact step_main_v14_12_congr h

/-- Before the `k`-th condition the carried buffers are `STEP` iterated `k` times on the loop's entry. -/
theorem atK_agree (c : Dev nD) : ∀ k, Agree (atK m k c) (STEP^[k] (entryContents preI m c))
  | 0 => fun _ _ => rfl
  | k + 1 => fun j hj => by
    rw [Function.iterate_succ_apply']
    exact (trip_agree (atK m k c) j hj).trans (STEP_congr (atK_agree c k) j hj)

theorem keep_main_arg0_hostOps0 (V : Valuation τ sig (Elt F)) : after hostOps0 V (Proc.devRef .tc main_arg0) = V (Proc.devRef .tc main_arg0) :=
  after_of_writes_sub hostOps0 V hostOps0_writes (by decide +kernel)
theorem keep_main_arg0_condOps (V : Valuation τ sig (Elt F)) : after condOps V (Proc.devRef .tc main_arg0) = V (Proc.devRef .tc main_arg0) :=
  after_of_writes_sub condOps V condOps_writes (by decide +kernel)
theorem keep_main_arg0_while0Ops0 (V : Valuation τ sig (Elt F)) : after while0Ops0 V (Proc.devRef .tc main_arg0) = V (Proc.devRef .tc main_arg0) :=
  after_of_writes_sub while0Ops0 V while0Ops0_writes (by decide +kernel)
theorem keep_main_arg0_while0Ops0_1 (V : Valuation τ sig (Elt F)) : after while0Ops0_1 V (Proc.devRef .tc main_arg0) = V (Proc.devRef .tc main_arg0) :=
  after_of_writes_sub while0Ops0_1 V while0Ops0_1_writes (by decide +kernel)
theorem keep_main_arg0_while0Ops0_2 (V : Valuation τ sig (Elt F)) : after while0Ops0_2 V (Proc.devRef .tc main_arg0) = V (Proc.devRef .tc main_arg0) :=
  after_of_writes_sub while0Ops0_2 V while0Ops0_2_writes (by decide +kernel)
theorem keep_main_arg0_while0Ops0_3 (V : Valuation τ sig (Elt F)) : after while0Ops0_3 V (Proc.devRef .tc main_arg0) = V (Proc.devRef .tc main_arg0) :=
  after_of_writes_sub while0Ops0_3 V while0Ops0_3_writes (by decide +kernel)
theorem keep_main_arg0_while0Ops0_4 (V : Valuation τ sig (Elt F)) : after while0Ops0_4 V (Proc.devRef .tc main_arg0) = V (Proc.devRef .tc main_arg0) :=
  after_of_writes_sub while0Ops0_4 V while0Ops0_4_writes (by decide +kernel)
theorem keep_main_arg0_while0Ops0_5 (V : Valuation τ sig (Elt F)) : after while0Ops0_5 V (Proc.devRef .tc main_arg0) = V (Proc.devRef .tc main_arg0) :=
  after_of_writes_sub while0Ops0_5 V while0Ops0_5_writes (by decide +kernel)
theorem keep_main_arg0_while0Ops0_6 (V : Valuation τ sig (Elt F)) : after while0Ops0_6 V (Proc.devRef .tc main_arg0) = V (Proc.devRef .tc main_arg0) :=
  after_of_writes_sub while0Ops0_6 V while0Ops0_6_writes (by decide +kernel)
theorem keep_main_arg0_while0Ops0_7 (V : Valuation τ sig (Elt F)) : after while0Ops0_7 V (Proc.devRef .tc main_arg0) = V (Proc.devRef .tc main_arg0) :=
  after_of_writes_sub while0Ops0_7 V while0Ops0_7_writes (by decide +kernel)
theorem keep_main_arg0_while0Ops0_8 (V : Valuation τ sig (Elt F)) : after while0Ops0_8 V (Proc.devRef .tc main_arg0) = V (Proc.devRef .tc main_arg0) :=
  after_of_writes_sub while0Ops0_8 V while0Ops0_8_writes (by decide +kernel)
theorem keep_main_arg0_while0Ops0_9 (V : Valuation τ sig (Elt F)) : after while0Ops0_9 V (Proc.devRef .tc main_arg0) = V (Proc.devRef .tc main_arg0) :=
  after_of_writes_sub while0Ops0_9 V while0Ops0_9_writes (by decide +kernel)
theorem keep_main_arg0_while0Ops0_10 (V : Valuation τ sig (Elt F)) : after while0Ops0_10 V (Proc.devRef .tc main_arg0) = V (Proc.devRef .tc main_arg0) :=
  after_of_writes_sub while0Ops0_10 V while0Ops0_10_writes (by decide +kernel)
theorem keep_main_arg0_hostOps0_1 (V : Valuation τ sig (Elt F)) : after hostOps0_1 V (Proc.devRef .tc main_arg0) = V (Proc.devRef .tc main_arg0) :=
  after_of_writes_sub hostOps0_1 V hostOps0_1_writes (by decide +kernel)
/-- The argument `main_arg0` is written by nothing: it holds its launch contents before every condition. -/
theorem atK_main_arg0 (c : Dev nD) : ∀ k, atK m k c (Proc.devRef .tc main_arg0) = m ((c.tc : Thread nD τ).loc main_arg0)
  | 0 => by
    rw [show atK m 0 c = entryContents preI m c from rfl]
    simp only [entryContents, afterL_cons, afterL_nil]
    rw [keep_main_arg0_hostOps0]
  | k + 1 => by
    rw [show atK m (k + 1) c = afterL bodyI (after condOps (atK m k c)) from rfl]
    simp only [afterL_cons, afterL_nil]
    rw [keep_main_arg0_while0Ops0_10, keep_main_arg0_while0Ops0_9, keep_main_arg0_while0Ops0_8, keep_main_arg0_while0Ops0_7, keep_main_arg0_while0Ops0_6, keep_main_arg0_while0Ops0_5, keep_main_arg0_while0Ops0_4, keep_main_arg0_while0Ops0_3, keep_main_arg0_while0Ops0_2, keep_main_arg0_while0Ops0_1, keep_main_arg0_while0Ops0, keep_main_arg0_condOps, atK_main_arg0 c k]

theorem keep_main_arg1_hostOps0 (V : Valuation τ sig (Elt F)) : after hostOps0 V (Proc.devRef .tc main_arg1) = V (Proc.devRef .tc main_arg1) :=
  after_of_writes_sub hostOps0 V hostOps0_writes (by decide +kernel)
theorem keep_main_arg1_condOps (V : Valuation τ sig (Elt F)) : after condOps V (Proc.devRef .tc main_arg1) = V (Proc.devRef .tc main_arg1) :=
  after_of_writes_sub condOps V condOps_writes (by decide +kernel)
theorem keep_main_arg1_while0Ops0 (V : Valuation τ sig (Elt F)) : after while0Ops0 V (Proc.devRef .tc main_arg1) = V (Proc.devRef .tc main_arg1) :=
  after_of_writes_sub while0Ops0 V while0Ops0_writes (by decide +kernel)
theorem keep_main_arg1_while0Ops0_1 (V : Valuation τ sig (Elt F)) : after while0Ops0_1 V (Proc.devRef .tc main_arg1) = V (Proc.devRef .tc main_arg1) :=
  after_of_writes_sub while0Ops0_1 V while0Ops0_1_writes (by decide +kernel)
theorem keep_main_arg1_while0Ops0_2 (V : Valuation τ sig (Elt F)) : after while0Ops0_2 V (Proc.devRef .tc main_arg1) = V (Proc.devRef .tc main_arg1) :=
  after_of_writes_sub while0Ops0_2 V while0Ops0_2_writes (by decide +kernel)
theorem keep_main_arg1_while0Ops0_3 (V : Valuation τ sig (Elt F)) : after while0Ops0_3 V (Proc.devRef .tc main_arg1) = V (Proc.devRef .tc main_arg1) :=
  after_of_writes_sub while0Ops0_3 V while0Ops0_3_writes (by decide +kernel)
theorem keep_main_arg1_while0Ops0_4 (V : Valuation τ sig (Elt F)) : after while0Ops0_4 V (Proc.devRef .tc main_arg1) = V (Proc.devRef .tc main_arg1) :=
  after_of_writes_sub while0Ops0_4 V while0Ops0_4_writes (by decide +kernel)
theorem keep_main_arg1_while0Ops0_5 (V : Valuation τ sig (Elt F)) : after while0Ops0_5 V (Proc.devRef .tc main_arg1) = V (Proc.devRef .tc main_arg1) :=
  after_of_writes_sub while0Ops0_5 V while0Ops0_5_writes (by decide +kernel)
theorem keep_main_arg1_while0Ops0_6 (V : Valuation τ sig (Elt F)) : after while0Ops0_6 V (Proc.devRef .tc main_arg1) = V (Proc.devRef .tc main_arg1) :=
  after_of_writes_sub while0Ops0_6 V while0Ops0_6_writes (by decide +kernel)
theorem keep_main_arg1_while0Ops0_7 (V : Valuation τ sig (Elt F)) : after while0Ops0_7 V (Proc.devRef .tc main_arg1) = V (Proc.devRef .tc main_arg1) :=
  after_of_writes_sub while0Ops0_7 V while0Ops0_7_writes (by decide +kernel)
theorem keep_main_arg1_while0Ops0_8 (V : Valuation τ sig (Elt F)) : after while0Ops0_8 V (Proc.devRef .tc main_arg1) = V (Proc.devRef .tc main_arg1) :=
  after_of_writes_sub while0Ops0_8 V while0Ops0_8_writes (by decide +kernel)
theorem keep_main_arg1_while0Ops0_9 (V : Valuation τ sig (Elt F)) : after while0Ops0_9 V (Proc.devRef .tc main_arg1) = V (Proc.devRef .tc main_arg1) :=
  after_of_writes_sub while0Ops0_9 V while0Ops0_9_writes (by decide +kernel)
theorem keep_main_arg1_while0Ops0_10 (V : Valuation τ sig (Elt F)) : after while0Ops0_10 V (Proc.devRef .tc main_arg1) = V (Proc.devRef .tc main_arg1) :=
  after_of_writes_sub while0Ops0_10 V while0Ops0_10_writes (by decide +kernel)
theorem keep_main_arg1_hostOps0_1 (V : Valuation τ sig (Elt F)) : after hostOps0_1 V (Proc.devRef .tc main_arg1) = V (Proc.devRef .tc main_arg1) :=
  after_of_writes_sub hostOps0_1 V hostOps0_1_writes (by decide +kernel)
/-- The argument `main_arg1` is written by nothing: it holds its launch contents before every condition. -/
theorem atK_main_arg1 (c : Dev nD) : ∀ k, atK m k c (Proc.devRef .tc main_arg1) = m ((c.tc : Thread nD τ).loc main_arg1)
  | 0 => by
    rw [show atK m 0 c = entryContents preI m c from rfl]
    simp only [entryContents, afterL_cons, afterL_nil]
    rw [keep_main_arg1_hostOps0]
  | k + 1 => by
    rw [show atK m (k + 1) c = afterL bodyI (after condOps (atK m k c)) from rfl]
    simp only [afterL_cons, afterL_nil]
    rw [keep_main_arg1_while0Ops0_10, keep_main_arg1_while0Ops0_9, keep_main_arg1_while0Ops0_8, keep_main_arg1_while0Ops0_7, keep_main_arg1_while0Ops0_6, keep_main_arg1_while0Ops0_5, keep_main_arg1_while0Ops0_4, keep_main_arg1_while0Ops0_3, keep_main_arg1_while0Ops0_2, keep_main_arg1_while0Ops0_1, keep_main_arg1_while0Ops0, keep_main_arg1_condOps, atK_main_arg1 c k]

theorem keep_main_arg2_hostOps0 (V : Valuation τ sig (Elt F)) : after hostOps0 V (Proc.devRef .tc main_arg2) = V (Proc.devRef .tc main_arg2) :=
  after_of_writes_sub hostOps0 V hostOps0_writes (by decide +kernel)
theorem keep_main_arg2_condOps (V : Valuation τ sig (Elt F)) : after condOps V (Proc.devRef .tc main_arg2) = V (Proc.devRef .tc main_arg2) :=
  after_of_writes_sub condOps V condOps_writes (by decide +kernel)
theorem keep_main_arg2_while0Ops0 (V : Valuation τ sig (Elt F)) : after while0Ops0 V (Proc.devRef .tc main_arg2) = V (Proc.devRef .tc main_arg2) :=
  after_of_writes_sub while0Ops0 V while0Ops0_writes (by decide +kernel)
theorem keep_main_arg2_while0Ops0_1 (V : Valuation τ sig (Elt F)) : after while0Ops0_1 V (Proc.devRef .tc main_arg2) = V (Proc.devRef .tc main_arg2) :=
  after_of_writes_sub while0Ops0_1 V while0Ops0_1_writes (by decide +kernel)
theorem keep_main_arg2_while0Ops0_2 (V : Valuation τ sig (Elt F)) : after while0Ops0_2 V (Proc.devRef .tc main_arg2) = V (Proc.devRef .tc main_arg2) :=
  after_of_writes_sub while0Ops0_2 V while0Ops0_2_writes (by decide +kernel)
theorem keep_main_arg2_while0Ops0_3 (V : Valuation τ sig (Elt F)) : after while0Ops0_3 V (Proc.devRef .tc main_arg2) = V (Proc.devRef .tc main_arg2) :=
  after_of_writes_sub while0Ops0_3 V while0Ops0_3_writes (by decide +kernel)
theorem keep_main_arg2_while0Ops0_4 (V : Valuation τ sig (Elt F)) : after while0Ops0_4 V (Proc.devRef .tc main_arg2) = V (Proc.devRef .tc main_arg2) :=
  after_of_writes_sub while0Ops0_4 V while0Ops0_4_writes (by decide +kernel)
theorem keep_main_arg2_while0Ops0_5 (V : Valuation τ sig (Elt F)) : after while0Ops0_5 V (Proc.devRef .tc main_arg2) = V (Proc.devRef .tc main_arg2) :=
  after_of_writes_sub while0Ops0_5 V while0Ops0_5_writes (by decide +kernel)
theorem keep_main_arg2_while0Ops0_6 (V : Valuation τ sig (Elt F)) : after while0Ops0_6 V (Proc.devRef .tc main_arg2) = V (Proc.devRef .tc main_arg2) :=
  after_of_writes_sub while0Ops0_6 V while0Ops0_6_writes (by decide +kernel)
theorem keep_main_arg2_while0Ops0_7 (V : Valuation τ sig (Elt F)) : after while0Ops0_7 V (Proc.devRef .tc main_arg2) = V (Proc.devRef .tc main_arg2) :=
  after_of_writes_sub while0Ops0_7 V while0Ops0_7_writes (by decide +kernel)
theorem keep_main_arg2_while0Ops0_8 (V : Valuation τ sig (Elt F)) : after while0Ops0_8 V (Proc.devRef .tc main_arg2) = V (Proc.devRef .tc main_arg2) :=
  after_of_writes_sub while0Ops0_8 V while0Ops0_8_writes (by decide +kernel)
theorem keep_main_arg2_while0Ops0_9 (V : Valuation τ sig (Elt F)) : after while0Ops0_9 V (Proc.devRef .tc main_arg2) = V (Proc.devRef .tc main_arg2) :=
  after_of_writes_sub while0Ops0_9 V while0Ops0_9_writes (by decide +kernel)
theorem keep_main_arg2_while0Ops0_10 (V : Valuation τ sig (Elt F)) : after while0Ops0_10 V (Proc.devRef .tc main_arg2) = V (Proc.devRef .tc main_arg2) :=
  after_of_writes_sub while0Ops0_10 V while0Ops0_10_writes (by decide +kernel)
theorem keep_main_arg2_hostOps0_1 (V : Valuation τ sig (Elt F)) : after hostOps0_1 V (Proc.devRef .tc main_arg2) = V (Proc.devRef .tc main_arg2) :=
  after_of_writes_sub hostOps0_1 V hostOps0_1_writes (by decide +kernel)
/-- The argument `main_arg2` is written by nothing: it holds its launch contents before every condition. -/
theorem atK_main_arg2 (c : Dev nD) : ∀ k, atK m k c (Proc.devRef .tc main_arg2) = m ((c.tc : Thread nD τ).loc main_arg2)
  | 0 => by
    rw [show atK m 0 c = entryContents preI m c from rfl]
    simp only [entryContents, afterL_cons, afterL_nil]
    rw [keep_main_arg2_hostOps0]
  | k + 1 => by
    rw [show atK m (k + 1) c = afterL bodyI (after condOps (atK m k c)) from rfl]
    simp only [afterL_cons, afterL_nil]
    rw [keep_main_arg2_while0Ops0_10, keep_main_arg2_while0Ops0_9, keep_main_arg2_while0Ops0_8, keep_main_arg2_while0Ops0_7, keep_main_arg2_while0Ops0_6, keep_main_arg2_while0Ops0_5, keep_main_arg2_while0Ops0_4, keep_main_arg2_while0Ops0_3, keep_main_arg2_while0Ops0_2, keep_main_arg2_while0Ops0_1, keep_main_arg2_while0Ops0, keep_main_arg2_condOps, atK_main_arg2 c k]

theorem keep_main_arg3_hostOps0 (V : Valuation τ sig (Elt F)) : after hostOps0 V (Proc.devRef .tc main_arg3) = V (Proc.devRef .tc main_arg3) :=
  after_of_writes_sub hostOps0 V hostOps0_writes (by decide +kernel)
theorem keep_main_arg3_condOps (V : Valuation τ sig (Elt F)) : after condOps V (Proc.devRef .tc main_arg3) = V (Proc.devRef .tc main_arg3) :=
  after_of_writes_sub condOps V condOps_writes (by decide +kernel)
theorem keep_main_arg3_while0Ops0 (V : Valuation τ sig (Elt F)) : after while0Ops0 V (Proc.devRef .tc main_arg3) = V (Proc.devRef .tc main_arg3) :=
  after_of_writes_sub while0Ops0 V while0Ops0_writes (by decide +kernel)
theorem keep_main_arg3_while0Ops0_1 (V : Valuation τ sig (Elt F)) : after while0Ops0_1 V (Proc.devRef .tc main_arg3) = V (Proc.devRef .tc main_arg3) :=
  after_of_writes_sub while0Ops0_1 V while0Ops0_1_writes (by decide +kernel)
theorem keep_main_arg3_while0Ops0_2 (V : Valuation τ sig (Elt F)) : after while0Ops0_2 V (Proc.devRef .tc main_arg3) = V (Proc.devRef .tc main_arg3) :=
  after_of_writes_sub while0Ops0_2 V while0Ops0_2_writes (by decide +kernel)
theorem keep_main_arg3_while0Ops0_3 (V : Valuation τ sig (Elt F)) : after while0Ops0_3 V (Proc.devRef .tc main_arg3) = V (Proc.devRef .tc main_arg3) :=
  after_of_writes_sub while0Ops0_3 V while0Ops0_3_writes (by decide +kernel)
theorem keep_main_arg3_while0Ops0_4 (V : Valuation τ sig (Elt F)) : after while0Ops0_4 V (Proc.devRef .tc main_arg3) = V (Proc.devRef .tc main_arg3) :=
  after_of_writes_sub while0Ops0_4 V while0Ops0_4_writes (by decide +kernel)
theorem keep_main_arg3_while0Ops0_5 (V : Valuation τ sig (Elt F)) : after while0Ops0_5 V (Proc.devRef .tc main_arg3) = V (Proc.devRef .tc main_arg3) :=
  after_of_writes_sub while0Ops0_5 V while0Ops0_5_writes (by decide +kernel)
theorem keep_main_arg3_while0Ops0_6 (V : Valuation τ sig (Elt F)) : after while0Ops0_6 V (Proc.devRef .tc main_arg3) = V (Proc.devRef .tc main_arg3) :=
  after_of_writes_sub while0Ops0_6 V while0Ops0_6_writes (by decide +kernel)
theorem keep_main_arg3_while0Ops0_7 (V : Valuation τ sig (Elt F)) : after while0Ops0_7 V (Proc.devRef .tc main_arg3) = V (Proc.devRef .tc main_arg3) :=
  after_of_writes_sub while0Ops0_7 V while0Ops0_7_writes (by decide +kernel)
theorem keep_main_arg3_while0Ops0_8 (V : Valuation τ sig (Elt F)) : after while0Ops0_8 V (Proc.devRef .tc main_arg3) = V (Proc.devRef .tc main_arg3) :=
  after_of_writes_sub while0Ops0_8 V while0Ops0_8_writes (by decide +kernel)
theorem keep_main_arg3_while0Ops0_9 (V : Valuation τ sig (Elt F)) : after while0Ops0_9 V (Proc.devRef .tc main_arg3) = V (Proc.devRef .tc main_arg3) :=
  after_of_writes_sub while0Ops0_9 V while0Ops0_9_writes (by decide +kernel)
theorem keep_main_arg3_while0Ops0_10 (V : Valuation τ sig (Elt F)) : after while0Ops0_10 V (Proc.devRef .tc main_arg3) = V (Proc.devRef .tc main_arg3) :=
  after_of_writes_sub while0Ops0_10 V while0Ops0_10_writes (by decide +kernel)
theorem keep_main_arg3_hostOps0_1 (V : Valuation τ sig (Elt F)) : after hostOps0_1 V (Proc.devRef .tc main_arg3) = V (Proc.devRef .tc main_arg3) :=
  after_of_writes_sub hostOps0_1 V hostOps0_1_writes (by decide +kernel)
/-- The argument `main_arg3` is written by nothing: it holds its launch contents before every condition. -/
theorem atK_main_arg3 (c : Dev nD) : ∀ k, atK m k c (Proc.devRef .tc main_arg3) = m ((c.tc : Thread nD τ).loc main_arg3)
  | 0 => by
    rw [show atK m 0 c = entryContents preI m c from rfl]
    simp only [entryContents, afterL_cons, afterL_nil]
    rw [keep_main_arg3_hostOps0]
  | k + 1 => by
    rw [show atK m (k + 1) c = afterL bodyI (after condOps (atK m k c)) from rfl]
    simp only [afterL_cons, afterL_nil]
    rw [keep_main_arg3_while0Ops0_10, keep_main_arg3_while0Ops0_9, keep_main_arg3_while0Ops0_8, keep_main_arg3_while0Ops0_7, keep_main_arg3_while0Ops0_6, keep_main_arg3_while0Ops0_5, keep_main_arg3_while0Ops0_4, keep_main_arg3_while0Ops0_3, keep_main_arg3_while0Ops0_2, keep_main_arg3_while0Ops0_1, keep_main_arg3_while0Ops0, keep_main_arg3_condOps, atK_main_arg3 c k]

theorem keep_main_arg4_hostOps0 (V : Valuation τ sig (Elt F)) : after hostOps0 V (Proc.devRef .tc main_arg4) = V (Proc.devRef .tc main_arg4) :=
  after_of_writes_sub hostOps0 V hostOps0_writes (by decide +kernel)
theorem keep_main_arg4_condOps (V : Valuation τ sig (Elt F)) : after condOps V (Proc.devRef .tc main_arg4) = V (Proc.devRef .tc main_arg4) :=
  after_of_writes_sub condOps V condOps_writes (by decide +kernel)
theorem keep_main_arg4_while0Ops0 (V : Valuation τ sig (Elt F)) : after while0Ops0 V (Proc.devRef .tc main_arg4) = V (Proc.devRef .tc main_arg4) :=
  after_of_writes_sub while0Ops0 V while0Ops0_writes (by decide +kernel)
theorem keep_main_arg4_while0Ops0_1 (V : Valuation τ sig (Elt F)) : after while0Ops0_1 V (Proc.devRef .tc main_arg4) = V (Proc.devRef .tc main_arg4) :=
  after_of_writes_sub while0Ops0_1 V while0Ops0_1_writes (by decide +kernel)
theorem keep_main_arg4_while0Ops0_2 (V : Valuation τ sig (Elt F)) : after while0Ops0_2 V (Proc.devRef .tc main_arg4) = V (Proc.devRef .tc main_arg4) :=
  after_of_writes_sub while0Ops0_2 V while0Ops0_2_writes (by decide +kernel)
theorem keep_main_arg4_while0Ops0_3 (V : Valuation τ sig (Elt F)) : after while0Ops0_3 V (Proc.devRef .tc main_arg4) = V (Proc.devRef .tc main_arg4) :=
  after_of_writes_sub while0Ops0_3 V while0Ops0_3_writes (by decide +kernel)
theorem keep_main_arg4_while0Ops0_4 (V : Valuation τ sig (Elt F)) : after while0Ops0_4 V (Proc.devRef .tc main_arg4) = V (Proc.devRef .tc main_arg4) :=
  after_of_writes_sub while0Ops0_4 V while0Ops0_4_writes (by decide +kernel)
theorem keep_main_arg4_while0Ops0_5 (V : Valuation τ sig (Elt F)) : after while0Ops0_5 V (Proc.devRef .tc main_arg4) = V (Proc.devRef .tc main_arg4) :=
  after_of_writes_sub while0Ops0_5 V while0Ops0_5_writes (by decide +kernel)
theorem keep_main_arg4_while0Ops0_6 (V : Valuation τ sig (Elt F)) : after while0Ops0_6 V (Proc.devRef .tc main_arg4) = V (Proc.devRef .tc main_arg4) :=
  after_of_writes_sub while0Ops0_6 V while0Ops0_6_writes (by decide +kernel)
theorem keep_main_arg4_while0Ops0_7 (V : Valuation τ sig (Elt F)) : after while0Ops0_7 V (Proc.devRef .tc main_arg4) = V (Proc.devRef .tc main_arg4) :=
  after_of_writes_sub while0Ops0_7 V while0Ops0_7_writes (by decide +kernel)
theorem keep_main_arg4_while0Ops0_8 (V : Valuation τ sig (Elt F)) : after while0Ops0_8 V (Proc.devRef .tc main_arg4) = V (Proc.devRef .tc main_arg4) :=
  after_of_writes_sub while0Ops0_8 V while0Ops0_8_writes (by decide +kernel)
theorem keep_main_arg4_while0Ops0_9 (V : Valuation τ sig (Elt F)) : after while0Ops0_9 V (Proc.devRef .tc main_arg4) = V (Proc.devRef .tc main_arg4) :=
  after_of_writes_sub while0Ops0_9 V while0Ops0_9_writes (by decide +kernel)
theorem keep_main_arg4_while0Ops0_10 (V : Valuation τ sig (Elt F)) : after while0Ops0_10 V (Proc.devRef .tc main_arg4) = V (Proc.devRef .tc main_arg4) :=
  after_of_writes_sub while0Ops0_10 V while0Ops0_10_writes (by decide +kernel)
theorem keep_main_arg4_hostOps0_1 (V : Valuation τ sig (Elt F)) : after hostOps0_1 V (Proc.devRef .tc main_arg4) = V (Proc.devRef .tc main_arg4) :=
  after_of_writes_sub hostOps0_1 V hostOps0_1_writes (by decide +kernel)
/-- The argument `main_arg4` is written by nothing: it holds its launch contents before every condition. -/
theorem atK_main_arg4 (c : Dev nD) : ∀ k, atK m k c (Proc.devRef .tc main_arg4) = m ((c.tc : Thread nD τ).loc main_arg4)
  | 0 => by
    rw [show atK m 0 c = entryContents preI m c from rfl]
    simp only [entryContents, afterL_cons, afterL_nil]
    rw [keep_main_arg4_hostOps0]
  | k + 1 => by
    rw [show atK m (k + 1) c = afterL bodyI (after condOps (atK m k c)) from rfl]
    simp only [afterL_cons, afterL_nil]
    rw [keep_main_arg4_while0Ops0_10, keep_main_arg4_while0Ops0_9, keep_main_arg4_while0Ops0_8, keep_main_arg4_while0Ops0_7, keep_main_arg4_while0Ops0_6, keep_main_arg4_while0Ops0_5, keep_main_arg4_while0Ops0_4, keep_main_arg4_while0Ops0_3, keep_main_arg4_while0Ops0_2, keep_main_arg4_while0Ops0_1, keep_main_arg4_while0Ops0, keep_main_arg4_condOps, atK_main_arg4 c k]

theorem keep_main_arg5_hostOps0 (V : Valuation τ sig (Elt F)) : after hostOps0 V (Proc.devRef .tc main_arg5) = V (Proc.devRef .tc main_arg5) :=
  after_of_writes_sub hostOps0 V hostOps0_writes (by decide +kernel)
theorem keep_main_arg5_condOps (V : Valuation τ sig (Elt F)) : after condOps V (Proc.devRef .tc main_arg5) = V (Proc.devRef .tc main_arg5) :=
  after_of_writes_sub condOps V condOps_writes (by decide +kernel)
theorem keep_main_arg5_while0Ops0 (V : Valuation τ sig (Elt F)) : after while0Ops0 V (Proc.devRef .tc main_arg5) = V (Proc.devRef .tc main_arg5) :=
  after_of_writes_sub while0Ops0 V while0Ops0_writes (by decide +kernel)
theorem keep_main_arg5_while0Ops0_1 (V : Valuation τ sig (Elt F)) : after while0Ops0_1 V (Proc.devRef .tc main_arg5) = V (Proc.devRef .tc main_arg5) :=
  after_of_writes_sub while0Ops0_1 V while0Ops0_1_writes (by decide +kernel)
theorem keep_main_arg5_while0Ops0_2 (V : Valuation τ sig (Elt F)) : after while0Ops0_2 V (Proc.devRef .tc main_arg5) = V (Proc.devRef .tc main_arg5) :=
  after_of_writes_sub while0Ops0_2 V while0Ops0_2_writes (by decide +kernel)
theorem keep_main_arg5_while0Ops0_3 (V : Valuation τ sig (Elt F)) : after while0Ops0_3 V (Proc.devRef .tc main_arg5) = V (Proc.devRef .tc main_arg5) :=
  after_of_writes_sub while0Ops0_3 V while0Ops0_3_writes (by decide +kernel)
theorem keep_main_arg5_while0Ops0_4 (V : Valuation τ sig (Elt F)) : after while0Ops0_4 V (Proc.devRef .tc main_arg5) = V (Proc.devRef .tc main_arg5) :=
  after_of_writes_sub while0Ops0_4 V while0Ops0_4_writes (by decide +kernel)
theorem keep_main_arg5_while0Ops0_5 (V : Valuation τ sig (Elt F)) : after while0Ops0_5 V (Proc.devRef .tc main_arg5) = V (Proc.devRef .tc main_arg5) :=
  after_of_writes_sub while0Ops0_5 V while0Ops0_5_writes (by decide +kernel)
theorem keep_main_arg5_while0Ops0_6 (V : Valuation τ sig (Elt F)) : after while0Ops0_6 V (Proc.devRef .tc main_arg5) = V (Proc.devRef .tc main_arg5) :=
  after_of_writes_sub while0Ops0_6 V while0Ops0_6_writes (by decide +kernel)
theorem keep_main_arg5_while0Ops0_7 (V : Valuation τ sig (Elt F)) : after while0Ops0_7 V (Proc.devRef .tc main_arg5) = V (Proc.devRef .tc main_arg5) :=
  after_of_writes_sub while0Ops0_7 V while0Ops0_7_writes (by decide +kernel)
theorem keep_main_arg5_while0Ops0_8 (V : Valuation τ sig (Elt F)) : after while0Ops0_8 V (Proc.devRef .tc main_arg5) = V (Proc.devRef .tc main_arg5) :=
  after_of_writes_sub while0Ops0_8 V while0Ops0_8_writes (by decide +kernel)
theorem keep_main_arg5_while0Ops0_9 (V : Valuation τ sig (Elt F)) : after while0Ops0_9 V (Proc.devRef .tc main_arg5) = V (Proc.devRef .tc main_arg5) :=
  after_of_writes_sub while0Ops0_9 V while0Ops0_9_writes (by decide +kernel)
theorem keep_main_arg5_while0Ops0_10 (V : Valuation τ sig (Elt F)) : after while0Ops0_10 V (Proc.devRef .tc main_arg5) = V (Proc.devRef .tc main_arg5) :=
  after_of_writes_sub while0Ops0_10 V while0Ops0_10_writes (by decide +kernel)
theorem keep_main_arg5_hostOps0_1 (V : Valuation τ sig (Elt F)) : after hostOps0_1 V (Proc.devRef .tc main_arg5) = V (Proc.devRef .tc main_arg5) :=
  after_of_writes_sub hostOps0_1 V hostOps0_1_writes (by decide +kernel)
/-- The argument `main_arg5` is written by nothing: it holds its launch contents before every condition. -/
theorem atK_main_arg5 (c : Dev nD) : ∀ k, atK m k c (Proc.devRef .tc main_arg5) = m ((c.tc : Thread nD τ).loc main_arg5)
  | 0 => by
    rw [show atK m 0 c = entryContents preI m c from rfl]
    simp only [entryContents, afterL_cons, afterL_nil]
    rw [keep_main_arg5_hostOps0]
  | k + 1 => by
    rw [show atK m (k + 1) c = afterL bodyI (after condOps (atK m k c)) from rfl]
    simp only [afterL_cons, afterL_nil]
    rw [keep_main_arg5_while0Ops0_10, keep_main_arg5_while0Ops0_9, keep_main_arg5_while0Ops0_8, keep_main_arg5_while0Ops0_7, keep_main_arg5_while0Ops0_6, keep_main_arg5_while0Ops0_5, keep_main_arg5_while0Ops0_4, keep_main_arg5_while0Ops0_3, keep_main_arg5_while0Ops0_2, keep_main_arg5_while0Ops0_1, keep_main_arg5_while0Ops0, keep_main_arg5_condOps, atK_main_arg5 c k]

theorem keep_main_arg6_hostOps0 (V : Valuation τ sig (Elt F)) : after hostOps0 V (Proc.devRef .tc main_arg6) = V (Proc.devRef .tc main_arg6) :=
  after_of_writes_sub hostOps0 V hostOps0_writes (by decide +kernel)
theorem keep_main_arg6_condOps (V : Valuation τ sig (Elt F)) : after condOps V (Proc.devRef .tc main_arg6) = V (Proc.devRef .tc main_arg6) :=
  after_of_writes_sub condOps V condOps_writes (by decide +kernel)
theorem keep_main_arg6_while0Ops0 (V : Valuation τ sig (Elt F)) : after while0Ops0 V (Proc.devRef .tc main_arg6) = V (Proc.devRef .tc main_arg6) :=
  after_of_writes_sub while0Ops0 V while0Ops0_writes (by decide +kernel)
theorem keep_main_arg6_while0Ops0_1 (V : Valuation τ sig (Elt F)) : after while0Ops0_1 V (Proc.devRef .tc main_arg6) = V (Proc.devRef .tc main_arg6) :=
  after_of_writes_sub while0Ops0_1 V while0Ops0_1_writes (by decide +kernel)
theorem keep_main_arg6_while0Ops0_2 (V : Valuation τ sig (Elt F)) : after while0Ops0_2 V (Proc.devRef .tc main_arg6) = V (Proc.devRef .tc main_arg6) :=
  after_of_writes_sub while0Ops0_2 V while0Ops0_2_writes (by decide +kernel)
theorem keep_main_arg6_while0Ops0_3 (V : Valuation τ sig (Elt F)) : after while0Ops0_3 V (Proc.devRef .tc main_arg6) = V (Proc.devRef .tc main_arg6) :=
  after_of_writes_sub while0Ops0_3 V while0Ops0_3_writes (by decide +kernel)
theorem keep_main_arg6_while0Ops0_4 (V : Valuation τ sig (Elt F)) : after while0Ops0_4 V (Proc.devRef .tc main_arg6) = V (Proc.devRef .tc main_arg6) :=
  after_of_writes_sub while0Ops0_4 V while0Ops0_4_writes (by decide +kernel)
theorem keep_main_arg6_while0Ops0_5 (V : Valuation τ sig (Elt F)) : after while0Ops0_5 V (Proc.devRef .tc main_arg6) = V (Proc.devRef .tc main_arg6) :=
  after_of_writes_sub while0Ops0_5 V while0Ops0_5_writes (by decide +kernel)
theorem keep_main_arg6_while0Ops0_6 (V : Valuation τ sig (Elt F)) : after while0Ops0_6 V (Proc.devRef .tc main_arg6) = V (Proc.devRef .tc main_arg6) :=
  after_of_writes_sub while0Ops0_6 V while0Ops0_6_writes (by decide +kernel)
theorem keep_main_arg6_while0Ops0_7 (V : Valuation τ sig (Elt F)) : after while0Ops0_7 V (Proc.devRef .tc main_arg6) = V (Proc.devRef .tc main_arg6) :=
  after_of_writes_sub while0Ops0_7 V while0Ops0_7_writes (by decide +kernel)
theorem keep_main_arg6_while0Ops0_8 (V : Valuation τ sig (Elt F)) : after while0Ops0_8 V (Proc.devRef .tc main_arg6) = V (Proc.devRef .tc main_arg6) :=
  after_of_writes_sub while0Ops0_8 V while0Ops0_8_writes (by decide +kernel)
theorem keep_main_arg6_while0Ops0_9 (V : Valuation τ sig (Elt F)) : after while0Ops0_9 V (Proc.devRef .tc main_arg6) = V (Proc.devRef .tc main_arg6) :=
  after_of_writes_sub while0Ops0_9 V while0Ops0_9_writes (by decide +kernel)
theorem keep_main_arg6_while0Ops0_10 (V : Valuation τ sig (Elt F)) : after while0Ops0_10 V (Proc.devRef .tc main_arg6) = V (Proc.devRef .tc main_arg6) :=
  after_of_writes_sub while0Ops0_10 V while0Ops0_10_writes (by decide +kernel)
theorem keep_main_arg6_hostOps0_1 (V : Valuation τ sig (Elt F)) : after hostOps0_1 V (Proc.devRef .tc main_arg6) = V (Proc.devRef .tc main_arg6) :=
  after_of_writes_sub hostOps0_1 V hostOps0_1_writes (by decide +kernel)
/-- The argument `main_arg6` is written by nothing: it holds its launch contents before every condition. -/
theorem atK_main_arg6 (c : Dev nD) : ∀ k, atK m k c (Proc.devRef .tc main_arg6) = m ((c.tc : Thread nD τ).loc main_arg6)
  | 0 => by
    rw [show atK m 0 c = entryContents preI m c from rfl]
    simp only [entryContents, afterL_cons, afterL_nil]
    rw [keep_main_arg6_hostOps0]
  | k + 1 => by
    rw [show atK m (k + 1) c = afterL bodyI (after condOps (atK m k c)) from rfl]
    simp only [afterL_cons, afterL_nil]
    rw [keep_main_arg6_while0Ops0_10, keep_main_arg6_while0Ops0_9, keep_main_arg6_while0Ops0_8, keep_main_arg6_while0Ops0_7, keep_main_arg6_while0Ops0_6, keep_main_arg6_while0Ops0_5, keep_main_arg6_while0Ops0_4, keep_main_arg6_while0Ops0_3, keep_main_arg6_while0Ops0_2, keep_main_arg6_while0Ops0_1, keep_main_arg6_while0Ops0, keep_main_arg6_condOps, atK_main_arg6 c k]

theorem keep_main_arg7_hostOps0 (V : Valuation τ sig (Elt F)) : after hostOps0 V (Proc.devRef .tc main_arg7) = V (Proc.devRef .tc main_arg7) :=
  after_of_writes_sub hostOps0 V hostOps0_writes (by decide +kernel)
theorem keep_main_arg7_condOps (V : Valuation τ sig (Elt F)) : after condOps V (Proc.devRef .tc main_arg7) = V (Proc.devRef .tc main_arg7) :=
  after_of_writes_sub condOps V condOps_writes (by decide +kernel)
theorem keep_main_arg7_while0Ops0 (V : Valuation τ sig (Elt F)) : after while0Ops0 V (Proc.devRef .tc main_arg7) = V (Proc.devRef .tc main_arg7) :=
  after_of_writes_sub while0Ops0 V while0Ops0_writes (by decide +kernel)
theorem keep_main_arg7_while0Ops0_1 (V : Valuation τ sig (Elt F)) : after while0Ops0_1 V (Proc.devRef .tc main_arg7) = V (Proc.devRef .tc main_arg7) :=
  after_of_writes_sub while0Ops0_1 V while0Ops0_1_writes (by decide +kernel)
theorem keep_main_arg7_while0Ops0_2 (V : Valuation τ sig (Elt F)) : after while0Ops0_2 V (Proc.devRef .tc main_arg7) = V (Proc.devRef .tc main_arg7) :=
  after_of_writes_sub while0Ops0_2 V while0Ops0_2_writes (by decide +kernel)
theorem keep_main_arg7_while0Ops0_3 (V : Valuation τ sig (Elt F)) : after while0Ops0_3 V (Proc.devRef .tc main_arg7) = V (Proc.devRef .tc main_arg7) :=
  after_of_writes_sub while0Ops0_3 V while0Ops0_3_writes (by decide +kernel)
theorem keep_main_arg7_while0Ops0_4 (V : Valuation τ sig (Elt F)) : after while0Ops0_4 V (Proc.devRef .tc main_arg7) = V (Proc.devRef .tc main_arg7) :=
  after_of_writes_sub while0Ops0_4 V while0Ops0_4_writes (by decide +kernel)
theorem keep_main_arg7_while0Ops0_5 (V : Valuation τ sig (Elt F)) : after while0Ops0_5 V (Proc.devRef .tc main_arg7) = V (Proc.devRef .tc main_arg7) :=
  after_of_writes_sub while0Ops0_5 V while0Ops0_5_writes (by decide +kernel)
theorem keep_main_arg7_while0Ops0_6 (V : Valuation τ sig (Elt F)) : after while0Ops0_6 V (Proc.devRef .tc main_arg7) = V (Proc.devRef .tc main_arg7) :=
  after_of_writes_sub while0Ops0_6 V while0Ops0_6_writes (by decide +kernel)
theorem keep_main_arg7_while0Ops0_7 (V : Valuation τ sig (Elt F)) : after while0Ops0_7 V (Proc.devRef .tc main_arg7) = V (Proc.devRef .tc main_arg7) :=
  after_of_writes_sub while0Ops0_7 V while0Ops0_7_writes (by decide +kernel)
theorem keep_main_arg7_while0Ops0_8 (V : Valuation τ sig (Elt F)) : after while0Ops0_8 V (Proc.devRef .tc main_arg7) = V (Proc.devRef .tc main_arg7) :=
  after_of_writes_sub while0Ops0_8 V while0Ops0_8_writes (by decide +kernel)
theorem keep_main_arg7_while0Ops0_9 (V : Valuation τ sig (Elt F)) : after while0Ops0_9 V (Proc.devRef .tc main_arg7) = V (Proc.devRef .tc main_arg7) :=
  after_of_writes_sub while0Ops0_9 V while0Ops0_9_writes (by decide +kernel)
theorem keep_main_arg7_while0Ops0_10 (V : Valuation τ sig (Elt F)) : after while0Ops0_10 V (Proc.devRef .tc main_arg7) = V (Proc.devRef .tc main_arg7) :=
  after_of_writes_sub while0Ops0_10 V while0Ops0_10_writes (by decide +kernel)
theorem keep_main_arg7_hostOps0_1 (V : Valuation τ sig (Elt F)) : after hostOps0_1 V (Proc.devRef .tc main_arg7) = V (Proc.devRef .tc main_arg7) :=
  after_of_writes_sub hostOps0_1 V hostOps0_1_writes (by decide +kernel)
/-- The argument `main_arg7` is written by nothing: it holds its launch contents before every condition. -/
theorem atK_main_arg7 (c : Dev nD) : ∀ k, atK m k c (Proc.devRef .tc main_arg7) = m ((c.tc : Thread nD τ).loc main_arg7)
  | 0 => by
    rw [show atK m 0 c = entryContents preI m c from rfl]
    simp only [entryContents, afterL_cons, afterL_nil]
    rw [keep_main_arg7_hostOps0]
  | k + 1 => by
    rw [show atK m (k + 1) c = afterL bodyI (after condOps (atK m k c)) from rfl]
    simp only [afterL_cons, afterL_nil]
    rw [keep_main_arg7_while0Ops0_10, keep_main_arg7_while0Ops0_9, keep_main_arg7_while0Ops0_8, keep_main_arg7_while0Ops0_7, keep_main_arg7_while0Ops0_6, keep_main_arg7_while0Ops0_5, keep_main_arg7_while0Ops0_4, keep_main_arg7_while0Ops0_3, keep_main_arg7_while0Ops0_2, keep_main_arg7_while0Ops0_1, keep_main_arg7_while0Ops0, keep_main_arg7_condOps, atK_main_arg7 c k]

/-! ## After the loop -/

/-- The operations after the loop do not write `main_arg0`. -/
theorem post_keeps_main_arg0 (V0 : Valuation τ sig (Elt F)) : afterL postI V0 (Proc.devRef .tc main_arg0) = V0 (Proc.devRef .tc main_arg0) := by
  simp only [postI, afterL_cons, afterL_nil]
  rw [keep_main_arg0_hostOps0_1]
/-- The operations after the loop do not write `main_arg1`. -/
theorem post_keeps_main_arg1 (V0 : Valuation τ sig (Elt F)) : afterL postI V0 (Proc.devRef .tc main_arg1) = V0 (Proc.devRef .tc main_arg1) := by
  simp only [postI, afterL_cons, afterL_nil]
  rw [keep_main_arg1_hostOps0_1]
/-- The operations after the loop do not write `main_arg2`. -/
theorem post_keeps_main_arg2 (V0 : Valuation τ sig (Elt F)) : afterL postI V0 (Proc.devRef .tc main_arg2) = V0 (Proc.devRef .tc main_arg2) := by
  simp only [postI, afterL_cons, afterL_nil]
  rw [keep_main_arg2_hostOps0_1]
/-- The operations after the loop do not write `main_arg3`. -/
theorem post_keeps_main_arg3 (V0 : Valuation τ sig (Elt F)) : afterL postI V0 (Proc.devRef .tc main_arg3) = V0 (Proc.devRef .tc main_arg3) := by
  simp only [postI, afterL_cons, afterL_nil]
  rw [keep_main_arg3_hostOps0_1]
/-- The operations after the loop do not write `main_arg4`. -/
theorem post_keeps_main_arg4 (V0 : Valuation τ sig (Elt F)) : afterL postI V0 (Proc.devRef .tc main_arg4) = V0 (Proc.devRef .tc main_arg4) := by
  simp only [postI, afterL_cons, afterL_nil]
  rw [keep_main_arg4_hostOps0_1]
/-- The operations after the loop do not write `main_arg5`. -/
theorem post_keeps_main_arg5 (V0 : Valuation τ sig (Elt F)) : afterL postI V0 (Proc.devRef .tc main_arg5) = V0 (Proc.devRef .tc main_arg5) := by
  simp only [postI, afterL_cons, afterL_nil]
  rw [keep_main_arg5_hostOps0_1]
/-- The operations after the loop do not write `main_arg6`. -/
theorem post_keeps_main_arg6 (V0 : Valuation τ sig (Elt F)) : afterL postI V0 (Proc.devRef .tc main_arg6) = V0 (Proc.devRef .tc main_arg6) := by
  simp only [postI, afterL_cons, afterL_nil]
  rw [keep_main_arg6_hostOps0_1]
/-- The operations after the loop do not write `main_arg7`. -/
theorem post_keeps_main_arg7 (V0 : Valuation τ sig (Elt F)) : afterL postI V0 (Proc.devRef .tc main_arg7) = V0 (Proc.devRef .tc main_arg7) := by
  simp only [postI, afterL_cons, afterL_nil]
  rw [keep_main_arg7_hostOps0_1]
/-- `STEP` iterated on the loop's entry leaves the argument `main_arg0` as the launch has it. -/
theorem iter_main_arg0 (c : Dev nD) : ∀ k, (STEP^[k] (entryContents preI m c)) (Proc.devRef .tc main_arg0) = m ((c.tc : Thread nD τ).loc main_arg0)
  | 0 => by rw [Function.iterate_zero, id_eq, ← atTrip_zero condOps bodyI (entryContents preI m)]; exact atK_main_arg0 m c 0
  | k + 1 => by
    rw [Function.iterate_succ_apply']
    unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; exact iter_main_arg0 c k
/-- `STEP` iterated on the loop's entry leaves the argument `main_arg1` as the launch has it. -/
theorem iter_main_arg1 (c : Dev nD) : ∀ k, (STEP^[k] (entryContents preI m c)) (Proc.devRef .tc main_arg1) = m ((c.tc : Thread nD τ).loc main_arg1)
  | 0 => by rw [Function.iterate_zero, id_eq, ← atTrip_zero condOps bodyI (entryContents preI m)]; exact atK_main_arg1 m c 0
  | k + 1 => by
    rw [Function.iterate_succ_apply']
    unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; exact iter_main_arg1 c k
/-- `STEP` iterated on the loop's entry leaves the argument `main_arg2` as the launch has it. -/
theorem iter_main_arg2 (c : Dev nD) : ∀ k, (STEP^[k] (entryContents preI m c)) (Proc.devRef .tc main_arg2) = m ((c.tc : Thread nD τ).loc main_arg2)
  | 0 => by rw [Function.iterate_zero, id_eq, ← atTrip_zero condOps bodyI (entryContents preI m)]; exact atK_main_arg2 m c 0
  | k + 1 => by
    rw [Function.iterate_succ_apply']
    unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; exact iter_main_arg2 c k
/-- `STEP` iterated on the loop's entry leaves the argument `main_arg3` as the launch has it. -/
theorem iter_main_arg3 (c : Dev nD) : ∀ k, (STEP^[k] (entryContents preI m c)) (Proc.devRef .tc main_arg3) = m ((c.tc : Thread nD τ).loc main_arg3)
  | 0 => by rw [Function.iterate_zero, id_eq, ← atTrip_zero condOps bodyI (entryContents preI m)]; exact atK_main_arg3 m c 0
  | k + 1 => by
    rw [Function.iterate_succ_apply']
    unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; exact iter_main_arg3 c k
/-- `STEP` iterated on the loop's entry leaves the argument `main_arg4` as the launch has it. -/
theorem iter_main_arg4 (c : Dev nD) : ∀ k, (STEP^[k] (entryContents preI m c)) (Proc.devRef .tc main_arg4) = m ((c.tc : Thread nD τ).loc main_arg4)
  | 0 => by rw [Function.iterate_zero, id_eq, ← atTrip_zero condOps bodyI (entryContents preI m)]; exact atK_main_arg4 m c 0
  | k + 1 => by
    rw [Function.iterate_succ_apply']
    unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; exact iter_main_arg4 c k
/-- `STEP` iterated on the loop's entry leaves the argument `main_arg5` as the launch has it. -/
theorem iter_main_arg5 (c : Dev nD) : ∀ k, (STEP^[k] (entryContents preI m c)) (Proc.devRef .tc main_arg5) = m ((c.tc : Thread nD τ).loc main_arg5)
  | 0 => by rw [Function.iterate_zero, id_eq, ← atTrip_zero condOps bodyI (entryContents preI m)]; exact atK_main_arg5 m c 0
  | k + 1 => by
    rw [Function.iterate_succ_apply']
    unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; exact iter_main_arg5 c k
/-- `STEP` iterated on the loop's entry leaves the argument `main_arg6` as the launch has it. -/
theorem iter_main_arg6 (c : Dev nD) : ∀ k, (STEP^[k] (entryContents preI m c)) (Proc.devRef .tc main_arg6) = m ((c.tc : Thread nD τ).loc main_arg6)
  | 0 => by rw [Function.iterate_zero, id_eq, ← atTrip_zero condOps bodyI (entryContents preI m)]; exact atK_main_arg6 m c 0
  | k + 1 => by
    rw [Function.iterate_succ_apply']
    unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; exact iter_main_arg6 c k
/-- `STEP` iterated on the loop's entry leaves the argument `main_arg7` as the launch has it. -/
theorem iter_main_arg7 (c : Dev nD) : ∀ k, (STEP^[k] (entryContents preI m c)) (Proc.devRef .tc main_arg7) = m ((c.tc : Thread nD τ).loc main_arg7)
  | 0 => by rw [Function.iterate_zero, id_eq, ← atTrip_zero condOps bodyI (entryContents preI m)]; exact atK_main_arg7 m c 0
  | k + 1 => by
    rw [Function.iterate_succ_apply']
    unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; exact iter_main_arg7 c k
set_option maxRecDepth 8192 in
/-- `main_v15`, which the operations after the loop make, of the contents they start from. -/
def out_main_v15 (V0 : Valuation τ sig (Elt F)) : (Proc.devRef .tc main_v15 : DevRef τ sig).ty.Contents (Elt F) :=
  transpose S128x256 [1, 0] (V0 (Proc.devRef .tc main_v14_10)) transposes_S256x128_S128x256_1_0
set_option maxRecDepth 8192 in
set_option maxHeartbeats 2000000 in
theorem post_main_v15 (V0 : Valuation τ sig (Elt F)) : afterL postI V0 (no_index (Proc.devRef .tc main_v15)) = out_main_v15 V0 := by
  unfold out_main_v15
  simp only [postI, afterL_cons, afterL_nil, hostOps0_1]
  after_results_entrywise []
set_option maxRecDepth 8192 in
theorem out_main_v15_congr {V0 V0' : Valuation τ sig (Elt F)} (h : Agree V0 V0') : out_main_v15 V0 = out_main_v15 V0' := by
  unfold out_main_v15
  rw [h main_v14_10 (by decide)]
set_option maxRecDepth 8192 in
/-- `main_v16`, which the operations after the loop make, of the contents they start from. -/
def out_main_v16 (V0 : Valuation τ sig (Elt F)) : (Proc.devRef .tc main_v16 : DevRef τ sig).ty.Contents (Elt F) :=
  Host.reduceAdd (V0 (Proc.devRef .tc main_v14_11)) (constant S_ .f32 0x00000000#32) reducesTo_S256x128_S128_d0 h_S_
set_option maxRecDepth 8192 in
set_option maxHeartbeats 2000000 in
theorem post_main_v16 (V0 : Valuation τ sig (Elt F)) : afterL postI V0 (no_index (Proc.devRef .tc main_v16)) = out_main_v16 V0 := by
  unfold out_main_v16
  simp only [postI, afterL_cons, afterL_nil, hostOps0_1]
  after_results_entrywise []
set_option maxRecDepth 8192 in
theorem out_main_v16_congr {V0 V0' : Valuation τ sig (Elt F)} (h : Agree V0 V0') : out_main_v16 V0 = out_main_v16 V0' := by
  unfold out_main_v16
  rw [h main_v14_11 (by decide)]
set_option maxRecDepth 8192 in
/-- `main_v17`, which the operations after the loop make, of the contents they start from. -/
def out_main_v17 (V0 : Valuation τ sig (Elt F)) : (Proc.devRef .tc main_v17 : DevRef τ sig).ty.Contents (Elt F) :=
  Host.reduceAdd (V0 (Proc.devRef .tc main_v14_12)) (constant S_ .f32 0x00000000#32) reducesTo_S256x128_S128_d0 h_S_
set_option maxRecDepth 8192 in
set_option maxHeartbeats 2000000 in
theorem post_main_v17 (V0 : Valuation τ sig (Elt F)) : afterL postI V0 (no_index (Proc.devRef .tc main_v17)) = out_main_v17 V0 := by
  unfold out_main_v17
  simp only [postI, afterL_cons, afterL_nil, hostOps0_1]
  after_results_entrywise []
set_option maxRecDepth 8192 in
theorem out_main_v17_congr {V0 V0' : Valuation τ sig (Elt F)} (h : Agree V0 V0') : out_main_v17 V0 = out_main_v17 V0' := by
  unfold out_main_v17
  rw [h main_v14_12 (by decide)]
/-- THE RUN: on every device, for any float values, from any memory with zero counters, every weakly fair execution
    of @main terminates with each result at its component of `STEP` iterated 256 times on the loop's entry (`step_‹buffer›`
    says what one trip makes of each carried buffer), or, for a result the operations after the loop make, at `out_‹result›` of that, and every argument unchanged. -/
theorem run : θ_run (defs (F := F)) (onTc (τ := τ) (main (F := F))) ⟨m, fun _ => 0, ρ⟩ fun r => ∀ c : Dev nD,
      r.2.mem ((c.tc : Thread nD τ).loc main_v15) = out_main_v15 (STEP^[256] (entryContents preI m c))
      ∧ r.2.mem ((c.tc : Thread nD τ).loc main_v16) = out_main_v16 (STEP^[256] (entryContents preI m c))
      ∧ r.2.mem ((c.tc : Thread nD τ).loc main_v17) = out_main_v17 (STEP^[256] (entryContents preI m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v15 rfl).trans ((post_main_v15 _).trans (out_main_v15_congr (fun j hj => (cond_keeps _ j hj).trans (atK_agree m c 256 j hj)))),
      (h c main_v16 rfl).trans ((post_main_v16 _).trans (out_main_v16_congr (fun j hj => (cond_keeps _ j hj).trans (atK_agree m c 256 j hj)))),
      (h c main_v17 rfl).trans ((post_main_v17 _).trans (out_main_v17_congr (fun j hj => (cond_keeps _ j hj).trans (atK_agree m c 256 j hj)))),
      (h c main_arg0 rfl).trans ((post_keeps_main_arg0 _).trans ((keep_main_arg0_condOps _).trans (atK_main_arg0 m c 256))),
      (h c main_arg1 rfl).trans ((post_keeps_main_arg1 _).trans ((keep_main_arg1_condOps _).trans (atK_main_arg1 m c 256))),
      (h c main_arg2 rfl).trans ((post_keeps_main_arg2 _).trans ((keep_main_arg2_condOps _).trans (atK_main_arg2 m c 256))),
      (h c main_arg3 rfl).trans ((post_keeps_main_arg3 _).trans ((keep_main_arg3_condOps _).trans (atK_main_arg3 m c 256))),
      (h c main_arg4 rfl).trans ((post_keeps_main_arg4 _).trans ((keep_main_arg4_condOps _).trans (atK_main_arg4 m c 256))),
      (h c main_arg5 rfl).trans ((post_keeps_main_arg5 _).trans ((keep_main_arg5_condOps _).trans (atK_main_arg5 m c 256))),
      (h c main_arg6 rfl).trans ((post_keeps_main_arg6 _).trans ((keep_main_arg6_condOps _).trans (atK_main_arg6 m c 256))),
      (h c main_arg7 rfl).trans ((post_keeps_main_arg7 _).trans ((keep_main_arg7_condOps _).trans (atK_main_arg7 m c 256)))⟩) (run_fold m ρ)

end Cert.ReferenceIdeal.Value

end
-- ==== Proof.KResult.lean ====
module

public import proofs.«01_k».proof.Proof.KFrame
public import Idealize.ShloMosaic.Lib.Pipeline.ValueKit
public import Idealize.ShloMosaic.Lib.Claim

/-! # The kernel's inputs and results as arrays

The launch has one grid point and every window is its whole array: the inputs are the arguments, transposed or made a row by the operations
before the launch; the results are the last step's, read off by the operations after it. -/

@[expose] public section

set_option maxRecDepth 16384

noncomputable section

namespace Cert.Proof.KRun

open Cert.KernelIdeal Cert.KernelIdeal.Gen
open Idealize.ShloMosaic Idealize.ShloMosaic.TcCoe Idealize.ShloMosaic.Tactic
open Idealize.SL.Sem

variable (m : (ℓ : Loc nD τ sig) → Buf (Elt Ideal) ℓ) (c : Dev nD) (t : Fin cfg0.N)

/-! Every window's one block starts at the array's first element. -/

theorem at_0 : ∀ (t : Fin grid0.N) a, win0_0.index t a = 0 := by decide +kernel
theorem at_1 : ∀ (t : Fin grid0.N) a, win0_1.index t a = 0 := by decide +kernel
theorem at_2 : ∀ (t : Fin grid0.N) a, win0_2.index t a = 0 := by decide +kernel
theorem at_3 : ∀ (t : Fin grid0.N) a, win0_3.index t a = 0 := by decide +kernel
theorem at_4 : ∀ (t : Fin grid0.N) a, win0_4.index t a = 0 := by decide +kernel
theorem at_5 : ∀ (t : Fin grid0.N) a, win0_5.index t a = 0 := by decide +kernel
theorem at_6 : ∀ (t : Fin grid0.N) a, win0_6.index t a = 0 := by decide +kernel
theorem at_7 : ∀ (t : Fin grid0.N) a, win0_7.index t a = 0 := by decide +kernel
theorem at_8 : ∀ (t : Fin grid0.N) a, win0_8.index t a = 0 := by decide +kernel

theorem in0 (b : Fin 128) (n : Fin 256) (k : Fin 128) : (kc m c t).X0 (ix3 b n k) = m ((c.tc : Thread nD τ).loc main_arg0) (ix3 b n k) := by
  show iblk m c 0 t (ix3 b n k) = _
  blk_point [iblk, at_0]

theorem in1 (b k : Fin 128) (n : Fin 256) : (kc m c t).X1 (ix3 b k n) = m ((c.tc : Thread nD τ).loc main_arg0) (ix3 b n k) := by
  have e : ((cfg0.win 1).blk t).view.emb (ix3 b k n) = ix3 b k n := by
    funext a
    refine Fin.ext ?_
    fin_cases a <;> blk_simp [at_1] <;> simp
  show V m c main_v2 (((cfg0.win 1).blk t).view.emb (ix3 b k n)) = _
  rw [e]
  unfold V V0
  simp only [List.flatten_cons, List.flatten_nil, List.append_nil, StableHlo.after_cons, StableHlo.after_nil]
  after_results_simp
  pointwise

theorem in2 (x k : Fin 128) : (kc m c t).X2 (ix2 x k) = m ((c.tc : Thread nD τ).loc main_arg1) (ix2 k x) := by
  have e : ((cfg0.win 2).blk t).view.emb (ix2 x k) = ix2 x k := by
    funext a
    refine Fin.ext ?_
    fin_cases a <;> blk_simp [at_2] <;> simp
  show V m c main_v3 (((cfg0.win 2).blk t).view.emb (ix2 x k)) = _
  rw [e]
  unfold V V0
  simp only [List.flatten_cons, List.flatten_nil, List.append_nil, StableHlo.after_cons, StableHlo.after_nil]
  after_results_simp
  pointwise

theorem in3 (x k : Fin 128) : (kc m c t).X3 (ix2 x k) = m ((c.tc : Thread nD τ).loc main_arg2) (ix2 k x) := by
  have e : ((cfg0.win 3).blk t).view.emb (ix2 x k) = ix2 x k := by
    funext a
    refine Fin.ext ?_
    fin_cases a <;> blk_simp [at_3] <;> simp
  show V m c main_v4 (((cfg0.win 3).blk t).view.emb (ix2 x k)) = _
  rw [e]
  unfold V V0
  simp only [List.flatten_cons, List.flatten_nil, List.append_nil, StableHlo.after_cons, StableHlo.after_nil]
  after_results_simp
  pointwise

theorem in4 (k : Fin 128) : (kc m c t).X4 (ix2 0 k) = m ((c.tc : Thread nD τ).loc main_arg3) (ix1 k) := by
  have e : ((cfg0.win 4).blk t).view.emb (ix2 0 k) = ix2 0 k := by
    funext a
    refine Fin.ext ?_
    fin_cases a <;> blk_simp [at_4] <;> simp
  show V m c main_v5 (((cfg0.win 4).blk t).view.emb (ix2 0 k)) = _
  rw [e]
  unfold V V0
  simp only [List.flatten_cons, List.flatten_nil, List.append_nil, StableHlo.after_cons, StableHlo.after_nil]
  after_results_simp
  pointwise

theorem in5 (x : Fin 128) (k : Fin 384) : (kc m c t).X5 (ix2 x k) = m ((c.tc : Thread nD τ).loc main_arg4) (ix2 k x) := by
  have e : ((cfg0.win 5).blk t).view.emb (ix2 x k) = ix2 x k := by
    funext a
    refine Fin.ext ?_
    fin_cases a <;> blk_simp [at_5] <;> simp
  show V m c main_v6 (((cfg0.win 5).blk t).view.emb (ix2 x k)) = _
  rw [e]
  unfold V V0
  simp only [List.flatten_cons, List.flatten_nil, List.append_nil, StableHlo.after_cons, StableHlo.after_nil]
  after_results_simp
  pointwise

theorem in6 (x : Fin 128) (k : Fin 384) : (kc m c t).X6 (ix2 x k) = m ((c.tc : Thread nD τ).loc main_arg5) (ix2 k x) := by
  have e : ((cfg0.win 6).blk t).view.emb (ix2 x k) = ix2 x k := by
    funext a
    refine Fin.ext ?_
    fin_cases a <;> blk_simp [at_6] <;> simp
  show V m c main_v7 (((cfg0.win 6).blk t).view.emb (ix2 x k)) = _
  rw [e]
  unfold V V0
  simp only [List.flatten_cons, List.flatten_nil, List.append_nil, StableHlo.after_cons, StableHlo.after_nil]
  after_results_simp
  pointwise

theorem in7 (k : Fin 384) : (kc m c t).X7 (ix2 0 k) = m ((c.tc : Thread nD τ).loc main_arg6) (ix1 k) := by
  have e : ((cfg0.win 7).blk t).view.emb (ix2 0 k) = ix2 0 k := by
    funext a
    refine Fin.ext ?_
    fin_cases a <;> blk_simp [at_7] <;> simp
  show V m c main_v8 (((cfg0.win 7).blk t).view.emb (ix2 0 k)) = _
  rw [e]
  unfold V V0
  simp only [List.flatten_cons, List.flatten_nil, List.append_nil, StableHlo.after_cons, StableHlo.after_nil]
  after_results_simp
  pointwise

theorem in8 (k : Fin 384) : (kc m c t).X8 (ix2 0 k) = m ((c.tc : Thread nD τ).loc main_arg7) (ix1 k) := by
  have e : ((cfg0.win 8).blk t).view.emb (ix2 0 k) = ix2 0 k := by
    funext a
    refine Fin.ext ?_
    fin_cases a <;> blk_simp [at_8] <;> simp
  show V m c main_v9 (((cfg0.win 8).blk t).view.emb (ix2 0 k)) = _
  rw [e]
  unfold V V0
  simp only [List.flatten_cons, List.flatten_nil, List.append_nil, StableHlo.after_cons, StableHlo.after_nil]
  after_results_simp
  pointwise

theorem whole_9 : ∀ t : Fin cfg0.N, (cfg0.win 9).WholeAt t := by decide +kernel
theorem out9 : (dats m 0 c).arrAt 9 cfg0.N = (kFinal (kc m c t)).tours := by
  refine (dats m 0 c).arrAt_eq_of_after_last 9 t (whole_9 t) _ fun j => ?_
  blk_simp
  exact congrFun (after_9 m c t) j

theorem whole_10 : ∀ t : Fin cfg0.N, (cfg0.win 10).WholeAt t := by decide +kernel
theorem out10 : (dats m 0 c).arrAt 10 cfg0.N = (kFinal (kc m c t)).lp := by
  refine (dats m 0 c).arrAt_eq_of_after_last 10 t (whole_10 t) _ fun j => ?_
  blk_simp
  exact congrFun (after_10 m c t) j

theorem whole_11 : ∀ t : Fin cfg0.N, (cfg0.win 11).WholeAt t := by decide +kernel
theorem out11 : (dats m 0 c).arrAt 11 cfg0.N = (kFinal (kc m c t)).ent := by
  refine (dats m 0 c).arrAt_eq_of_after_last 11 t (whole_11 t) _ fun j => ?_
  blk_simp
  exact congrFun (after_11 m c t) j

theorem tail12 (b : Fin 128) : Pipeline.afterTail₀ cfgs (dats m) 0 (V0 m) [hostOps1] c main_v12 (ix1 b) = (dats m 0 c).arrAt 10 cfg0.N (ix2 b 0) := by
  have e := Pipeline.withArrays_arr spec0 launch0.win.arr_inj c (V0 m c) (fun w => (dats m 0 c).arrAt w cfg0.N) 10
  unfold Pipeline.afterTail₀
  simp only [List.flatten_cons, List.flatten_nil, List.append_nil, StableHlo.after_cons, StableHlo.after_nil]
  after_results_simp
  generalize (dats m 0 c).arrAt 10 cfg0.N = X at e ⊢
  erw [e]
  pointwise
theorem tail14 (b : Fin 128) : Pipeline.afterTail₀ cfgs (dats m) 0 (V0 m) [hostOps1] c main_v14 (ix1 b) = (dats m 0 c).arrAt 11 cfg0.N (ix2 b 0) := by
  have e := Pipeline.withArrays_arr spec0 launch0.win.arr_inj c (V0 m c) (fun w => (dats m 0 c).arrAt w cfg0.N) 11
  unfold Pipeline.afterTail₀
  simp only [List.flatten_cons, List.flatten_nil, List.append_nil, StableHlo.after_cons, StableHlo.after_nil]
  after_results_simp
  generalize (dats m 0 c).arrAt 11 cfg0.N = X at e ⊢
  erw [e]
  pointwise

end Cert.Proof.KRun

end
-- ==== Proof.Soft.lean ====
module

public import proofs.«01_k».proof.Proof.Rows

/-! # Softmax of a row of masked scores over the extended reals

The scores are real or, where masked, the least extended real; the greatest one is real. Then the weights are real, the greatest weight is one,
the normaliser is real and at least one, and the first greatest probability sits where the first greatest score does. -/

@[expose] public section

noncomputable section

namespace Cert.Proof.Soft

open Idealize.ShloMosaic Cert.Proof.Rows

/-- Division of reals by a positive real. -/
theorem div_coe (a z : ℝ) (hz : 0 < z) : Ideal.div (a : EReal) (z : EReal) = ((a / z : ℝ) : EReal) := by
  have : (z : EReal) ≠ 0 := by exact_mod_cast hz.ne'
  unfold Ideal.div
  rw [if_neg this, ← EReal.coe_inv, ← EReal.coe_mul, div_eq_mul_inv]

theorem exp_coe (x : ℝ) : Ideal.exp (x : EReal) = ((Real.exp x : ℝ) : EReal) := rfl
theorem exp_bot : Ideal.exp (⊥ : EReal) = 0 := rfl

/-- A row of scores whose first greatest one, real, is at `i`. -/
structure Row (r : Fin 256 → EReal) (i : Fin 256) : Prop where
  fm : FirstMax r i
  cases : ∀ n, r n = ⊥ ∨ ∃ x : ℝ, r n = x
  top : ∃ m : ℝ, r i = m

variable {r : Fin 256 → EReal} {i : Fin 256} (h : Row r i)
include h

/-- Every weight is a real number between zero and one, one exactly at the greatest scores. -/
theorem weight (n : Fin 256) : ∃ w : ℝ, Ideal.exp (r n - r i) = (w : EReal) ∧ 0 ≤ w ∧ w ≤ 1 ∧ (w = 1 → r n = r i) := by
  obtain ⟨m, hm⟩ := h.top
  have hle := h.fm.ge n
  rcases h.cases n with e | ⟨x, e⟩
  · refine ⟨0, ?_, le_refl _, zero_le_one, fun q => absurd q zero_ne_one⟩
    rw [e, hm]
    rfl
  · rw [e, hm] at hle ⊢
    have hle : x ≤ m := by exact_mod_cast hle
    refine ⟨Real.exp (x - m), ?_, (Real.exp_pos _).le, Real.exp_le_one_iff.mpr (by linarith), fun q => ?_⟩
    · rw [← EReal.coe_sub]; rfl
    · have := Real.exp_eq_one_iff _ |>.mp q
      rw [show x = m by linarith]

theorem weight_top : Ideal.exp (r i - r i) = ((1 : ℝ) : EReal) := by
  obtain ⟨m, hm⟩ := h.top
  rw [hm, ← EReal.coe_sub, sub_self, exp_coe, Real.exp_zero]

/-- The normaliser is a real number that is at least one. -/
theorem norm : ∃ z : ℝ, (∑ n, Ideal.exp (r n - r i)) = (z : EReal) ∧ 1 ≤ z := by
  choose w hw h0 h1 h2 using weight h
  refine ⟨∑ n, w n, ?_, ?_⟩
  · rw [Finset.sum_congr rfl fun n _ => hw n]
    exact (map_sum (⟨⟨((↑) : ℝ → EReal), EReal.coe_zero⟩, EReal.coe_add⟩ : ℝ →+ EReal) w Finset.univ).symm
  · have e : w i = 1 := by
      have := (hw i).symm.trans (weight_top h)
      exact_mod_cast this
    rw [← e]
    exact Finset.single_le_sum (fun n _ => h0 n) (Finset.mem_univ i)

/-- The first greatest probability sits at the first greatest score, and is above the least extended real. -/
theorem firstMax_prob : FirstMax (fun n => Ideal.div (Ideal.exp (r n - r i)) (∑ x, Ideal.exp (r x - r i))) i
    ∧ ⊥ < Ideal.div (Ideal.exp (r i - r i)) (∑ x, Ideal.exp (r x - r i)) := by
  choose w hw h0 h1 h2 using weight h
  obtain ⟨z, hz, hz1⟩ := norm h
  have zp : 0 < z := by linarith
  have e : w i = 1 := by
    have := (hw i).symm.trans (weight_top h)
    exact_mod_cast this
  have hp : ∀ n, Ideal.div (Ideal.exp (r n - r i)) (∑ x, Ideal.exp (r x - r i)) = ((w n / z : ℝ) : EReal) := fun n => by
    rw [hz, hw, div_coe _ _ zp]
  refine ⟨⟨fun n => ?_, fun n q => ?_⟩, ?_⟩
  · simp only [hp]
    have := div_le_div_of_nonneg_right (h1 n) zp.le
    rw [e]
    exact_mod_cast this
  · simp only [hp] at q
    have q : w n / z = w i / z := by exact_mod_cast q
    have q : w n = w i := (div_left_inj' zp.ne').mp q
    exact h.fm.first n (h2 n (q.trans e))
  · rw [hp]
    exact EReal.bot_lt_coe _

omit h

/-- The next hidden state, from the sums that feed the gates. -/
def gru (gr gz gn hr hz hn h : EReal) : EReal :=
  (1 - Ideal.logistic (gz + hz)) * Ideal.tanh (gn + Ideal.logistic (gr + hr) * hn) + Ideal.logistic (gz + hz) * h

/-- The logistic function takes real values everywhere. -/
theorem logistic_real (x : EReal) : ∃ y : ℝ, Ideal.logistic x = y := by
  have key : ∀ e : EReal, 0 ≤ e → ∃ y : ℝ, Ideal.div 1 (1 + e) = y := by
    intro e he
    induction e with
    | bot => exact absurd he (by simp)
    | top => exact ⟨0, by rw [show (1 : EReal) + ⊤ = ⊤ from EReal.coe_add_top 1]; simp [Ideal.div]⟩
    | coe a =>
      have ha : 0 ≤ a := by exact_mod_cast he
      exact ⟨1 / (1 + a), div_coe 1 (1 + a) (by linarith)⟩
  refine key _ ?_
  induction x with
  | bot => exact le_top
  | top => exact le_refl _
  | coe a => exact EReal.coe_nonneg.mpr (Real.exp_pos _).le

/-- So does the hyperbolic tangent. -/
theorem tanh_real (x : EReal) : ∃ y : ℝ, Ideal.tanh x = y := by
  induction x with
  | bot => exact ⟨-1, by show (-1 : EReal) = ((-1 : ℝ) : EReal); rfl⟩
  | top => exact ⟨1, rfl⟩
  | coe a => exact ⟨_, rfl⟩

/-- The next hidden state is real when the last one is. -/
theorem gru_real (gr gz gn hr hz hn : EReal) (h : ℝ) : ∃ y : ℝ, gru gr gz gn hr hz hn h = y := by
  obtain ⟨z, hz'⟩ := logistic_real (gz + hz)
  obtain ⟨t, ht⟩ := tanh_real (gn + Ideal.logistic (gr + hr) * hn)
  refine ⟨(1 - z) * t + z * h, ?_⟩
  unfold gru
  rw [hz', ht]
  norm_cast

end Cert.Proof.Soft

end
-- ==== Proof.KScore.lean ====
module

public import proofs.«01_k».proof.Proof.KCode
public import proofs.«01_k».proof.Proof.Soft

/-! # The compensated scores of the two candidates

Over the reals the rounding errors that the kernel carries along are zero, so the compensated score of a candidate is the plain product of
the query with the candidate's embedding, scaled. -/

@[expose] public section

noncomputable section

namespace Cert.Proof.KRun

open Cert.KernelIdeal Cert.KernelIdeal.Gen Cert.Proof.Rows
open Idealize.ShloMosaic Idealize.ShloMosaic.TcCoe

/-- Eight products summed in pairs, the errors with them. -/
theorem pay34_read (v w : FVec Ideal S128x128 .f32) (g : ℕ → ℝ) (b : Fin 128)
    (h : ∀ k : Fin 128, v (ix2 k b) * w (ix2 k b) = ((g k.val : ℝ) : EReal)) (r : Fin 16) :
    k0_pay34 v w (ix2 r b) = ((∑ t ∈ Finset.range 8, g (8 * r.val + t) : ℝ) : EReal) := by
  unfold k0_pay34
  pointwise
  simp only [h]
  norm_cast
  simp only [Finset.sum_range_succ, Finset.sum_range_zero, show r.val * 2 * 4 = 8 * r.val by ring, show (r.val * 2 + 1) * 4 = 8 * r.val + 4 by ring,
    Nat.add_assoc, Nat.reduceAdd, Nat.add_zero]
  ring

theorem sum_blocks (g : ℕ → ℝ) (n : ℕ) :
    ∑ k ∈ Finset.range (8 * n), g k = ∑ r ∈ Finset.range n, ∑ t ∈ Finset.range 8, g (8 * r + t) := by
  induction n with
  | zero => rfl
  | succ n ih => rw [Finset.sum_range_succ, ← ih, Nat.mul_succ, Finset.sum_range_add]

/-- The sixteen block sums added up and scaled. -/
theorem pay36_read (v w : FVec Ideal S128x128 .f32) (g : ℕ → ℝ) (b : Fin 128)
    (h : ∀ k : Fin 128, v (ix2 k b) * w (ix2 k b) = ((g k.val : ℝ) : EReal)) :
    k0_pay36 (k0_pay34 v w) (k0_pay35 v w) (ix2 b 0)
      = ((∑ k ∈ Finset.range 128, g k : ℝ) : EReal) * ((1048576 / 11863283 : ℝ) : EReal) := by
  have e := pay34_read v w g b h
  have e16 := sum_blocks g 16
  unfold k0_pay36 k0_pay35
  pointwise
  simp only [e]
  rw [e16]
  rw [isq_val]
  congr 1
  norm_cast
  rw [Finset.sum_range (n := 16)]
  simp only [Fin.sum_univ_succ, Fin.sum_univ_zero]
  norm_num [Fin.val_succ]
  ring

variable (K : KC Ideal) (s : KS Ideal)

/-- What a step's scores are over the reals: the embeddings `E` and the query `q` real, the transposed copy the transpose. -/
structure RealStep (E : Fin 128 → Fin 256 → ℕ → ℝ) (q : Fin 128 → ℕ → ℝ) : Prop where
  emb : ∀ b n (k : Fin 128), K.X0 (ix3 b n k) = ((E b n k.val : ℝ) : EReal)
  tr : ∀ b (k : Fin 128) n, K.X1 (ix3 b k n) = K.X0 (ix3 b n k)
  query : ∀ b (k : Fin 128), kq K s (ix2 b k) = ((q b k.val : ℝ) : EReal)

/-- The score of node `n` were it not masked. -/
def score (E : Fin 128 → Fin 256 → ℕ → ℝ) (q : Fin 128 → ℕ → ℝ) (b : Fin 128) (n : Fin 256) : ℝ :=
  (∑ k ∈ Finset.range 128, q b k * E b n k) * (1048576 / 11863283)

/-- The node is marked as visited. -/
abbrev Marked (b : Fin 128) (n : Fin 256) : Prop := Ideal.ofBits FTy.f32 1056964608#32 < s.vis (ix2 b n)

theorem coe_sum {ι : Type} (t : Finset ι) (f : ι → ℝ) : (∑ x ∈ t, ((f x : ℝ) : EReal)) = ((∑ x ∈ t, f x : ℝ) : EReal) :=
  (map_sum (⟨⟨((↑) : ℝ → EReal), EReal.coe_zero⟩, EReal.coe_add⟩ : ℝ →+ EReal) f t).symm

theorem smR_raw (b : Fin 128) (n : Fin 256) : smR K s b n = if Marked s b n then ⊥ else
    (∑ x, K.X1 (ix3 b x n) * kq K s (ix2 b x)) * ((1048576 / 11863283 : ℝ) : EReal) := by
  unfold smR ksm k0_pay11 k0_pay10
  pointwise
  rw [mask_val, isq_val]

variable {E : Fin 128 → Fin 256 → ℕ → ℝ} {q : Fin 128 → ℕ → ℝ}

theorem smR_read (H : RealStep K s E q) (b : Fin 128) (n : Fin 256) :
    smR K s b n = if Marked s b n then ⊥ else ((score E q b n : ℝ) : EReal) := by
  rw [smR_raw]
  by_cases h : Marked s b n
  · rw [if_pos h, if_pos h]
  · rw [if_neg h, if_neg h, Finset.sum_congr rfl fun x _ => by rw [H.tr, H.emb, H.query, ← EReal.coe_mul], coe_sum, ← EReal.coe_mul, score]
    congr 2
    rw [Finset.sum_range]
    exact Finset.sum_congr rfl fun x _ => mul_comm _ _

theorem cand_read (H : RealStep K s E q) (i j : Fin 128 → Fin 256) (b : Fin 128) :
    ks1 K s (rows K.X0 i j) (ix2 b 0) = ((score E q b (i b) : ℝ) : EReal)
      ∧ k0_pay36 (ks2a K s (rows K.X0 i j)) (ks2b K s (rows K.X0 i j)) (ix2 b 0) = ((score E q b (j b) : ℝ) : EReal) := by
  have r1 : ∀ k : Fin 128, rows K.X0 i j (ix3 b 0 ⟨k.val, by omega⟩) = ((E b (i b) k.val : ℝ) : EReal) := fun k => by
    rw [← H.emb, ix3_eq_valueIdx, ix3_eq_valueIdx]
    exact dif_pos k.isLt
  have r2 : ∀ k : Fin 128, rows K.X0 i j (ix3 b 0 ⟨128 + k.val, by omega⟩) = ((E b (j b) k.val : ℝ) : EReal) := fun k => by
    rw [← H.emb, ix3_eq_valueIdx, ix3_eq_valueIdx]
    refine (dif_neg (show ¬ (128 + k.val < 128) by omega)).trans ?_
    exact congrArg (fun z => K.X0 (ValueIdx.ix3 b (j b) z)) (Fin.ext (show 128 + k.val - 128 = k.val by omega))
  constructor
  · refine (pay36_read (k0_pay24 (k0_pay10 (kq K s)))
      (transpose S128x128 [1, 0] (extractStridedSlice S128x128 ![0, 0] (k0_pay26 (k0_pay25 (rows K.X0 i j))) slices_S128x256_o0_0_S128x128) transposes_S128x128_p1_0_S128x128)
      (fun k => q b k * E b (i b) k) b ?_).trans ?_
    · intro k
      unfold k0_pay24 k0_pay10 k0_pay26 k0_pay25 k0_pay21
      pointwise
      rw [r1, H.query, ← EReal.coe_mul]
    · rw [← EReal.coe_mul]; rfl
  · refine (pay36_read (k0_pay24 (k0_pay10 (kq K s))) (k0_pay27 (k0_pay25 (rows K.X0 i j))) (fun k => q b k * E b (j b) k) b ?_).trans ?_
    · intro k
      unfold k0_pay24 k0_pay10 k0_pay27 k0_pay26 k0_pay25 k0_pay21
      pointwise
      rw [r2, H.query, ← EReal.coe_mul]
    · rw [← EReal.coe_mul]; rfl

section Pick
variable (H : RealStep K s E q) (b : Fin 128) (n₀ : Fin 256) (hn : ¬ Marked s b n₀)
include H

/-- The row of masked scores, some node unmarked: the greatest score is real. -/
theorem row_soft (hn : ¬ Marked s b n₀) : Soft.Row (smR K s b) (c1 K s b) where
  fm := c1_spec K s b
  cases n := by
    rw [smR_read K s H]
    split
    · exact Or.inl rfl
    · exact Or.inr ⟨_, rfl⟩
  top := by
    have h := (c1_spec K s b).ge n₀
    rw [smR_read K s H b n₀, if_neg hn] at h
    rw [smR_read K s H] at h ⊢
    split at h
    · exact absurd h (not_le.mpr (EReal.bot_lt_coe _))
    · rename_i h'
      rw [if_neg h']
      exact ⟨_, rfl⟩

/-- Where the score is not the least extended real it is the node's own score. -/
theorem smR_score (n : Fin 256) (h : smR K s b n ≠ ⊥) : smR K s b n = ((score E q b n : ℝ) : EReal) := by
  rw [smR_read K s H] at h ⊢
  split at h
  · exact absurd rfl h
  · rename_i h'
    rw [if_neg h']

theorem ks1_read (hn : ¬ Marked s b n₀) (j : Fin 128 → Fin 256) :
    ks1 K s (rows K.X0 (c1 K s) j) (ix2 b 0) = smR K s b (c1 K s b) := by
  obtain ⟨m, hm⟩ := (row_soft K s H b n₀ hn).top
  rw [(cand_read K s H _ _ b).1, smR_score K s H b _ (by rw [hm]; exact EReal.coe_ne_bot m)]

theorem pay38_read : k0_pay38 (ksm K s) (kmx K s) (ix2 b 0) = ∑ n, Ideal.exp (smR K s b n - smR K s b (c1 K s b)) := by
  have h := kmx_read K s b
  unfold k0_pay38 k0_pay37
  pointwise
  rw [h]
  rfl

/-- The second candidate never displaces the first. -/
theorem kwin_read (hn : ¬ Marked s b n₀) : kwin K s (rows K.X0 (c1 K s) (c2 K s)) (ix2 b 0) = 0#1 := by
  have hS := row_soft K s H b n₀ hn
  obtain ⟨m, hm⟩ := hS.top
  obtain ⟨z, hz, hz1⟩ := Soft.norm hS
  have zp : 0 < z := by linarith
  have e17 : k0_pay17 (ksm2 K s) (ix2 b 0) = BitVec.ofBool (decide (Ideal.ofBits .f32 4020342536#32 < sm2R K s b (c2 K s b))) := by
    have h := kmx2_read K s b
    unfold k0_pay17
    pointwise
    rw [h]
  have e1 := ks1_read K s H b n₀ hn (c2 K s)
  have e2 := (cand_read K s H (c1 K s) (c2 K s) b).2
  have e3 := pay38_read K s H b
  have e4 := kmx_read K s b
  have e5 := ki1_read K s b
  have e6 := ki2_read K s b
  unfold kwin k0_pay40
  pointwise
  rw [hm] at hz e3
  rw [e1, e2, e3, e4, e5, e6, e17, hm, hz]
  by_cases hb : sm2R K s b (c2 K s b) = ⊥
  · rw [hb]
    simp [IntOp.andi]
  · have hne : c2 K s b ≠ c1 K s b := fun h => hb (by rw [ksm2_read, if_pos h])
    have hs2 : sm2R K s b (c2 K s b) = smR K s b (c2 K s b) := by rw [ksm2_read, if_neg hne]
    have hsc := smR_score K s H b _ (hs2 ▸ hb)
    have hle := hS.fm.ge (c2 K s b)
    rw [hsc, hm] at hle
    have hle : score E q b (c2 K s b) ≤ m := by exact_mod_cast hle
    set c := score E q b (c2 K s b) with hc
    have hmax : max (m : EReal) (c : EReal) = m := max_eq_left (by exact_mod_cast hle)
    rw [hmax, ← EReal.coe_sub, ← EReal.coe_sub, sub_self, Soft.exp_coe, Soft.exp_coe, Real.exp_zero, ← EReal.coe_mul, mul_one,
      Soft.div_coe _ _ zp, Soft.div_coe _ _ zp]
    rcases hle.lt_or_eq with hl | he
    · have hx : Real.exp (c - m) / z < 1 / z := div_lt_div_of_pos_right (Real.exp_zero ▸ Real.exp_lt_exp.mpr (by linarith)) zp
      have h1 : ¬ ((1 / z : ℝ) : EReal) < ((Real.exp (c - m) / z : ℝ) : EReal) := by
        rw [EReal.coe_lt_coe_iff]; exact not_lt.mpr hx.le
      have h2 : ¬ ((Real.exp (c - m) / z : ℝ) : EReal) = ((1 / z : ℝ) : EReal) := by
        rw [EReal.coe_eq_coe_iff]; exact hx.ne
      rw [decide_eq_false h1, decide_eq_false h2]
      simp [IntOp.andi, IntOp.ori]
    · have hlt : c1 K s b < c2 K s b := lt_of_le_of_ne (hS.fm.first _ (by rw [hsc, hm, he])) (Ne.symm hne)
      have h3 : IntOp.cmpi .slt (BitVec.ofNat 32 (c2 K s b).val) (BitVec.ofNat 32 (c1 K s b).val) = 0#1 := by
        have g1 := (c1 K s b).isLt
        have g2 := (c2 K s b).isLt
        have g3 : (c1 K s b).val < (c2 K s b).val := hlt
        have ti : ∀ j : ℕ, j < 256 → (BitVec.ofNat 32 j).toInt = j := by
          intro j hj
          rw [BitVec.toInt_eq_toNat_cond, BitVec.toNat_ofNat]
          split <;> omega
        simp [IntOp.cmpi, BitVec.slt, ti _ g1, ti _ g2]
        rw [decide_eq_false (not_lt.mpr hlt.le)]
        rfl
      rw [he, sub_self, Real.exp_zero, h3]
      simp [IntOp.andi, IntOp.ori]

/-- The step picks the first greatest place of the masked scores. -/
theorem kidx_read (hn : ¬ Marked s b n₀) : kidx K s (rows K.X0 (c1 K s) (c2 K s)) (ix2 b 0) = BitVec.ofNat 32 (c1 K s b).val := by
  have hw := kwin_read K s H b n₀ hn
  have e5 := ki1_read K s b
  unfold kwin at hw
  unfold kidx k0_pay41
  pointwise
  rw [hw, e5]
  rfl

/-- Its probability. -/
theorem kp_read (hn : ¬ Marked s b n₀) : kp K s (rows K.X0 (c1 K s) (c2 K s)) (ix2 b 0)
    = Ideal.div (Ideal.exp (smR K s b (c1 K s b) - smR K s b (c1 K s b))) (∑ n, Ideal.exp (smR K s b n - smR K s b (c1 K s b))) := by
  have hw := kwin_read K s H b n₀ hn
  have e1 := ks1_read K s H b n₀ hn (c2 K s)
  have e3 := pay38_read K s H b
  have e4 := kmx_read K s b
  unfold kwin at hw
  unfold kp k0_pay42
  pointwise
  rw [hw, e1, e3, e4]
  rfl

end Pick

end Cert.Proof.KRun

end
-- ==== Proof.KRead.lean ====
module

public import proofs.«01_k».proof.Proof.KScore

/-! # What a step of the kernel computes, read at an element -/

@[expose] public section

noncomputable section

namespace Cert.Proof.KRun

open Cert.KernelIdeal Cert.KernelIdeal.Gen Cert.Proof.Rows
open Idealize.ShloMosaic Idealize.ShloMosaic.TcCoe

variable (K : KC Ideal) (s : KS Ideal)

theorem kq_read (b k : Fin 128) : kq K s (ix2 b k) = ∑ x, s.hid (ix2 b x) * K.X2 (ix2 x k) := by
  unfold kq k0_pay9
  pointwise

theorem klogp_read (R : Vec Ideal S128x1x256 .f32) (b : Fin 128) :
    klogp K s R (ix2 b 0) = Ideal.log (kp K s R (ix2 b 0) + Ideal.ofBits FTy.f32 730643660#32) := by
  unfold klogp k0_pay44 k0_pay43
  pointwise

theorem kent_read (b : Fin 128) : kent K s (ix2 b 0)
    = -∑ x, Ideal.div (Ideal.exp (smR K s b x - smR K s b (c1 K s b))) (∑ n, Ideal.exp (smR K s b n - smR K s b (c1 K s b)))
        * Ideal.log (Ideal.div (Ideal.exp (smR K s b x - smR K s b (c1 K s b))) (∑ n, Ideal.exp (smR K s b n - smR K s b (c1 K s b)))
            + Ideal.ofBits FTy.f32 730643660#32) := by
  have h := kmx_read K s b
  unfold kent k0_pay39 k0_pay38 k0_pay37
  pointwise
  rw [h, zero_sub]
  rfl

theorem sitofp_one : (FloatOps.sitofp FTy.f32 1#32 : Ideal .f32) = (1 : EReal) := by
  show (((1#32 : BitVec 32).toInt : ℝ) : EReal) = 1
  norm_num
theorem sitofp_zero : (FloatOps.sitofp FTy.f32 0#32 : Ideal .f32) = (0 : EReal) := by
  show (((0#32 : BitVec 32).toInt : ℝ) : EReal) = 0
  norm_num

theorem vis_read (w : IVec S128x1 32) (b : Fin 128) (i n : Fin 256) (h : w (ix2 b 0) = BitVec.ofNat 32 i.val) :
    k0_pay45 (F := Ideal) iot s.vis w (ix2 b n) = max (s.vis (ix2 b n)) (if n = i then 1 else 0) := by
  unfold k0_pay45 iot
  pointwise
  rw [h]
  have hn := n.isLt
  have hi := i.isLt
  by_cases e : n = i
  · simp [e, IntOp.cmpi, sitofp_one]
  · have hb : (BitVec.ofNat 32 n.val == BitVec.ofNat 32 i.val) = false := beq_eq_false_iff_ne.mpr (fun h' => e (Fin.ext (by
      have := congrArg BitVec.toNat h'
      simp only [BitVec.toNat_ofNat] at this
      omega)))
    simp [e, hb, IntOp.cmpi, sitofp_zero]

/-- Column 0 of an accumulator, and an accumulator with a new column 0, read in column 0. -/
theorem col0_read (x : Vec Ideal S128x8 .f32) (b : Fin 128) : col0 x (ix2 b 0) = x (ix2 b 0) := by
  refine congrArg x ?_
  funext a
  refine Fin.ext ?_
  match a with
  | ⟨0, _⟩ => exact (show 0 + 1 * b.val = b.val by omega)
  | ⟨1, _⟩ => rfl
theorem putCol0_read (x : Vec Ideal S128x8 .f32) (w : Vec Ideal S128x1 .f32) (b : Fin 128) : putCol0 x w (ix2 b 0) = w (ix2 b 0) := by
  unfold putCol0 VecWindow.put
  have h : ∀ a : Fin S128x8.rank, (![0, 0] : Fin 2 → ℕ) a ≤ ((ix2 b 0 : S128x8.Idx) a).val ∧ ((ix2 b 0 : S128x8.Idx) a).val < (![0, 0] : Fin 2 → ℕ) a + S128x1.size a := by
    intro a
    have := b.isLt
    match a with
    | ⟨0, _⟩ => exact ⟨Nat.zero_le _, show b.val < 0 + 128 by omega⟩
    | ⟨1, _⟩ => exact ⟨Nat.zero_le _, show 0 < 0 + 1 by omega⟩
  rw [dif_pos h]
  refine congrArg w ?_
  funext a
  refine Fin.ext ?_
  match a with
  | ⟨0, _⟩ => rfl
  | ⟨1, _⟩ => rfl

theorem lp_read (x : Vec Ideal S128x8 .f32) (w : Vec Ideal S128x1 .f32) (b : Fin 128) :
    putCol0 x (k0_pay7 w (col0 x)) (ix2 b 0) = x (ix2 b 0) + w (ix2 b 0) := by
  rw [putCol0_read, ← col0_read x]
  unfold k0_pay7
  generalize col0 x = y
  pointwise

theorem ent_read (x : Vec Ideal S128x8 .f32) (w : Vec Ideal S128x1 .f32) (b : Fin 128) :
    putCol0 x (k0_pay8 w (col0 x)) (ix2 b 0) = x (ix2 b 0) + w (ix2 b 0) := by
  rw [putCol0_read, ← col0_read x]
  unfold k0_pay8
  generalize col0 x = y
  pointwise

theorem khid_read (i j : Fin 128 → Fin 256) (b k : Fin 128) (hw : kwin K s (rows K.X0 i j) (ix2 b 0) = 0#1) :
    khid K s (rows K.X0 i j) (ix2 b k)
      = Soft.gru (∑ x, K.X0 (ix3 b (i b) x) * K.X5 (ix2 x ⟨k.val, by omega⟩) + K.X7 (ix2 0 ⟨k.val, by omega⟩))
        (∑ x, K.X0 (ix3 b (i b) x) * K.X5 (ix2 x ⟨128 + k.val, by omega⟩) + K.X7 (ix2 0 ⟨128 + k.val, by omega⟩))
        (∑ x, K.X0 (ix3 b (i b) x) * K.X5 (ix2 x ⟨256 + k.val, by omega⟩) + K.X7 (ix2 0 ⟨256 + k.val, by omega⟩))
        (∑ x, s.hid (ix2 b x) * K.X6 (ix2 x ⟨k.val, by omega⟩) + K.X8 (ix2 0 ⟨k.val, by omega⟩))
        (∑ x, s.hid (ix2 b x) * K.X6 (ix2 x ⟨128 + k.val, by omega⟩) + K.X8 (ix2 0 ⟨128 + k.val, by omega⟩))
        (∑ x, s.hid (ix2 b x) * K.X6 (ix2 x ⟨256 + k.val, by omega⟩) + K.X8 (ix2 0 ⟨256 + k.val, by omega⟩))
        (s.hid (ix2 b k)) := by
  have r1 : ∀ k : Fin 128, k0_pay22 (rows K.X0 i j) (ix2 b k) = K.X0 (ix3 b (i b) k) := fun k => by
    unfold k0_pay22 k0_pay21
    pointwise
    rw [ix3_eq_valueIdx, ix3_eq_valueIdx]
    exact dif_pos k.isLt
  unfold khid k0_pay5 k0_pay46
  pointwise
  have sel : ∀ a c : EReal, Scalar.select (0#1) a c = c := fun _ _ => rfl
  simp only [hw, sel, r1]
  rfl

end Cert.Proof.KRun

end
-- ==== Proof.RefStep.lean ====
/- One trip of the reference program's loop as standalone definitions: the state that a trip hands to the next, every
   operation of the body as a value of its own (`b‹k› j s`, of the trip's number `j` and the state `s`), the state before
   the first trip (`init`) and the step (`step`). The
   declarations follow, in form, the step modules that are generated for reference programs; they were written out
   mechanically by an adapted copy of that generator and then adapted by hand. -/
module

public import proofs.«01_k».proof.ReferenceIdeal
public import proofs.«01_k».proof.Proof.Gen.ReferenceIdeal

@[expose] public section

set_option maxRecDepth 16384

noncomputable section

namespace Cert.ReferenceIdeal.Step

open Idealize.ShloMosaic Cert.ReferenceIdeal Cert.ReferenceIdeal.Gen

variable {F : FTy → Type} [FloatOps F]

/-- What a trip hands the next. -/
structure State (F : FTy → Type) [FloatOps F] where
  main_v14_8 : (⟨S128x128, .f32⟩ : BufTy).Contents (Elt F)
  main_v14_9 : (⟨S128x256, .i1⟩ : BufTy).Contents (Elt F)
  main_v14_10 : (⟨S256x128, .i32⟩ : BufTy).Contents (Elt F)
  main_v14_11 : (⟨S256x128, .f32⟩ : BufTy).Contents (Elt F)
  main_v14_12 : (⟨S256x128, .f32⟩ : BufTy).Contents (Elt F)
  main_v14_0 : (⟨S128x128, .f32⟩ : BufTy).Contents (Elt F)
  main_v14_1 : (⟨S128x256x128, .f32⟩ : BufTy).Contents (Elt F)
  main_v14_3 : (⟨S384x128, .f32⟩ : BufTy).Contents (Elt F)
  main_v14_4 : (⟨S384, .f32⟩ : BufTy).Contents (Elt F)
  main_v14_5 : (⟨S384x128, .f32⟩ : BufTy).Contents (Elt F)
  main_v14_6 : (⟨S384, .f32⟩ : BufTy).Contents (Elt F)

/-! What @main computes before the loop without reading an argument. -/

def K_main_cst : (⟨S_, .f32⟩ : BufTy).Contents (Elt F) := constant S_ .f32 0x00000000#32
def K_main_cst_0 : (⟨S_, .f32⟩ : BufTy).Contents (Elt F) := constant S_ .f32 0x43800000#32
def K_main_v1 : (⟨S128x128, .f32⟩ : BufTy).Contents (Elt F) := broadcastInDim S128x128 ![] bcast_S_S128x128 ((K_main_cst_0 (F := F)))
def K_main_c : (⟨S_, .i1⟩ : BufTy).Contents (Elt F) := constantI S_ 1 0#1
def K_main_v9 : (⟨S128x256, .i1⟩ : BufTy).Contents (Elt F) := broadcastInDim S128x256 ![] bcast_S_S128x256 ((K_main_c (F := F)))
def K_main_v10 : (⟨S128, .i32⟩ : BufTy).Contents (Elt F) := iotaInDim S128 32 0
def K_main_c_1 : (⟨S_, .i32⟩ : BufTy).Contents (Elt F) := constantI S_ 32 0#32
def K_main_v11 : (⟨S256x128, .i32⟩ : BufTy).Contents (Elt F) := broadcastInDim S256x128 ![] bcast_S_S256x128 ((K_main_c_1 (F := F)))
def K_main_cst_2 : (⟨S_, .f32⟩ : BufTy).Contents (Elt F) := constant S_ .f32 0x00000000#32
def K_main_v12 : (⟨S256x128, .f32⟩ : BufTy).Contents (Elt F) := broadcastInDim S256x128 ![] bcast_S_S256x128 ((K_main_cst_2 (F := F)))
def K_main_cst_3 : (⟨S_, .f32⟩ : BufTy).Contents (Elt F) := constant S_ .f32 0x00000000#32
def K_main_v13 : (⟨S256x128, .f32⟩ : BufTy).Contents (Elt F) := broadcastInDim S256x128 ![] bcast_S_S256x128 ((K_main_cst_3 (F := F)))
def K_main_c_4 : (⟨S_, .i32⟩ : BufTy).Contents (Elt F) := constantI S_ 32 0#32

/-! What @main computes before the loop from its arguments, as functions of them. -/

def A_main_v0 (main_arg0 : (⟨S128x256x128, .f32⟩ : BufTy).Contents (Elt F)) (main_arg2 : (⟨S128x128, .f32⟩ : BufTy).Contents (Elt F)) (main_arg3 : (⟨S128, .f32⟩ : BufTy).Contents (Elt F)) : (⟨S128x128, .f32⟩ : BufTy).Contents (Elt F) := Host.reduceAdd (main_arg0) ((K_main_cst (F := F))) reducesTo_S128x256x128_S128x128_d1 h_S_
def A_main_v2 (main_arg0 : (⟨S128x256x128, .f32⟩ : BufTy).Contents (Elt F)) (main_arg2 : (⟨S128x128, .f32⟩ : BufTy).Contents (Elt F)) (main_arg3 : (⟨S128, .f32⟩ : BufTy).Contents (Elt F)) : (⟨S128x128, .f32⟩ : BufTy).Contents (Elt F) := Host.divf ((A_main_v0 main_arg0 main_arg2 main_arg3)) ((K_main_v1 (F := F)))
def A_main_v3 (main_arg0 : (⟨S128x256x128, .f32⟩ : BufTy).Contents (Elt F)) (main_arg2 : (⟨S128x128, .f32⟩ : BufTy).Contents (Elt F)) (main_arg3 : (⟨S128, .f32⟩ : BufTy).Contents (Elt F)) : (⟨S128x128, .f32⟩ : BufTy).Contents (Elt F) := transpose S128x128 [1, 0] (main_arg2) transposes_S128x128_S128x128_1_0
def A_main_v4 (main_arg0 : (⟨S128x256x128, .f32⟩ : BufTy).Contents (Elt F)) (main_arg2 : (⟨S128x128, .f32⟩ : BufTy).Contents (Elt F)) (main_arg3 : (⟨S128, .f32⟩ : BufTy).Contents (Elt F)) : (⟨S128x128, .f32⟩ : BufTy).Contents (Elt F) := Host.dotGeneral dot_S128x128_S128x128_S128x128_1_0_0_1_n_n none ((A_main_v2 main_arg0 main_arg2 main_arg3)) ((A_main_v3 main_arg0 main_arg2 main_arg3))
def A_main_v5 (main_arg0 : (⟨S128x256x128, .f32⟩ : BufTy).Contents (Elt F)) (main_arg2 : (⟨S128x128, .f32⟩ : BufTy).Contents (Elt F)) (main_arg3 : (⟨S128, .f32⟩ : BufTy).Contents (Elt F)) : (⟨S1x128, .f32⟩ : BufTy).Contents (Elt F) := broadcastInDim S1x128 ![1] bcast_S128_S1x128_1 (main_arg3)
def A_main_v6 (main_arg0 : (⟨S128x256x128, .f32⟩ : BufTy).Contents (Elt F)) (main_arg2 : (⟨S128x128, .f32⟩ : BufTy).Contents (Elt F)) (main_arg3 : (⟨S128, .f32⟩ : BufTy).Contents (Elt F)) : (⟨S128x128, .f32⟩ : BufTy).Contents (Elt F) := broadcastInDim S128x128 ![0, 1] bcast_S1x128_S128x128_0_1 ((A_main_v5 main_arg0 main_arg2 main_arg3))
def A_main_v7 (main_arg0 : (⟨S128x256x128, .f32⟩ : BufTy).Contents (Elt F)) (main_arg2 : (⟨S128x128, .f32⟩ : BufTy).Contents (Elt F)) (main_arg3 : (⟨S128, .f32⟩ : BufTy).Contents (Elt F)) : (⟨S128x128, .f32⟩ : BufTy).Contents (Elt F) := addf ((A_main_v4 main_arg0 main_arg2 main_arg3)) ((A_main_v6 main_arg0 main_arg2 main_arg3))
def A_main_v8 (main_arg0 : (⟨S128x256x128, .f32⟩ : BufTy).Contents (Elt F)) (main_arg2 : (⟨S128x128, .f32⟩ : BufTy).Contents (Elt F)) (main_arg3 : (⟨S128, .f32⟩ : BufTy).Contents (Elt F)) : (⟨S128x128, .f32⟩ : BufTy).Contents (Elt F) := Host.tanh ((A_main_v7 main_arg0 main_arg2 main_arg3))

/-! One trip's values, in the body's order. -/

def b0 (j : ℕ) (s : State F) : (⟨S128x128, .f32⟩ : BufTy).Contents (Elt F) :=
  transpose S128x128 [1, 0] (s.main_v14_0) transposes_S128x128_S128x128_1_0
def b1 (j : ℕ) (s : State F) : (⟨S128x128, .f32⟩ : BufTy).Contents (Elt F) :=
  Host.dotGeneral dot_S128x128_S128x128_S128x128_1_0_0_1_n_n none (s.main_v14_8) ((b0 j s))
def b2 (j : ℕ) (s : State F) : (⟨S128x256, .f32⟩ : BufTy).Contents (Elt F) :=
  Host.dotGeneral dot_S128x128_S128x256x128_S128x256_1_2_n_1_0_0 none ((b1 j s)) (s.main_v14_1)
def b3 (j : ℕ) (s : State F) : (⟨S_, .f32⟩ : BufTy).Contents (Elt F) :=
  constant S_ .f32 0x413504F3#32
def b4 (j : ℕ) (s : State F) : (⟨S128x256, .f32⟩ : BufTy).Contents (Elt F) :=
  broadcastInDim S128x256 ![] bcast_S_S128x256 ((b3 j s))
def b5 (j : ℕ) (s : State F) : (⟨S128x256, .f32⟩ : BufTy).Contents (Elt F) :=
  Host.divf ((b2 j s)) ((b4 j s))
def b6 (j : ℕ) (s : State F) : (⟨S_, .f32⟩ : BufTy).Contents (Elt F) :=
  constant S_ .f32 0xFF800000#32
def b7 (j : ℕ) (s : State F) : (⟨S_, .f32⟩ : BufTy).Contents (Elt F) := b6 j s
theorem b7_id (j : ℕ) (s : State F) : b7 j s = b6 j s := rfl
def b8 (j : ℕ) (s : State F) : (⟨S128x256, .f32⟩ : BufTy).Contents (Elt F) :=
  broadcastInDim S128x256 ![] bcast_S_S128x256 ((b7 j s))
def b9 (j : ℕ) (s : State F) : (⟨S128x256, .f32⟩ : BufTy).Contents (Elt F) :=
  select (s.main_v14_9) ((b8 j s)) ((b5 j s))
def b10 (j : ℕ) (s : State F) : (⟨S_, .f32⟩ : BufTy).Contents (Elt F) :=
  constant S_ .f32 0xFF800000#32
def b11 (j : ℕ) (s : State F) : (⟨S128, .f32⟩ : BufTy).Contents (Elt F) :=
  Host.reduce FloatOps.maximumf ((b9 j s)) ((b10 j s)) reducesTo_S128x256_S128_d1 h_S_
def b12 (j : ℕ) (s : State F) : (⟨S_, .f32⟩ : BufTy).Contents (Elt F) :=
  constant S_ .f32 0xFF800000#32
def b13 (j : ℕ) (s : State F) : (⟨S128, .f32⟩ : BufTy).Contents (Elt F) :=
  broadcastInDim S128 ![] bcast_S_S128 ((b12 j s))
def b14 (j : ℕ) (s : State F) : (⟨S128, .f32⟩ : BufTy).Contents (Elt F) :=
  maximumf ((b13 j s)) ((b11 j s))
def b15 (j : ℕ) (s : State F) : (⟨S128x1, .f32⟩ : BufTy).Contents (Elt F) :=
  broadcastInDim S128x1 ![0] bcast_S128_S128x1_0 ((b14 j s))
def b16 (j : ℕ) (s : State F) : (⟨S128x256, .f32⟩ : BufTy).Contents (Elt F) :=
  broadcastInDim S128x256 ![0, 1] bcast_S128x1_S128x256_0_1 ((b15 j s))
def b17 (j : ℕ) (s : State F) : (⟨S128x256, .f32⟩ : BufTy).Contents (Elt F) :=
  subf ((b9 j s)) ((b16 j s))
def b18 (j : ℕ) (s : State F) : (⟨S128x256, .f32⟩ : BufTy).Contents (Elt F) :=
  Host.exp ((b17 j s))
def b19 (j : ℕ) (s : State F) : (⟨S_, .f32⟩ : BufTy).Contents (Elt F) :=
  constant S_ .f32 0x00000000#32
def b20 (j : ℕ) (s : State F) : (⟨S128, .f32⟩ : BufTy).Contents (Elt F) :=
  Host.reduceAdd ((b18 j s)) ((b19 j s)) reducesTo_S128x256_S128_d1 h_S_
def b21 (j : ℕ) (s : State F) : (⟨S128x1, .f32⟩ : BufTy).Contents (Elt F) :=
  broadcastInDim S128x1 ![0] bcast_S128_S128x1_0 ((b20 j s))
def b22 (j : ℕ) (s : State F) : (⟨S128x256, .f32⟩ : BufTy).Contents (Elt F) :=
  broadcastInDim S128x256 ![0, 1] bcast_S128x1_S128x256_0_1 ((b21 j s))
def b23 (j : ℕ) (s : State F) : (⟨S128x256, .f32⟩ : BufTy).Contents (Elt F) :=
  Host.divf ((b18 j s)) ((b22 j s))
def b24 (j : ℕ) (s : State F) : (⟨S128x256, .i32⟩ : BufTy).Contents (Elt F) :=
  iotaInDim S128x256 32 1
def b25 (j : ℕ) (s : State F) : (⟨S_, .f32⟩ : BufTy).Contents (Elt F) :=
  constant S_ .f32 0xFF800000#32
def b26 (j : ℕ) (s : State F) : (⟨S_, .i32⟩ : BufTy).Contents (Elt F) :=
  constantI S_ 32 0#32
def b27 (j : ℕ) (s : State F) : (⟨S128, .f32⟩ : BufTy).Contents (Elt F) :=
  (fun i => (Host.argReduce reducer_argmax_f32_i32 ((b23 j s)) ((b24 j s)) ((b25 j s)) ((b26 j s)) reducesTo_S128x256_S128_d1 h_S_ i).1)
def b28 (j : ℕ) (s : State F) : (⟨S128, .i32⟩ : BufTy).Contents (Elt F) :=
  (fun i => (Host.argReduce reducer_argmax_f32_i32 ((b23 j s)) ((b24 j s)) ((b25 j s)) ((b26 j s)) reducesTo_S128x256_S128_d1 h_S_ i).2)
def b29 (j : ℕ) (s : State F) : (⟨S128x1, .i32⟩ : BufTy).Contents (Elt F) :=
  broadcastInDim S128x1 ![0] bcast_S128_S128x1_0 ((b28 j s))
def b30 (j : ℕ) (s : State F) : (⟨S_, .i32⟩ : BufTy).Contents (Elt F) :=
  constantI S_ 32 0#32
def b31 (j : ℕ) (s : State F) : (⟨S128x1, .i32⟩ : BufTy).Contents (Elt F) :=
  broadcastInDim S128x1 ![] bcast_S_S128x1 ((b30 j s))
def b32 (j : ℕ) (s : State F) : (⟨S128x1, .i1⟩ : BufTy).Contents (Elt F) :=
  cmpi .slt ((b29 j s)) ((b31 j s))
def b33 (j : ℕ) (s : State F) : (⟨S_, .i32⟩ : BufTy).Contents (Elt F) :=
  constantI S_ 32 256#32
def b34 (j : ℕ) (s : State F) : (⟨S128x1, .i32⟩ : BufTy).Contents (Elt F) :=
  broadcastInDim S128x1 ![] bcast_S_S128x1 ((b33 j s))
def b35 (j : ℕ) (s : State F) : (⟨S128x1, .i32⟩ : BufTy).Contents (Elt F) :=
  addi ((b29 j s)) ((b34 j s))
def b36 (j : ℕ) (s : State F) : (⟨S128x1, .i32⟩ : BufTy).Contents (Elt F) :=
  select ((b32 j s)) ((b35 j s)) ((b29 j s))
def b37 (j : ℕ) (s : State F) : (⟨S128x1x1, .i32⟩ : BufTy).Contents (Elt F) :=
  shapeCast S128x1x1 ((b36 j s)) shapeCasts_S128x1_S128x1x1
def b38 (j : ℕ) (s : State F) : (⟨S1, .i32⟩ : BufTy).Contents (Elt F) :=
  constantI S1 32 255#32
def b39 (j : ℕ) (s : State F) : (⟨S_, .i32⟩ : BufTy).Contents (Elt F) :=
  constantI S_ 32 0#32
def b40 (j : ℕ) (s : State F) : (⟨S128x1x1, .i32⟩ : BufTy).Contents (Elt F) :=
  broadcastInDim S128x1x1 ![] bcast_S_S128x1x1 ((b39 j s))
def b41 (j : ℕ) (s : State F) : (⟨S128x1x1, .i1⟩ : BufTy).Contents (Elt F) :=
  cmpi .sge ((b37 j s)) ((b40 j s))
def b42 (j : ℕ) (s : State F) : (⟨S1x1x1, .i32⟩ : BufTy).Contents (Elt F) :=
  broadcastInDim S1x1x1 ![2] bcast_S1_S1x1x1_2 ((b38 j s))
def b43 (j : ℕ) (s : State F) : (⟨S128x1x1, .i32⟩ : BufTy).Contents (Elt F) :=
  broadcastInDim S128x1x1 ![0, 1, 2] bcast_S1x1x1_S128x1x1_0_1_2 ((b42 j s))
def b44 (j : ℕ) (s : State F) : (⟨S128x1x1, .i1⟩ : BufTy).Contents (Elt F) :=
  cmpi .sle ((b37 j s)) ((b43 j s))
def b45 (j : ℕ) (s : State F) : (⟨S128x1x1, .i1⟩ : BufTy).Contents (Elt F) :=
  andi ((b41 j s)) ((b44 j s))
def b46 (j : ℕ) (s : State F) : (⟨S_, .i1⟩ : BufTy).Contents (Elt F) :=
  constantI S_ 1 1#1
def b47 (j : ℕ) (s : State F) : (⟨S128x1, .i1⟩ : BufTy).Contents (Elt F) :=
  Host.reduce IntOp.andi ((b45 j s)) ((b46 j s)) reducesTo_S128x1x1_S128x1_d2 h_S_
def b48 (j : ℕ) (s : State F) : (⟨S128x1, .f32⟩ : BufTy).Contents (Elt F) :=
  Host.gather gather_S128x256_S128x1x1_S128x1_n_1_0_0_1_2_11 ((b23 j s)) ((b37 j s))
def b49 (j : ℕ) (s : State F) : (⟨S_, .f32⟩ : BufTy).Contents (Elt F) :=
  constant S_ .f32 0x7FC00000#32
def b50 (j : ℕ) (s : State F) : (⟨S128x1, .f32⟩ : BufTy).Contents (Elt F) :=
  broadcastInDim S128x1 ![] bcast_S_S128x1 ((b49 j s))
def b51 (j : ℕ) (s : State F) : (⟨S128x1, .f32⟩ : BufTy).Contents (Elt F) :=
  select ((b47 j s)) ((b48 j s)) ((b50 j s))
def b52 (j : ℕ) (s : State F) : (⟨S128, .f32⟩ : BufTy).Contents (Elt F) :=
  shapeCast S128 ((b51 j s)) shapeCasts_S128x1_S128
def b53 (j : ℕ) (s : State F) : (⟨S_, .f32⟩ : BufTy).Contents (Elt F) :=
  constant S_ .f32 0x2B8CBCCC#32
def b54 (j : ℕ) (s : State F) : (⟨S128, .f32⟩ : BufTy).Contents (Elt F) :=
  broadcastInDim S128 ![] bcast_S_S128 ((b53 j s))
def b55 (j : ℕ) (s : State F) : (⟨S128, .f32⟩ : BufTy).Contents (Elt F) :=
  addf ((b52 j s)) ((b54 j s))
def b56 (j : ℕ) (s : State F) : (⟨S128, .f32⟩ : BufTy).Contents (Elt F) :=
  Host.log ((b55 j s))
def b57 (j : ℕ) (s : State F) : (⟨S_, .f32⟩ : BufTy).Contents (Elt F) :=
  constant S_ .f32 0x2B8CBCCC#32
def b58 (j : ℕ) (s : State F) : (⟨S128x256, .f32⟩ : BufTy).Contents (Elt F) :=
  broadcastInDim S128x256 ![] bcast_S_S128x256 ((b57 j s))
def b59 (j : ℕ) (s : State F) : (⟨S128x256, .f32⟩ : BufTy).Contents (Elt F) :=
  addf ((b23 j s)) ((b58 j s))
def b60 (j : ℕ) (s : State F) : (⟨S128x256, .f32⟩ : BufTy).Contents (Elt F) :=
  Host.log ((b59 j s))
def b61 (j : ℕ) (s : State F) : (⟨S128x256, .f32⟩ : BufTy).Contents (Elt F) :=
  mulf ((b23 j s)) ((b60 j s))
def b62 (j : ℕ) (s : State F) : (⟨S_, .f32⟩ : BufTy).Contents (Elt F) :=
  constant S_ .f32 0x00000000#32
def b63 (j : ℕ) (s : State F) : (⟨S128, .f32⟩ : BufTy).Contents (Elt F) :=
  Host.reduceAdd ((b61 j s)) ((b62 j s)) reducesTo_S128x256_S128_d1 h_S_
def b64 (j : ℕ) (s : State F) : (⟨S128, .f32⟩ : BufTy).Contents (Elt F) :=
  Host.negf ((b63 j s))
def b65 (j : ℕ) (s : State F) : (⟨S_, .i32⟩ : BufTy).Contents (Elt F) :=
  constantI S_ 32 0#32
def b66 (j : ℕ) (s : State F) : (⟨S128, .i32⟩ : BufTy).Contents (Elt F) :=
  broadcastInDim S128 ![] bcast_S_S128 ((b65 j s))
def b67 (j : ℕ) (s : State F) : (⟨S128, .i1⟩ : BufTy).Contents (Elt F) :=
  cmpi .slt ((K_main_v10 (F := F))) ((b66 j s))
def b68 (j : ℕ) (s : State F) : (⟨S_, .i32⟩ : BufTy).Contents (Elt F) :=
  constantI S_ 32 128#32
def b69 (j : ℕ) (s : State F) : (⟨S128, .i32⟩ : BufTy).Contents (Elt F) :=
  broadcastInDim S128 ![] bcast_S_S128 ((b68 j s))
def b70 (j : ℕ) (s : State F) : (⟨S128, .i32⟩ : BufTy).Contents (Elt F) :=
  addi ((K_main_v10 (F := F))) ((b69 j s))
def b71 (j : ℕ) (s : State F) : (⟨S128, .i32⟩ : BufTy).Contents (Elt F) :=
  select ((b67 j s)) ((b70 j s)) ((K_main_v10 (F := F)))
def b72 (j : ℕ) (s : State F) : (⟨S_, .i32⟩ : BufTy).Contents (Elt F) :=
  constantI S_ 32 0#32
def b73 (j : ℕ) (s : State F) : (⟨S128, .i32⟩ : BufTy).Contents (Elt F) :=
  broadcastInDim S128 ![] bcast_S_S128 ((b72 j s))
def b74 (j : ℕ) (s : State F) : (⟨S128, .i1⟩ : BufTy).Contents (Elt F) :=
  cmpi .slt ((b28 j s)) ((b73 j s))
def b75 (j : ℕ) (s : State F) : (⟨S_, .i32⟩ : BufTy).Contents (Elt F) :=
  constantI S_ 32 256#32
def b76 (j : ℕ) (s : State F) : (⟨S128, .i32⟩ : BufTy).Contents (Elt F) :=
  broadcastInDim S128 ![] bcast_S_S128 ((b75 j s))
def b77 (j : ℕ) (s : State F) : (⟨S128, .i32⟩ : BufTy).Contents (Elt F) :=
  addi ((b28 j s)) ((b76 j s))
def b78 (j : ℕ) (s : State F) : (⟨S128, .i32⟩ : BufTy).Contents (Elt F) :=
  select ((b74 j s)) ((b77 j s)) ((b28 j s))
def b79 (j : ℕ) (s : State F) : (⟨S128x1, .i32⟩ : BufTy).Contents (Elt F) :=
  broadcastInDim S128x1 ![0] bcast_S128_S128x1_0 ((b71 j s))
def b80 (j : ℕ) (s : State F) : (⟨S128x1, .i32⟩ : BufTy).Contents (Elt F) :=
  broadcastInDim S128x1 ![0] bcast_S128_S128x1_0 ((b78 j s))
def b81 (j : ℕ) (s : State F) : (⟨S128x2, .i32⟩ : BufTy).Contents (Elt F) :=
  concatenate S128x2 1 [⟨S128x1, ((b79 j s))⟩, ⟨S128x1, ((b80 j s))⟩] concatenates_S128x1_S128x1_S128x2_d1
def b82 (j : ℕ) (s : State F) : (⟨S_, .i1⟩ : BufTy).Contents (Elt F) :=
  constantI S_ 1 1#1
def b83 (j : ℕ) (s : State F) : (⟨S128, .i1⟩ : BufTy).Contents (Elt F) :=
  broadcastInDim S128 ![] bcast_S_S128 ((b82 j s))
def b84 (j : ℕ) (s : State F) : (⟨S128x256, .i1⟩ : BufTy).Contents (Elt F) :=
  Host.scatter scatter_S128x256_S128x2_S128_n_01_01_1 (fun _ b => b) (s.main_v14_9) ((b81 j s)) ((b83 j s))
def b85 (j : ℕ) (s : State F) : (⟨S_, .i32⟩ : BufTy).Contents (Elt F) :=
  constantI S_ 32 0#32
def b86 (j : ℕ) (s : State F) : (⟨S128, .i32⟩ : BufTy).Contents (Elt F) :=
  broadcastInDim S128 ![] bcast_S_S128 ((b85 j s))
def b87 (j : ℕ) (s : State F) : (⟨S128, .i1⟩ : BufTy).Contents (Elt F) :=
  cmpi .slt ((K_main_v10 (F := F))) ((b86 j s))
def b88 (j : ℕ) (s : State F) : (⟨S_, .i32⟩ : BufTy).Contents (Elt F) :=
  constantI S_ 32 128#32
def b89 (j : ℕ) (s : State F) : (⟨S128, .i32⟩ : BufTy).Contents (Elt F) :=
  broadcastInDim S128 ![] bcast_S_S128 ((b88 j s))
def b90 (j : ℕ) (s : State F) : (⟨S128, .i32⟩ : BufTy).Contents (Elt F) :=
  addi ((K_main_v10 (F := F))) ((b89 j s))
def b91 (j : ℕ) (s : State F) : (⟨S128, .i32⟩ : BufTy).Contents (Elt F) :=
  select ((b87 j s)) ((b90 j s)) ((K_main_v10 (F := F)))
def b92 (j : ℕ) (s : State F) : (⟨S_, .i32⟩ : BufTy).Contents (Elt F) :=
  constantI S_ 32 0#32
def b93 (j : ℕ) (s : State F) : (⟨S128, .i32⟩ : BufTy).Contents (Elt F) :=
  broadcastInDim S128 ![] bcast_S_S128 ((b92 j s))
def b94 (j : ℕ) (s : State F) : (⟨S128, .i1⟩ : BufTy).Contents (Elt F) :=
  cmpi .slt ((b28 j s)) ((b93 j s))
def b95 (j : ℕ) (s : State F) : (⟨S_, .i32⟩ : BufTy).Contents (Elt F) :=
  constantI S_ 32 256#32
def b96 (j : ℕ) (s : State F) : (⟨S128, .i32⟩ : BufTy).Contents (Elt F) :=
  broadcastInDim S128 ![] bcast_S_S128 ((b95 j s))
def b97 (j : ℕ) (s : State F) : (⟨S128, .i32⟩ : BufTy).Contents (Elt F) :=
  addi ((b28 j s)) ((b96 j s))
def b98 (j : ℕ) (s : State F) : (⟨S128, .i32⟩ : BufTy).Contents (Elt F) :=
  select ((b94 j s)) ((b97 j s)) ((b28 j s))
def b99 (j : ℕ) (s : State F) : (⟨S128x1, .i32⟩ : BufTy).Contents (Elt F) :=
  broadcastInDim S128x1 ![0] bcast_S128_S128x1_0 ((b91 j s))
def b100 (j : ℕ) (s : State F) : (⟨S128x1, .i32⟩ : BufTy).Contents (Elt F) :=
  broadcastInDim S128x1 ![0] bcast_S128_S128x1_0 ((b98 j s))
def b101 (j : ℕ) (s : State F) : (⟨S128x2, .i32⟩ : BufTy).Contents (Elt F) :=
  concatenate S128x2 1 [⟨S128x1, ((b99 j s))⟩, ⟨S128x1, ((b100 j s))⟩] concatenates_S128x1_S128x1_S128x2_d1
def b102 (j : ℕ) (s : State F) : (⟨S128x128, .f32⟩ : BufTy).Contents (Elt F) :=
  Host.gather gather_S128x256x128_S128x2_S128x128_1_01_n_n_01_1_11128 (s.main_v14_1) ((b101 j s))
def b103 (j : ℕ) (s : State F) : (⟨S128x384, .f32⟩ : BufTy).Contents (Elt F) :=
  transpose S128x384 [1, 0] (s.main_v14_3) transposes_S384x128_S128x384_1_0
def b104 (j : ℕ) (s : State F) : (⟨S128x384, .f32⟩ : BufTy).Contents (Elt F) :=
  Host.dotGeneral dot_S128x128_S128x384_S128x384_1_0_0_1_n_n none ((b102 j s)) ((b103 j s))
def b105 (j : ℕ) (s : State F) : (⟨S1x384, .f32⟩ : BufTy).Contents (Elt F) :=
  broadcastInDim S1x384 ![1] bcast_S384_S1x384_1 (s.main_v14_4)
def b106 (j : ℕ) (s : State F) : (⟨S128x384, .f32⟩ : BufTy).Contents (Elt F) :=
  broadcastInDim S128x384 ![0, 1] bcast_S1x384_S128x384_0_1 ((b105 j s))
def b107 (j : ℕ) (s : State F) : (⟨S128x384, .f32⟩ : BufTy).Contents (Elt F) :=
  addf ((b104 j s)) ((b106 j s))
def b108 (j : ℕ) (s : State F) : (⟨S128x384, .f32⟩ : BufTy).Contents (Elt F) :=
  transpose S128x384 [1, 0] (s.main_v14_5) transposes_S384x128_S128x384_1_0
def b109 (j : ℕ) (s : State F) : (⟨S128x384, .f32⟩ : BufTy).Contents (Elt F) :=
  Host.dotGeneral dot_S128x128_S128x384_S128x384_1_0_0_1_n_n none (s.main_v14_8) ((b108 j s))
def b110 (j : ℕ) (s : State F) : (⟨S1x384, .f32⟩ : BufTy).Contents (Elt F) :=
  broadcastInDim S1x384 ![1] bcast_S384_S1x384_1 (s.main_v14_6)
def b111 (j : ℕ) (s : State F) : (⟨S128x384, .f32⟩ : BufTy).Contents (Elt F) :=
  broadcastInDim S128x384 ![0, 1] bcast_S1x384_S128x384_0_1 ((b110 j s))
def b112 (j : ℕ) (s : State F) : (⟨S128x384, .f32⟩ : BufTy).Contents (Elt F) :=
  addf ((b109 j s)) ((b111 j s))
def b113 (j : ℕ) (s : State F) : (⟨S128x128, .f32⟩ : BufTy).Contents (Elt F) :=
  extractStridedSlice S128x128 ![0, 0] ((b107 j s)) slices_S128x384_S128x128_0_0
def b114 (j : ℕ) (s : State F) : (⟨S128x128, .f32⟩ : BufTy).Contents (Elt F) :=
  extractStridedSlice S128x128 ![0, 128] ((b107 j s)) slices_S128x384_S128x128_0_128
def b115 (j : ℕ) (s : State F) : (⟨S128x128, .f32⟩ : BufTy).Contents (Elt F) :=
  extractStridedSlice S128x128 ![0, 256] ((b107 j s)) slices_S128x384_S128x128_0_256
def b116 (j : ℕ) (s : State F) : (⟨S128x128, .f32⟩ : BufTy).Contents (Elt F) :=
  extractStridedSlice S128x128 ![0, 0] ((b112 j s)) slices_S128x384_S128x128_0_0
def b117 (j : ℕ) (s : State F) : (⟨S128x128, .f32⟩ : BufTy).Contents (Elt F) :=
  extractStridedSlice S128x128 ![0, 128] ((b112 j s)) slices_S128x384_S128x128_0_128
def b118 (j : ℕ) (s : State F) : (⟨S128x128, .f32⟩ : BufTy).Contents (Elt F) :=
  extractStridedSlice S128x128 ![0, 256] ((b112 j s)) slices_S128x384_S128x128_0_256
def b119 (j : ℕ) (s : State F) : (⟨S128x128, .f32⟩ : BufTy).Contents (Elt F) :=
  addf ((b113 j s)) ((b116 j s))
def b120 (j : ℕ) (s : State F) : (⟨S128x128, .f32⟩ : BufTy).Contents (Elt F) :=
  Host.negf ((b119 j s))
def b121 (j : ℕ) (s : State F) : (⟨S128x128, .f32⟩ : BufTy).Contents (Elt F) :=
  Host.exp ((b120 j s))
def b122 (j : ℕ) (s : State F) : (⟨S_, .f32⟩ : BufTy).Contents (Elt F) :=
  constant S_ .f32 0x3F800000#32
def b123 (j : ℕ) (s : State F) : (⟨S128x128, .f32⟩ : BufTy).Contents (Elt F) :=
  broadcastInDim S128x128 ![] bcast_S_S128x128 ((b122 j s))
def b124 (j : ℕ) (s : State F) : (⟨S128x128, .f32⟩ : BufTy).Contents (Elt F) :=
  addf ((b123 j s)) ((b121 j s))
def b125 (j : ℕ) (s : State F) : (⟨S_, .f32⟩ : BufTy).Contents (Elt F) :=
  constant S_ .f32 0x3F800000#32
def b126 (j : ℕ) (s : State F) : (⟨S128x128, .f32⟩ : BufTy).Contents (Elt F) :=
  broadcastInDim S128x128 ![] bcast_S_S128x128 ((b125 j s))
def b127 (j : ℕ) (s : State F) : (⟨S128x128, .f32⟩ : BufTy).Contents (Elt F) :=
  Host.divf ((b126 j s)) ((b124 j s))
def b128 (j : ℕ) (s : State F) : (⟨S128x128, .f32⟩ : BufTy).Contents (Elt F) :=
  addf ((b114 j s)) ((b117 j s))
def b129 (j : ℕ) (s : State F) : (⟨S128x128, .f32⟩ : BufTy).Contents (Elt F) :=
  Host.negf ((b128 j s))
def b130 (j : ℕ) (s : State F) : (⟨S128x128, .f32⟩ : BufTy).Contents (Elt F) :=
  Host.exp ((b129 j s))
def b131 (j : ℕ) (s : State F) : (⟨S_, .f32⟩ : BufTy).Contents (Elt F) :=
  constant S_ .f32 0x3F800000#32
def b132 (j : ℕ) (s : State F) : (⟨S128x128, .f32⟩ : BufTy).Contents (Elt F) :=
  broadcastInDim S128x128 ![] bcast_S_S128x128 ((b131 j s))
def b133 (j : ℕ) (s : State F) : (⟨S128x128, .f32⟩ : BufTy).Contents (Elt F) :=
  addf ((b132 j s)) ((b130 j s))
def b134 (j : ℕ) (s : State F) : (⟨S_, .f32⟩ : BufTy).Contents (Elt F) :=
  constant S_ .f32 0x3F800000#32
def b135 (j : ℕ) (s : State F) : (⟨S128x128, .f32⟩ : BufTy).Contents (Elt F) :=
  broadcastInDim S128x128 ![] bcast_S_S128x128 ((b134 j s))
def b136 (j : ℕ) (s : State F) : (⟨S128x128, .f32⟩ : BufTy).Contents (Elt F) :=
  Host.divf ((b135 j s)) ((b133 j s))
def b137 (j : ℕ) (s : State F) : (⟨S128x128, .f32⟩ : BufTy).Contents (Elt F) :=
  mulf ((b127 j s)) ((b118 j s))
def b138 (j : ℕ) (s : State F) : (⟨S128x128, .f32⟩ : BufTy).Contents (Elt F) :=
  addf ((b115 j s)) ((b137 j s))
def b139 (j : ℕ) (s : State F) : (⟨S128x128, .f32⟩ : BufTy).Contents (Elt F) :=
  Host.tanh ((b138 j s))
def b140 (j : ℕ) (s : State F) : (⟨S_, .f32⟩ : BufTy).Contents (Elt F) :=
  constant S_ .f32 0x3F800000#32
def b141 (j : ℕ) (s : State F) : (⟨S128x128, .f32⟩ : BufTy).Contents (Elt F) :=
  broadcastInDim S128x128 ![] bcast_S_S128x128 ((b140 j s))
def b142 (j : ℕ) (s : State F) : (⟨S128x128, .f32⟩ : BufTy).Contents (Elt F) :=
  subf ((b141 j s)) ((b136 j s))
def b143 (j : ℕ) (s : State F) : (⟨S128x128, .f32⟩ : BufTy).Contents (Elt F) :=
  mulf ((b142 j s)) ((b139 j s))
def b144 (j : ℕ) (s : State F) : (⟨S128x128, .f32⟩ : BufTy).Contents (Elt F) :=
  mulf ((b136 j s)) (s.main_v14_8)
def b145 (j : ℕ) (s : State F) : (⟨S128x128, .f32⟩ : BufTy).Contents (Elt F) :=
  addf ((b143 j s)) ((b144 j s))
def b146 (j : ℕ) (s : State F) : (⟨S1x128, .i32⟩ : BufTy).Contents (Elt F) :=
  broadcastInDim S1x128 ![1] bcast_S128_S1x128_1 ((b28 j s))
def b147 (j : ℕ) (s : State F) : (⟨S_, .i32⟩ : BufTy).Contents (Elt F) :=
  constantI S_ 32 0#32
def b148 (j : ℕ) (s : State F) : (⟨S256x128, .i32⟩ : BufTy).Contents (Elt F) :=
  Host.dynamicUpdateSlice (s.main_v14_10) ((b146 j s)) (fun k => (((![(constantI S_ 32 (BitVec.ofNat 32 j) : (⟨S_, .i32⟩ : BufTy).Contents (Elt F)), (b147 j s)] : Fin 2 → (⟨S_, .i32⟩ : BufTy).Contents (Elt F))) k (Shape.Idx.first h_S_)).toInt) updateFits_S256x128_S1x128
def b149 (j : ℕ) (s : State F) : (⟨S1x128, .f32⟩ : BufTy).Contents (Elt F) :=
  broadcastInDim S1x128 ![1] bcast_S128_S1x128_1 ((b56 j s))
def b150 (j : ℕ) (s : State F) : (⟨S_, .i32⟩ : BufTy).Contents (Elt F) :=
  constantI S_ 32 0#32
def b151 (j : ℕ) (s : State F) : (⟨S256x128, .f32⟩ : BufTy).Contents (Elt F) :=
  Host.dynamicUpdateSlice (s.main_v14_11) ((b149 j s)) (fun k => (((![(constantI S_ 32 (BitVec.ofNat 32 j) : (⟨S_, .i32⟩ : BufTy).Contents (Elt F)), (b150 j s)] : Fin 2 → (⟨S_, .i32⟩ : BufTy).Contents (Elt F))) k (Shape.Idx.first h_S_)).toInt) updateFits_S256x128_S1x128
def b152 (j : ℕ) (s : State F) : (⟨S1x128, .f32⟩ : BufTy).Contents (Elt F) :=
  broadcastInDim S1x128 ![1] bcast_S128_S1x128_1 ((b64 j s))
def b153 (j : ℕ) (s : State F) : (⟨S_, .i32⟩ : BufTy).Contents (Elt F) :=
  constantI S_ 32 0#32
def b154 (j : ℕ) (s : State F) : (⟨S256x128, .f32⟩ : BufTy).Contents (Elt F) :=
  Host.dynamicUpdateSlice (s.main_v14_12) ((b152 j s)) (fun k => (((![(constantI S_ 32 (BitVec.ofNat 32 j) : (⟨S_, .i32⟩ : BufTy).Contents (Elt F)), (b153 j s)] : Fin 2 → (⟨S_, .i32⟩ : BufTy).Contents (Elt F))) k (Shape.Idx.first h_S_)).toInt) updateFits_S256x128_S1x128

/-- The state @main hands the first trip, of the arguments it copies in or computes from. -/
def init (main_arg1 : (⟨S128x128, .f32⟩ : BufTy).Contents (Elt F)) (main_arg0 : (⟨S128x256x128, .f32⟩ : BufTy).Contents (Elt F)) (main_arg4 : (⟨S384x128, .f32⟩ : BufTy).Contents (Elt F)) (main_arg6 : (⟨S384, .f32⟩ : BufTy).Contents (Elt F)) (main_arg5 : (⟨S384x128, .f32⟩ : BufTy).Contents (Elt F)) (main_arg7 : (⟨S384, .f32⟩ : BufTy).Contents (Elt F)) (main_arg2 : (⟨S128x128, .f32⟩ : BufTy).Contents (Elt F)) (main_arg3 : (⟨S128, .f32⟩ : BufTy).Contents (Elt F)) : State F :=
  { main_v14_8 := A_main_v8 main_arg0 main_arg2 main_arg3, main_v14_9 := K_main_v9 (F := F), main_v14_10 := K_main_v11 (F := F), main_v14_11 := K_main_v12 (F := F), main_v14_12 := K_main_v13 (F := F), main_v14_0 := main_arg1, main_v14_1 := main_arg0, main_v14_3 := main_arg4, main_v14_4 := main_arg6, main_v14_5 := main_arg5, main_v14_6 := main_arg7 }

/-- One trip. -/
def step (j : ℕ) (s : State F) : State F :=
  { main_v14_8 := b145 j s, main_v14_9 := b84 j s, main_v14_10 := b148 j s, main_v14_11 := b151 j s, main_v14_12 := b154 j s, main_v14_0 := s.main_v14_0, main_v14_1 := s.main_v14_1, main_v14_3 := s.main_v14_3, main_v14_4 := s.main_v14_4, main_v14_5 := s.main_v14_5, main_v14_6 := s.main_v14_6 }
theorem step_main_v14_8 (j : ℕ) (s : State F) : (step j s).main_v14_8 = b145 j s := by simp only [step]
theorem step_main_v14_9 (j : ℕ) (s : State F) : (step j s).main_v14_9 = b84 j s := by simp only [step]
theorem step_main_v14_10 (j : ℕ) (s : State F) : (step j s).main_v14_10 = b148 j s := by simp only [step]
theorem step_main_v14_11 (j : ℕ) (s : State F) : (step j s).main_v14_11 = b151 j s := by simp only [step]
theorem step_main_v14_12 (j : ℕ) (s : State F) : (step j s).main_v14_12 = b154 j s := by simp only [step]

/-- `main_v15`, which the operations after the loop make, of the loop's last state. -/
def R_main_v15 (s : State F) : (⟨S128x256, .i32⟩ : BufTy).Contents (Elt F) :=
  transpose S128x256 [1, 0] (s.main_v14_10) transposes_S256x128_S128x256_1_0

/-- `main_v16`, which the operations after the loop make, of the loop's last state. -/
def R_main_v16 (s : State F) : (⟨S128, .f32⟩ : BufTy).Contents (Elt F) :=
  Host.reduceAdd (s.main_v14_11) (constant S_ .f32 0x00000000#32) reducesTo_S256x128_S128_d0 h_S_

/-- `main_v17`, which the operations after the loop make, of the loop's last state. -/
def R_main_v17 (s : State F) : (⟨S128, .f32⟩ : BufTy).Contents (Elt F) :=
  Host.reduceAdd (s.main_v14_12) (constant S_ .f32 0x00000000#32) reducesTo_S256x128_S128_d0 h_S_

end Cert.ReferenceIdeal.Step

end
-- ==== Proof.RefIndex.lean ====
module

public import proofs.«01_k».proof.Proof.RefStep
public import Idealize.ShloMosaic.Lib.Pointwise
public import Idealize.ShloMosaic.Lib.Routing.OpsSet
public import Idealize.ShloMosaic.PureOps.Ideal.Laws

/-! # Where the reference reads and writes with the chosen nodes

Given that the chosen node of every batch row is a node of the row: the probability read at it, the flag set at it and the
embedding row read at it. -/

@[expose] public section

noncomputable section

namespace Cert.Proof.RefIndex

open Cert.ReferenceIdeal Cert.ReferenceIdeal.Gen Cert.ReferenceIdeal.Step
open Idealize.ShloMosaic Idealize.ShloMosaic.TcCoe

variable (j : ℕ) (s : State Ideal)

/-- The words of the numbers below 2^31 are not negative. -/
theorem toInt_word (n : ℕ) (h : n < 1000) : (BitVec.ofNat 32 n).toInt = n := by
  rw [BitVec.toInt_eq_toNat_cond, BitVec.toNat_ofNat]
  split <;> omega

/-- Wrapping a word that is not negative leaves it. -/
theorem wrap_word (n : ℕ) (a : BitVec 32) (h : n < 1000) :
    Scalar.select (IntOp.cmpi .slt (BitVec.ofNat 32 n) 0#32) a (BitVec.ofNat 32 n) = BitVec.ofNat 32 n :=
  Routing.wrap_of_lt _ _ (by rw [BitVec.toNat_ofNat]; omega)

theorem b37_read (b : Fin 128) (i : Fin 256) (h : b28 j s (ix1 b) = BitVec.ofNat 32 i.val) (x : Fin 1) :
    b37 j s (ix3 b 0 x) = BitVec.ofNat 32 i.val := by
  have hx : x = 0 := Subsingleton.elim _ _
  subst hx
  unfold b37 b36 b35 b34 b33 b32 b31 b30 b29
  pointwise
  rw [h]
  exact wrap_word _ _ (by omega)

theorem b47_read (b : Fin 128) (i : Fin 256) (h : b28 j s (ix1 b) = BitVec.ofNat 32 i.val) : b47 j s (ix2 b 0) = 1#1 := by
  unfold b47 b46 b45 b44 b43 b42 b41 b40 b39 b38
  pointwise
  rw [show (Finset.univ : Finset (Fin 1)) = {0} from rfl, Finset.fold_singleton, b37_read j s b i h 0]
  have h1 := toInt_word i.val (by omega)
  have hl := i.isLt
  simp [IntOp.cmpi, BitVec.sle, h1, IntOp.andi]
  rw [show decide (i.val ≤ 255) = true from decide_eq_true (by omega)]
  decide

/-- The row's value at the node that the row's word names. -/
theorem gather1 {α : Type} (x : S128x256.Idx → α) (w : S128x1x1.Idx → BitVec 32) (b : Fin 128) (i : Fin 256)
    (h : w (ix3 b 0 0) = BitVec.ofNat 32 i.val) :
    Host.gather gather_S128x256_S128x1x1_S128x1_n_1_0_0_1_2_11 x w (ix2 b 0) = x (ix2 b i) := by
  let d := gather_S128x256_S128x1x1_S128x1_n_1_0_0_1_2_11
  let q : S128x1.Idx := ix2 b 0
  have e0 : d.start q w 0 + d.batchCoord q 0 + d.offCoord q 0 = b.val := by
    rw [GatherDims.start_batching _ _ _ _ (List.mem_singleton.mpr rfl),
      GatherDims.offCoord_eq_zero _ _ _ (fun h => ((GatherDims.mem_sKept _ _).mp h).2 (List.mem_singleton.mpr rfl))]
    unfold GatherDims.batchCoord
    rw [dif_pos (show (0 : Fin S128x256.rank) ∈ d.operandBatchingDims from List.mem_singleton.mpr rfl), Nat.zero_add, Nat.add_zero]
    rfl
  have e1 : d.start q w 1 + d.batchCoord q 1 + d.offCoord q 1 = i.val := by
    rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    unfold GatherDims.start
    rw [dif_pos (show (1 : Fin S128x256.rank) ∈ d.startIndexMap from List.mem_singleton.mpr rfl)]
    have hsi : d.siIdx q ⟨List.idxOf (1 : Fin 2) [1], by decide⟩ = (ix3 b 0 0 : S128x1x1.Idx) := by
      funext c; refine Fin.ext ?_
      match c with
      | ⟨0, _⟩ => rfl
      | ⟨1, _⟩ => rfl
      | ⟨2, _⟩ => rfl
    have e2 := congrArg (fun w : BitVec 32 => min w.toInt.toNat 255) ((congrArg w hsi).trans h)
    simp only [toInt_word i.val (by omega)] at e2
    refine Eq.trans (show _ = _ from e2) ?_
    have := i.isLt
    omega
  unfold Host.gather
  refine congrArg x ?_
  funext a
  refine Fin.ext ?_
  match a with
  | ⟨0, _⟩ => exact e0
  | ⟨1, _⟩ => exact e1

theorem b48_read (b : Fin 128) (i : Fin 256) (h : b28 j s (ix1 b) = BitVec.ofNat 32 i.val) :
    b48 j s (ix2 b 0) = b23 j s (ix2 b i) :=
  gather1 _ _ b i (b37_read j s b i h 0)

theorem b101_read0 (b : Fin 128) : b101 j s (ix2 b 0) = BitVec.ofNat 32 b.val := by
  unfold b101 b100 b99 b98 b97 b96 b95 b94 b93 b91 b90 b89 b88 b87 b86 b85 K_main_v10
  pointwise
  exact wrap_word _ _ (by omega)
theorem b101_read1 (b : Fin 128) (i : Fin 256) (h : b28 j s (ix1 b) = BitVec.ofNat 32 i.val) :
    b101 j s (ix2 b 1) = BitVec.ofNat 32 i.val := by
  unfold b101 b100 b99 b98 b97 b96 b95 b94 b93 b92 b91 b90 b89 b88 b87 b86 b85 K_main_v10
  pointwise
  rw [h]
  exact wrap_word _ _ (by omega)
theorem b81_read0 (b : Fin 128) : b81 j s (ix2 b 0) = BitVec.ofNat 32 b.val := by
  unfold b81 b80 b79 b78 b77 b76 b75 b74 b73 b71 b70 b69 b68 b67 b66 b65 K_main_v10
  pointwise
  exact wrap_word _ _ (by omega)
theorem b81_read1 (b : Fin 128) (i : Fin 256) (h : b28 j s (ix1 b) = BitVec.ofNat 32 i.val) :
    b81 j s (ix2 b 1) = BitVec.ofNat 32 i.val := by
  unfold b81 b80 b79 b78 b77 b76 b75 b74 b73 b72 b71 b70 b69 b68 b67 b66 b65 K_main_v10
  pointwise
  rw [h]
  exact wrap_word _ _ (by omega)

/-- The embedding row that a pair of words names. -/
theorem gather2 {α : Type} (x : S128x256x128.Idx → α) (w : S128x2.Idx → BitVec 32) (b : Fin 128) (i : Fin 256)
    (w0 : w (ix2 b 0) = BitVec.ofNat 32 b.val) (w1 : w (ix2 b 1) = BitVec.ofNat 32 i.val) (k : Fin 128) :
    Host.gather gather_S128x256x128_S128x2_S128x128_1_01_n_n_01_1_11128 x w (ix2 b k) = x (ix3 b i k) := by
  let d := gather_S128x256x128_S128x2_S128x128_1_01_n_n_01_1_11128
  let q : S128x128.Idx := ix2 b k
  have hb : ∀ a, d.batchCoord q a = 0 := fun a =>
    GatherDims.batchCoord_eq_zero _ _ _ (fun h => absurd (show a ∈ ([] : List (Fin 3)) from h) List.not_mem_nil)
  have e0 : d.start q w 0 + d.batchCoord q 0 + d.offCoord q 0 = b.val := by
    rw [hb, GatherDims.offCoord_eq_zero _ _ _ (fun h => ((GatherDims.mem_sKept _ _).mp h).1 (show (0 : Fin 3) ∈ [0, 1] by decide))]
    unfold GatherDims.start
    rw [dif_pos (show (0 : Fin S128x256x128.rank) ∈ d.startIndexMap by decide)]
    have hsi : d.siIdx q ⟨List.idxOf (0 : Fin 3) [0, 1], by decide⟩ = (ix2 b 0 : S128x2.Idx) := by
      funext c; refine Fin.ext ?_
      match c with
      | ⟨0, _⟩ => rfl
      | ⟨1, _⟩ => rfl
    have e2 := congrArg (fun w : BitVec 32 => min w.toInt.toNat 127) ((congrArg w hsi).trans w0)
    simp only [toInt_word b.val (by omega)] at e2
    refine Eq.trans (show _ = _ from e2) ?_
    have := b.isLt
    omega
  have e1 : d.start q w 1 + d.batchCoord q 1 + d.offCoord q 1 = i.val := by
    rw [hb, GatherDims.offCoord_eq_zero _ _ _ (fun h => ((GatherDims.mem_sKept _ _).mp h).1 (show (1 : Fin 3) ∈ [0, 1] by decide))]
    unfold GatherDims.start
    rw [dif_pos (show (1 : Fin S128x256x128.rank) ∈ d.startIndexMap by decide)]
    have hsi : d.siIdx q ⟨List.idxOf (1 : Fin 3) [0, 1], by decide⟩ = (ix2 b 1 : S128x2.Idx) := by
      funext c; refine Fin.ext ?_
      match c with
      | ⟨0, _⟩ => rfl
      | ⟨1, _⟩ => rfl
    have e2 := congrArg (fun w : BitVec 32 => min w.toInt.toNat 255) ((congrArg w hsi).trans w1)
    simp only [toInt_word i.val (by omega)] at e2
    refine Eq.trans (show _ = _ from e2) ?_
    have := i.isLt
    omega
  have e2 : d.start q w 2 + d.batchCoord q 2 + d.offCoord q 2 = k.val := by
    rw [hb]
    unfold GatherDims.start
    rw [dif_neg (show (2 : Fin S128x256x128.rank) ∉ d.startIndexMap by decide)]
    unfold GatherDims.offCoord
    rw [dif_pos (show (2 : Fin S128x256x128.rank) ∈ d.sKept by decide)]
    simp only [Nat.zero_add]
    rfl
  unfold Host.gather
  refine congrArg x ?_
  funext a
  refine Fin.ext ?_
  match a with
  | ⟨0, _⟩ => exact e0
  | ⟨1, _⟩ => exact e1
  | ⟨2, _⟩ => exact e2

theorem b102_read (b : Fin 128) (i : Fin 256) (h : b28 j s (ix1 b) = BitVec.ofNat 32 i.val) (k : Fin 128) :
    b102 j s (ix2 b k) = s.main_v14_1 (ix3 b i k) :=
  gather2 _ _ b i (b101_read0 j s b) (b101_read1 j s b i h) k

/-- The update of batch row `k` lands at the row's chosen node. -/
theorem lands (i : Fin 128 → Fin 256) (h : ∀ b, b28 j s (ix1 b) = BitVec.ofNat 32 (i b).val) (k b : Fin 128) (n : Fin 256) :
    scatter_S128x256_S128x2_S128_n_01_01_1.resultIdx? (ix1 k : S128.Idx) (b81 j s) = some (ix2 b n) ↔ k = b ∧ i k = n := by
  have hw : ∀ a, scatter_S128x256_S128x2_S128_n_01_01_1.window (ix1 k : S128.Idx) a = 0 := fun a => by
    unfold ScatterDims.window
    rw [dif_neg (by revert a; decide)]
  have h0 : scatter_S128x256_S128x2_S128_n_01_01_1.start (ix1 k : S128.Idx) (b81 j s) 0 = (k.val : ℤ) := by
    unfold ScatterDims.start
    rw [dif_pos (by decide)]
    refine Eq.trans (congrArg (fun q => (b81 j s q).toInt) (show _ = (ix2 k 0 : S128x2.Idx) from ?_)) ?_
    · funext c; refine Fin.ext ?_
      match c with
      | ⟨0, _⟩ => rfl
      | ⟨1, _⟩ => rfl
    · show (b81 j s (ix2 k 0)).toInt = _
      rw [b81_read0, toInt_word _ (by omega)]
  have h1 : scatter_S128x256_S128x2_S128_n_01_01_1.start (ix1 k : S128.Idx) (b81 j s) 1 = ((i k).val : ℤ) := by
    unfold ScatterDims.start
    rw [dif_pos (by decide)]
    refine Eq.trans (congrArg (fun q => (b81 j s q).toInt) (show _ = (ix2 k 1 : S128x2.Idx) from ?_)) ?_
    · funext c; refine Fin.ext ?_
      match c with
      | ⟨0, _⟩ => rfl
      | ⟨1, _⟩ => rfl
    · show (b81 j s (ix2 k 1)).toInt = _
      rw [b81_read1 j s k (i k) (h k), toInt_word _ (by omega)]
  rw [Routing.resultIdx?_eq_some]
  constructor
  · intro q
    have q0 := q 0
    have q1 := q 1
    rw [hw, h0] at q0
    rw [hw, h1] at q1
    exact ⟨Fin.ext (by change (k.val : ℤ) + ((0 : ℕ) : ℤ) = (b.val : ℤ) at q0; omega),
      Fin.ext (by change ((i k).val : ℤ) + ((0 : ℕ) : ℤ) = (n.val : ℤ) at q1; omega)⟩
  · rintro ⟨rfl, rfl⟩ a
    rw [hw]
    match a with
    | ⟨0, _⟩ => exact (congrArg (· + ((0 : ℕ) : ℤ)) h0).trans (by simp)
    | ⟨1, _⟩ => exact (congrArg (· + ((0 : ℕ) : ℤ)) h1).trans (by simp)

theorem b84_read (i : Fin 128 → Fin 256) (h : ∀ b, b28 j s (ix1 b) = BitVec.ofNat 32 (i b).val) (b : Fin 128) (n : Fin 256) :
    b84 j s (ix2 b n) = if n = i b then 1#1 else s.main_v14_9 (ix2 b n) := by
  have ek : ∀ k : S128.Idx, ∃ k' : Fin 128, k = ix1 k' := fun k => ⟨k 0, by funext a; fin_cases a; rfl⟩
  unfold b84
  by_cases e : n = i b
  · rw [if_pos e]
    exact Routing.scatter_set_hit _ _ _ _ _ 1#1 (fun k _ => rfl) (ix1 b) ((lands j s i h b b n).mpr ⟨rfl, e.symm⟩)
  · rw [if_neg e]
    refine Routing.scatter_set_miss _ _ _ _ _ fun k q => ?_
    obtain ⟨k', rfl⟩ := ek k
    obtain ⟨rfl, rfl⟩ := (lands j s i h k' b n).mp q
    exact e rfl

end Cert.Proof.RefIndex

end
-- ==== Proof.RefPick.lean ====
module

public import proofs.«01_k».proof.Proof.RefIndex
public import proofs.«01_k».proof.Proof.Rows

/-! # The node the reference picks

The index the reference's arg-max hands on is the first greatest place of the row of probabilities, as long as a probability is above the least extended
real. -/

@[expose] public section

noncomputable section

namespace Cert.Proof.RefPick

open Cert.ReferenceIdeal Cert.ReferenceIdeal.Gen Cert.ReferenceIdeal.Step Cert.Proof.Rows
open Idealize.ShloMosaic Idealize.ShloMosaic.TcCoe Idealize.ShloMosaic.Ideal

/-- The pair `a` wins over the pair `p`, or is as good: the greater value, at equal values the smaller index. -/
def Wins (a p : EReal × BitVec 32) : Prop := p.1 < a.1 ∨ (p.1 = a.1 ∧ a.2.toInt ≤ p.2.toInt)

theorem Wins.refl (a : EReal × BitVec 32) : Wins a a := Or.inr ⟨rfl, le_refl _⟩
theorem Wins.trans {a b c : EReal × BitVec 32} (h : Wins a b) (k : Wins b c) : Wins a c := by
  unfold Wins at *
  rcases h with h | ⟨h, h'⟩ <;> rcases k with k | ⟨k, k'⟩
  · exact Or.inl (k.trans h)
  · exact Or.inl (k ▸ h)
  · exact Or.inl (h ▸ k)
  · exact Or.inr ⟨k.trans h, h'.trans k'⟩

/-- One comparison of the arg-max keeps one of the two pairs, and the kept one wins over both. -/
theorem reducer_spec (a b : EReal × BitVec 32) :
    (reducer_argmax_f32_i32 (F := Ideal) a b = a ∨ reducer_argmax_f32_i32 (F := Ideal) a b = b)
      ∧ Wins (reducer_argmax_f32_i32 (F := Ideal) a b) a ∧ Wins (reducer_argmax_f32_i32 (F := Ideal) a b) b := by
  obtain ⟨a1, a2⟩ := a
  obtain ⟨b1, b2⟩ := b
  rcases lt_trichotomy a1 b1 with h | h | h
  · have e : reducer_argmax_f32_i32 (F := Ideal) (a1, a2) (b1, b2) = (b1, b2) := by
      simp [reducer_argmax_f32_i32, cmpf_def, Ideal.cmp, h.not_gt, h.ne, IntOp.ori, IntOp.andi, Scalar.select]
    rw [e]
    exact ⟨Or.inr rfl, Or.inl h, Wins.refl _⟩
  · subst h
    by_cases k : a2.slt b2
    · have e : reducer_argmax_f32_i32 (F := Ideal) (a1, a2) (a1, b2) = (a1, a2) := by
        simp [reducer_argmax_f32_i32, cmpf_def, Ideal.cmp, IntOp.cmpi, k, IntOp.ori, IntOp.andi, Scalar.select]
      rw [e]
      exact ⟨Or.inl rfl, Wins.refl _, Or.inr ⟨rfl, by simp [BitVec.slt] at k; exact k.le⟩⟩
    · have e : reducer_argmax_f32_i32 (F := Ideal) (a1, a2) (a1, b2) = (a1, b2) := by
        simp [reducer_argmax_f32_i32, cmpf_def, Ideal.cmp, IntOp.cmpi, k, IntOp.ori, IntOp.andi, Scalar.select]
      rw [e]
      exact ⟨Or.inr rfl, Or.inr ⟨rfl, by simp [BitVec.slt] at k; exact k⟩, Wins.refl _⟩
  · have e : reducer_argmax_f32_i32 (F := Ideal) (a1, a2) (b1, b2) = (a1, a2) := by
      simp [reducer_argmax_f32_i32, cmpf_def, Ideal.cmp, h, h.ne', IntOp.ori, IntOp.andi, Scalar.select]
    rw [e]
    exact ⟨Or.inl rfl, Wins.refl _, Or.inl h⟩

theorem foldl_spec (L : List (EReal × BitVec 32)) (a : EReal × BitVec 32) :
    (L.foldl (reducer_argmax_f32_i32 (F := Ideal)) a = a ∨ L.foldl (reducer_argmax_f32_i32 (F := Ideal)) a ∈ L)
      ∧ Wins (L.foldl (reducer_argmax_f32_i32 (F := Ideal)) a) a
      ∧ ∀ p ∈ L, Wins (L.foldl (reducer_argmax_f32_i32 (F := Ideal)) a) p := by
  induction L generalizing a with
  | nil => exact ⟨Or.inl rfl, Wins.refl _, fun p h => absurd h List.not_mem_nil⟩
  | cons x L ih =>
    obtain ⟨m, w, v⟩ := ih (reducer_argmax_f32_i32 (F := Ideal) a x)
    obtain ⟨m', wa, wx⟩ := reducer_spec a x
    rw [List.foldl_cons]
    refine ⟨?_, w.trans wa, fun p hp => ?_⟩
    · rcases m with m | m
      · rcases m' with m' | m'
        · exact Or.inl (m.trans m')
        · exact Or.inr (by rw [m, m']; exact List.mem_cons_self)
      · exact Or.inr (List.mem_cons_of_mem _ m)
    · rcases List.mem_cons.mp hp with rfl | hp
      · exact w.trans wx
      · exact v p hp

/-- What the arg-max hands on for batch row `b`. -/
theorem argmax_read (x : S128x256.Idx → EReal) (b : Fin 128) (i : Fin 256) (hi : FirstMax (fun n => x (ix2 b n)) i)
    (hb : ⊥ < x (ix2 b i)) :
    (Host.argReduce (F := Ideal) (φ := .f32) reducer_argmax_f32_i32 x (iotaInDim S128x256 32 1) (constant S_ .f32 4286578688#32)
      (constantI S_ 32 0#32) reducesTo_S128x256_S128_d1 h_S_ (ix1 b)).2 = BitVec.ofNat 32 i.val := by
  rw [argReduce_eq_reduce2, Host.reduce2_eq_foldl_fiber]
  set L := Host.argReduceFiber x (iotaInDim S128x256 32 1) reducesTo_S128x256_S128_d1 (ix1 b) with hL
  have hd : ∀ q : S128x256.Idx, reducesTo_S128x256_S128_d1.drop q = (ix1 (q 0) : S128.Idx) := fun q => by
    funext a; fin_cases a; rfl
  have hm : ∀ p ∈ L, ∃ k : Fin 256, p = (x (ix2 b k), BitVec.ofNat 32 k.val) := by
    intro p hp
    rw [hL, Host.argReduceFiber] at hp
    obtain ⟨n, hn, rfl⟩ := List.mem_map.mp hp
    have hn := of_decide_eq_true (List.mem_filter.mp hn).2
    rw [hd] at hn
    have h0 : (S128x256.rowMajor.symm n) 0 = b := congrFun hn 0
    have : S128x256.rowMajor.symm n = (ix2 b ((S128x256.rowMajor.symm n) 1) : S128x256.Idx) := by
      funext a
      match a with
      | ⟨0, _⟩ => exact h0
      | ⟨1, _⟩ => rfl
    refine ⟨(S128x256.rowMajor.symm n) 1, ?_⟩
    rw [← this]
    rfl
  have hmi : (x (ix2 b i), BitVec.ofNat 32 i.val) ∈ L := by
    rw [hL, Host.argReduceFiber]
    refine List.mem_map.mpr ⟨S128x256.rowMajor (ix2 b i), List.mem_filter.mpr ⟨List.mem_finRange _, ?_⟩, ?_⟩
    · rw [Equiv.symm_apply_apply, hd]
      exact decide_eq_true rfl
    · rw [Equiv.symm_apply_apply]
      rfl
  obtain ⟨m, -, v⟩ := foldl_spec L ((constant S_ .f32 4286578688#32 : FVec Ideal S_ .f32) (Shape.Idx.first h_S_),
    (constantI S_ 32 0#32 : IVec S_ 32) (Shape.Idx.first h_S_))
  have w := v _ hmi
  rcases m with m | m
  · rw [m] at w
    have e : (constant S_ .f32 4286578688#32 : FVec Ideal S_ .f32) (Shape.Idx.first h_S_) = (⊥ : EReal) := by
      show Ideal.ofBits FTy.f32 0xFF800000#32 = (⊥ : EReal)
      simp [Ideal.ofBits, Ideal.ieee]
    rw [e] at w
    rcases w with w | ⟨w, -⟩
    · exact absurd w not_lt_bot
    · exact absurd w hb.ne'
  · obtain ⟨k, hk⟩ := hm _ m
    rw [hk] at w ⊢
    show BitVec.ofNat 32 k.val = BitVec.ofNat 32 i.val
    rcases w with w | ⟨w, w'⟩
    · exact absurd (hi.ge k) (not_le.mpr w)
    · have h1 := hi.first k w.symm
      have w'' : (BitVec.ofNat 32 k.val).toInt ≤ (BitVec.ofNat 32 i.val).toInt := w'
      rw [RefIndex.toInt_word _ (by omega), RefIndex.toInt_word _ (by omega)] at w''
      have : k = i := le_antisymm (by exact_mod_cast w'') h1
      rw [this]

variable (j : ℕ) (s : State Ideal)

theorem b28_read (b : Fin 128) (i : Fin 256) (hi : FirstMax (fun n => b23 j s (ix2 b n)) i) (hb : ⊥ < b23 j s (ix2 b i)) :
    b28 j s (ix1 b) = BitVec.ofNat 32 i.val := by
  refine Eq.trans ?_ (argmax_read (b23 j s) b i hi hb)
  rfl

end Cert.Proof.RefPick

end
-- ==== Proof.RefRead.lean ====
module

public import proofs.«01_k».proof.Proof.RefPick
public import proofs.«01_k».proof.Proof.Soft

/-! # What a trip of the reference computes, read at an element -/

@[expose] public section

noncomputable section

namespace Cert.Proof.RefRead

open Cert.ReferenceIdeal Cert.ReferenceIdeal.Gen Cert.ReferenceIdeal.Step Cert.Proof.Rows
open Idealize.ShloMosaic Idealize.ShloMosaic.TcCoe

theorem neg_inf : Ideal.ofBits FTy.f32 4286578688#32 = (⊥ : EReal) := by simp [Ideal.ofBits, Ideal.ieee]

/-- The divisor of the scores. -/
theorem divisor : Ideal.ofBits FTy.f32 1093993715#32 = ((11863283 / 1048576 : ℝ) : EReal) := by
  simp [Ideal.ofBits, Ideal.ieee]
  rw [← EReal.coe_mul]
  norm_num

variable (j : ℕ) (s : State Ideal)

/-- The masked scores of batch row `b`. -/
def rR (b : Fin 128) : Fin 256 → EReal := fun n => b9 j s (ix2 b n)

theorem rR_read (b : Fin 128) (n : Fin 256) : rR j s b n = if s.main_v14_9 (ix2 b n) = 1#1 then ⊥ else
    (∑ x, b1 j s (ix2 b x) * s.main_v14_1 (ix3 b n x)) * ((1048576 / 11863283 : ℝ) : EReal) := by
  unfold rR b9 b8 b7 b6 b5 b4 b3 b2
  pointwise
  rw [neg_inf, divisor]
  have hd : ∀ x : EReal, Ideal.div x ((11863283 / 1048576 : ℝ) : EReal) = x * ((1048576 / 11863283 : ℝ) : EReal) := fun x => by
    unfold Ideal.div
    rw [if_neg (by exact_mod_cast (by norm_num : (11863283 / 1048576 : ℝ) ≠ 0)), ← EReal.coe_inv]
    norm_num
  rw [hd]
  rfl

theorem b1_read (b k : Fin 128) : b1 j s (ix2 b k) = ∑ x, s.main_v14_8 (ix2 b x) * s.main_v14_0 (ix2 k x) := by
  unfold b1 b0
  pointwise

variable {b : Fin 128} {i : Fin 256}

theorem b14_read (h : FirstMax (rR j s b) i) : b14 j s (ix1 b) = rR j s b i := by
  have e := fold_max_eq h
  unfold b14 b13 b12 b11 b10
  pointwise
  rw [neg_inf]
  refine Eq.trans ?_ e
  exact max_eq_right bot_le

theorem b18_read (h : FirstMax (rR j s b) i) (n : Fin 256) : b18 j s (ix2 b n) = Ideal.exp (rR j s b n - rR j s b i) := by
  have e := b14_read j s h
  unfold b18 b17 b16 b15
  pointwise
  rw [e]
  rfl

theorem b23_read (h : FirstMax (rR j s b) i) (n : Fin 256) :
    b23 j s (ix2 b n) = Ideal.div (Ideal.exp (rR j s b n - rR j s b i)) (∑ x, Ideal.exp (rR j s b x - rR j s b i)) := by
  have e := b18_read j s h
  unfold b23 b22 b21 b20 b19
  pointwise
  simp only [e]

theorem b28_read (h : Soft.Row (rR j s b) i) : b28 j s (ix1 b) = BitVec.ofNat 32 i.val := by
  have e := b23_read j s h.fm
  refine RefPick.b28_read j s b i ?_ ?_
  · rw [show (fun n => b23 j s (ix2 b n)) = _ from funext e]
    exact (Soft.firstMax_prob h).1
  · rw [e]
    exact (Soft.firstMax_prob h).2

theorem b56_read (h : Soft.Row (rR j s b) i) :
    b56 j s (ix1 b) = Ideal.log (b23 j s (ix2 b i) + Ideal.ofBits FTy.f32 730643660#32) := by
  have e := b28_read j s h
  have e1 := RefIndex.b47_read j s b i e
  have e2 := RefIndex.b48_read j s b i e
  unfold b56 b55 b54 b53 b52 b51 b50 b49
  pointwise
  rw [e1, e2]
  rfl

theorem b64_read : b64 j s (ix1 b) = -∑ x, b23 j s (ix2 b x) * Ideal.log (b23 j s (ix2 b x) + Ideal.ofBits FTy.f32 730643660#32) := by
  unfold b64 b63 b62 b61 b60 b59 b58 b57
  pointwise

theorem word_row (n : ℕ) (hn : n < 256) : (BitVec.ofNat 32 n).toInt = n := RefIndex.toInt_word n (by omega)

theorem put_row_at {α : Type} (x : S256x128.Idx → α) (u : S1x128.Idx → α) (hj : j < 256) (n : Fin 256) (b : Fin 128) (st : Fin 2 → ℤ)
    (s0 : st 0 = (j : ℤ)) (s1 : st 1 = 0) :
    Host.dynamicUpdateSlice x u st updateFits_S256x128_S1x128 (ix2 n b) = if n.val = j then u (ix2 0 b) else x (ix2 n b) := by
  have c0 : Host.clampedStart S256x128 S1x128 updateFits_S256x128_S1x128.1 st 0 = j := by
    unfold Host.clampedStart
    rw [s0]
    show (min (max (j : ℤ) 0) ((255 : ℕ) : ℤ)).toNat = j
    omega
  have c1 : Host.clampedStart S256x128 S1x128 updateFits_S256x128_S1x128.1 st 1 = 0 := by
    unfold Host.clampedStart
    rw [s1]
    rfl
  pointwise
  by_cases h : n.val = j
  · rw [dif_pos ⟨⟨by rw [c0, h], by rw [c0]; omega⟩, by rw [c1]; exact ⟨Nat.zero_le _, by omega⟩⟩, if_pos h]
    refine congrArg₂ (fun (y : Fin 1) (z : Fin 128) => u (ix2 y z)) (Subsingleton.elim _ _) (Fin.ext ?_)
    show b.val - _ = b.val
    rw [c1]
    rfl
  · rw [dif_neg (fun q => h (by have q1 := q.1.1; have q2 := q.1.2; rw [c0] at q1 q2; omega)), if_neg h]

/-- Writing row `j` of an accumulator. -/
theorem put_row {α : Type} (x : S256x128.Idx → α) (u : S1x128.Idx → α) (hj : j < 256) (n : Fin 256) (b : Fin 128) :
    Host.dynamicUpdateSlice x u (fun k => (((![(constantI S_ 32 (BitVec.ofNat 32 j) : S_.Idx → BitVec 32), constantI S_ 32 0#32] : Fin 2 → S_.Idx → BitVec 32)) k (Shape.Idx.first h_S_)).toInt) updateFits_S256x128_S1x128 (ix2 n b)
      = if n.val = j then u (ix2 0 b) else x (ix2 n b) :=
  put_row_at j x u hj n b _ (word_row j hj) rfl

theorem b148_read (hj : j < 256) (n : Fin 256) (b : Fin 128) :
    b148 j s (ix2 n b) = if n.val = j then b28 j s (ix1 b) else s.main_v14_10 (ix2 n b) := by
  have e : b146 j s (ix2 0 b) = b28 j s (ix1 b) := by unfold b146; pointwise
  rw [← e]
  exact put_row j _ _ hj n b
theorem b151_read (hj : j < 256) (n : Fin 256) (b : Fin 128) :
    b151 j s (ix2 n b) = if n.val = j then b56 j s (ix1 b) else s.main_v14_11 (ix2 n b) := by
  have e : b149 j s (ix2 0 b) = b56 j s (ix1 b) := by unfold b149; pointwise
  rw [← e]
  exact put_row j _ _ hj n b
theorem b154_read (hj : j < 256) (n : Fin 256) (b : Fin 128) :
    b154 j s (ix2 n b) = if n.val = j then b64 j s (ix1 b) else s.main_v14_12 (ix2 n b) := by
  have e : b152 j s (ix2 0 b) = b64 j s (ix1 b) := by unfold b152; pointwise
  rw [← e]
  exact put_row j _ _ hj n b

theorem b107_read (h : Soft.Row (rR j s b) i) (n : Fin 384) :
    b107 j s (ix2 b n) = ∑ x, s.main_v14_1 (ix3 b i x) * s.main_v14_3 (ix2 n x) + s.main_v14_4 (ix1 n) := by
  have e := fun k => RefIndex.b102_read j s b i (b28_read j s h) k
  unfold b107 b106 b105 b104 b103
  pointwise
  simp only [e]

theorem b112_read (n : Fin 384) :
    b112 j s (ix2 b n) = ∑ x, s.main_v14_8 (ix2 b x) * s.main_v14_5 (ix2 n x) + s.main_v14_6 (ix1 n) := by
  unfold b112 b111 b110 b109 b108
  pointwise

theorem b145_read (b k : Fin 128) : b145 j s (ix2 b k)
    = Soft.gru (b107 j s (ix2 b ⟨k.val, by omega⟩)) (b107 j s (ix2 b ⟨128 + k.val, by omega⟩)) (b107 j s (ix2 b ⟨256 + k.val, by omega⟩))
      (b112 j s (ix2 b ⟨k.val, by omega⟩)) (b112 j s (ix2 b ⟨128 + k.val, by omega⟩)) (b112 j s (ix2 b ⟨256 + k.val, by omega⟩)) (s.main_v14_8 (ix2 b k)) := by
  unfold b145 b144 b143 b142 b141 b140 b139 b138 b137 b136 b135 b134 b133 b132 b131 b130 b129 b128 b127 b126 b125 b124 b123 b122 b121 b120 b119 b118 b117 b116 b115 b114 b113
  pointwise
  rfl

end Cert.Proof.RefRead

end
-- ==== Proof.Couple.lean ====
module

public import proofs.«01_k».proof.Proof.KRead
public import proofs.«01_k».proof.Proof.RefRead

/-! # The kernel and the reference, step by step

`Cpl K s r n` says what a state of the kernel's loop and a state of the reference's loop have in common before step `n`; one step of
each keeps it. -/

@[expose] public section

noncomputable section

namespace Cert.Proof.Couple

open Cert.Proof.KRun Cert.Proof.Rows Cert.Proof.RefRead
open Cert.ReferenceIdeal.Step (State b9 b1 b23 b28 b56 b64 b84 b107 b112 b145 b148 b151 b154 A_main_v0 A_main_v2 A_main_v3 A_main_v4 A_main_v5 A_main_v6 A_main_v7 A_main_v8 K_main_v9 K_main_v11 K_main_v12 K_main_v13 R_main_v15 R_main_v16 R_main_v17)
open Idealize.ShloMosaic Idealize.ShloMosaic.TcCoe

/-- Both programs' constants are the same arguments, some of them transposed; the embeddings and the query weights are real. -/
structure Args (K : KC Ideal) (r : State Ideal) : Prop where
  emb : ∀ (b : Fin 128) (n : Fin 256) (k : Fin 128), r.main_v14_1 (ix3 b n k) = K.X0 (ix3 b n k)
  tr : ∀ (b : Fin 128) (k : Fin 128) (n : Fin 256), K.X1 (ix3 b k n) = K.X0 (ix3 b n k)
  query : ∀ x k : Fin 128, K.X2 (ix2 x k) = r.main_v14_0 (ix2 k x)
  wih : ∀ (x : Fin 128) (n : Fin 384), K.X5 (ix2 x n) = r.main_v14_3 (ix2 n x)
  whh : ∀ (x : Fin 128) (n : Fin 384), K.X6 (ix2 x n) = r.main_v14_5 (ix2 n x)
  bih : ∀ n : Fin 384, K.X7 (ix2 0 n) = r.main_v14_4 (ix1 n)
  bhh : ∀ n : Fin 384, K.X8 (ix2 0 n) = r.main_v14_6 (ix1 n)
  embReal : ∀ (b : Fin 128) (n : Fin 256) (k : Fin 128), ∃ x : ℝ, K.X0 (ix3 b n k) = x
  queryReal : ∀ x k : Fin 128, ∃ y : ℝ, K.X2 (ix2 x k) = y

/-- The two states before step `n`: the same hidden state, the same nodes visited, at most `n` of them in a row; the same choices made so far;
    the kernel's sums are the sums of the reference's rows, which are zero from row `n` on. -/
structure Cpl (K : KC Ideal) (s : KS Ideal) (r : State Ideal) (n : ℕ) : Prop where
  args : Args K r
  hid : ∀ b k : Fin 128, s.hid (ix2 b k) = r.main_v14_8 (ix2 b k)
  hidReal : ∀ b k : Fin 128, ∃ x : ℝ, s.hid (ix2 b k) = x
  vis : ∀ (b : Fin 128) (k : Fin 256), (r.main_v14_9 (ix2 b k) = 1#1 ∧ s.vis (ix2 b k) = 1) ∨ (r.main_v14_9 (ix2 b k) = 0#1 ∧ s.vis (ix2 b k) = 0)
  few : ∀ b : Fin 128, (Finset.univ.filter fun k : Fin 256 => r.main_v14_9 (ix2 b k) = 1#1).card ≤ n
  tours : ∀ (b : Fin 128) (k : Fin 256), k.val < n → s.tours (ix2 b k) = r.main_v14_10 (ix2 k b)
  lp : ∀ b : Fin 128, s.lp (ix2 b 0) = ∑ x : Fin 256, r.main_v14_11 (ix2 x b)
  lpZero : ∀ (b : Fin 128) (k : Fin 256), n ≤ k.val → r.main_v14_11 (ix2 k b) = (0 : EReal)
  ent : ∀ b : Fin 128, s.ent (ix2 b 0) = ∑ x : Fin 256, r.main_v14_12 (ix2 x b)
  entZero : ∀ (b : Fin 128) (k : Fin 256), n ≤ k.val → r.main_v14_12 (ix2 k b) = (0 : EReal)

theorem half_val : Ideal.ofBits FTy.f32 1056964608#32 = ((1 / 2 : ℝ) : EReal) := by
  simp [Ideal.ofBits, Ideal.ieee]
  rw [← EReal.coe_mul]
  norm_num

/-- A finite sum of products of reals is real. -/
theorem sum_real {ι : Type} [Fintype ι] (f g : ι → EReal) (hf : ∀ x, ∃ y : ℝ, f x = y) (hg : ∀ x, ∃ y : ℝ, g x = y) :
    ∃ y : ℝ, ∑ x, f x * g x = y := by
  choose u hu using hf
  choose v hv using hg
  exact ⟨∑ x, u x * v x, by rw [← coe_sum]; exact Finset.sum_congr rfl fun x _ => by rw [hu, hv, ← EReal.coe_mul]⟩

/-- A sum over rows after row `n`, zero before, is set to `v`. -/
theorem sum_set (f g : Fin 256 → EReal) (n : ℕ) (hn : n < 256) (v : EReal) (h0 : f ⟨n, hn⟩ = 0)
    (h : ∀ x : Fin 256, g x = if x.val = n then v else f x) : ∑ x, g x = ∑ x, f x + v := by
  have e : ∀ x : Fin 256, g x = f x + if x = ⟨n, hn⟩ then v else 0 := fun x => by
    rw [h]
    by_cases hx : x = ⟨n, hn⟩
    · subst hx
      rw [if_pos rfl, if_pos rfl, h0, zero_add]
    · rw [if_neg (fun q => hx (Fin.ext q)), if_neg hx, add_zero]
  rw [Finset.sum_congr rfl fun x _ => e x, Finset.sum_add_distrib, Finset.sum_ite_eq' Finset.univ, if_pos (Finset.mem_univ _)]

section Step
variable {K : KC Ideal} {s : KS Ideal} {r : State Ideal} {n : ℕ} (C : Cpl K s r n)
include C

theorem query_eq (b k : Fin 128) : kq K s (ix2 b k) = b1 n r (ix2 b k) := by
  rw [kq_read, b1_read]
  exact Finset.sum_congr rfl fun x _ => by rw [C.hid, C.args.query]

/-- The kernel's step is one over the reals. -/
theorem realStep : ∃ (E : Fin 128 → Fin 256 → ℕ → ℝ) (q : Fin 128 → ℕ → ℝ), RealStep K s E q := by
  choose e he using C.args.embReal
  have hq : ∀ b k : Fin 128, ∃ y : ℝ, kq K s (ix2 b k) = y := fun b k => by
    rw [kq_read]
    exact sum_real _ _ (fun x => C.hidReal b x) (fun x => C.args.queryReal x k)
  choose q hq using hq
  refine ⟨fun b n k => if h : k < 128 then e b n ⟨k, h⟩ else 0, fun b k => if h : k < 128 then q b ⟨k, h⟩ else 0, ⟨?_, C.args.tr, ?_⟩⟩
  · intro b n k
    rw [dif_pos k.isLt]
    exact he b n k
  · intro b k
    rw [dif_pos k.isLt]
    exact hq b k

theorem marked_iff (b : Fin 128) (k : Fin 256) : Marked s b k ↔ r.main_v14_9 (ix2 b k) = 1#1 := by
  rcases C.vis b k with ⟨h1, h2⟩ | ⟨h1, h2⟩
  · rw [Marked, h1, h2, half_val]
    exact iff_of_true (by rw [← EReal.coe_one, EReal.coe_lt_coe_iff]; norm_num) rfl
  · rw [Marked, h1, h2, half_val]
    exact iff_of_false (by rw [← EReal.coe_zero, EReal.coe_lt_coe_iff]; norm_num) (by decide)

/-- Before the last step some node of the row is left. -/
theorem free (hn : n < 256) (b : Fin 128) : ∃ k : Fin 256, ¬ Marked s b k := by
  by_contra h
  push Not at h
  have hf : (Finset.univ.filter fun k : Fin 256 => r.main_v14_9 (ix2 b k) = 1#1) = Finset.univ :=
    Finset.filter_true_of_mem fun k _ => (marked_iff C b k).mp (h k)
  have := C.few b
  rw [hf, Finset.card_univ, Fintype.card_fin] at this
  omega

/-- Both sides have the same masked scores. -/
theorem scores_eq (b : Fin 128) : smR K s b = rR n r b := by
  funext k
  rw [smR_raw, rR_read]
  by_cases h : Marked s b k
  · rw [if_pos h, if_pos ((marked_iff C b k).mp h)]
  · rw [if_neg h, if_neg (fun q => h ((marked_iff C b k).mpr q))]
    congr 1
    exact Finset.sum_congr rfl fun x _ => by rw [query_eq C, C.args.tr, C.args.emb, mul_comm]

theorem row (hn : n < 256) (b : Fin 128) : Soft.Row (rR n r b) (c1 K s b) := by
  obtain ⟨E, q, H⟩ := realStep C
  obtain ⟨k, hk⟩ := free C hn b
  exact scores_eq C b ▸ row_soft K s H b k hk

/-- Both sides choose the same node. -/
theorem pick (hn : n < 256) (b : Fin 128) : b28 n r (ix1 b) = BitVec.ofNat 32 (c1 K s b).val := b28_read n r (row C hn b)

theorem kidx_eq (hn : n < 256) (b : Fin 128) : kidx K s (rows K.X0 (c1 K s) (c2 K s)) (ix2 b 0) = b28 n r (ix1 b) := by
  obtain ⟨E, q, H⟩ := realStep C
  obtain ⟨k, hk⟩ := free C hn b
  rw [pick C hn]
  exact kidx_read K s H b k hk

theorem klogp_eq (hn : n < 256) (b : Fin 128) : klogp K s (rows K.X0 (c1 K s) (c2 K s)) (ix2 b 0) = b56 n r (ix1 b) := by
  obtain ⟨E, q, H⟩ := realStep C
  obtain ⟨k, hk⟩ := free C hn b
  rw [klogp_read, b56_read n r (row C hn b), b23_read n r (row C hn b).fm, kp_read K s H b k hk, scores_eq C]

theorem kent_eq (hn : n < 256) (b : Fin 128) : kent K s (ix2 b 0) = b64 n r (ix1 b) := by
  rw [kent_read, b64_read, scores_eq C]
  congr 1
  exact Finset.sum_congr rfl fun x _ => by rw [b23_read n r (row C hn b).fm]

theorem khid_eq (hn : n < 256) (b k : Fin 128) : khid K s (rows K.X0 (c1 K s) (c2 K s)) (ix2 b k) = b145 n r (ix2 b k) := by
  obtain ⟨E, q, H⟩ := realStep C
  obtain ⟨k', hk⟩ := free C hn b
  have g : ∀ m : Fin 384, ∑ x, K.X0 (ix3 b (c1 K s b) x) * K.X5 (ix2 x m) + K.X7 (ix2 0 m) = b107 n r (ix2 b m) := fun m => by
    rw [b107_read n r (row C hn b), C.args.bih, Finset.sum_congr rfl fun x _ => by rw [← C.args.emb, C.args.wih]]
  have h : ∀ m : Fin 384, ∑ x, s.hid (ix2 b x) * K.X6 (ix2 x m) + K.X8 (ix2 0 m) = b112 n r (ix2 b m) := fun m => by
    rw [b112_read, C.args.bhh, Finset.sum_congr rfl fun x _ => by rw [C.hid, C.args.whh]]
  rw [khid_read K s _ _ b k (kwin_read K s H b k' hk), b145_read, g, g, g, h, h, h, C.hid]

theorem hid_real (hn : n < 256) (b k : Fin 128) : ∃ x : ℝ, b145 n r (ix2 b k) = x := by
  obtain ⟨x, hx⟩ := C.hidReal b k
  rw [b145_read, ← C.hid, hx]
  exact Soft.gru_real _ _ _ _ _ _ x

theorem seen (hn : n < 256) (b : Fin 128) (k : Fin 256) :
    b84 n r (ix2 b k) = if k = c1 K s b then 1#1 else r.main_v14_9 (ix2 b k) :=
  RefIndex.b84_read n r (c1 K s) (pick C hn) b k

/-- One step of each keeps what they have in common. -/
theorem next (hn : n < 256) : Cpl K (kStep K s n) (Cert.ReferenceIdeal.Step.step n r) (n + 1) := by
  have ei : iOf K s = c1 K s := funext fun b => iOf_eq K s b
  have ej : jOf K s = c2 K s := funext fun b => jOf_eq K s b
  unfold kStep
  rw [ei, ej]
  have f9 : ∀ (b : Fin 128) (k : Fin 256), (Cert.ReferenceIdeal.Step.step n r).main_v14_9 (ix2 b k) = b84 n r (ix2 b k) :=
    fun b k => congrFun (Cert.ReferenceIdeal.Step.step_main_v14_9 n r) _
  have g9 : (kStepR K s (rows K.X0 (c1 K s) (c2 K s)) n).vis = Cert.KernelIdeal.Gen.k0_pay45 iot s.vis (kidx K s (rows K.X0 (c1 K s) (c2 K s))) := by
    simp only [kStepR]
  refine ⟨?_, ?_, ?_, ?_, ?_, ?_, ?_, ?_, ?_, ?_⟩
  · exact ⟨C.args.emb, C.args.tr, C.args.query, C.args.wih, C.args.whh, C.args.bih, C.args.bhh, C.args.embReal, C.args.queryReal⟩
  · exact khid_eq C hn
  · intro b k
    obtain ⟨x, hx⟩ := hid_real C hn b k
    exact ⟨x, (khid_eq C hn b k).trans hx⟩
  · intro b k
    have e1 := vis_read s (kidx K s (rows K.X0 (c1 K s) (c2 K s))) b (c1 K s b) k ((kidx_eq C hn b).trans (pick C hn b))
    have e2 := (f9 b k).trans (seen C hn b k)
    rw [← g9] at e1
    by_cases h : k = c1 K s b
    · rw [if_pos h] at e1 e2
      refine Or.inl ⟨e2, e1.trans ?_⟩
      rcases C.vis b k with ⟨_, h2⟩ | ⟨_, h2⟩
      · rw [h2, max_self]
      · rw [h2]; exact max_eq_right zero_le_one
    · rw [if_neg h] at e1 e2
      rcases C.vis b k with ⟨h1, h2⟩ | ⟨h1, h2⟩
      · exact Or.inl ⟨e2.trans h1, e1.trans (by rw [h2]; exact max_eq_left zero_le_one)⟩
      · exact Or.inr ⟨e2.trans h1, e1.trans (by rw [h2, max_self])⟩
  · intro b
    refine le_trans (Finset.card_le_card ?_) ((Finset.card_insert_le (c1 K s b) _).trans (Nat.succ_le_succ (C.few b)))
    intro k hk
    have hk := (f9 b k).symm.trans (Finset.mem_filter.mp hk).2
    rw [seen C hn] at hk
    by_cases h : k = c1 K s b
    · exact h ▸ Finset.mem_insert_self _ _
    · rw [if_neg h] at hk
      exact Finset.mem_insert_of_mem (Finset.mem_filter.mpr ⟨Finset.mem_univ _, hk⟩)
  · intro b k hk
    refine (pay6_read n hn _ _ b k).trans (Eq.trans ?_ (b148_read n r hn k b).symm)
    by_cases h : k.val = n
    · rw [if_pos h, if_pos h]
      exact kidx_eq C hn b
    · rw [if_neg h, if_neg h]
      exact C.tours b k (by omega)
  · intro b
    refine (lp_read _ _ b).trans (Eq.symm ?_)
    refine (sum_set (fun x => r.main_v14_11 (ix2 x b)) _ n hn _ (C.lpZero b ⟨n, hn⟩ (le_refl _)) fun x => b151_read n r hn x b).trans ?_
    rw [C.lp, klogp_eq C hn]
  · intro b k hk
    exact (b151_read n r hn k b).trans (by rw [if_neg (by omega)]; exact C.lpZero b k (by omega))
  · intro b
    refine (ent_read _ _ b).trans (Eq.symm ?_)
    refine (sum_set (fun x => r.main_v14_12 (ix2 x b)) _ n hn _ (C.entZero b ⟨n, hn⟩ (le_refl _)) fun x => b154_read n r hn x b).trans ?_
    rw [C.ent, kent_eq C hn]
  · intro b k hk
    exact (b154_read n r hn k b).trans (by rw [if_neg (by omega)]; exact C.entZero b k (by omega))

end Step

/-- The two loops side by side. -/
theorem iter (K : KC Ideal) (s0 : KS Ideal) (it : ℕ → State Ideal) (h0 : Cpl K s0 (it 0) 0)
    (hs : ∀ n, it (n + 1) = Cert.ReferenceIdeal.Step.step n (it n)) : ∀ n, n ≤ 256 → Cpl K (kIter K s0 n) (it n) n := by
  intro n
  induction n with
  | zero => exact fun _ => h0
  | succ n ih =>
    intro hn
    rw [hs]
    exact next (ih (by omega)) (by omega)

section Start
variable (K : KC Ideal) (a0 : (⟨Cert.ReferenceIdeal.S128x256x128, .f32⟩ : BufTy).Contents (Elt Ideal)) (a2 : (⟨Cert.ReferenceIdeal.S128x128, .f32⟩ : BufTy).Contents (Elt Ideal))
  (a3 : (⟨Cert.ReferenceIdeal.S128, .f32⟩ : BufTy).Contents (Elt Ideal))

theorem kstart (b k : Fin 128) : Cert.KernelIdeal.Gen.k0_pay1 K.X0 K.X3 K.X4 (ix2 b k)
    = Ideal.tanh (∑ x, Ideal.div (∑ y, K.X0 (ix3 b y x)) (Ideal.ofBits .f32 1132462080#32) * K.X3 (ix2 x k) + K.X4 (ix2 0 k)) := by
  unfold Cert.KernelIdeal.Gen.k0_pay1
  pointwise
theorem rstart (b k : Fin 128) : A_main_v8 (F := Ideal) a0 a2 a3 (ix2 b k)
    = Ideal.tanh (∑ x, Ideal.div (∑ y, a0 (ix3 b y x)) (Ideal.ofBits .f32 1132462080#32) * a2 (ix2 k x) + a3 (ix1 k)) := by
  unfold A_main_v8 A_main_v7 A_main_v6 A_main_v5 A_main_v4 A_main_v3 A_main_v2 A_main_v0 Cert.ReferenceIdeal.Step.K_main_cst Cert.ReferenceIdeal.Step.K_main_v1 Cert.ReferenceIdeal.Step.K_main_cst_0
  pointwise
theorem kvis0 (b : Fin 128) (k : Fin 256) : Cert.KernelIdeal.Gen.k0_pay2 (F := Ideal) (ix2 b k) = (0 : EReal) := by
  unfold Cert.KernelIdeal.Gen.k0_pay2
  pointwise
theorem klp0 (b : Fin 128) : Cert.KernelIdeal.Gen.k0_pay3 (F := Ideal) (ix2 b 0) = (0 : EReal) := by
  unfold Cert.KernelIdeal.Gen.k0_pay3
  pointwise
theorem kent0 (b : Fin 128) : Cert.KernelIdeal.Gen.k0_pay4 (F := Ideal) (ix2 b 0) = (0 : EReal) := by
  unfold Cert.KernelIdeal.Gen.k0_pay4
  pointwise
theorem rvis0 (b : Fin 128) (k : Fin 256) : K_main_v9 (F := Ideal) (ix2 b k) = 0#1 := by
  unfold K_main_v9 Cert.ReferenceIdeal.Step.K_main_c
  pointwise
theorem rlp0 (b : Fin 128) (k : Fin 256) : K_main_v12 (F := Ideal) (ix2 k b) = (0 : EReal) := by
  unfold K_main_v12 Cert.ReferenceIdeal.Step.K_main_cst_2
  pointwise
theorem rent0 (b : Fin 128) (k : Fin 256) : K_main_v13 (F := Ideal) (ix2 k b) = (0 : EReal) := by
  unfold K_main_v13 Cert.ReferenceIdeal.Step.K_main_cst_3
  pointwise

/-- The two loops start alike. -/
theorem start (T : Vec Ideal Cert.KernelIdeal.S128x256 .i32) (a1 a4 a6 a5 a7) (A : Args K (Cert.ReferenceIdeal.Step.init a1 a0 a4 a6 a5 a7 a2 a3))
    (h3 : ∀ x k : Fin 128, K.X3 (ix2 x k) = a2 (ix2 k x)) (h4 : ∀ k : Fin 128, K.X4 (ix2 0 k) = a3 (ix1 k)) :
    Cpl K (kInit K T) (Cert.ReferenceIdeal.Step.init a1 a0 a4 a6 a5 a7 a2 a3) 0 := by
  refine ⟨A, ?_, ?_, ?_, ?_, ?_, ?_, ?_, ?_, ?_⟩
  · intro b k
    refine (kstart K b k).trans (Eq.trans ?_ (rstart a0 a2 a3 b k).symm)
    have e : ∀ x y, a0 (ix3 b y x) = K.X0 (ix3 b y x) := fun x y => A.emb b y x
    simp only [h3, h4, e]
  · intro b k
    obtain ⟨x, hx⟩ := Soft.tanh_real (∑ x, Ideal.div (∑ y, K.X0 (ix3 b y x)) (Ideal.ofBits .f32 1132462080#32) * K.X3 (ix2 x k) + K.X4 (ix2 0 k))
    exact ⟨x, (kstart K b k).trans hx⟩
  · exact fun b k => Or.inr ⟨rvis0 b k, kvis0 b k⟩
  · intro b
    refine le_of_eq (Finset.card_eq_zero.mpr (Finset.filter_eq_empty_iff.mpr fun k _ h => ?_))
    exact absurd ((rvis0 b k).symm.trans h) (by decide)
  · exact fun b k hk => absurd hk (by omega)
  · exact fun b => (klp0 b).trans (Finset.sum_eq_zero fun x _ => rlp0 b x).symm
  · exact fun b k _ => rlp0 b k
  · exact fun b => (kent0 b).trans (Finset.sum_eq_zero fun x _ => rent0 b x).symm
  · exact fun b k _ => rent0 b k

end Start

section Results
variable (r : State Ideal)
theorem tours_read (b : Fin 128) (k : Fin 256) : R_main_v15 r (ix2 b k) = r.main_v14_10 (ix2 k b) := by
  unfold R_main_v15
  pointwise
theorem logp_read (b : Fin 128) : R_main_v16 r (ix1 b) = ∑ x : Fin 256, r.main_v14_11 (ix2 x b) := by
  unfold R_main_v16
  pointwise
theorem entropy_read (b : Fin 128) : R_main_v17 r (ix1 b) = ∑ x : Fin 256, r.main_v14_12 (ix2 x b) := by
  unfold R_main_v17
  pointwise
end Results

end Cert.Proof.Couple

end
-- ==== Proof.Pre.lean ====
module

public import proofs.«01_k».proof.Pre_finite_args
public import Idealize.ShloMosaic.Lib.ReduceAll
public import Idealize.ShloMosaic.Lib.Affine
public import Idealize.ShloMosaic.Lib.Decide
public import Idealize.ShloMosaic.Lib.Pointwise

/-! # The precondition: over the extended reals a finite entry is a real number -/

@[expose] public section

noncomputable section

namespace Cert.Proof.Pre

open Cert.Pre_finite_args
open Idealize.ShloMosaic Idealize.ShloMosaic.TcCoe

/-- The precondition's side conditions. -/
theorem facts : Cert.Pre_finite_args.Facts where
  bcast_S_S128x256x128 := by decide
  reducesTo_S128x256x128_S_d0_1_2 := by decide
  h_S_ := by decide
  bcast_S_S128x128 := by decide
  reducesTo_S128x128_S_d0_1 := by decide

instance : Subsingleton S_.Idx := ⟨fun a b => funext fun i => i.elim0⟩

theorem inf_val : Ideal.ofBits FTy.f32 2139095040#32 = (⊤ : EReal) := by simp [Ideal.ofBits, Ideal.ieee]

/-- Below infinity in absolute value: a real number. -/
theorem real_of_abs (x : EReal) (h : max x (-x) < ⊤) : ∃ y : ℝ, x = y := by
  induction x with
  | bot => simp at h
  | top => simp at h
  | coe y => exact ⟨y, rfl⟩

/-- `finite_args`, of one array. -/
theorem real_of_all {s : Shape} (x : FVec Ideal s .f32) {axes : List (Fin s.rank)} (hb : S_.BroadcastsInDim s (![] : Fin 0 → Fin s.rank)) (hr : s.ReducesTo axes S_) (hu : 0 < S_.numel) (j : S_.Idx)
    (h : Host.reduce IntOp.andi (cmpf .olt (Host.absf x) (broadcastInDim s ![] hb (constant S_ .f32 0x7F800000#32))) (constantI S_ 1 1#1) hr hu j = 1#1)
    (i : s.Idx) : ∃ y : ℝ, x i = y := by
  have e := Host.reduce_andi_all _ _ _ _ _ h i
  have e' : BitVec.ofBool (decide (max (x i) (-x i) < Ideal.ofBits FTy.f32 2139095040#32)) = 1#1 := e
  rw [inf_val] at e'
  refine real_of_abs (x i) ?_
  by_contra hc
  rw [decide_eq_false hc] at e'
  exact absurd e' (by decide)

variable [hPre : Facts]

/-- Where the precondition holds, the node embeddings and the query weights are real numbers. -/
theorem args_real (a0 : FVec Ideal S128x256x128 .f32) (a1 a2 : FVec Ideal S128x128 .f32) (a3 : FVec Ideal S128 .f32) (a4 a5 : FVec Ideal S384x128 .f32) (a6 a7 : FVec Ideal S384 .f32)
    (h : fn (F := Ideal) a0 a1 a2 a3 a4 a5 a6 a7 = fun _ => 1#1) : (∀ i, ∃ y : ℝ, a0 i = y) ∧ ∀ i, ∃ y : ℝ, a1 i = y := by
  obtain ⟨h0, h1⟩ := IntOp.andi_eq_one.mp (congrFun h (Shape.Idx.first Facts.h_S_))
  exact ⟨fun i => real_of_all a0 _ _ _ _ h0 i, fun i => real_of_all a1 _ _ _ _ h1 i⟩

end Cert.Proof.Pre

end
-- ==== Proof.RefStepAl.lean ====
/- Each window of the reference's loop body leaves in its buffers the values that the standalone step names. The
   declarations follow, in form, the step modules that are generated for reference programs; they were written out
   mechanically by an adapted copy of that generator and then adapted by hand. -/
module

public import proofs.«01_k».proof.Proof.RefRunC
public import proofs.«01_k».proof.Proof.RefStep

@[expose] public section

noncomputable section

namespace Cert.ReferenceIdeal.StepRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_8 : V0 (Proc.devRef .tc main_v14_8) = s.main_v14_8
  f_9 : V0 (Proc.devRef .tc main_v14_9) = s.main_v14_9
  f_10 : V0 (Proc.devRef .tc main_v14_10) = s.main_v14_10
  f_11 : V0 (Proc.devRef .tc main_v14_11) = s.main_v14_11
  f_12 : V0 (Proc.devRef .tc main_v14_12) = s.main_v14_12
  f_0 : V0 (Proc.devRef .tc main_v14_0) = s.main_v14_0
  f_1 : V0 (Proc.devRef .tc main_v14_1) = s.main_v14_1
  f_3 : V0 (Proc.devRef .tc main_v14_3) = s.main_v14_3
  f_4 : V0 (Proc.devRef .tc main_v14_4) = s.main_v14_4
  f_5 : V0 (Proc.devRef .tc main_v14_5) = s.main_v14_5
  f_6 : V0 (Proc.devRef .tc main_v14_6) = s.main_v14_6
  n_7 : V0 (Proc.devRef .tc main_v14_7) = constantI S_ 32 (BitVec.ofNat 32 j)
  k_2 : V0 (Proc.devRef .tc main_v14_2) = Cert.ReferenceIdeal.Step.K_main_v10 (F := F)

variable {V0 s j}

set_option maxRecDepth 8192 in
theorem al_0 (h : Holds V0 s j) : (transpose S128x128 [1, 0] (V0 (Proc.devRef .tc main_v14_0)) transposes_S128x128_S128x128_1_0 : (Proc.devRef .tc main_while0b_v18 : DevRef τ sig).ty.Contents (Elt F)) = Cert.ReferenceIdeal.Step.b0 j s := by
  unfold Cert.ReferenceIdeal.Step.b0
  rw [h.f_0]
  try rfl
set_option maxRecDepth 8192 in
theorem al_1 (h : Holds V0 s j) : (Host.dotGeneral dot_S128x128_S128x128_S128x128_1_0_0_1_n_n none (V0 (Proc.devRef .tc main_v14_8)) (transpose S128x128 [1, 0] (V0 (Proc.devRef .tc main_v14_0)) transposes_S128x128_S128x128_1_0) : (Proc.devRef .tc main_while0b_v19 : DevRef τ sig).ty.Contents (Elt F)) = Cert.ReferenceIdeal.Step.b1 j s := by
  unfold Cert.ReferenceIdeal.Step.b1
  rw [← al_0 h, h.f_8]
  try rfl
set_option maxRecDepth 8192 in
theorem al_2 (h : Holds V0 s j) : (Host.dotGeneral dot_S128x128_S128x256x128_S128x256_1_2_n_1_0_0 none (Host.dotGeneral dot_S128x128_S128x128_S128x128_1_0_0_1_n_n none (V0 (Proc.devRef .tc main_v14_8)) (transpose S128x128 [1, 0] (V0 (Proc.devRef .tc main_v14_0)) transposes_S128x128_S128x128_1_0)) (V0 (Proc.devRef .tc main_v14_1)) : (Proc.devRef .tc main_while0b_v20 : DevRef τ sig).ty.Contents (Elt F)) = Cert.ReferenceIdeal.Step.b2 j s := by
  unfold Cert.ReferenceIdeal.Step.b2
  rw [← al_1 h, h.f_1]
  try rfl
set_option maxRecDepth 8192 in
theorem al_3 (h : Holds V0 s j) : (constant S_ .f32 0x413504F3#32 : (Proc.devRef .tc main_while0b_cst_19 : DevRef τ sig).ty.Contents (Elt F)) = Cert.ReferenceIdeal.Step.b3 j s := by
  unfold Cert.ReferenceIdeal.Step.b3
  rfl
set_option maxRecDepth 8192 in
theorem al_4 (h : Holds V0 s j) : (broadcastInDim S128x256 ![] bcast_S_S128x256 (constant S_ .f32 0x413504F3#32) : (Proc.devRef .tc main_while0b_v21 : DevRef τ sig).ty.Contents (Elt F)) = Cert.ReferenceIdeal.Step.b4 j s := by
  unfold Cert.ReferenceIdeal.Step.b4
  rw [← al_3 h]
  try rfl
set_option maxRecDepth 8192 in
theorem al_5 (h : Holds V0 s j) : (Host.divf (Host.dotGeneral dot_S128x128_S128x256x128_S128x256_1_2_n_1_0_0 none (Host.dotGeneral dot_S128x128_S128x128_S128x128_1_0_0_1_n_n none (V0 (Proc.devRef .tc main_v14_8)) (transpose S128x128 [1, 0] (V0 (Proc.devRef .tc main_v14_0)) transposes_S128x128_S128x128_1_0)) (V0 (Proc.devRef .tc main_v14_1))) (broadcastInDim S128x256 ![] bcast_S_S128x256 (constant S_ .f32 0x413504F3#32)) : (Proc.devRef .tc main_while0b_v22 : DevRef τ sig).ty.Contents (Elt F)) = Cert.ReferenceIdeal.Step.b5 j s := by
  unfold Cert.ReferenceIdeal.Step.b5
  rw [← al_2 h, ← al_4 h]
  try rfl
set_option maxRecDepth 8192 in
theorem al_6 (h : Holds V0 s j) : (constant S_ .f32 0xFF800000#32 : (Proc.devRef .tc main_while0b_cst_20 : DevRef τ sig).ty.Contents (Elt F)) = Cert.ReferenceIdeal.Step.b6 j s := by
  unfold Cert.ReferenceIdeal.Step.b6
  rfl
set_option maxRecDepth 8192 in
theorem al_7 (h : Holds V0 s j) : (id (constant S_ .f32 0xFF800000#32) : (Proc.devRef .tc main_while0b_call0_v0 : DevRef τ sig).ty.Contents (Elt F)) = Cert.ReferenceIdeal.Step.b7 j s := by
  unfold Cert.ReferenceIdeal.Step.b7
  rw [← al_6 h]
  try rfl
set_option maxRecDepth 8192 in
theorem al_8 (h : Holds V0 s j) : (broadcastInDim S128x256 ![] bcast_S_S128x256 (id (constant S_ .f32 0xFF800000#32)) : (Proc.devRef .tc main_while0b_call0_v1 : DevRef τ sig).ty.Contents (Elt F)) = Cert.ReferenceIdeal.Step.b8 j s := by
  unfold Cert.ReferenceIdeal.Step.b8
  rw [← al_7 h]
  try rfl
set_option maxRecDepth 8192 in
theorem al_9 (h : Holds V0 s j) : (res_main_while0b_v23 V0 : (Proc.devRef .tc main_while0b_v23 : DevRef τ sig).ty.Contents (Elt F)) = Cert.ReferenceIdeal.Step.b9 j s := by
  unfold res_main_while0b_v23 Cert.ReferenceIdeal.Step.b9
  rw [← al_8 h, ← al_5 h, h.f_9]
  try rfl
set_option maxRecDepth 8192 in
theorem al_10 (h : Holds V0 s j) : (constant S_ .f32 0xFF800000#32 : (Proc.devRef .tc main_while0b_cst_21 : DevRef τ sig).ty.Contents (Elt F)) = Cert.ReferenceIdeal.Step.b10 j s := by
  unfold Cert.ReferenceIdeal.Step.b10
  rfl
set_option maxRecDepth 8192 in
theorem al_11 (h : Holds V0 s j) : (Host.reduce FloatOps.maximumf (res_main_while0b_v23 V0) (constant S_ .f32 0xFF800000#32) reducesTo_S128x256_S128_d1 h_S_ : (Proc.devRef .tc main_while0b_v24 : DevRef τ sig).ty.Contents (Elt F)) = Cert.ReferenceIdeal.Step.b11 j s := by
  unfold Cert.ReferenceIdeal.Step.b11
  rw [← al_9 h, ← al_10 h]
  try rfl
set_option maxRecDepth 8192 in
theorem al_12 (h : Holds V0 s j) : (constant S_ .f32 0xFF800000#32 : (Proc.devRef .tc main_while0b_cst_22 : DevRef τ sig).ty.Contents (Elt F)) = Cert.ReferenceIdeal.Step.b12 j s := by
  unfold Cert.ReferenceIdeal.Step.b12
  rfl
set_option maxRecDepth 8192 in
theorem al_13 (h : Holds V0 s j) : (broadcastInDim S128 ![] bcast_S_S128 (constant S_ .f32 0xFF800000#32) : (Proc.devRef .tc main_while0b_v25 : DevRef τ sig).ty.Contents (Elt F)) = Cert.ReferenceIdeal.Step.b13 j s := by
  unfold Cert.ReferenceIdeal.Step.b13
  rw [← al_12 h]
  try rfl
set_option maxRecDepth 8192 in
theorem al_14 (h : Holds V0 s j) : (maximumf (broadcastInDim S128 ![] bcast_S_S128 (constant S_ .f32 0xFF800000#32)) (Host.reduce FloatOps.maximumf (res_main_while0b_v23 V0) (constant S_ .f32 0xFF800000#32) reducesTo_S128x256_S128_d1 h_S_) : (Proc.devRef .tc main_while0b_v26 : DevRef τ sig).ty.Contents (Elt F)) = Cert.ReferenceIdeal.Step.b14 j s := by
  unfold Cert.ReferenceIdeal.Step.b14
  rw [← al_13 h, ← al_11 h]
  try rfl
set_option maxRecDepth 8192 in
theorem al_15 (h : Holds V0 s j) : (broadcastInDim S128x1 ![0] bcast_S128_S128x1_0 (maximumf (broadcastInDim S128 ![] bcast_S_S128 (constant S_ .f32 0xFF800000#32)) (Host.reduce FloatOps.maximumf (res_main_while0b_v23 V0) (constant S_ .f32 0xFF800000#32) reducesTo_S128x256_S128_d1 h_S_)) : (Proc.devRef .tc main_while0b_v27 : DevRef τ sig).ty.Contents (Elt F)) = Cert.ReferenceIdeal.Step.b15 j s := by
  unfold Cert.ReferenceIdeal.Step.b15
  rw [← al_14 h]
  try rfl
set_option maxRecDepth 8192 in
theorem al_16 (h : Holds V0 s j) : (broadcastInDim S128x256 ![0, 1] bcast_S128x1_S128x256_0_1 (broadcastInDim S128x1 ![0] bcast_S128_S128x1_0 (maximumf (broadcastInDim S128 ![] bcast_S_S128 (constant S_ .f32 0xFF800000#32)) (Host.reduce FloatOps.maximumf (res_main_while0b_v23 V0) (constant S_ .f32 0xFF800000#32) reducesTo_S128x256_S128_d1 h_S_))) : (Proc.devRef .tc main_while0b_v28 : DevRef τ sig).ty.Contents (Elt F)) = Cert.ReferenceIdeal.Step.b16 j s := by
  unfold Cert.ReferenceIdeal.Step.b16
  rw [← al_15 h]
  try rfl
set_option maxRecDepth 8192 in
theorem al_17 (h : Holds V0 s j) : (subf (res_main_while0b_v23 V0) (broadcastInDim S128x256 ![0, 1] bcast_S128x1_S128x256_0_1 (broadcastInDim S128x1 ![0] bcast_S128_S128x1_0 (maximumf (broadcastInDim S128 ![] bcast_S_S128 (constant S_ .f32 0xFF800000#32)) (Host.reduce FloatOps.maximumf (res_main_while0b_v23 V0) (constant S_ .f32 0xFF800000#32) reducesTo_S128x256_S128_d1 h_S_)))) : (Proc.devRef .tc main_while0b_v29 : DevRef τ sig).ty.Contents (Elt F)) = Cert.ReferenceIdeal.Step.b17 j s := by
  unfold Cert.ReferenceIdeal.Step.b17
  rw [← al_9 h, ← al_16 h]
  try rfl
set_option maxRecDepth 8192 in
theorem al_18 (h : Holds V0 s j) : (res_main_while0b_v30 V0 : (Proc.devRef .tc main_while0b_v30 : DevRef τ sig).ty.Contents (Elt F)) = Cert.ReferenceIdeal.Step.b18 j s := by
  unfold res_main_while0b_v30 Cert.ReferenceIdeal.Step.b18
  rw [← al_17 h]
  try rfl
set_option maxRecDepth 8192 in
theorem al_19 (h : Holds V0 s j) : (constant S_ .f32 0x00000000#32 : (Proc.devRef .tc main_while0b_cst_23 : DevRef τ sig).ty.Contents (Elt F)) = Cert.ReferenceIdeal.Step.b19 j s := by
  unfold Cert.ReferenceIdeal.Step.b19
  rfl
set_option maxRecDepth 8192 in
theorem al_20 (h : Holds V0 s j) : (Host.reduceAdd (res_main_while0b_v30 V0) (constant S_ .f32 0x00000000#32) reducesTo_S128x256_S128_d1 h_S_ : (Proc.devRef .tc main_while0b_v31 : DevRef τ sig).ty.Contents (Elt F)) = Cert.ReferenceIdeal.Step.b20 j s := by
  unfold Cert.ReferenceIdeal.Step.b20
  rw [← al_18 h, ← al_19 h]
  try rfl
set_option maxRecDepth 8192 in
theorem al_21 (h : Holds V0 s j) : (broadcastInDim S128x1 ![0] bcast_S128_S128x1_0 (Host.reduceAdd (res_main_while0b_v30 V0) (constant S_ .f32 0x00000000#32) reducesTo_S128x256_S128_d1 h_S_) : (Proc.devRef .tc main_while0b_v32 : DevRef τ sig).ty.Contents (Elt F)) = Cert.ReferenceIdeal.Step.b21 j s := by
  unfold Cert.ReferenceIdeal.Step.b21
  rw [← al_20 h]
  try rfl
set_option maxRecDepth 8192 in
theorem al_22 (h : Holds V0 s j) : (broadcastInDim S128x256 ![0, 1] bcast_S128x1_S128x256_0_1 (broadcastInDim S128x1 ![0] bcast_S128_S128x1_0 (Host.reduceAdd (res_main_while0b_v30 V0) (constant S_ .f32 0x00000000#32) reducesTo_S128x256_S128_d1 h_S_)) : (Proc.devRef .tc main_while0b_v33 : DevRef τ sig).ty.Contents (Elt F)) = Cert.ReferenceIdeal.Step.b22 j s := by
  unfold Cert.ReferenceIdeal.Step.b22
  rw [← al_21 h]
  try rfl
set_option maxRecDepth 8192 in
theorem al_23 (h : Holds V0 s j) : (res_main_while0b_v34 V0 : (Proc.devRef .tc main_while0b_v34 : DevRef τ sig).ty.Contents (Elt F)) = Cert.ReferenceIdeal.Step.b23 j s := by
  unfold res_main_while0b_v34 Cert.ReferenceIdeal.Step.b23
  rw [← al_18 h, ← al_22 h]
  try rfl
set_option maxRecDepth 8192 in
theorem al_24 (h : Holds V0 s j) : (res_main_while0b_call1_v0 V0 : (Proc.devRef .tc main_while0b_call1_v0 : DevRef τ sig).ty.Contents (Elt F)) = Cert.ReferenceIdeal.Step.b24 j s := by
  unfold res_main_while0b_call1_v0 Cert.ReferenceIdeal.Step.b24
  rfl
set_option maxRecDepth 8192 in
theorem al_25 (h : Holds V0 s j) : (res_main_while0b_call1_cst V0 : (Proc.devRef .tc main_while0b_call1_cst : DevRef τ sig).ty.Contents (Elt F)) = Cert.ReferenceIdeal.Step.b25 j s := by
  unfold res_main_while0b_call1_cst Cert.ReferenceIdeal.Step.b25
  rfl
set_option maxRecDepth 8192 in
theorem al_26 (h : Holds V0 s j) : (res_main_while0b_call1_c V0 : (Proc.devRef .tc main_while0b_call1_c : DevRef τ sig).ty.Contents (Elt F)) = Cert.ReferenceIdeal.Step.b26 j s := by
  unfold res_main_while0b_call1_c Cert.ReferenceIdeal.Step.b26
  rfl
set_option maxRecDepth 8192 in
theorem al_27 (h : Holds V0 s j) : ((fun j => (Host.argReduce reducer_argmax_f32_i32 (res_main_while0b_v34 V0) (res_main_while0b_call1_v0 V0) (res_main_while0b_call1_cst V0) (res_main_while0b_call1_c V0) reducesTo_S128x256_S128_d1 h_S_ j).1) : (Proc.devRef .tc main_while0b_call1_v1_0 : DevRef τ sig).ty.Contents (Elt F)) = Cert.ReferenceIdeal.Step.b27 j s := by
  unfold Cert.ReferenceIdeal.Step.b27
  rw [← al_23 h, ← al_24 h, ← al_25 h, ← al_26 h]
  try rfl
set_option maxRecDepth 8192 in
theorem al_28 (h : Holds V0 s j) : (res_main_while0b_v35 V0 : (Proc.devRef .tc main_while0b_v35 : DevRef τ sig).ty.Contents (Elt F)) = Cert.ReferenceIdeal.Step.b28 j s := by
  unfold res_main_while0b_v35 Cert.ReferenceIdeal.Step.b28
  rw [← al_23 h, ← al_24 h, ← al_25 h, ← al_26 h]
  try rfl
set_option maxRecDepth 8192 in
theorem al_29 (h : Holds V0 s j) : (res_main_while0b_v36 V0 : (Proc.devRef .tc main_while0b_v36 : DevRef τ sig).ty.Contents (Elt F)) = Cert.ReferenceIdeal.Step.b29 j s := by
  unfold res_main_while0b_v36 Cert.ReferenceIdeal.Step.b29
  rw [← al_28 h]
  try rfl
set_option maxRecDepth 8192 in
theorem al_30 (h : Holds V0 s j) : (constantI S_ 32 0#32 : (Proc.devRef .tc main_while0b_call2_c : DevRef τ sig).ty.Contents (Elt F)) = Cert.ReferenceIdeal.Step.b30 j s := by
  unfold Cert.ReferenceIdeal.Step.b30
  rfl
set_option maxRecDepth 8192 in
theorem al_31 (h : Holds V0 s j) : (broadcastInDim S128x1 ![] bcast_S_S128x1 (constantI S_ 32 0#32) : (Proc.devRef .tc main_while0b_call2_v0 : DevRef τ sig).ty.Contents (Elt F)) = Cert.ReferenceIdeal.Step.b31 j s := by
  unfold Cert.ReferenceIdeal.Step.b31
  rw [← al_30 h]
  try rfl
set_option maxRecDepth 8192 in
theorem al_32 (h : Holds V0 s j) : (cmpi .slt (res_main_while0b_v36 V0) (broadcastInDim S128x1 ![] bcast_S_S128x1 (constantI S_ 32 0#32)) : (Proc.devRef .tc main_while0b_call2_v1 : DevRef τ sig).ty.Contents (Elt F)) = Cert.ReferenceIdeal.Step.b32 j s := by
  unfold Cert.ReferenceIdeal.Step.b32
  rw [← al_29 h, ← al_31 h]
  try rfl
set_option maxRecDepth 8192 in
theorem al_33 (h : Holds V0 s j) : (constantI S_ 32 256#32 : (Proc.devRef .tc main_while0b_call2_c_0 : DevRef τ sig).ty.Contents (Elt F)) = Cert.ReferenceIdeal.Step.b33 j s := by
  unfold Cert.ReferenceIdeal.Step.b33
  rfl
set_option maxRecDepth 8192 in
theorem al_34 (h : Holds V0 s j) : (broadcastInDim S128x1 ![] bcast_S_S128x1 (constantI S_ 32 256#32) : (Proc.devRef .tc main_while0b_call2_v2 : DevRef τ sig).ty.Contents (Elt F)) = Cert.ReferenceIdeal.Step.b34 j s := by
  unfold Cert.ReferenceIdeal.Step.b34
  rw [← al_33 h]
  try rfl
set_option maxRecDepth 8192 in
theorem al_35 (h : Holds V0 s j) : (addi (res_main_while0b_v36 V0) (broadcastInDim S128x1 ![] bcast_S_S128x1 (constantI S_ 32 256#32)) : (Proc.devRef .tc main_while0b_call2_v3 : DevRef τ sig).ty.Contents (Elt F)) = Cert.ReferenceIdeal.Step.b35 j s := by
  unfold Cert.ReferenceIdeal.Step.b35
  rw [← al_29 h, ← al_34 h]
  try rfl
set_option maxRecDepth 8192 in
theorem al_36 (h : Holds V0 s j) : (select (cmpi .slt (res_main_while0b_v36 V0) (broadcastInDim S128x1 ![] bcast_S_S128x1 (constantI S_ 32 0#32))) (addi (res_main_while0b_v36 V0) (broadcastInDim S128x1 ![] bcast_S_S128x1 (constantI S_ 32 256#32))) (res_main_while0b_v36 V0) : (Proc.devRef .tc main_while0b_call2_v4 : DevRef τ sig).ty.Contents (Elt F)) = Cert.ReferenceIdeal.Step.b36 j s := by
  unfold Cert.ReferenceIdeal.Step.b36
  rw [← al_32 h, ← al_35 h, ← al_29 h]
  try rfl
set_option maxRecDepth 8192 in
theorem al_37 (h : Holds V0 s j) : (res_main_while0b_call2_v5 V0 : (Proc.devRef .tc main_while0b_call2_v5 : DevRef τ sig).ty.Contents (Elt F)) = Cert.ReferenceIdeal.Step.b37 j s := by
  unfold res_main_while0b_call2_v5 Cert.ReferenceIdeal.Step.b37
  rw [← al_36 h]
  try rfl
set_option maxRecDepth 8192 in
theorem al_38 (h : Holds V0 s j) : (constantI S1 32 255#32 : (Proc.devRef .tc main_while0b_call2_c_1 : DevRef τ sig).ty.Contents (Elt F)) = Cert.ReferenceIdeal.Step.b38 j s := by
  unfold Cert.ReferenceIdeal.Step.b38
  rfl
set_option maxRecDepth 8192 in
theorem al_39 (h : Holds V0 s j) : (constantI S_ 32 0#32 : (Proc.devRef .tc main_while0b_call2_c_2 : DevRef τ sig).ty.Contents (Elt F)) = Cert.ReferenceIdeal.Step.b39 j s := by
  unfold Cert.ReferenceIdeal.Step.b39
  rfl
set_option maxRecDepth 8192 in
theorem al_40 (h : Holds V0 s j) : (broadcastInDim S128x1x1 ![] bcast_S_S128x1x1 (constantI S_ 32 0#32) : (Proc.devRef .tc main_while0b_call2_v6 : DevRef τ sig).ty.Contents (Elt F)) = Cert.ReferenceIdeal.Step.b40 j s := by
  unfold Cert.ReferenceIdeal.Step.b40
  rw [← al_39 h]
  try rfl
set_option maxRecDepth 8192 in
theorem al_41 (h : Holds V0 s j) : (cmpi .sge (res_main_while0b_call2_v5 V0) (broadcastInDim S128x1x1 ![] bcast_S_S128x1x1 (constantI S_ 32 0#32)) : (Proc.devRef .tc main_while0b_call2_v7 : DevRef τ sig).ty.Contents (Elt F)) = Cert.ReferenceIdeal.Step.b41 j s := by
  unfold Cert.ReferenceIdeal.Step.b41
  rw [← al_37 h, ← al_40 h]
  try rfl
set_option maxRecDepth 8192 in
theorem al_42 (h : Holds V0 s j) : (broadcastInDim S1x1x1 ![2] bcast_S1_S1x1x1_2 (constantI S1 32 255#32) : (Proc.devRef .tc main_while0b_call2_v8 : DevRef τ sig).ty.Contents (Elt F)) = Cert.ReferenceIdeal.Step.b42 j s := by
  unfold Cert.ReferenceIdeal.Step.b42
  rw [← al_38 h]
  try rfl
set_option maxRecDepth 8192 in
theorem al_43 (h : Holds V0 s j) : (broadcastInDim S128x1x1 ![0, 1, 2] bcast_S1x1x1_S128x1x1_0_1_2 (broadcastInDim S1x1x1 ![2] bcast_S1_S1x1x1_2 (constantI S1 32 255#32)) : (Proc.devRef .tc main_while0b_call2_v9 : DevRef τ sig).ty.Contents (Elt F)) = Cert.ReferenceIdeal.Step.b43 j s := by
  unfold Cert.ReferenceIdeal.Step.b43
  rw [← al_42 h]
  try rfl
set_option maxRecDepth 8192 in
theorem al_44 (h : Holds V0 s j) : (cmpi .sle (res_main_while0b_call2_v5 V0) (broadcastInDim S128x1x1 ![0, 1, 2] bcast_S1x1x1_S128x1x1_0_1_2 (broadcastInDim S1x1x1 ![2] bcast_S1_S1x1x1_2 (constantI S1 32 255#32))) : (Proc.devRef .tc main_while0b_call2_v10 : DevRef τ sig).ty.Contents (Elt F)) = Cert.ReferenceIdeal.Step.b44 j s := by
  unfold Cert.ReferenceIdeal.Step.b44
  rw [← al_37 h, ← al_43 h]
  try rfl
set_option maxRecDepth 8192 in
theorem al_45 (h : Holds V0 s j) : (andi (cmpi .sge (res_main_while0b_call2_v5 V0) (broadcastInDim S128x1x1 ![] bcast_S_S128x1x1 (constantI S_ 32 0#32))) (cmpi .sle (res_main_while0b_call2_v5 V0) (broadcastInDim S128x1x1 ![0, 1, 2] bcast_S1x1x1_S128x1x1_0_1_2 (broadcastInDim S1x1x1 ![2] bcast_S1_S1x1x1_2 (constantI S1 32 255#32)))) : (Proc.devRef .tc main_while0b_call2_v11 : DevRef τ sig).ty.Contents (Elt F)) = Cert.ReferenceIdeal.Step.b45 j s := by
  unfold Cert.ReferenceIdeal.Step.b45
  rw [← al_41 h, ← al_44 h]
  try rfl
set_option maxRecDepth 8192 in
theorem al_46 (h : Holds V0 s j) : (constantI S_ 1 1#1 : (Proc.devRef .tc main_while0b_call2_c_3 : DevRef τ sig).ty.Contents (Elt F)) = Cert.ReferenceIdeal.Step.b46 j s := by
  unfold Cert.ReferenceIdeal.Step.b46
  rfl
set_option maxRecDepth 8192 in
theorem al_47 (h : Holds V0 s j) : (Host.reduce IntOp.andi (andi (cmpi .sge (res_main_while0b_call2_v5 V0) (broadcastInDim S128x1x1 ![] bcast_S_S128x1x1 (constantI S_ 32 0#32))) (cmpi .sle (res_main_while0b_call2_v5 V0) (broadcastInDim S128x1x1 ![0, 1, 2] bcast_S1x1x1_S128x1x1_0_1_2 (broadcastInDim S1x1x1 ![2] bcast_S1_S1x1x1_2 (constantI S1 32 255#32))))) (constantI S_ 1 1#1) reducesTo_S128x1x1_S128x1_d2 h_S_ : (Proc.devRef .tc main_while0b_call2_v12 : DevRef τ sig).ty.Contents (Elt F)) = Cert.ReferenceIdeal.Step.b47 j s := by
  unfold Cert.ReferenceIdeal.Step.b47
  rw [← al_45 h, ← al_46 h]
  try rfl
set_option maxRecDepth 8192 in
theorem al_48 (h : Holds V0 s j) : (Host.gather gather_S128x256_S128x1x1_S128x1_n_1_0_0_1_2_11 (res_main_while0b_v34 V0) (res_main_while0b_call2_v5 V0) : (Proc.devRef .tc main_while0b_call2_v13 : DevRef τ sig).ty.Contents (Elt F)) = Cert.ReferenceIdeal.Step.b48 j s := by
  unfold Cert.ReferenceIdeal.Step.b48
  rw [← al_23 h, ← al_37 h]
  try rfl
set_option maxRecDepth 8192 in
theorem al_49 (h : Holds V0 s j) : (constant S_ .f32 0x7FC00000#32 : (Proc.devRef .tc main_while0b_call2_cst : DevRef τ sig).ty.Contents (Elt F)) = Cert.ReferenceIdeal.Step.b49 j s := by
  unfold Cert.ReferenceIdeal.Step.b49
  rfl
set_option maxRecDepth 8192 in
theorem al_50 (h : Holds V0 s j) : (broadcastInDim S128x1 ![] bcast_S_S128x1 (constant S_ .f32 0x7FC00000#32) : (Proc.devRef .tc main_while0b_call2_v14 : DevRef τ sig).ty.Contents (Elt F)) = Cert.ReferenceIdeal.Step.b50 j s := by
  unfold Cert.ReferenceIdeal.Step.b50
  rw [← al_49 h]
  try rfl
set_option maxRecDepth 8192 in
theorem al_51 (h : Holds V0 s j) : (select (Host.reduce IntOp.andi (andi (cmpi .sge (res_main_while0b_call2_v5 V0) (broadcastInDim S128x1x1 ![] bcast_S_S128x1x1 (constantI S_ 32 0#32))) (cmpi .sle (res_main_while0b_call2_v5 V0) (broadcastInDim S128x1x1 ![0, 1, 2] bcast_S1x1x1_S128x1x1_0_1_2 (broadcastInDim S1x1x1 ![2] bcast_S1_S1x1x1_2 (constantI S1 32 255#32))))) (constantI S_ 1 1#1) reducesTo_S128x1x1_S128x1_d2 h_S_) (Host.gather gather_S128x256_S128x1x1_S128x1_n_1_0_0_1_2_11 (res_main_while0b_v34 V0) (res_main_while0b_call2_v5 V0)) (broadcastInDim S128x1 ![] bcast_S_S128x1 (constant S_ .f32 0x7FC00000#32)) : (Proc.devRef .tc main_while0b_v37 : DevRef τ sig).ty.Contents (Elt F)) = Cert.ReferenceIdeal.Step.b51 j s := by
  unfold Cert.ReferenceIdeal.Step.b51
  rw [← al_47 h, ← al_48 h, ← al_50 h]
  try rfl
set_option maxRecDepth 8192 in
theorem al_52 (h : Holds V0 s j) : (shapeCast S128 (select (Host.reduce IntOp.andi (andi (cmpi .sge (res_main_while0b_call2_v5 V0) (broadcastInDim S128x1x1 ![] bcast_S_S128x1x1 (constantI S_ 32 0#32))) (cmpi .sle (res_main_while0b_call2_v5 V0) (broadcastInDim S128x1x1 ![0, 1, 2] bcast_S1x1x1_S128x1x1_0_1_2 (broadcastInDim S1x1x1 ![2] bcast_S1_S1x1x1_2 (constantI S1 32 255#32))))) (constantI S_ 1 1#1) reducesTo_S128x1x1_S128x1_d2 h_S_) (Host.gather gather_S128x256_S128x1x1_S128x1_n_1_0_0_1_2_11 (res_main_while0b_v34 V0) (res_main_while0b_call2_v5 V0)) (broadcastInDim S128x1 ![] bcast_S_S128x1 (constant S_ .f32 0x7FC00000#32))) shapeCasts_S128x1_S128 : (Proc.devRef .tc main_while0b_v38 : DevRef τ sig).ty.Contents (Elt F)) = Cert.ReferenceIdeal.Step.b52 j s := by
  unfold Cert.ReferenceIdeal.Step.b52
  rw [← al_51 h]
  try rfl
set_option maxRecDepth 8192 in
theorem al_53 (h : Holds V0 s j) : (constant S_ .f32 0x2B8CBCCC#32 : (Proc.devRef .tc main_while0b_cst_24 : DevRef τ sig).ty.Contents (Elt F)) = Cert.ReferenceIdeal.Step.b53 j s := by
  unfold Cert.ReferenceIdeal.Step.b53
  rfl
set_option maxRecDepth 8192 in
theorem al_54 (h : Holds V0 s j) : (broadcastInDim S128 ![] bcast_S_S128 (constant S_ .f32 0x2B8CBCCC#32) : (Proc.devRef .tc main_while0b_v39 : DevRef τ sig).ty.Contents (Elt F)) = Cert.ReferenceIdeal.Step.b54 j s := by
  unfold Cert.ReferenceIdeal.Step.b54
  rw [← al_53 h]
  try rfl
set_option maxRecDepth 8192 in
theorem al_55 (h : Holds V0 s j) : (addf (shapeCast S128 (select (Host.reduce IntOp.andi (andi (cmpi .sge (res_main_while0b_call2_v5 V0) (broadcastInDim S128x1x1 ![] bcast_S_S128x1x1 (constantI S_ 32 0#32))) (cmpi .sle (res_main_while0b_call2_v5 V0) (broadcastInDim S128x1x1 ![0, 1, 2] bcast_S1x1x1_S128x1x1_0_1_2 (broadcastInDim S1x1x1 ![2] bcast_S1_S1x1x1_2 (constantI S1 32 255#32))))) (constantI S_ 1 1#1) reducesTo_S128x1x1_S128x1_d2 h_S_) (Host.gather gather_S128x256_S128x1x1_S128x1_n_1_0_0_1_2_11 (res_main_while0b_v34 V0) (res_main_while0b_call2_v5 V0)) (broadcastInDim S128x1 ![] bcast_S_S128x1 (constant S_ .f32 0x7FC00000#32))) shapeCasts_S128x1_S128) (broadcastInDim S128 ![] bcast_S_S128 (constant S_ .f32 0x2B8CBCCC#32)) : (Proc.devRef .tc main_while0b_v40 : DevRef τ sig).ty.Contents (Elt F)) = Cert.ReferenceIdeal.Step.b55 j s := by
  unfold Cert.ReferenceIdeal.Step.b55
  rw [← al_52 h, ← al_54 h]
  try rfl
set_option maxRecDepth 8192 in
theorem al_56 (h : Holds V0 s j) : (Host.log (addf (shapeCast S128 (select (Host.reduce IntOp.andi (andi (cmpi .sge (res_main_while0b_call2_v5 V0) (broadcastInDim S128x1x1 ![] bcast_S_S128x1x1 (constantI S_ 32 0#32))) (cmpi .sle (res_main_while0b_call2_v5 V0) (broadcastInDim S128x1x1 ![0, 1, 2] bcast_S1x1x1_S128x1x1_0_1_2 (broadcastInDim S1x1x1 ![2] bcast_S1_S1x1x1_2 (constantI S1 32 255#32))))) (constantI S_ 1 1#1) reducesTo_S128x1x1_S128x1_d2 h_S_) (Host.gather gather_S128x256_S128x1x1_S128x1_n_1_0_0_1_2_11 (res_main_while0b_v34 V0) (res_main_while0b_call2_v5 V0)) (broadcastInDim S128x1 ![] bcast_S_S128x1 (constant S_ .f32 0x7FC00000#32))) shapeCasts_S128x1_S128) (broadcastInDim S128 ![] bcast_S_S128 (constant S_ .f32 0x2B8CBCCC#32))) : (Proc.devRef .tc main_while0b_v41 : DevRef τ sig).ty.Contents (Elt F)) = Cert.ReferenceIdeal.Step.b56 j s := by
  unfold Cert.ReferenceIdeal.Step.b56
  rw [← al_55 h]
  try rfl
set_option maxRecDepth 8192 in
theorem al_57 (h : Holds V0 s j) : (constant S_ .f32 0x2B8CBCCC#32 : (Proc.devRef .tc main_while0b_cst_25 : DevRef τ sig).ty.Contents (Elt F)) = Cert.ReferenceIdeal.Step.b57 j s := by
  unfold Cert.ReferenceIdeal.Step.b57
  rfl
set_option maxRecDepth 8192 in
theorem al_58 (h : Holds V0 s j) : (broadcastInDim S128x256 ![] bcast_S_S128x256 (constant S_ .f32 0x2B8CBCCC#32) : (Proc.devRef .tc main_while0b_v42 : DevRef τ sig).ty.Contents (Elt F)) = Cert.ReferenceIdeal.Step.b58 j s := by
  unfold Cert.ReferenceIdeal.Step.b58
  rw [← al_57 h]
  try rfl
set_option maxRecDepth 8192 in
theorem al_59 (h : Holds V0 s j) : (addf (res_main_while0b_v34 V0) (broadcastInDim S128x256 ![] bcast_S_S128x256 (constant S_ .f32 0x2B8CBCCC#32)) : (Proc.devRef .tc main_while0b_v43 : DevRef τ sig).ty.Contents (Elt F)) = Cert.ReferenceIdeal.Step.b59 j s := by
  unfold Cert.ReferenceIdeal.Step.b59
  rw [← al_23 h, ← al_58 h]
  try rfl
set_option maxRecDepth 8192 in
theorem al_60 (h : Holds V0 s j) : (Host.log (addf (res_main_while0b_v34 V0) (broadcastInDim S128x256 ![] bcast_S_S128x256 (constant S_ .f32 0x2B8CBCCC#32))) : (Proc.devRef .tc main_while0b_v44 : DevRef τ sig).ty.Contents (Elt F)) = Cert.ReferenceIdeal.Step.b60 j s := by
  unfold Cert.ReferenceIdeal.Step.b60
  rw [← al_59 h]
  try rfl
set_option maxRecDepth 8192 in
theorem al_61 (h : Holds V0 s j) : (mulf (res_main_while0b_v34 V0) (Host.log (addf (res_main_while0b_v34 V0) (broadcastInDim S128x256 ![] bcast_S_S128x256 (constant S_ .f32 0x2B8CBCCC#32)))) : (Proc.devRef .tc main_while0b_v45 : DevRef τ sig).ty.Contents (Elt F)) = Cert.ReferenceIdeal.Step.b61 j s := by
  unfold Cert.ReferenceIdeal.Step.b61
  rw [← al_23 h, ← al_60 h]
  try rfl
set_option maxRecDepth 8192 in
theorem al_62 (h : Holds V0 s j) : (constant S_ .f32 0x00000000#32 : (Proc.devRef .tc main_while0b_cst_26 : DevRef τ sig).ty.Contents (Elt F)) = Cert.ReferenceIdeal.Step.b62 j s := by
  unfold Cert.ReferenceIdeal.Step.b62
  rfl
set_option maxRecDepth 8192 in
theorem al_63 (h : Holds V0 s j) : (Host.reduceAdd (mulf (res_main_while0b_v34 V0) (Host.log (addf (res_main_while0b_v34 V0) (broadcastInDim S128x256 ![] bcast_S_S128x256 (constant S_ .f32 0x2B8CBCCC#32))))) (constant S_ .f32 0x00000000#32) reducesTo_S128x256_S128_d1 h_S_ : (Proc.devRef .tc main_while0b_v46 : DevRef τ sig).ty.Contents (Elt F)) = Cert.ReferenceIdeal.Step.b63 j s := by
  unfold Cert.ReferenceIdeal.Step.b63
  rw [← al_61 h, ← al_62 h]
  try rfl
set_option maxRecDepth 8192 in
theorem al_64 (h : Holds V0 s j) : (Host.negf (Host.reduceAdd (mulf (res_main_while0b_v34 V0) (Host.log (addf (res_main_while0b_v34 V0) (broadcastInDim S128x256 ![] bcast_S_S128x256 (constant S_ .f32 0x2B8CBCCC#32))))) (constant S_ .f32 0x00000000#32) reducesTo_S128x256_S128_d1 h_S_) : (Proc.devRef .tc main_while0b_v47 : DevRef τ sig).ty.Contents (Elt F)) = Cert.ReferenceIdeal.Step.b64 j s := by
  unfold Cert.ReferenceIdeal.Step.b64
  rw [← al_63 h]
  try rfl
set_option maxRecDepth 8192 in
theorem al_65 (h : Holds V0 s j) : (constantI S_ 32 0#32 : (Proc.devRef .tc main_while0b_c_27 : DevRef τ sig).ty.Contents (Elt F)) = Cert.ReferenceIdeal.Step.b65 j s := by
  unfold Cert.ReferenceIdeal.Step.b65
  rfl
set_option maxRecDepth 8192 in
theorem al_66 (h : Holds V0 s j) : (broadcastInDim S128 ![] bcast_S_S128 (constantI S_ 32 0#32) : (Proc.devRef .tc main_while0b_v48 : DevRef τ sig).ty.Contents (Elt F)) = Cert.ReferenceIdeal.Step.b66 j s := by
  unfold Cert.ReferenceIdeal.Step.b66
  rw [← al_65 h]
  try rfl
set_option maxRecDepth 8192 in
theorem al_67 (h : Holds V0 s j) : (cmpi .slt (V0 (Proc.devRef .tc main_v14_2)) (broadcastInDim S128 ![] bcast_S_S128 (constantI S_ 32 0#32)) : (Proc.devRef .tc main_while0b_v49 : DevRef τ sig).ty.Contents (Elt F)) = Cert.ReferenceIdeal.Step.b67 j s := by
  unfold Cert.ReferenceIdeal.Step.b67
  rw [← al_66 h, h.k_2]
  try rfl
set_option maxRecDepth 8192 in
theorem al_68 (h : Holds V0 s j) : (constantI S_ 32 128#32 : (Proc.devRef .tc main_while0b_c_28 : DevRef τ sig).ty.Contents (Elt F)) = Cert.ReferenceIdeal.Step.b68 j s := by
  unfold Cert.ReferenceIdeal.Step.b68
  rfl
set_option maxRecDepth 8192 in
theorem al_69 (h : Holds V0 s j) : (broadcastInDim S128 ![] bcast_S_S128 (constantI S_ 32 128#32) : (Proc.devRef .tc main_while0b_v50 : DevRef τ sig).ty.Contents (Elt F)) = Cert.ReferenceIdeal.Step.b69 j s := by
  unfold Cert.ReferenceIdeal.Step.b69
  rw [← al_68 h]
  try rfl
set_option maxRecDepth 8192 in
theorem al_70 (h : Holds V0 s j) : (addi (V0 (Proc.devRef .tc main_v14_2)) (broadcastInDim S128 ![] bcast_S_S128 (constantI S_ 32 128#32)) : (Proc.devRef .tc main_while0b_v51 : DevRef τ sig).ty.Contents (Elt F)) = Cert.ReferenceIdeal.Step.b70 j s := by
  unfold Cert.ReferenceIdeal.Step.b70
  rw [← al_69 h, h.k_2]
  try rfl
set_option maxRecDepth 8192 in
theorem al_71 (h : Holds V0 s j) : (select (cmpi .slt (V0 (Proc.devRef .tc main_v14_2)) (broadcastInDim S128 ![] bcast_S_S128 (constantI S_ 32 0#32))) (addi (V0 (Proc.devRef .tc main_v14_2)) (broadcastInDim S128 ![] bcast_S_S128 (constantI S_ 32 128#32))) (V0 (Proc.devRef .tc main_v14_2)) : (Proc.devRef .tc main_while0b_v52 : DevRef τ sig).ty.Contents (Elt F)) = Cert.ReferenceIdeal.Step.b71 j s := by
  unfold Cert.ReferenceIdeal.Step.b71
  rw [← al_67 h, ← al_70 h, h.k_2]
  try rfl
set_option maxRecDepth 8192 in
theorem al_72 (h : Holds V0 s j) : (constantI S_ 32 0#32 : (Proc.devRef .tc main_while0b_c_29 : DevRef τ sig).ty.Contents (Elt F)) = Cert.ReferenceIdeal.Step.b72 j s := by
  unfold Cert.ReferenceIdeal.Step.b72
  rfl
set_option maxRecDepth 8192 in
theorem al_73 (h : Holds V0 s j) : (broadcastInDim S128 ![] bcast_S_S128 (constantI S_ 32 0#32) : (Proc.devRef .tc main_while0b_v53 : DevRef τ sig).ty.Contents (Elt F)) = Cert.ReferenceIdeal.Step.b73 j s := by
  unfold Cert.ReferenceIdeal.Step.b73
  rw [← al_72 h]
  try rfl
set_option maxRecDepth 8192 in
theorem al_74 (h : Holds V0 s j) : (cmpi .slt (res_main_while0b_v35 V0) (broadcastInDim S128 ![] bcast_S_S128 (constantI S_ 32 0#32)) : (Proc.devRef .tc main_while0b_v54 : DevRef τ sig).ty.Contents (Elt F)) = Cert.ReferenceIdeal.Step.b74 j s := by
  unfold Cert.ReferenceIdeal.Step.b74
  rw [← al_28 h, ← al_73 h]
  try rfl
set_option maxRecDepth 8192 in
theorem al_75 (h : Holds V0 s j) : (constantI S_ 32 256#32 : (Proc.devRef .tc main_while0b_c_30 : DevRef τ sig).ty.Contents (Elt F)) = Cert.ReferenceIdeal.Step.b75 j s := by
  unfold Cert.ReferenceIdeal.Step.b75
  rfl
set_option maxRecDepth 8192 in
theorem al_76 (h : Holds V0 s j) : (broadcastInDim S128 ![] bcast_S_S128 (constantI S_ 32 256#32) : (Proc.devRef .tc main_while0b_v55 : DevRef τ sig).ty.Contents (Elt F)) = Cert.ReferenceIdeal.Step.b76 j s := by
  unfold Cert.ReferenceIdeal.Step.b76
  rw [← al_75 h]
  try rfl
set_option maxRecDepth 8192 in
theorem al_77 (h : Holds V0 s j) : (addi (res_main_while0b_v35 V0) (broadcastInDim S128 ![] bcast_S_S128 (constantI S_ 32 256#32)) : (Proc.devRef .tc main_while0b_v56 : DevRef τ sig).ty.Contents (Elt F)) = Cert.ReferenceIdeal.Step.b77 j s := by
  unfold Cert.ReferenceIdeal.Step.b77
  rw [← al_28 h, ← al_76 h]
  try rfl
set_option maxRecDepth 8192 in
theorem al_78 (h : Holds V0 s j) : (select (cmpi .slt (res_main_while0b_v35 V0) (broadcastInDim S128 ![] bcast_S_S128 (constantI S_ 32 0#32))) (addi (res_main_while0b_v35 V0) (broadcastInDim S128 ![] bcast_S_S128 (constantI S_ 32 256#32))) (res_main_while0b_v35 V0) : (Proc.devRef .tc main_while0b_v57 : DevRef τ sig).ty.Contents (Elt F)) = Cert.ReferenceIdeal.Step.b78 j s := by
  unfold Cert.ReferenceIdeal.Step.b78
  rw [← al_74 h, ← al_77 h, ← al_28 h]
  try rfl
set_option maxRecDepth 8192 in
theorem al_79 (h : Holds V0 s j) : (broadcastInDim S128x1 ![0] bcast_S128_S128x1_0 (select (cmpi .slt (V0 (Proc.devRef .tc main_v14_2)) (broadcastInDim S128 ![] bcast_S_S128 (constantI S_ 32 0#32))) (addi (V0 (Proc.devRef .tc main_v14_2)) (broadcastInDim S128 ![] bcast_S_S128 (constantI S_ 32 128#32))) (V0 (Proc.devRef .tc main_v14_2))) : (Proc.devRef .tc main_while0b_v58 : DevRef τ sig).ty.Contents (Elt F)) = Cert.ReferenceIdeal.Step.b79 j s := by
  unfold Cert.ReferenceIdeal.Step.b79
  rw [← al_71 h]
  try rfl
set_option maxRecDepth 8192 in
theorem al_80 (h : Holds V0 s j) : (broadcastInDim S128x1 ![0] bcast_S128_S128x1_0 (select (cmpi .slt (res_main_while0b_v35 V0) (broadcastInDim S128 ![] bcast_S_S128 (constantI S_ 32 0#32))) (addi (res_main_while0b_v35 V0) (broadcastInDim S128 ![] bcast_S_S128 (constantI S_ 32 256#32))) (res_main_while0b_v35 V0)) : (Proc.devRef .tc main_while0b_v59 : DevRef τ sig).ty.Contents (Elt F)) = Cert.ReferenceIdeal.Step.b80 j s := by
  unfold Cert.ReferenceIdeal.Step.b80
  rw [← al_78 h]
  try rfl
set_option maxRecDepth 8192 in
theorem al_81 (h : Holds V0 s j) : (concatenate S128x2 1 [⟨S128x1, (broadcastInDim S128x1 ![0] bcast_S128_S128x1_0 (select (cmpi .slt (V0 (Proc.devRef .tc main_v14_2)) (broadcastInDim S128 ![] bcast_S_S128 (constantI S_ 32 0#32))) (addi (V0 (Proc.devRef .tc main_v14_2)) (broadcastInDim S128 ![] bcast_S_S128 (constantI S_ 32 128#32))) (V0 (Proc.devRef .tc main_v14_2))))⟩, ⟨S128x1, (broadcastInDim S128x1 ![0] bcast_S128_S128x1_0 (select (cmpi .slt (res_main_while0b_v35 V0) (broadcastInDim S128 ![] bcast_S_S128 (constantI S_ 32 0#32))) (addi (res_main_while0b_v35 V0) (broadcastInDim S128 ![] bcast_S_S128 (constantI S_ 32 256#32))) (res_main_while0b_v35 V0)))⟩] concatenates_S128x1_S128x1_S128x2_d1 : (Proc.devRef .tc main_while0b_v60 : DevRef τ sig).ty.Contents (Elt F)) = Cert.ReferenceIdeal.Step.b81 j s := by
  unfold Cert.ReferenceIdeal.Step.b81
  rw [← al_79 h, ← al_80 h]
  try rfl
set_option maxRecDepth 8192 in
theorem al_82 (h : Holds V0 s j) : (constantI S_ 1 1#1 : (Proc.devRef .tc main_while0b_c_31 : DevRef τ sig).ty.Contents (Elt F)) = Cert.ReferenceIdeal.Step.b82 j s := by
  unfold Cert.ReferenceIdeal.Step.b82
  rfl
set_option maxRecDepth 8192 in
theorem al_83 (h : Holds V0 s j) : (broadcastInDim S128 ![] bcast_S_S128 (constantI S_ 1 1#1) : (Proc.devRef .tc main_while0b_v61 : DevRef τ sig).ty.Contents (Elt F)) = Cert.ReferenceIdeal.Step.b83 j s := by
  unfold Cert.ReferenceIdeal.Step.b83
  rw [← al_82 h]
  try rfl
set_option maxRecDepth 8192 in
theorem al_84 (h : Holds V0 s j) : (Host.scatter scatter_S128x256_S128x2_S128_n_01_01_1 (fun _ b => b) (V0 (Proc.devRef .tc main_v14_9)) (concatenate S128x2 1 [⟨S128x1, (broadcastInDim S128x1 ![0] bcast_S128_S128x1_0 (select (cmpi .slt (V0 (Proc.devRef .tc main_v14_2)) (broadcastInDim S128 ![] bcast_S_S128 (constantI S_ 32 0#32))) (addi (V0 (Proc.devRef .tc main_v14_2)) (broadcastInDim S128 ![] bcast_S_S128 (constantI S_ 32 128#32))) (V0 (Proc.devRef .tc main_v14_2))))⟩, ⟨S128x1, (broadcastInDim S128x1 ![0] bcast_S128_S128x1_0 (select (cmpi .slt (res_main_while0b_v35 V0) (broadcastInDim S128 ![] bcast_S_S128 (constantI S_ 32 0#32))) (addi (res_main_while0b_v35 V0) (broadcastInDim S128 ![] bcast_S_S128 (constantI S_ 32 256#32))) (res_main_while0b_v35 V0)))⟩] concatenates_S128x1_S128x1_S128x2_d1) (broadcastInDim S128 ![] bcast_S_S128 (constantI S_ 1 1#1)) : (Proc.devRef .tc main_while0b_v62 : DevRef τ sig).ty.Contents (Elt F)) = Cert.ReferenceIdeal.Step.b84 j s := by
  unfold Cert.ReferenceIdeal.Step.b84
  rw [← al_81 h, ← al_83 h, h.f_9]
  try rfl
set_option maxRecDepth 8192 in
theorem al_85 (h : Holds V0 s j) : (constantI S_ 32 0#32 : (Proc.devRef .tc main_while0b_c_32 : DevRef τ sig).ty.Contents (Elt F)) = Cert.ReferenceIdeal.Step.b85 j s := by
  unfold Cert.ReferenceIdeal.Step.b85
  rfl
set_option maxRecDepth 8192 in
theorem al_86 (h : Holds V0 s j) : (broadcastInDim S128 ![] bcast_S_S128 (constantI S_ 32 0#32) : (Proc.devRef .tc main_while0b_v63 : DevRef τ sig).ty.Contents (Elt F)) = Cert.ReferenceIdeal.Step.b86 j s := by
  unfold Cert.ReferenceIdeal.Step.b86
  rw [← al_85 h]
  try rfl
set_option maxRecDepth 8192 in
theorem al_87 (h : Holds V0 s j) : (cmpi .slt (V0 (Proc.devRef .tc main_v14_2)) (broadcastInDim S128 ![] bcast_S_S128 (constantI S_ 32 0#32)) : (Proc.devRef .tc main_while0b_v64 : DevRef τ sig).ty.Contents (Elt F)) = Cert.ReferenceIdeal.Step.b87 j s := by
  unfold Cert.ReferenceIdeal.Step.b87
  rw [← al_86 h, h.k_2]
  try rfl
set_option maxRecDepth 8192 in
theorem al_88 (h : Holds V0 s j) : (constantI S_ 32 128#32 : (Proc.devRef .tc main_while0b_c_33 : DevRef τ sig).ty.Contents (Elt F)) = Cert.ReferenceIdeal.Step.b88 j s := by
  unfold Cert.ReferenceIdeal.Step.b88
  rfl
set_option maxRecDepth 8192 in
theorem al_89 (h : Holds V0 s j) : (broadcastInDim S128 ![] bcast_S_S128 (constantI S_ 32 128#32) : (Proc.devRef .tc main_while0b_v65 : DevRef τ sig).ty.Contents (Elt F)) = Cert.ReferenceIdeal.Step.b89 j s := by
  unfold Cert.ReferenceIdeal.Step.b89
  rw [← al_88 h]
  try rfl
set_option maxRecDepth 8192 in
theorem al_90 (h : Holds V0 s j) : (addi (V0 (Proc.devRef .tc main_v14_2)) (broadcastInDim S128 ![] bcast_S_S128 (constantI S_ 32 128#32)) : (Proc.devRef .tc main_while0b_v66 : DevRef τ sig).ty.Contents (Elt F)) = Cert.ReferenceIdeal.Step.b90 j s := by
  unfold Cert.ReferenceIdeal.Step.b90
  rw [← al_89 h, h.k_2]
  try rfl
set_option maxRecDepth 8192 in
theorem al_91 (h : Holds V0 s j) : (select (cmpi .slt (V0 (Proc.devRef .tc main_v14_2)) (broadcastInDim S128 ![] bcast_S_S128 (constantI S_ 32 0#32))) (addi (V0 (Proc.devRef .tc main_v14_2)) (broadcastInDim S128 ![] bcast_S_S128 (constantI S_ 32 128#32))) (V0 (Proc.devRef .tc main_v14_2)) : (Proc.devRef .tc main_while0b_v67 : DevRef τ sig).ty.Contents (Elt F)) = Cert.ReferenceIdeal.Step.b91 j s := by
  unfold Cert.ReferenceIdeal.Step.b91
  rw [← al_87 h, ← al_90 h, h.k_2]
  try rfl
set_option maxRecDepth 8192 in
theorem al_92 (h : Holds V0 s j) : (constantI S_ 32 0#32 : (Proc.devRef .tc main_while0b_c_34 : DevRef τ sig).ty.Contents (Elt F)) = Cert.ReferenceIdeal.Step.b92 j s := by
  unfold Cert.ReferenceIdeal.Step.b92
  rfl
set_option maxRecDepth 8192 in
theorem al_93 (h : Holds V0 s j) : (broadcastInDim S128 ![] bcast_S_S128 (constantI S_ 32 0#32) : (Proc.devRef .tc main_while0b_v68 : DevRef τ sig).ty.Contents (Elt F)) = Cert.ReferenceIdeal.Step.b93 j s := by
  unfold Cert.ReferenceIdeal.Step.b93
  rw [← al_92 h]
  try rfl
set_option maxRecDepth 8192 in
theorem al_94 (h : Holds V0 s j) : (cmpi .slt (res_main_while0b_v35 V0) (broadcastInDim S128 ![] bcast_S_S128 (constantI S_ 32 0#32)) : (Proc.devRef .tc main_while0b_v69 : DevRef τ sig).ty.Contents (Elt F)) = Cert.ReferenceIdeal.Step.b94 j s := by
  unfold Cert.ReferenceIdeal.Step.b94
  rw [← al_28 h, ← al_93 h]
  try rfl
set_option maxRecDepth 8192 in
theorem al_95 (h : Holds V0 s j) : (constantI S_ 32 256#32 : (Proc.devRef .tc main_while0b_c_35 : DevRef τ sig).ty.Contents (Elt F)) = Cert.ReferenceIdeal.Step.b95 j s := by
  unfold Cert.ReferenceIdeal.Step.b95
  rfl
set_option maxRecDepth 8192 in
theorem al_96 (h : Holds V0 s j) : (broadcastInDim S128 ![] bcast_S_S128 (constantI S_ 32 256#32) : (Proc.devRef .tc main_while0b_v70 : DevRef τ sig).ty.Contents (Elt F)) = Cert.ReferenceIdeal.Step.b96 j s := by
  unfold Cert.ReferenceIdeal.Step.b96
  rw [← al_95 h]
  try rfl
set_option maxRecDepth 8192 in
theorem al_97 (h : Holds V0 s j) : (addi (res_main_while0b_v35 V0) (broadcastInDim S128 ![] bcast_S_S128 (constantI S_ 32 256#32)) : (Proc.devRef .tc main_while0b_v71 : DevRef τ sig).ty.Contents (Elt F)) = Cert.ReferenceIdeal.Step.b97 j s := by
  unfold Cert.ReferenceIdeal.Step.b97
  rw [← al_28 h, ← al_96 h]
  try rfl
set_option maxRecDepth 8192 in
theorem al_98 (h : Holds V0 s j) : (select (cmpi .slt (res_main_while0b_v35 V0) (broadcastInDim S128 ![] bcast_S_S128 (constantI S_ 32 0#32))) (addi (res_main_while0b_v35 V0) (broadcastInDim S128 ![] bcast_S_S128 (constantI S_ 32 256#32))) (res_main_while0b_v35 V0) : (Proc.devRef .tc main_while0b_v72 : DevRef τ sig).ty.Contents (Elt F)) = Cert.ReferenceIdeal.Step.b98 j s := by
  unfold Cert.ReferenceIdeal.Step.b98
  rw [← al_94 h, ← al_97 h, ← al_28 h]
  try rfl
set_option maxRecDepth 8192 in
theorem al_99 (h : Holds V0 s j) : (broadcastInDim S128x1 ![0] bcast_S128_S128x1_0 (select (cmpi .slt (V0 (Proc.devRef .tc main_v14_2)) (broadcastInDim S128 ![] bcast_S_S128 (constantI S_ 32 0#32))) (addi (V0 (Proc.devRef .tc main_v14_2)) (broadcastInDim S128 ![] bcast_S_S128 (constantI S_ 32 128#32))) (V0 (Proc.devRef .tc main_v14_2))) : (Proc.devRef .tc main_while0b_v73 : DevRef τ sig).ty.Contents (Elt F)) = Cert.ReferenceIdeal.Step.b99 j s := by
  unfold Cert.ReferenceIdeal.Step.b99
  rw [← al_91 h]
  try rfl
set_option maxRecDepth 8192 in
theorem al_100 (h : Holds V0 s j) : (broadcastInDim S128x1 ![0] bcast_S128_S128x1_0 (select (cmpi .slt (res_main_while0b_v35 V0) (broadcastInDim S128 ![] bcast_S_S128 (constantI S_ 32 0#32))) (addi (res_main_while0b_v35 V0) (broadcastInDim S128 ![] bcast_S_S128 (constantI S_ 32 256#32))) (res_main_while0b_v35 V0)) : (Proc.devRef .tc main_while0b_v74 : DevRef τ sig).ty.Contents (Elt F)) = Cert.ReferenceIdeal.Step.b100 j s := by
  unfold Cert.ReferenceIdeal.Step.b100
  rw [← al_98 h]
  try rfl
set_option maxRecDepth 8192 in
theorem al_101 (h : Holds V0 s j) : (concatenate S128x2 1 [⟨S128x1, (broadcastInDim S128x1 ![0] bcast_S128_S128x1_0 (select (cmpi .slt (V0 (Proc.devRef .tc main_v14_2)) (broadcastInDim S128 ![] bcast_S_S128 (constantI S_ 32 0#32))) (addi (V0 (Proc.devRef .tc main_v14_2)) (broadcastInDim S128 ![] bcast_S_S128 (constantI S_ 32 128#32))) (V0 (Proc.devRef .tc main_v14_2))))⟩, ⟨S128x1, (broadcastInDim S128x1 ![0] bcast_S128_S128x1_0 (select (cmpi .slt (res_main_while0b_v35 V0) (broadcastInDim S128 ![] bcast_S_S128 (constantI S_ 32 0#32))) (addi (res_main_while0b_v35 V0) (broadcastInDim S128 ![] bcast_S_S128 (constantI S_ 32 256#32))) (res_main_while0b_v35 V0)))⟩] concatenates_S128x1_S128x1_S128x2_d1 : (Proc.devRef .tc main_while0b_v75 : DevRef τ sig).ty.Contents (Elt F)) = Cert.ReferenceIdeal.Step.b101 j s := by
  unfold Cert.ReferenceIdeal.Step.b101
  rw [← al_99 h, ← al_100 h]
  try rfl
set_option maxRecDepth 8192 in
theorem al_102 (h : Holds V0 s j) : (Host.gather gather_S128x256x128_S128x2_S128x128_1_01_n_n_01_1_11128 (V0 (Proc.devRef .tc main_v14_1)) (concatenate S128x2 1 [⟨S128x1, (broadcastInDim S128x1 ![0] bcast_S128_S128x1_0 (select (cmpi .slt (V0 (Proc.devRef .tc main_v14_2)) (broadcastInDim S128 ![] bcast_S_S128 (constantI S_ 32 0#32))) (addi (V0 (Proc.devRef .tc main_v14_2)) (broadcastInDim S128 ![] bcast_S_S128 (constantI S_ 32 128#32))) (V0 (Proc.devRef .tc main_v14_2))))⟩, ⟨S128x1, (broadcastInDim S128x1 ![0] bcast_S128_S128x1_0 (select (cmpi .slt (res_main_while0b_v35 V0) (broadcastInDim S128 ![] bcast_S_S128 (constantI S_ 32 0#32))) (addi (res_main_while0b_v35 V0) (broadcastInDim S128 ![] bcast_S_S128 (constantI S_ 32 256#32))) (res_main_while0b_v35 V0)))⟩] concatenates_S128x1_S128x1_S128x2_d1) : (Proc.devRef .tc main_while0b_v76 : DevRef τ sig).ty.Contents (Elt F)) = Cert.ReferenceIdeal.Step.b102 j s := by
  unfold Cert.ReferenceIdeal.Step.b102
  rw [← al_101 h, h.f_1]
  try rfl
set_option maxRecDepth 8192 in
theorem al_103 (h : Holds V0 s j) : (transpose S128x384 [1, 0] (V0 (Proc.devRef .tc main_v14_3)) transposes_S384x128_S128x384_1_0 : (Proc.devRef .tc main_while0b_v77 : DevRef τ sig).ty.Contents (Elt F)) = Cert.ReferenceIdeal.Step.b103 j s := by
  unfold Cert.ReferenceIdeal.Step.b103
  rw [h.f_3]
  try rfl
set_option maxRecDepth 8192 in
theorem al_104 (h : Holds V0 s j) : (Host.dotGeneral dot_S128x128_S128x384_S128x384_1_0_0_1_n_n none (Host.gather gather_S128x256x128_S128x2_S128x128_1_01_n_n_01_1_11128 (V0 (Proc.devRef .tc main_v14_1)) (concatenate S128x2 1 [⟨S128x1, (broadcastInDim S128x1 ![0] bcast_S128_S128x1_0 (select (cmpi .slt (V0 (Proc.devRef .tc main_v14_2)) (broadcastInDim S128 ![] bcast_S_S128 (constantI S_ 32 0#32))) (addi (V0 (Proc.devRef .tc main_v14_2)) (broadcastInDim S128 ![] bcast_S_S128 (constantI S_ 32 128#32))) (V0 (Proc.devRef .tc main_v14_2))))⟩, ⟨S128x1, (broadcastInDim S128x1 ![0] bcast_S128_S128x1_0 (select (cmpi .slt (res_main_while0b_v35 V0) (broadcastInDim S128 ![] bcast_S_S128 (constantI S_ 32 0#32))) (addi (res_main_while0b_v35 V0) (broadcastInDim S128 ![] bcast_S_S128 (constantI S_ 32 256#32))) (res_main_while0b_v35 V0)))⟩] concatenates_S128x1_S128x1_S128x2_d1)) (transpose S128x384 [1, 0] (V0 (Proc.devRef .tc main_v14_3)) transposes_S384x128_S128x384_1_0) : (Proc.devRef .tc main_while0b_v78 : DevRef τ sig).ty.Contents (Elt F)) = Cert.ReferenceIdeal.Step.b104 j s := by
  unfold Cert.ReferenceIdeal.Step.b104
  rw [← al_102 h, ← al_103 h]
  try rfl
set_option maxRecDepth 8192 in
theorem al_105 (h : Holds V0 s j) : (broadcastInDim S1x384 ![1] bcast_S384_S1x384_1 (V0 (Proc.devRef .tc main_v14_4)) : (Proc.devRef .tc main_while0b_v79 : DevRef τ sig).ty.Contents (Elt F)) = Cert.ReferenceIdeal.Step.b105 j s := by
  unfold Cert.ReferenceIdeal.Step.b105
  rw [h.f_4]
  try rfl
set_option maxRecDepth 8192 in
theorem al_106 (h : Holds V0 s j) : (broadcastInDim S128x384 ![0, 1] bcast_S1x384_S128x384_0_1 (broadcastInDim S1x384 ![1] bcast_S384_S1x384_1 (V0 (Proc.devRef .tc main_v14_4))) : (Proc.devRef .tc main_while0b_v80 : DevRef τ sig).ty.Contents (Elt F)) = Cert.ReferenceIdeal.Step.b106 j s := by
  unfold Cert.ReferenceIdeal.Step.b106
  rw [← al_105 h]
  try rfl
set_option maxRecDepth 8192 in
theorem al_107 (h : Holds V0 s j) : (res_main_while0b_v81 V0 : (Proc.devRef .tc main_while0b_v81 : DevRef τ sig).ty.Contents (Elt F)) = Cert.ReferenceIdeal.Step.b107 j s := by
  unfold res_main_while0b_v81 Cert.ReferenceIdeal.Step.b107
  rw [← al_104 h, ← al_106 h]
  try rfl
set_option maxRecDepth 8192 in
theorem al_108 (h : Holds V0 s j) : (transpose S128x384 [1, 0] (V0 (Proc.devRef .tc main_v14_5)) transposes_S384x128_S128x384_1_0 : (Proc.devRef .tc main_while0b_v82 : DevRef τ sig).ty.Contents (Elt F)) = Cert.ReferenceIdeal.Step.b108 j s := by
  unfold Cert.ReferenceIdeal.Step.b108
  rw [h.f_5]
  try rfl
set_option maxRecDepth 8192 in
theorem al_109 (h : Holds V0 s j) : (Host.dotGeneral dot_S128x128_S128x384_S128x384_1_0_0_1_n_n none (V0 (Proc.devRef .tc main_v14_8)) (transpose S128x384 [1, 0] (V0 (Proc.devRef .tc main_v14_5)) transposes_S384x128_S128x384_1_0) : (Proc.devRef .tc main_while0b_v83 : DevRef τ sig).ty.Contents (Elt F)) = Cert.ReferenceIdeal.Step.b109 j s := by
  unfold Cert.ReferenceIdeal.Step.b109
  rw [← al_108 h, h.f_8]
  try rfl
set_option maxRecDepth 8192 in
theorem al_110 (h : Holds V0 s j) : (broadcastInDim S1x384 ![1] bcast_S384_S1x384_1 (V0 (Proc.devRef .tc main_v14_6)) : (Proc.devRef .tc main_while0b_v84 : DevRef τ sig).ty.Contents (Elt F)) = Cert.ReferenceIdeal.Step.b110 j s := by
  unfold Cert.ReferenceIdeal.Step.b110
  rw [h.f_6]
  try rfl
set_option maxRecDepth 8192 in
theorem al_111 (h : Holds V0 s j) : (broadcastInDim S128x384 ![0, 1] bcast_S1x384_S128x384_0_1 (broadcastInDim S1x384 ![1] bcast_S384_S1x384_1 (V0 (Proc.devRef .tc main_v14_6))) : (Proc.devRef .tc main_while0b_v85 : DevRef τ sig).ty.Contents (Elt F)) = Cert.ReferenceIdeal.Step.b111 j s := by
  unfold Cert.ReferenceIdeal.Step.b111
  rw [← al_110 h]
  try rfl
set_option maxRecDepth 8192 in
theorem al_112 (h : Holds V0 s j) : (res_main_while0b_v86 V0 : (Proc.devRef .tc main_while0b_v86 : DevRef τ sig).ty.Contents (Elt F)) = Cert.ReferenceIdeal.Step.b112 j s := by
  unfold res_main_while0b_v86 Cert.ReferenceIdeal.Step.b112
  rw [← al_109 h, ← al_111 h]
  try rfl
set_option maxRecDepth 8192 in
theorem al_113 (h : Holds V0 s j) : (extractStridedSlice S128x128 ![0, 0] (res_main_while0b_v81 V0) slices_S128x384_S128x128_0_0 : (Proc.devRef .tc main_while0b_v87 : DevRef τ sig).ty.Contents (Elt F)) = Cert.ReferenceIdeal.Step.b113 j s := by
  unfold Cert.ReferenceIdeal.Step.b113
  rw [← al_107 h]
  try rfl
set_option maxRecDepth 8192 in
theorem al_114 (h : Holds V0 s j) : (extractStridedSlice S128x128 ![0, 128] (res_main_while0b_v81 V0) slices_S128x384_S128x128_0_128 : (Proc.devRef .tc main_while0b_v88 : DevRef τ sig).ty.Contents (Elt F)) = Cert.ReferenceIdeal.Step.b114 j s := by
  unfold Cert.ReferenceIdeal.Step.b114
  rw [← al_107 h]
  try rfl
set_option maxRecDepth 8192 in
theorem al_115 (h : Holds V0 s j) : (extractStridedSlice S128x128 ![0, 256] (res_main_while0b_v81 V0) slices_S128x384_S128x128_0_256 : (Proc.devRef .tc main_while0b_v89 : DevRef τ sig).ty.Contents (Elt F)) = Cert.ReferenceIdeal.Step.b115 j s := by
  unfold Cert.ReferenceIdeal.Step.b115
  rw [← al_107 h]
  try rfl
set_option maxRecDepth 8192 in
theorem al_116 (h : Holds V0 s j) : (extractStridedSlice S128x128 ![0, 0] (res_main_while0b_v86 V0) slices_S128x384_S128x128_0_0 : (Proc.devRef .tc main_while0b_v90 : DevRef τ sig).ty.Contents (Elt F)) = Cert.ReferenceIdeal.Step.b116 j s := by
  unfold Cert.ReferenceIdeal.Step.b116
  rw [← al_112 h]
  try rfl
set_option maxRecDepth 8192 in
theorem al_117 (h : Holds V0 s j) : (extractStridedSlice S128x128 ![0, 128] (res_main_while0b_v86 V0) slices_S128x384_S128x128_0_128 : (Proc.devRef .tc main_while0b_v91 : DevRef τ sig).ty.Contents (Elt F)) = Cert.ReferenceIdeal.Step.b117 j s := by
  unfold Cert.ReferenceIdeal.Step.b117
  rw [← al_112 h]
  try rfl
set_option maxRecDepth 8192 in
theorem al_118 (h : Holds V0 s j) : (extractStridedSlice S128x128 ![0, 256] (res_main_while0b_v86 V0) slices_S128x384_S128x128_0_256 : (Proc.devRef .tc main_while0b_v92 : DevRef τ sig).ty.Contents (Elt F)) = Cert.ReferenceIdeal.Step.b118 j s := by
  unfold Cert.ReferenceIdeal.Step.b118
  rw [← al_112 h]
  try rfl
set_option maxRecDepth 8192 in
theorem al_119 (h : Holds V0 s j) : (addf (extractStridedSlice S128x128 ![0, 0] (res_main_while0b_v81 V0) slices_S128x384_S128x128_0_0) (extractStridedSlice S128x128 ![0, 0] (res_main_while0b_v86 V0) slices_S128x384_S128x128_0_0) : (Proc.devRef .tc main_while0b_v93 : DevRef τ sig).ty.Contents (Elt F)) = Cert.ReferenceIdeal.Step.b119 j s := by
  unfold Cert.ReferenceIdeal.Step.b119
  rw [← al_113 h, ← al_116 h]
  try rfl
set_option maxRecDepth 8192 in
theorem al_120 (h : Holds V0 s j) : (Host.negf (addf (extractStridedSlice S128x128 ![0, 0] (res_main_while0b_v81 V0) slices_S128x384_S128x128_0_0) (extractStridedSlice S128x128 ![0, 0] (res_main_while0b_v86 V0) slices_S128x384_S128x128_0_0)) : (Proc.devRef .tc main_while0b_v94 : DevRef τ sig).ty.Contents (Elt F)) = Cert.ReferenceIdeal.Step.b120 j s := by
  unfold Cert.ReferenceIdeal.Step.b120
  rw [← al_119 h]
  try rfl
set_option maxRecDepth 8192 in
theorem al_121 (h : Holds V0 s j) : (Host.exp (Host.negf (addf (extractStridedSlice S128x128 ![0, 0] (res_main_while0b_v81 V0) slices_S128x384_S128x128_0_0) (extractStridedSlice S128x128 ![0, 0] (res_main_while0b_v86 V0) slices_S128x384_S128x128_0_0))) : (Proc.devRef .tc main_while0b_v95 : DevRef τ sig).ty.Contents (Elt F)) = Cert.ReferenceIdeal.Step.b121 j s := by
  unfold Cert.ReferenceIdeal.Step.b121
  rw [← al_120 h]
  try rfl
set_option maxRecDepth 8192 in
theorem al_122 (h : Holds V0 s j) : (constant S_ .f32 0x3F800000#32 : (Proc.devRef .tc main_while0b_cst_36 : DevRef τ sig).ty.Contents (Elt F)) = Cert.ReferenceIdeal.Step.b122 j s := by
  unfold Cert.ReferenceIdeal.Step.b122
  rfl
set_option maxRecDepth 8192 in
theorem al_123 (h : Holds V0 s j) : (broadcastInDim S128x128 ![] bcast_S_S128x128 (constant S_ .f32 0x3F800000#32) : (Proc.devRef .tc main_while0b_v96 : DevRef τ sig).ty.Contents (Elt F)) = Cert.ReferenceIdeal.Step.b123 j s := by
  unfold Cert.ReferenceIdeal.Step.b123
  rw [← al_122 h]
  try rfl
set_option maxRecDepth 8192 in
theorem al_124 (h : Holds V0 s j) : (addf (broadcastInDim S128x128 ![] bcast_S_S128x128 (constant S_ .f32 0x3F800000#32)) (Host.exp (Host.negf (addf (extractStridedSlice S128x128 ![0, 0] (res_main_while0b_v81 V0) slices_S128x384_S128x128_0_0) (extractStridedSlice S128x128 ![0, 0] (res_main_while0b_v86 V0) slices_S128x384_S128x128_0_0)))) : (Proc.devRef .tc main_while0b_v97 : DevRef τ sig).ty.Contents (Elt F)) = Cert.ReferenceIdeal.Step.b124 j s := by
  unfold Cert.ReferenceIdeal.Step.b124
  rw [← al_123 h, ← al_121 h]
  try rfl
set_option maxRecDepth 8192 in
theorem al_125 (h : Holds V0 s j) : (constant S_ .f32 0x3F800000#32 : (Proc.devRef .tc main_while0b_cst_37 : DevRef τ sig).ty.Contents (Elt F)) = Cert.ReferenceIdeal.Step.b125 j s := by
  unfold Cert.ReferenceIdeal.Step.b125
  rfl
set_option maxRecDepth 8192 in
theorem al_126 (h : Holds V0 s j) : (broadcastInDim S128x128 ![] bcast_S_S128x128 (constant S_ .f32 0x3F800000#32) : (Proc.devRef .tc main_while0b_v98 : DevRef τ sig).ty.Contents (Elt F)) = Cert.ReferenceIdeal.Step.b126 j s := by
  unfold Cert.ReferenceIdeal.Step.b126
  rw [← al_125 h]
  try rfl
set_option maxRecDepth 8192 in
theorem al_127 (h : Holds V0 s j) : (Host.divf (broadcastInDim S128x128 ![] bcast_S_S128x128 (constant S_ .f32 0x3F800000#32)) (addf (broadcastInDim S128x128 ![] bcast_S_S128x128 (constant S_ .f32 0x3F800000#32)) (Host.exp (Host.negf (addf (extractStridedSlice S128x128 ![0, 0] (res_main_while0b_v81 V0) slices_S128x384_S128x128_0_0) (extractStridedSlice S128x128 ![0, 0] (res_main_while0b_v86 V0) slices_S128x384_S128x128_0_0))))) : (Proc.devRef .tc main_while0b_v99 : DevRef τ sig).ty.Contents (Elt F)) = Cert.ReferenceIdeal.Step.b127 j s := by
  unfold Cert.ReferenceIdeal.Step.b127
  rw [← al_126 h, ← al_124 h]
  try rfl
set_option maxRecDepth 8192 in
theorem al_128 (h : Holds V0 s j) : (addf (extractStridedSlice S128x128 ![0, 128] (res_main_while0b_v81 V0) slices_S128x384_S128x128_0_128) (extractStridedSlice S128x128 ![0, 128] (res_main_while0b_v86 V0) slices_S128x384_S128x128_0_128) : (Proc.devRef .tc main_while0b_v100 : DevRef τ sig).ty.Contents (Elt F)) = Cert.ReferenceIdeal.Step.b128 j s := by
  unfold Cert.ReferenceIdeal.Step.b128
  rw [← al_114 h, ← al_117 h]
  try rfl
set_option maxRecDepth 8192 in
theorem al_129 (h : Holds V0 s j) : (Host.negf (addf (extractStridedSlice S128x128 ![0, 128] (res_main_while0b_v81 V0) slices_S128x384_S128x128_0_128) (extractStridedSlice S128x128 ![0, 128] (res_main_while0b_v86 V0) slices_S128x384_S128x128_0_128)) : (Proc.devRef .tc main_while0b_v101 : DevRef τ sig).ty.Contents (Elt F)) = Cert.ReferenceIdeal.Step.b129 j s := by
  unfold Cert.ReferenceIdeal.Step.b129
  rw [← al_128 h]
  try rfl
set_option maxRecDepth 8192 in
theorem al_130 (h : Holds V0 s j) : (Host.exp (Host.negf (addf (extractStridedSlice S128x128 ![0, 128] (res_main_while0b_v81 V0) slices_S128x384_S128x128_0_128) (extractStridedSlice S128x128 ![0, 128] (res_main_while0b_v86 V0) slices_S128x384_S128x128_0_128))) : (Proc.devRef .tc main_while0b_v102 : DevRef τ sig).ty.Contents (Elt F)) = Cert.ReferenceIdeal.Step.b130 j s := by
  unfold Cert.ReferenceIdeal.Step.b130
  rw [← al_129 h]
  try rfl
set_option maxRecDepth 8192 in
theorem al_131 (h : Holds V0 s j) : (constant S_ .f32 0x3F800000#32 : (Proc.devRef .tc main_while0b_cst_38 : DevRef τ sig).ty.Contents (Elt F)) = Cert.ReferenceIdeal.Step.b131 j s := by
  unfold Cert.ReferenceIdeal.Step.b131
  rfl
set_option maxRecDepth 8192 in
theorem al_132 (h : Holds V0 s j) : (broadcastInDim S128x128 ![] bcast_S_S128x128 (constant S_ .f32 0x3F800000#32) : (Proc.devRef .tc main_while0b_v103 : DevRef τ sig).ty.Contents (Elt F)) = Cert.ReferenceIdeal.Step.b132 j s := by
  unfold Cert.ReferenceIdeal.Step.b132
  rw [← al_131 h]
  try rfl
set_option maxRecDepth 8192 in
theorem al_133 (h : Holds V0 s j) : (addf (broadcastInDim S128x128 ![] bcast_S_S128x128 (constant S_ .f32 0x3F800000#32)) (Host.exp (Host.negf (addf (extractStridedSlice S128x128 ![0, 128] (res_main_while0b_v81 V0) slices_S128x384_S128x128_0_128) (extractStridedSlice S128x128 ![0, 128] (res_main_while0b_v86 V0) slices_S128x384_S128x128_0_128)))) : (Proc.devRef .tc main_while0b_v104 : DevRef τ sig).ty.Contents (Elt F)) = Cert.ReferenceIdeal.Step.b133 j s := by
  unfold Cert.ReferenceIdeal.Step.b133
  rw [← al_132 h, ← al_130 h]
  try rfl
set_option maxRecDepth 8192 in
theorem al_134 (h : Holds V0 s j) : (constant S_ .f32 0x3F800000#32 : (Proc.devRef .tc main_while0b_cst_39 : DevRef τ sig).ty.Contents (Elt F)) = Cert.ReferenceIdeal.Step.b134 j s := by
  unfold Cert.ReferenceIdeal.Step.b134
  rfl
set_option maxRecDepth 8192 in
theorem al_135 (h : Holds V0 s j) : (broadcastInDim S128x128 ![] bcast_S_S128x128 (constant S_ .f32 0x3F800000#32) : (Proc.devRef .tc main_while0b_v105 : DevRef τ sig).ty.Contents (Elt F)) = Cert.ReferenceIdeal.Step.b135 j s := by
  unfold Cert.ReferenceIdeal.Step.b135
  rw [← al_134 h]
  try rfl
set_option maxRecDepth 8192 in
theorem al_136 (h : Holds V0 s j) : (res_main_while0b_v106 V0 : (Proc.devRef .tc main_while0b_v106 : DevRef τ sig).ty.Contents (Elt F)) = Cert.ReferenceIdeal.Step.b136 j s := by
  unfold res_main_while0b_v106 Cert.ReferenceIdeal.Step.b136
  rw [← al_135 h, ← al_133 h]
  try rfl
set_option maxRecDepth 8192 in
theorem al_137 (h : Holds V0 s j) : (mulf (Host.divf (broadcastInDim S128x128 ![] bcast_S_S128x128 (constant S_ .f32 0x3F800000#32)) (addf (broadcastInDim S128x128 ![] bcast_S_S128x128 (constant S_ .f32 0x3F800000#32)) (Host.exp (Host.negf (addf (extractStridedSlice S128x128 ![0, 0] (res_main_while0b_v81 V0) slices_S128x384_S128x128_0_0) (extractStridedSlice S128x128 ![0, 0] (res_main_while0b_v86 V0) slices_S128x384_S128x128_0_0)))))) (extractStridedSlice S128x128 ![0, 256] (res_main_while0b_v86 V0) slices_S128x384_S128x128_0_256) : (Proc.devRef .tc main_while0b_v107 : DevRef τ sig).ty.Contents (Elt F)) = Cert.ReferenceIdeal.Step.b137 j s := by
  unfold Cert.ReferenceIdeal.Step.b137
  rw [← al_127 h, ← al_118 h]
  try rfl
set_option maxRecDepth 8192 in
theorem al_138 (h : Holds V0 s j) : (addf (extractStridedSlice S128x128 ![0, 256] (res_main_while0b_v81 V0) slices_S128x384_S128x128_0_256) (mulf (Host.divf (broadcastInDim S128x128 ![] bcast_S_S128x128 (constant S_ .f32 0x3F800000#32)) (addf (broadcastInDim S128x128 ![] bcast_S_S128x128 (constant S_ .f32 0x3F800000#32)) (Host.exp (Host.negf (addf (extractStridedSlice S128x128 ![0, 0] (res_main_while0b_v81 V0) slices_S128x384_S128x128_0_0) (extractStridedSlice S128x128 ![0, 0] (res_main_while0b_v86 V0) slices_S128x384_S128x128_0_0)))))) (extractStridedSlice S128x128 ![0, 256] (res_main_while0b_v86 V0) slices_S128x384_S128x128_0_256)) : (Proc.devRef .tc main_while0b_v108 : DevRef τ sig).ty.Contents (Elt F)) = Cert.ReferenceIdeal.Step.b138 j s := by
  unfold Cert.ReferenceIdeal.Step.b138
  rw [← al_115 h, ← al_137 h]
  try rfl
set_option maxRecDepth 8192 in
theorem al_139 (h : Holds V0 s j) : (Host.tanh (addf (extractStridedSlice S128x128 ![0, 256] (res_main_while0b_v81 V0) slices_S128x384_S128x128_0_256) (mulf (Host.divf (broadcastInDim S128x128 ![] bcast_S_S128x128 (constant S_ .f32 0x3F800000#32)) (addf (broadcastInDim S128x128 ![] bcast_S_S128x128 (constant S_ .f32 0x3F800000#32)) (Host.exp (Host.negf (addf (extractStridedSlice S128x128 ![0, 0] (res_main_while0b_v81 V0) slices_S128x384_S128x128_0_0) (extractStridedSlice S128x128 ![0, 0] (res_main_while0b_v86 V0) slices_S128x384_S128x128_0_0)))))) (extractStridedSlice S128x128 ![0, 256] (res_main_while0b_v86 V0) slices_S128x384_S128x128_0_256))) : (Proc.devRef .tc main_while0b_v109 : DevRef τ sig).ty.Contents (Elt F)) = Cert.ReferenceIdeal.Step.b139 j s := by
  unfold Cert.ReferenceIdeal.Step.b139
  rw [← al_138 h]
  try rfl
set_option maxRecDepth 8192 in
theorem al_140 (h : Holds V0 s j) : (constant S_ .f32 0x3F800000#32 : (Proc.devRef .tc main_while0b_cst_40 : DevRef τ sig).ty.Contents (Elt F)) = Cert.ReferenceIdeal.Step.b140 j s := by
  unfold Cert.ReferenceIdeal.Step.b140
  rfl
set_option maxRecDepth 8192 in
theorem al_141 (h : Holds V0 s j) : (broadcastInDim S128x128 ![] bcast_S_S128x128 (constant S_ .f32 0x3F800000#32) : (Proc.devRef .tc main_while0b_v110 : DevRef τ sig).ty.Contents (Elt F)) = Cert.ReferenceIdeal.Step.b141 j s := by
  unfold Cert.ReferenceIdeal.Step.b141
  rw [← al_140 h]
  try rfl
set_option maxRecDepth 8192 in
theorem al_142 (h : Holds V0 s j) : (subf (broadcastInDim S128x128 ![] bcast_S_S128x128 (constant S_ .f32 0x3F800000#32)) (res_main_while0b_v106 V0) : (Proc.devRef .tc main_while0b_v111 : DevRef τ sig).ty.Contents (Elt F)) = Cert.ReferenceIdeal.Step.b142 j s := by
  unfold Cert.ReferenceIdeal.Step.b142
  rw [← al_141 h, ← al_136 h]
  try rfl
set_option maxRecDepth 8192 in
theorem al_143 (h : Holds V0 s j) : (mulf (subf (broadcastInDim S128x128 ![] bcast_S_S128x128 (constant S_ .f32 0x3F800000#32)) (res_main_while0b_v106 V0)) (Host.tanh (addf (extractStridedSlice S128x128 ![0, 256] (res_main_while0b_v81 V0) slices_S128x384_S128x128_0_256) (mulf (Host.divf (broadcastInDim S128x128 ![] bcast_S_S128x128 (constant S_ .f32 0x3F800000#32)) (addf (broadcastInDim S128x128 ![] bcast_S_S128x128 (constant S_ .f32 0x3F800000#32)) (Host.exp (Host.negf (addf (extractStridedSlice S128x128 ![0, 0] (res_main_while0b_v81 V0) slices_S128x384_S128x128_0_0) (extractStridedSlice S128x128 ![0, 0] (res_main_while0b_v86 V0) slices_S128x384_S128x128_0_0)))))) (extractStridedSlice S128x128 ![0, 256] (res_main_while0b_v86 V0) slices_S128x384_S128x128_0_256)))) : (Proc.devRef .tc main_while0b_v112 : DevRef τ sig).ty.Contents (Elt F)) = Cert.ReferenceIdeal.Step.b143 j s := by
  unfold Cert.ReferenceIdeal.Step.b143
  rw [← al_142 h, ← al_139 h]
  try rfl
set_option maxRecDepth 8192 in
theorem al_144 (h : Holds V0 s j) : (mulf (res_main_while0b_v106 V0) (V0 (Proc.devRef .tc main_v14_8)) : (Proc.devRef .tc main_while0b_v113 : DevRef τ sig).ty.Contents (Elt F)) = Cert.ReferenceIdeal.Step.b144 j s := by
  unfold Cert.ReferenceIdeal.Step.b144
  rw [← al_136 h, h.f_8]
  try rfl
set_option maxRecDepth 8192 in
theorem al_145 (h : Holds V0 s j) : (addf (mulf (subf (broadcastInDim S128x128 ![] bcast_S_S128x128 (constant S_ .f32 0x3F800000#32)) (res_main_while0b_v106 V0)) (Host.tanh (addf (extractStridedSlice S128x128 ![0, 256] (res_main_while0b_v81 V0) slices_S128x384_S128x128_0_256) (mulf (Host.divf (broadcastInDim S128x128 ![] bcast_S_S128x128 (constant S_ .f32 0x3F800000#32)) (addf (broadcastInDim S128x128 ![] bcast_S_S128x128 (constant S_ .f32 0x3F800000#32)) (Host.exp (Host.negf (addf (extractStridedSlice S128x128 ![0, 0] (res_main_while0b_v81 V0) slices_S128x384_S128x128_0_0) (extractStridedSlice S128x128 ![0, 0] (res_main_while0b_v86 V0) slices_S128x384_S128x128_0_0)))))) (extractStridedSlice S128x128 ![0, 256] (res_main_while0b_v86 V0) slices_S128x384_S128x128_0_256))))) (mulf (res_main_while0b_v106 V0) (V0 (Proc.devRef .tc main_v14_8))) : (Proc.devRef .tc main_while0b_v114 : DevRef τ sig).ty.Contents (Elt F)) = Cert.ReferenceIdeal.Step.b145 j s := by
  unfold Cert.ReferenceIdeal.Step.b145
  rw [← al_143 h, ← al_144 h]
  try rfl
set_option maxRecDepth 8192 in
theorem al_146 (h : Holds V0 s j) : (broadcastInDim S1x128 ![1] bcast_S128_S1x128_1 (res_main_while0b_v35 V0) : (Proc.devRef .tc main_while0b_call3_v0 : DevRef τ sig).ty.Contents (Elt F)) = Cert.ReferenceIdeal.Step.b146 j s := by
  unfold Cert.ReferenceIdeal.Step.b146
  rw [← al_28 h]
  try rfl
set_option maxRecDepth 8192 in
theorem al_147 (h : Holds V0 s j) : (constantI S_ 32 0#32 : (Proc.devRef .tc main_while0b_call3_c : DevRef τ sig).ty.Contents (Elt F)) = Cert.ReferenceIdeal.Step.b147 j s := by
  unfold Cert.ReferenceIdeal.Step.b147
  rfl
set_option maxRecDepth 8192 in
theorem al_148 (h : Holds V0 s j) : (Host.dynamicUpdateSlice (V0 (Proc.devRef .tc main_v14_10)) (broadcastInDim S1x128 ![1] bcast_S128_S1x128_1 (res_main_while0b_v35 V0)) (fun k => (((![V0 (Proc.devRef .tc main_v14_7), constantI S_ 32 0#32] : Fin 2 → (⟨S_, .i32⟩ : BufTy).Contents (Elt F))) k (Shape.Idx.first h_S_)).toInt) updateFits_S256x128_S1x128 : (Proc.devRef .tc main_while0b_v115 : DevRef τ sig).ty.Contents (Elt F)) = Cert.ReferenceIdeal.Step.b148 j s := by
  unfold Cert.ReferenceIdeal.Step.b148
  rw [← al_146 h, ← al_147 h, h.f_10, h.n_7]
  try rfl
set_option maxRecDepth 8192 in
theorem al_149 (h : Holds V0 s j) : (broadcastInDim S1x128 ![1] bcast_S128_S1x128_1 (Host.log (addf (shapeCast S128 (select (Host.reduce IntOp.andi (andi (cmpi .sge (res_main_while0b_call2_v5 V0) (broadcastInDim S128x1x1 ![] bcast_S_S128x1x1 (constantI S_ 32 0#32))) (cmpi .sle (res_main_while0b_call2_v5 V0) (broadcastInDim S128x1x1 ![0, 1, 2] bcast_S1x1x1_S128x1x1_0_1_2 (broadcastInDim S1x1x1 ![2] bcast_S1_S1x1x1_2 (constantI S1 32 255#32))))) (constantI S_ 1 1#1) reducesTo_S128x1x1_S128x1_d2 h_S_) (Host.gather gather_S128x256_S128x1x1_S128x1_n_1_0_0_1_2_11 (res_main_while0b_v34 V0) (res_main_while0b_call2_v5 V0)) (broadcastInDim S128x1 ![] bcast_S_S128x1 (constant S_ .f32 0x7FC00000#32))) shapeCasts_S128x1_S128) (broadcastInDim S128 ![] bcast_S_S128 (constant S_ .f32 0x2B8CBCCC#32)))) : (Proc.devRef .tc main_while0b_call4_v0 : DevRef τ sig).ty.Contents (Elt F)) = Cert.ReferenceIdeal.Step.b149 j s := by
  unfold Cert.ReferenceIdeal.Step.b149
  rw [← al_56 h]
  try rfl
set_option maxRecDepth 8192 in
theorem al_150 (h : Holds V0 s j) : (constantI S_ 32 0#32 : (Proc.devRef .tc main_while0b_call4_c : DevRef τ sig).ty.Contents (Elt F)) = Cert.ReferenceIdeal.Step.b150 j s := by
  unfold Cert.ReferenceIdeal.Step.b150
  rfl
set_option maxRecDepth 8192 in
theorem al_151 (h : Holds V0 s j) : (Host.dynamicUpdateSlice (V0 (Proc.devRef .tc main_v14_11)) (broadcastInDim S1x128 ![1] bcast_S128_S1x128_1 (Host.log (addf (shapeCast S128 (select (Host.reduce IntOp.andi (andi (cmpi .sge (res_main_while0b_call2_v5 V0) (broadcastInDim S128x1x1 ![] bcast_S_S128x1x1 (constantI S_ 32 0#32))) (cmpi .sle (res_main_while0b_call2_v5 V0) (broadcastInDim S128x1x1 ![0, 1, 2] bcast_S1x1x1_S128x1x1_0_1_2 (broadcastInDim S1x1x1 ![2] bcast_S1_S1x1x1_2 (constantI S1 32 255#32))))) (constantI S_ 1 1#1) reducesTo_S128x1x1_S128x1_d2 h_S_) (Host.gather gather_S128x256_S128x1x1_S128x1_n_1_0_0_1_2_11 (res_main_while0b_v34 V0) (res_main_while0b_call2_v5 V0)) (broadcastInDim S128x1 ![] bcast_S_S128x1 (constant S_ .f32 0x7FC00000#32))) shapeCasts_S128x1_S128) (broadcastInDim S128 ![] bcast_S_S128 (constant S_ .f32 0x2B8CBCCC#32))))) (fun k => (((![V0 (Proc.devRef .tc main_v14_7), constantI S_ 32 0#32] : Fin 2 → (⟨S_, .i32⟩ : BufTy).Contents (Elt F))) k (Shape.Idx.first h_S_)).toInt) updateFits_S256x128_S1x128 : (Proc.devRef .tc main_while0b_v116 : DevRef τ sig).ty.Contents (Elt F)) = Cert.ReferenceIdeal.Step.b151 j s := by
  unfold Cert.ReferenceIdeal.Step.b151
  rw [← al_149 h, ← al_150 h, h.f_11, h.n_7]
  try rfl
set_option maxRecDepth 8192 in
theorem al_152 (h : Holds V0 s j) : (broadcastInDim S1x128 ![1] bcast_S128_S1x128_1 (Host.negf (Host.reduceAdd (mulf (res_main_while0b_v34 V0) (Host.log (addf (res_main_while0b_v34 V0) (broadcastInDim S128x256 ![] bcast_S_S128x256 (constant S_ .f32 0x2B8CBCCC#32))))) (constant S_ .f32 0x00000000#32) reducesTo_S128x256_S128_d1 h_S_)) : (Proc.devRef .tc main_while0b_call5_v0 : DevRef τ sig).ty.Contents (Elt F)) = Cert.ReferenceIdeal.Step.b152 j s := by
  unfold Cert.ReferenceIdeal.Step.b152
  rw [← al_64 h]
  try rfl
set_option maxRecDepth 8192 in
theorem al_153 (h : Holds V0 s j) : (constantI S_ 32 0#32 : (Proc.devRef .tc main_while0b_call5_c : DevRef τ sig).ty.Contents (Elt F)) = Cert.ReferenceIdeal.Step.b153 j s := by
  unfold Cert.ReferenceIdeal.Step.b153
  rfl
set_option maxRecDepth 8192 in
theorem al_154 (h : Holds V0 s j) : (Host.dynamicUpdateSlice (V0 (Proc.devRef .tc main_v14_12)) (broadcastInDim S1x128 ![1] bcast_S128_S1x128_1 (Host.negf (Host.reduceAdd (mulf (res_main_while0b_v34 V0) (Host.log (addf (res_main_while0b_v34 V0) (broadcastInDim S128x256 ![] bcast_S_S128x256 (constant S_ .f32 0x2B8CBCCC#32))))) (constant S_ .f32 0x00000000#32) reducesTo_S128x256_S128_d1 h_S_))) (fun k => (((![V0 (Proc.devRef .tc main_v14_7), constantI S_ 32 0#32] : Fin 2 → (⟨S_, .i32⟩ : BufTy).Contents (Elt F))) k (Shape.Idx.first h_S_)).toInt) updateFits_S256x128_S1x128 : (Proc.devRef .tc main_while0b_v117 : DevRef τ sig).ty.Contents (Elt F)) = Cert.ReferenceIdeal.Step.b154 j s := by
  unfold Cert.ReferenceIdeal.Step.b154
  rw [← al_152 h, ← al_153 h, h.f_12, h.n_7]
  try rfl

end Cert.ReferenceIdeal.StepRun

end
-- ==== Proof.RefStepRun.lean ====
/- The reference program's run as the standalone step iterated 256 times from its initial state. The
   declarations follow, in form, the step modules that are generated for reference programs; they were written out
   mechanically by an adapted copy of that generator and then adapted by hand. -/
module

public import proofs.«01_k».proof.Proof.RefStepAl

@[expose] public section

noncomputable section

namespace Cert.ReferenceIdeal.StepRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable {V0 : Valuation τ sig (Elt F)} {s : State F} {j : ℕ}

/-! One trip's step of the carried values is `step`, field by field; a counter steps to the next number. -/

set_option maxRecDepth 65536

theorem step_8 (h : Holds V0 s j) : step_main_v14_8 V0 = (step j s).main_v14_8 := by
  rw [Cert.ReferenceIdeal.Step.step_main_v14_8, ← al_145 h]
  unfold step_main_v14_8
  simp only [id_eq]
  try (congr 1)
theorem step_9 (h : Holds V0 s j) : step_main_v14_9 V0 = (step j s).main_v14_9 := by
  rw [Cert.ReferenceIdeal.Step.step_main_v14_9, ← al_84 h]
  unfold step_main_v14_9
  simp only [id_eq]
  try (congr 1)
theorem step_10 (h : Holds V0 s j) : step_main_v14_10 V0 = (step j s).main_v14_10 := by
  rw [Cert.ReferenceIdeal.Step.step_main_v14_10, ← al_148 h]
  unfold step_main_v14_10
  simp only [id_eq]
  try (congr 1)
theorem step_11 (h : Holds V0 s j) : step_main_v14_11 V0 = (step j s).main_v14_11 := by
  rw [Cert.ReferenceIdeal.Step.step_main_v14_11, ← al_151 h]
  unfold step_main_v14_11
  simp only [id_eq]
  try (congr 1)
theorem step_12 (h : Holds V0 s j) : step_main_v14_12 V0 = (step j s).main_v14_12 := by
  rw [Cert.ReferenceIdeal.Step.step_main_v14_12, ← al_154 h]
  unfold step_main_v14_12
  simp only [id_eq]
  try (congr 1)
theorem step_7 (h : Holds V0 s j) : step_main_v14_7 V0 = constantI S_ 32 (BitVec.ofNat 32 (j + 1)) := by
  unfold step_main_v14_7
  rw [h.n_7]
  funext i
  show BitVec.ofNat 32 j + 1#32 = BitVec.ofNat 32 (j + 1)
  simp only [BitVec.ofNat_add]

set_option maxRecDepth 8192 in
theorem out_main_v15_holds (h : Holds V0 s j) : out_main_v15 V0 = Cert.ReferenceIdeal.Step.R_main_v15 s := by
  unfold out_main_v15 Cert.ReferenceIdeal.Step.R_main_v15
  rw [h.f_10]
  try rfl

set_option maxRecDepth 8192 in
theorem out_main_v16_holds (h : Holds V0 s j) : out_main_v16 V0 = Cert.ReferenceIdeal.Step.R_main_v16 s := by
  unfold out_main_v16 Cert.ReferenceIdeal.Step.R_main_v16
  rw [h.f_11]
  try rfl

set_option maxRecDepth 8192 in
theorem out_main_v17_holds (h : Holds V0 s j) : out_main_v17 V0 = Cert.ReferenceIdeal.Step.R_main_v17 s := by
  unfold out_main_v17 Cert.ReferenceIdeal.Step.R_main_v17
  rw [h.f_12]
  try rfl

/-- One trip keeps the valuation holding: `step` of the state, the same set-up values, the next number. -/
theorem holds_step (h : Holds V0 s j) : Holds (STEP V0) (step j s) (j + 1) where
  f_8 := (STEP_main_v14_8 V0).trans (step_8 h)
  f_9 := (STEP_main_v14_9 V0).trans (step_9 h)
  f_10 := (STEP_main_v14_10 V0).trans (step_10 h)
  f_11 := (STEP_main_v14_11 V0).trans (step_11 h)
  f_12 := (STEP_main_v14_12 V0).trans (step_12 h)
  n_7 := (STEP_main_v14_7 V0).trans (step_7 h)
  k_2 := (STEP_main_v14_2 V0).trans h.k_2
  f_0 := (STEP_main_v14_0 V0).trans h.f_0
  f_1 := (STEP_main_v14_1 V0).trans h.f_1
  f_3 := (STEP_main_v14_3 V0).trans h.f_3
  f_4 := (STEP_main_v14_4 V0).trans h.f_4
  f_5 := (STEP_main_v14_5 V0).trans h.f_5
  f_6 := (STEP_main_v14_6 V0).trans h.f_6

/-- The state the first trip starts from, of the memory the run starts from. -/
abbrev initState (m : (ℓ : Loc nD τ sig) → Buf (Elt F) ℓ) (c : Dev nD) : State F :=
  init (m ((c.tc : Thread nD τ).loc main_arg1)) (m ((c.tc : Thread nD τ).loc main_arg0)) (m ((c.tc : Thread nD τ).loc main_arg4)) (m ((c.tc : Thread nD τ).loc main_arg6)) (m ((c.tc : Thread nD τ).loc main_arg5)) (m ((c.tc : Thread nD τ).loc main_arg7)) (m ((c.tc : Thread nD τ).loc main_arg2)) (m ((c.tc : Thread nD τ).loc main_arg3))

variable (m : (ℓ : Loc nD τ sig) → Buf (Elt F) ℓ) (c : Dev nD)

set_option maxRecDepth 65536 in
set_option maxHeartbeats 500000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 256 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v15) = Cert.ReferenceIdeal.Step.R_main_v15 (it c 256)
      ∧ r.2.mem ((c.tc : Thread nD τ).loc main_v16) = Cert.ReferenceIdeal.Step.R_main_v16 (it c 256)
      ∧ r.2.mem ((c.tc : Thread nD τ).loc main_v17) = Cert.ReferenceIdeal.Step.R_main_v17 (it c 256)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    have hk := holds_iter m c (it c) (h0 c) (hs c) 256
    ⟨(h c).1.trans (out_main_v15_holds hk), (h c).2.1.trans (out_main_v16_holds hk), (h c).2.2.1.trans (out_main_v17_holds hk), (h c).2.2.2.1, (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2⟩) (Value.run m ρ)

end Cert.ReferenceIdeal.StepRun

end
-- ==== Proof.Value.lean ====
module

public import proofs.«01_k».proof.Proof.KResult
public import proofs.«01_k».proof.Proof.Couple
public import proofs.«01_k».proof.Proof.Pre
public import proofs.«01_k».proof.Proof.RefStepRun

/-! # The kernel and the reference end with the same results -/

@[expose] public section

set_option maxRecDepth 16384

noncomputable section

namespace Cert.Proof.Value

open Cert.Proof.KRun Cert.Proof.Couple
open Cert.ReferenceIdeal.Step (State step)
open Cert.ReferenceIdeal.StepRun (initState)
open Idealize.ShloMosaic Idealize.ShloMosaic.TcCoe
open Idealize.SL.Sem

/-- The reference's states, one for each number of steps. -/
def refIter (s0 : State Ideal) : ℕ → State Ideal
  | 0 => s0
  | n + 1 => step n (refIter s0 n)

/-- The launch's one grid point. -/
def pt : Fin Cert.KernelIdeal.cfg0.N := ⟨0, by decide +kernel⟩

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The two memories agree on the arguments of core `c`. -/
def Agree (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)

variable (c : Dev Cert.KernelIdeal.nD) (h : Agree m m' c)
  (hr : (∀ i, ∃ y : ℝ, (m ((c.tc : Thread Cert.KernelIdeal.nD Cert.KernelIdeal.τ).loc Cert.KernelIdeal.main_arg0) i : EReal) = (y : EReal))
    ∧ ∀ i, ∃ y : ℝ, (m ((c.tc : Thread Cert.KernelIdeal.nD Cert.KernelIdeal.τ).loc Cert.KernelIdeal.main_arg1) i : EReal) = (y : EReal))
include h hr

theorem args : Args (kc m c pt) (initState m' c) := by
  obtain ⟨h0, h1, h2, h3, h4, h5, h6, h7⟩ := h
  refine ⟨?_, ?_, ?_, ?_, ?_, ?_, ?_, ?_, ?_⟩
  · exact fun b n k => (congrFun h0 _).trans (in0 m c pt b n k).symm
  · exact fun b k n => (in1 m c pt b k n).trans (in0 m c pt b n k).symm
  · exact fun x k => (in2 m c pt x k).trans (congrFun h1 _).symm
  · exact fun x n => (in5 m c pt x n).trans (congrFun h4 _).symm
  · exact fun x n => (in6 m c pt x n).trans (congrFun h5 _).symm
  · exact fun n => (in7 m c pt n).trans (congrFun h6 _).symm
  · exact fun n => (in8 m c pt n).trans (congrFun h7 _).symm
  · intro b n k
    obtain ⟨y, hy⟩ := hr.1 (ix3 b n k)
    exact ⟨y, (in0 m c pt b n k).trans hy⟩
  · intro x k
    obtain ⟨y, hy⟩ := hr.2 (ix2 k x)
    exact ⟨y, (in2 m c pt x k).trans hy⟩

/-- After the last step. -/
theorem final : Cpl (kc m c pt) (kFinal (kc m c pt)) (refIter (initState m' c) 256) 256 := by
  refine iter (kc m c pt) _ (refIter (initState m' c)) ?_ (fun n => rfl) 256 (le_refl _)
  refine start (kc m c pt) _ _ _ _ _ _ _ _ _ (args m m' c h hr) ?_ ?_
  · exact fun x k => (in3 m c pt x k).trans (congrFun h.2.2.1 _).symm
  · exact fun k => (in4 m c pt k).trans (congrFun h.2.2.2.1 _).symm

theorem tours_eq : Cert.ReferenceIdeal.Step.R_main_v15 (refIter (initState m' c) 256) = (kFinal (kc m c pt)).tours := by
  funext i
  have e : i = ix2 (i 0) (i 1) := by funext a; fin_cases a <;> rfl
  rw [e]
  exact (tours_read _ _ _).trans ((final m m' c h hr).tours (i 0) (i 1) (i 1).isLt).symm

theorem logp_eq : Cert.ReferenceIdeal.Step.R_main_v16 (refIter (initState m' c) 256)
    = Pipeline.afterTail₀ Cert.KernelIdeal.cfgs (dats m) 0 (Cert.KernelIdeal.Gen.V0 m) [Cert.KernelIdeal.Gen.hostOps1] c Cert.KernelIdeal.main_v12 := by
  funext i
  have e : i = ix1 (i 0) := by funext a; fin_cases a; rfl
  rw [e]
  refine (logp_read _ _).trans (Eq.trans ?_ (tail12 m c (i 0)).symm)
  rw [out10 m c pt]
  exact ((final m m' c h hr).lp (i 0)).symm

theorem entropy_eq : Cert.ReferenceIdeal.Step.R_main_v17 (refIter (initState m' c) 256)
    = Pipeline.afterTail₀ Cert.KernelIdeal.cfgs (dats m) 0 (Cert.KernelIdeal.Gen.V0 m) [Cert.KernelIdeal.Gen.hostOps1] c Cert.KernelIdeal.main_v14 := by
  funext i
  have e : i = ix1 (i 0) := by funext a; fin_cases a; rfl
  rw [e]
  refine (entropy_read _ _).trans (Eq.trans ?_ (tail14 m c (i 0)).symm)
  rw [out11 m c pt]
  exact ((final m m' c h hr).ent (i 0)).symm

end Cert.Proof.Value

end
-- ==== Proof.lean ====
/- The kernel and the reference, over the extended reals, run, keep their arguments, leave every semaphore at zero and, on finite
   node embeddings and query weights, end with the same tours, log probabilities and entropies. -/
module

public import proofs.«01_k».proof.Defs
public import proofs.«01_k».proof.Proof.KFrame
public import proofs.«01_k».proof.Proof.RefRunC
public import proofs.«01_k».proof.Proof.Value
public import proofs.«01_k».proof.Proof.Gen.KernelIdeal
public import proofs.«01_k».proof.Proof.Gen.ReferenceIdeal
public import Idealize.ShloMosaic.Lib.Quiescent

@[expose] public section

noncomputable section

namespace Cert.Proof

open Idealize.ShloMosaic Idealize.ShloMosaic.TcCoe Idealize.SL.Sem

/-- The reference runs, keeps its arguments and has no semaphore that could hold a count. -/
theorem frame_ref (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0) :=
  (θ_run Cert.ReferenceIdeal.defs _ _).mono
    (fun r h => ⟨fun c => (h c).2.2.2, sem_eq_zero_of_no_sems (by decide) r.2⟩)
    (Cert.ReferenceIdeal.Value.run m g)

/-- On finite node embeddings and query weights both programs end with the same three results. -/
theorem values : algebraic_KernelIdeal_ReferenceIdeal_pre_finite_args (hKernelIdeal := Cert.KernelIdeal.Gen.facts)
    (hReferenceIdeal := Cert.ReferenceIdeal.Gen.facts) (hPre_finite_args := Pre.facts) := by
  intro m g m' g' hp ha
  have hr := fun c => Pre.args_real (hPre := Pre.facts) _ _ _ _ _ _ _ _ (hp c)
  refine ⟨fun c => (KRun.kFinal (KRun.kc m c Value.pt)).tours,
    fun c => Pipeline.afterTail₀ Cert.KernelIdeal.cfgs (KRun.dats m) 0 (Cert.KernelIdeal.Gen.V0 m) [Cert.KernelIdeal.Gen.hostOps1] c Cert.KernelIdeal.main_v12,
    fun c => Pipeline.afterTail₀ Cert.KernelIdeal.cfgs (KRun.dats m) 0 (Cert.KernelIdeal.Gen.V0 m) [Cert.KernelIdeal.Gen.hostOps1] c Cert.KernelIdeal.main_v14, ?_, ?_⟩
  · refine (θ_run Cert.KernelIdeal.defs _ _).mono (fun r h c => ⟨?_, ?_, ?_, KRun.argsKept m h.1 c⟩) (KRun.run_ideal m g)
    · exact ((h.1 c).1 9).trans (KRun.out9 m c Value.pt)
    · exact (h.1 c).2 Cert.KernelIdeal.main_v12 (Pipeline.mem_restRefs_of Cert.KernelIdeal.main_v12 (by decide) (by decide))
    · exact (h.1 c).2 Cert.KernelIdeal.main_v14 (Pipeline.mem_restRefs_of Cert.KernelIdeal.main_v14 (by decide) (by decide))
  · refine (θ_run Cert.ReferenceIdeal.defs _ _).mono (fun r h c => ⟨?_, ?_, ?_, (h c).2.2.2⟩)
      (Cert.ReferenceIdeal.StepRun.run_iter m' g' (fun c => Value.refIter (Cert.ReferenceIdeal.StepRun.initState m' c)) (fun c => rfl) (fun c n => rfl))
    · exact (h c).1.trans (Value.tours_eq m m' c (ha c) (hr c))
    · exact (h c).2.1.trans (Value.logp_eq m m' c (ha c) (hr c))
    · exact (h c).2.2.1.trans (Value.entropy_eq m m' c (ha c) (hr c))

/-- The certificate: the two frames, without and under the precondition, and the equal results. -/
theorem claim : Cert.Claim := ⟨Cert.KernelIdeal.Gen.facts, Cert.ReferenceIdeal.Gen.facts, Pre.facts,
  fun m g _ => KRun.frame_ideal m g, fun m g _ => KRun.frame_ideal m g, fun m g _ => frame_ref m g, fun m g _ => frame_ref m g, values⟩

end Cert.Proof

end
